-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_bounded [hPre_bounded : Cert.Pre_bounded.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_bounded.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_bounded [hPre_bounded : Cert.Pre_bounded.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_bounded.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_bounded [hKernel10Ideal : Cert.Kernel10Ideal.Facts] [hPre_bounded : Cert.Pre_bounded.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_bounded m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_bounded [hReference10Ideal : Cert.Reference10Ideal.Facts] [hPre_bounded : Cert.Pre_bounded.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_bounded m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_on_written_pre_finite [hKernel5Ideal : Cert.Kernel5Ideal.Facts] [hReference5Ideal : Cert.Reference5Ideal.Facts] [hPre_finite : Cert.Pre_finite.Facts] [hOn_written : Cert.On_written.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![8448, 6272]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 i = 1#1 → r.2.mem ((c.tc : Thread Cert.Kernel5Ideal.nD Cert.Kernel5Ideal.τ).loc Cert.Kernel5Ideal.main_v0_0) i = v0 c i)
          ∧ (∀ i : (⟨2, ![8448, 512]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 i = 1#1 → r.2.mem ((c.tc : Thread Cert.Kernel5Ideal.nD Cert.Kernel5Ideal.τ).loc Cert.Kernel5Ideal.main_v0_1) i = v1 c i)
          ∧ (∀ i : (⟨2, ![8448, 512]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 i = 1#1 → r.2.mem ((c.tc : Thread Cert.Kernel5Ideal.nD Cert.Kernel5Ideal.τ).loc Cert.Kernel5Ideal.main_v0_2) i = v2 c i)
          ∧ (∀ i : (⟨2, ![512, 1024]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 i = 1#1 → r.2.mem ((c.tc : Thread Cert.Kernel5Ideal.nD Cert.Kernel5Ideal.τ).loc Cert.Kernel5Ideal.main_v0_3) i = v3 c i)
          ∧ (∀ i : (⟨2, ![512, 1024]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 i = 1#1 → r.2.mem ((c.tc : Thread Cert.Kernel5Ideal.nD Cert.Kernel5Ideal.τ).loc Cert.Kernel5Ideal.main_v0_4) i = v4 c i)
          ∧ (∀ i : (⟨2, ![1024, 1024]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.1 i = 1#1 → r.2.mem ((c.tc : Thread Cert.Kernel5Ideal.nD Cert.Kernel5Ideal.τ).loc Cert.Kernel5Ideal.main_v0_5) i = v5 c i)
          ∧ (∀ i : (⟨2, ![1, 128]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.1 i = 1#1 → r.2.mem ((c.tc : Thread Cert.Kernel5Ideal.nD Cert.Kernel5Ideal.τ).loc Cert.Kernel5Ideal.main_v0_6) i = v6 c i)
          ∧ (∀ i : (⟨2, ![1, 128]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2 i = 1#1 → r.2.mem ((c.tc : Thread Cert.Kernel5Ideal.nD Cert.Kernel5Ideal.τ).loc Cert.Kernel5Ideal.main_v0_7) i = v7 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![8448, 6272]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 i = 1#1 → r.2.mem ((c.tc : Thread Cert.Reference5Ideal.nD Cert.Reference5Ideal.τ).loc Cert.Reference5Ideal.main_v165) i = v0 c i)
          ∧ (∀ i : (⟨2, ![8448, 512]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 i = 1#1 → r.2.mem ((c.tc : Thread Cert.Reference5Ideal.nD Cert.Reference5Ideal.τ).loc Cert.Reference5Ideal.main_v162) i = v1 c i)
          ∧ (∀ i : (⟨2, ![8448, 512]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 i = 1#1 → r.2.mem ((c.tc : Thread Cert.Reference5Ideal.nD Cert.Reference5Ideal.τ).loc Cert.Reference5Ideal.main_v159) i = v2 c i)
          ∧ (∀ i : (⟨2, ![512, 1024]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 i = 1#1 → r.2.mem ((c.tc : Thread Cert.Reference5Ideal.nD Cert.Reference5Ideal.τ).loc Cert.Reference5Ideal.main_v96) i = v3 c i)
          ∧ (∀ i : (⟨2, ![512, 1024]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 i = 1#1 → r.2.mem ((c.tc : Thread Cert.Reference5Ideal.nD Cert.Reference5Ideal.τ).loc Cert.Reference5Ideal.main_v93) i = v4 c i)
          ∧ (∀ i : (⟨2, ![1024, 1024]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.1 i = 1#1 → r.2.mem ((c.tc : Thread Cert.Reference5Ideal.nD Cert.Reference5Ideal.τ).loc Cert.Reference5Ideal.main_v84) i = v5 c i)
          ∧ (∀ i : (⟨2, ![1, 128]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.1 i = 1#1 → r.2.mem ((c.tc : Thread Cert.Reference5Ideal.nD Cert.Reference5Ideal.τ).loc Cert.Reference5Ideal.main_v149) i = v6 c i)
          ∧ (∀ i : (⟨2, ![1, 128]⟩ : Shape).Idx, (Cert.On_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2 i = 1#1 → r.2.mem ((c.tc : Thread Cert.Reference5Ideal.nD Cert.Reference5Ideal.τ).loc Cert.Reference5Ideal.main_v123) i = v7 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "inv_c1" .f32 0x3FC48605#32 ((8388608 / 5463681 : ℝ) : EReal)
  ∧ IdealRules.named_const.Statement Cert.Kernel6Ideal.κ "inv_c2" .f32 0x42C8E6D3#32 ((268435456 / 2672307 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "inv_c1" .f32 0x3FC48605#32 ((8388608 / 5463681 : ℝ) : EReal)
  ∧ IdealRules.named_const.Statement Cert.Kernel7Ideal.κ "inv_c2" .f32 0x42C8E6D3#32 ((268435456 / 2672307 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  IdealRules.named_const.Statement Cert.Kernel8Ideal.κ "inv_c1" .f32 0x3FC48605#32 ((8388608 / 5463681 : ℝ) : EReal)
  ∧ IdealRules.named_const.Statement Cert.Kernel8Ideal.κ "inv_c2" .f32 0x42C8E6D3#32 ((268435456 / 2672307 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "inv_c1" .f32 0x3FC48605#32 ((8388608 / 5463681 : ℝ) : EReal)
  ∧ IdealRules.named_const.Statement Cert.Kernel9Ideal.κ "inv_c2" .f32 0x42C8E6D3#32 ((268435456 / 2672307 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_bounded [hKernel10Ideal : Cert.Kernel10Ideal.Facts] [hReference10Ideal : Cert.Reference10Ideal.Facts] [hPre_bounded : Cert.Pre_bounded.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_bounded m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v162) = v0 c
          ∧ r.2.mem ((c.tc : Thread Cert.Reference10Ideal.nD Cert.Reference10Ideal.τ).loc Cert.Reference10Ideal.main_v155) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v64) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_bounded : Cert.Pre_bounded.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_bounded (hKernel10Ideal := hKernel10Ideal) (hPre_bounded := hPre_bounded)
    ∧ quiescent_Reference10Ideal (hReference10Ideal := hReference10Ideal)
    ∧ quiescent_Reference10Ideal_pre_bounded (hReference10Ideal := hReference10Ideal) (hPre_bounded := hPre_bounded)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_written_pre_finite (hKernel5Ideal := hKernel5Ideal) (hReference5Ideal := hReference5Ideal) (hPre_finite := hPre_finite) (hOn_written := hOn_written)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_bounded (hKernel10Ideal := hKernel10Ideal) (hReference10Ideal := hReference10Ideal) (hPre_bounded := hPre_bounded)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== On_written.lean ====
abbrev S8448x1024 : Shape := ⟨2, ![8448, 1024]⟩
abbrev S8448x512 : Shape := ⟨2, ![8448, 512]⟩
abbrev S8448x6272 : Shape := ⟨2, ![8448, 6272]⟩
abbrev S1x128 : Shape := ⟨2, ![1, 128]⟩
abbrev S512x1024 : Shape := ⟨2, ![512, 1024]⟩
abbrev S1024x1024 : Shape := ⟨2, ![1024, 1024]⟩
abbrev S_ : Shape := ⟨0, ![]⟩

class Facts : Prop where
  bcast_S_S8448x6272 : S_.BroadcastsInDim S8448x6272 (![] : Fin 0 → Fin S8448x6272.rank)
  bcast_S_S8448x512 : S_.BroadcastsInDim S8448x512 (![] : Fin 0 → Fin S8448x512.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1x128 : S_.BroadcastsInDim S1x128 (![] : Fin 0 → Fin S1x128.rank)

variable [Facts]

def fn {F : FTy → Type} [FloatOps F] (main_arg0 : FVec F S8448x1024 .f32) (main_arg1 : FVec F S8448x512 .f32) (main_arg2 : FVec F S8448x512 .f32) (main_arg3 : FVec F S8448x6272 .f32) (main_arg4 : FVec F S1x128 .f32) (main_arg5 : FVec F S1x128 .f32) (main_arg6 : FVec F S512x1024 .bf16) (main_arg7 : FVec F S512x1024 .bf16) (main_arg8 : FVec F S1024x1024 .bf16) : IVec S8448x6272 1 × IVec S8448x512 1 × IVec S8448x512 1 × IVec S512x1024 1 × IVec S512x1024 1 × IVec S1024x1024 1 × IVec S1x128 1 × IVec S1x128 1 :=
  let main_v0 : IVec S8448x6272 32 := iotaInDim S8448x6272 32 1
  let main_c : IVec S_ 32 := constantI S_ 32 3072#32
  let main_v1 : IVec S8448x6272 32 := broadcastInDim S8448x6272 ![] bcast_S_S8448x6272 main_c
  let main_v2 : IVec S8448x6272 1 := cmpi .slt main_v0 main_v1
  let main_c_0 : IVec S_ 1 := constantI S_ 1 1#1
  let main_v3 : IVec S8448x512 1 := broadcastInDim S8448x512 ![] bcast_S_S8448x512 main_c_0
  let main_c_1 : IVec S_ 1 := constantI S_ 1 1#1
  let main_v4 : IVec S8448x512 1 := broadcastInDim S8448x512 ![] bcast_S_S8448x512 main_c_1
  let main_c_2 : IVec S_ 1 := constantI S_ 1 1#1
  let main_v5 : IVec S512x1024 1 := broadcastInDim S512x1024 ![] bcast_S_S512x1024 main_c_2
  let main_c_3 : IVec S_ 1 := constantI S_ 1 1#1
  let main_v6 : IVec S512x1024 1 := broadcastInDim S512x1024 ![] bcast_S_S512x1024 main_c_3
  let main_c_4 : IVec S_ 1 := constantI S_ 1 1#1
  let main_v7 : IVec S1024x1024 1 := broadcastInDim S1024x1024 ![] bcast_S_S1024x1024 main_c_4
  let main_c_5 : IVec S_ 1 := constantI S_ 1 1#1
  let main_v8 : IVec S1x128 1 := broadcastInDim S1x128 ![] bcast_S_S1x128 main_c_5
  let main_c_6 : IVec S_ 1 := constantI S_ 1 1#1
  let main_v9 : IVec S1x128 1 := broadcastInDim S1x128 ![] bcast_S_S1x128 main_c_6
  (main_v2, main_v3, main_v4, main_v5, main_v6, main_v7, main_v8, main_v9)
-- ==== Pre_bounded.lean ====
abbrev S8448x6272 : Shape := ⟨2, ![8448, 6272]⟩
abbrev S4x1536 : Shape := ⟨2, ![4, 1536]⟩
abbrev S8448x1536 : Shape := ⟨2, ![8448, 1536]⟩
abbrev S_ : Shape := ⟨0, ![]⟩

class Facts : Prop where
  bcast_S_S8448x1536 : S_.BroadcastsInDim S8448x1536 (![] : Fin 0 → Fin S8448x1536.rank)
  reducesTo_S8448x1536_S_d0_1 : S8448x1536.ReducesTo [0, 1] S_
  h_S_ : 0 < S_.numel

variable [Facts]

def fn {F : FTy → Type} [FloatOps F] (main_arg0 : FVec F S8448x6272 .f32) (main_arg1 : FVec F S4x1536 .f32) (main_arg2 : FVec F S8448x1536 .f32) (main_arg3 : FVec F S8448x6272 .bf16) : IVec S_ 1 :=
  let main_v0 : FVec F S8448x1536 .f32 := Host.absf main_arg2
  let main_cst : FVec F S_ .f32 := constant S_ .f32 0x7F800000#32
  let main_v1 : FVec F S8448x1536 .f32 := broadcastInDim S8448x1536 ![] bcast_S_S8448x1536 main_cst
  let main_v2 : IVec S8448x1536 1 := cmpf .olt main_v0 main_v1
  let main_c : IVec S_ 1 := constantI S_ 1 1#1
  let main_v3 : IVec S_ 1 := (fun x v => Host.reduce IntOp.andi x v reducesTo_S8448x1536_S_d0_1 h_S_) main_v2 main_c
  main_v3
-- ==== Pre_finite.lean ====
abbrev S8448x1024 : Shape := ⟨2, ![8448, 1024]⟩
abbrev S8448x512 : Shape := ⟨2, ![8448, 512]⟩
abbrev S8448x6272 : Shape := ⟨2, ![8448, 6272]⟩
abbrev S1x128 : Shape := ⟨2, ![1, 128]⟩
abbrev S512x1024 : Shape := ⟨2, ![512, 1024]⟩
abbrev S1024x1024 : Shape := ⟨2, ![1024, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bitsLt_bf16_f32 : FTy.bits .bf16 < FTy.bits .f32
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg7 : FVec F S512x1024 .bf16) (main_arg8 : FVec F S1024x1024 .bf16) (main_v13 : IVec S_ 1) (main_v15 : FVec F S512x1024 .f32) (main_v16 : FVec F S512x1024 .f32) : IVec S_ 1 :=
  let main_v17 : IVec S512x1024 1 := cmpf .olt main_v15 main_v16
  let main_c_5 : IVec S_ 1 := constantI S_ 1 1#1
  let main_v18 : IVec S_ 1 := (fun x v => Host.reduce IntOp.andi x v reducesTo_S512x1024_S_d0_1 h_S_) main_v17 main_c_5
  let main_v19 : IVec S_ 1 := andi main_v13 main_v18
  let main_v20 : FVec F S512x1024 .f32 := (extf .f32 · bitsLt_bf16_f32) main_arg7
  let main_v21 : FVec F S512x1024 .f32 := Host.absf main_v20
  let main_cst_6 : FVec F S_ .f32 := constant S_ .f32 0x7F800000#32
  let main_v22 : FVec F S512x1024 .f32 := broadcastInDim S512x1024 ![] bcast_S_S512x1024 main_cst_6
  let main_v23 : IVec S512x1024 1 := cmpf .olt main_v21 main_v22
  let main_c_7 : IVec S_ 1 := constantI S_ 1 1#1
  let main_v24 : IVec S_ 1 := (fun x v => Host.reduce IntOp.andi x v reducesTo_S512x1024_S_d0_1 h_S_) main_v23 main_c_7
  let main_v25 : IVec S_ 1 := andi main_v19 main_v24
  let main_v26 : FVec F S1024x1024 .f32 := (extf .f32 · bitsLt_bf16_f32) main_arg8
  let main_v27 : FVec F S1024x1024 .f32 := Host.absf main_v26
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_c_9 : IVec S_ 1 := constantI S_ 1 1#1
  let main_v30 : IVec S_ 1 := (fun x v => Host.reduce IntOp.andi x v reducesTo_S1024x1024_S_d0_1 h_S_) main_v29 main_c_9
  let main_v31 : IVec S_ 1 := andi main_v25 main_v30
  main_v31

def fn {F : FTy → Type} [FloatOps F] (main_arg0 : FVec F S8448x1024 .f32) (main_arg1 : FVec F S8448x512 .f32) (main_arg2 : FVec F S8448x512 .f32) (main_arg3 : FVec F S8448x6272 .f32) (main_arg4 : FVec F S1x128 .f32) (main_arg5 : FVec F S1x128 .f32) (main_arg6 : FVec F S512x1024 .bf16) (main_arg7 : FVec F S512x1024 .bf16) (main_arg8 : FVec F S1024x1024 .bf16) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S1x128 .f32 := Host.absf main_arg4
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg5
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S512x1024 .f32 := (extf .f32 · bitsLt_bf16_f32) main_arg6
  let main_v15 : FVec F S512x1024 .f32 := Host.absf main_v14
  let main_cst_4 : FVec F S_ .f32 := constant S_ .f32 0x7F800000#32
  let main_v16 : FVec F S512x1024 .f32 := broadcastInDim S512x1024 ![] bcast_S_S512x1024 main_cst_4
  fn_part1 (F := F) main_arg7 main_arg8 main_v13 main_v15 main_v16
-- ==== Kernel.lean ====
abbrev S8448x6272 : Shape := ⟨2, ![8448, 6272]⟩
abbrev S1024x8448 : Shape := ⟨2, ![1024, 8448]⟩
abbrev S1024x6272 : Shape := ⟨2, ![1024, 6272]⟩
abbrev S1408x896 : Shape := ⟨2, ![1408, 896]⟩
abbrev S1024x1408 : Shape := ⟨2, ![1024, 1408]⟩
abbrev S1024x896 : Shape := ⟨2, ![1024, 896]⟩
abbrev S1408x1 : Shape := ⟨2, ![1408, 1]⟩

abbrev nBuf : Space → Nat
  | .hbm => 3
  | .vmem => 6
  | .smem => 0
  | _ => 0

abbrev bufTy : (tb : Table) → Fin (tcTables nBuf tb) → BufTy
  | .hbm, ⟨0, _⟩ => ⟨S8448x6272, .bf16⟩
  | .hbm, ⟨1, _⟩ => ⟨S1024x8448, .bf16⟩
  | .hbm, ⟨2, _⟩ => ⟨S1024x6272, .f32⟩
  | .local _ .vmem, ⟨0, _⟩ => ⟨S1408x896, .bf16⟩
  | .local _ .vmem, ⟨1, _⟩ => ⟨S1408x896, .bf16⟩
  | .local _ .vmem, ⟨2, _⟩ => ⟨S1024x1408, .bf16⟩
  | .local _ .vmem, ⟨3, _⟩ => ⟨S1024x1408, .bf16⟩
  | .local _ .vmem, ⟨4, _⟩ => ⟨S1024x896, .f32⟩
  | .local _ .vmem, ⟨5, _⟩ => ⟨S1024x896, .f32⟩
  | _, _ => ⟨S8448x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S8448x6272 : Shape := ⟨2, ![8448, 6272]⟩
abbrev S1024x8448 : Shape := ⟨2, ![1024, 8448]⟩
abbrev S_ : Shape := ⟨0, ![]⟩
abbrev S1024x6272 : Shape := ⟨2, ![1024, 6272]⟩
abbrev S8448x1024 : Shape := ⟨2, ![8448, 1024]⟩
abbrev S4x2112x1024 : Shape := ⟨3, ![4, 2112, 1024]⟩
abbrev S4x2064x1024 : Shape := ⟨3, ![4, 2064, 1024]⟩
abbrev S4x2064x6272 : Shape := ⟨3, ![4, 2064, 6272]⟩
abbrev S4x2112x6272 : Shape := ⟨3, ![4, 2112, 6272]⟩
abbrev S6272x1024 : Shape := ⟨2, ![6272, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8448x6272, .bf16⟩
  | .hbm, ⟨1, _⟩ => ⟨S1024x8448, .bf16⟩
  | .hbm, ⟨2, _⟩ => ⟨S_, .f32⟩
  | .hbm, ⟨3, _⟩ => ⟨S1024x6272, .f32⟩
  | .hbm, ⟨4, _⟩ => ⟨S8448x1024, .bf16⟩
  | .hbm, ⟨5, _⟩ => ⟨S8448x1024, .f32⟩
  | .hbm, ⟨6, _⟩ => ⟨S4x2112x1024, .f32⟩
  | .hbm, ⟨7, _⟩ => ⟨S4x2064x1024, .f32⟩
  | .hbm, ⟨8, _⟩ => ⟨S4x2064x6272, .f32⟩
  | .hbm, ⟨9, _⟩ => ⟨S8448x6272, .f32⟩
  | .hbm, ⟨10, _⟩ => ⟨S4x2112x6272, .f32⟩
  | .hbm, ⟨11, _⟩ => ⟨S4x2064x6272, .f32⟩
  | .hbm, ⟨12, _⟩ => ⟨S6272x1024, .f32⟩
  | .hbm, ⟨13, _⟩ => ⟨S1024x6272, .f32⟩
  | _, _ => ⟨S8448x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel2.lean ====
abbrev S8448x6272 : Shape := ⟨2, ![8448, 6272]⟩
abbrev S1024x6272 : Shape := ⟨2, ![1024, 6272]⟩
abbrev S8448x1024 : Shape := ⟨2, ![8448, 1024]⟩
abbrev S1x1024 : Shape := ⟨2, ![1, 1024]⟩
abbrev S1056x896 : Shape := ⟨2, ![1056, 896]⟩
abbrev S1024x896 : Shape := ⟨2, ![1024, 896]⟩
abbrev S1056x1024 : Shape := ⟨2, ![1056, 1024]⟩
abbrev S1056x1 : Shape := ⟨2, ![1056, 1]⟩
abbrev S1056 : Shape := ⟨1, ![1056]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8448x6272, .bf16⟩
  | .hbm, ⟨1, _⟩ => ⟨S1024x6272, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S1x1024, .f32⟩
  | .local _ .vmem, ⟨0, _⟩ => ⟨S1056x896, .bf16⟩
  | .local _ .vmem, ⟨1, _⟩ => ⟨S1056x896, .bf16⟩
  | .local _ .vmem, ⟨2, _⟩ => ⟨S1024x896, .bf16⟩
  | .local _ .vmem, ⟨3, _⟩ => ⟨S1024x896, .bf16⟩
  | .local _ .vmem, ⟨4, _⟩ => ⟨S1056x1024, .f32⟩
  | .local _ .vmem, ⟨5, _⟩ => ⟨S1056x1024, .f32⟩
  | .local _ .vmem, ⟨6, _⟩ => ⟨S1x1024, .f32⟩
  | .local _ .vmem, ⟨7, _⟩ => ⟨S1056x1024, .f32⟩
  | .local _ .vmem, ⟨8, _⟩ => ⟨S1056x1024, .f32⟩
  | .local _ .vmem, ⟨9, _⟩ => ⟨S1056x1024, .f32⟩
  | .local _ .vmem, ⟨10, _⟩ => ⟨S1056x1024, .f32⟩
  | .local _ .vmem, ⟨11, _⟩ => ⟨S1x1024, .f32⟩
  | .local _ .vmem, ⟨12, _⟩ => ⟨S1056x1024, .f32⟩
  | _, _ => ⟨S8448x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 7], ![false, false]⟩

def k0_cond3 (i : grid0.Coords) : BitVec 1 :=
  let arg1 : BitVec 32 := BitVec.ofNat 32 (i 1).val
  let c6_i32 : BitVec 32 := 6#32
  let v29 : BitVec 1 := Scalar.cmpi .eq arg1 c6_i32
  let v30 : BitVec 32 := Scalar.extui v29
  let c0_i32_12 : BitVec 32 := 0#32
  let v31 : BitVec 1 := Scalar.cmpi .ne v30 c0_i32_12
  v31

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1056x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1056x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S8448x6272 : Shape := ⟨2, ![8448, 6272]⟩
abbrev S1024x6272 : Shape := ⟨2, ![1024, 6272]⟩
abbrev S8448x1024 : Shape := ⟨2, ![8448, 1024]⟩
abbrev S1x1024 : Shape := ⟨2, ![1, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S4x2112x1024 : Shape := ⟨3, ![4, 2112, 1024]⟩
abbrev S4x2064x1024 : Shape := ⟨3, ![4, 2064, 1024]⟩
abbrev S4x2064x6272 : Shape := ⟨3, ![4, 2064, 6272]⟩
abbrev S4x2112x6272 : Shape := ⟨3, ![4, 2112, 6272]⟩

abbrev nBuf : Space → Nat
  | .hbm => 64
  | .vmem => 0
  | .smem => 0
  | _ => 0

abbrev bufTy : (tb : Table) → Fin (tcTables nBuf tb) → BufTy
  | .hbm, ⟨0, _⟩ => ⟨S8448x6272, .bf16⟩
  | .hbm, ⟨1, _⟩ => ⟨S1024x6272, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S1024, .f32⟩
  | .hbm, ⟨6, _⟩ => ⟨S8448x1024, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1024, .f32⟩
  | .hbm, ⟨22, _⟩ => ⟨S8448x1024, .f32⟩
  | .hbm, ⟨23, _⟩ => ⟨S1x1024, .f32⟩
  | .hbm, ⟨24, _⟩ => ⟨S8448x1024, .f32⟩
  | .hbm, ⟨25, _⟩ => ⟨S8448x1024, .f32⟩
  | .hbm, ⟨26, _⟩ => ⟨S4x2112x1024, .f32⟩
  | .hbm, ⟨27, _⟩ => ⟨S4x2064x1024, .f32⟩
  | .hbm, ⟨28, _⟩ => ⟨S1024x6272, .f32⟩
  | .hbm, ⟨29, _⟩ => ⟨S4x2064x6272, .f32⟩
  | .hbm, ⟨30, _⟩ => ⟨S8448x6272, .f32⟩
  | .hbm, ⟨31, _⟩ => ⟨S4x2112x6272, .f32⟩
  | .hbm, ⟨32, _⟩ => ⟨S4x2064x6272, .f32⟩
  | .hbm, ⟨33, _⟩ => ⟨S4x2064x1024, .f32⟩
  | .hbm, ⟨34, _⟩ => ⟨S_, .f32⟩
  | .hbm, ⟨35, _⟩ => ⟨S4x2112x1024, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8448x1024, .f32⟩
  | .hbm, ⟨42, _⟩ => ⟨S8448x1024, .f32⟩
  | .hbm, ⟨43, _⟩ => ⟨S_, .f32⟩
  | .hbm, ⟨44, _⟩ => ⟨S1024, .f32⟩
  | .hbm, ⟨45, _⟩ => ⟨S8448x1024, .f32⟩
  | .hbm, ⟨46, _⟩ => ⟨S_, .f32⟩
  | .hbm, ⟨47, _⟩ => ⟨S8448, .f32⟩
  | .hbm, ⟨48, _⟩ => ⟨S8448x1, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1, .f32⟩
  | .hbm, ⟨53, _⟩ => ⟨S_, .f32⟩
  | .hbm, ⟨54, _⟩ => ⟨S8448x1, .f32⟩
  | .hbm, ⟨55, _⟩ => ⟨S8448x1, .f32⟩
  | .hbm, ⟨56, _⟩ => ⟨S_, .f32⟩
  | .hbm, ⟨57, _⟩ => ⟨S8448, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1024, .f32⟩
  | .hbm, ⟨63, _⟩ => ⟨S1x1024, .f32⟩
  | _, _ => ⟨S8448x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel3.lean ====
abbrev S8448x1024 : Shape := ⟨2, ![8448, 1024]⟩
abbrev S1x1024 : Shape := ⟨2, ![1, 1024]⟩
abbrev S1024x6272 : Shape := ⟨2, ![1024, 6272]⟩
abbrev S8448x6272 : Shape := ⟨2, ![8448, 6272]⟩
abbrev S1024x8448 : Shape := ⟨2, ![1024, 8448]⟩
abbrev S1408x1024 : Shape := ⟨2, ![1408, 1024]⟩
abbrev S1024x896 : Shape := ⟨2, ![1024, 896]⟩
abbrev S1408x896 : Shape := ⟨2, ![1408, 896]⟩
abbrev S1024x1408 : Shape := ⟨2, ![1024, 1408]⟩
abbrev S1408 : Shape := ⟨1, ![1408]⟩
abbrev S1408x1 : Shape := ⟨2, ![1408, 1]⟩

abbrev nBuf : Space → Nat
  | .hbm => 5
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x6272, .bf16⟩
  | .hbm, ⟨3, _⟩ => ⟨S8448x6272, .f32⟩
  | .hbm, ⟨4, _⟩ => ⟨S1024x8448, .bf16⟩
  | .local _ .vmem, ⟨0, _⟩ => ⟨S1408x1024, .f32⟩
  | .local _ .vmem, ⟨1, _⟩ => ⟨S1408x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1408x896, .f32⟩
  | .local _ .vmem, ⟨6, _⟩ => ⟨S1408x896, .f32⟩
  | .local _ .vmem, ⟨7, _⟩ => ⟨S1024x1408, .bf16⟩
  | .local _ .vmem, ⟨8, _⟩ => ⟨S1024x1408, .bf16⟩
  | .local _ .vmem, ⟨9, _⟩ => ⟨S1408x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![6, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8448x1024 : Shape := ⟨2, ![8448, 1024]⟩
abbrev S1x1024 : Shape := ⟨2, ![1, 1024]⟩
abbrev S1024x6272 : Shape := ⟨2, ![1024, 6272]⟩
abbrev S1024 : Shape := ⟨1, ![1024]⟩
abbrev S_ : Shape := ⟨0, ![]⟩
abbrev S8448 : Shape := ⟨1, ![8448]⟩
abbrev S8448x1 : Shape := ⟨2, ![8448, 1]⟩
abbrev S8448x6272 : Shape := ⟨2, ![8448, 6272]⟩
abbrev S1024x8448 : Shape := ⟨2, ![1024, 8448]⟩

abbrev nBuf : Space → Nat
  | .hbm => 24
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x6272, .bf16⟩
  | .hbm, ⟨3, _⟩ => ⟨S1024, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S1x1024, .f32⟩
  | .hbm, ⟨18, _⟩ => ⟨S8448x1024, .f32⟩
  | .hbm, ⟨19, _⟩ => ⟨S8448x1024, .f32⟩
  | .hbm, ⟨20, _⟩ => ⟨S1024x6272, .f32⟩
  | .hbm, ⟨21, _⟩ => ⟨S8448x6272, .f32⟩
  | .hbm, ⟨22, _⟩ => ⟨S1024x8448, .f32⟩
  | .hbm, ⟨23, _⟩ => ⟨S1024x8448, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S8448x1024 : Shape := ⟨2, ![8448, 1024]⟩
abbrev S8448x512 : Shape := ⟨2, ![8448, 512]⟩
abbrev S8448x6272 : Shape := ⟨2, ![8448, 6272]⟩
abbrev S1x128 : Shape := ⟨2, ![1, 128]⟩
abbrev S512x1024 : Shape := ⟨2, ![512, 1024]⟩
abbrev S1024x1024 : Shape := ⟨2, ![1024, 1024]⟩
abbrev S384x1024 : Shape := ⟨2, ![384, 1024]⟩
abbrev S384x512 : Shape := ⟨2, ![384, 512]⟩
abbrev S384x3072 : Shape := ⟨2, ![384, 3072]⟩
abbrev S384x128 : Shape := ⟨2, ![384, 128]⟩
abbrev S384 : Shape := ⟨1, ![384]⟩
abbrev S384x1 : Shape := ⟨2, ![384, 1]⟩

abbrev nBuf : Space → Nat
  | .hbm => 10
  | .vmem => 15
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x6272, .f32⟩
  | .hbm, ⟨4, _⟩ => ⟨S1x128, .f32⟩
  | .hbm, ⟨5, _⟩ => ⟨S1x128, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S8448x1024, .f32⟩
  | .local _ .vmem, ⟨0, _⟩ => ⟨S384x1024, .f32⟩
  | .local _ .vmem, ⟨1, _⟩ => ⟨S384x1024, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x3072, .f32⟩
  | .local _ .vmem, ⟨7, _⟩ => ⟨S384x3072, .f32⟩
  | .local _ .vmem, ⟨8, _⟩ => ⟨S1x128, .f32⟩
  | .local _ .vmem, ⟨9, _⟩ => ⟨S1x128, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S384x1024, .f32⟩
  | .local _ .vmem, ⟨14, _⟩ => ⟨S384x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8448x1024 : Shape := ⟨2, ![8448, 1024]⟩
abbrev S8448x512 : Shape := ⟨2, ![8448, 512]⟩
abbrev S8448x6272 : Shape := ⟨2, ![8448, 6272]⟩
abbrev S1x128 : Shape := ⟨2, ![1, 128]⟩
abbrev S512x1024 : Shape := ⟨2, ![512, 1024]⟩
abbrev S1024x1024 : Shape := ⟨2, ![1024, 1024]⟩
abbrev S4x2112x4x128 : Shape := ⟨4, ![4, 2112, 4, 128]⟩
abbrev S4x2112x6272 : Shape := ⟨3, ![4, 2112, 6272]⟩
abbrev S4x2112x512 : Shape := ⟨3, ![4, 2112, 512]⟩
abbrev S4x2112x1024 : Shape := ⟨3, ![4, 2112, 1024]⟩
abbrev S128 : Shape := ⟨1, ![128]⟩
abbrev S_ : Shape := ⟨0, ![]⟩
abbrev S4x2112x4 : Shape := ⟨3, ![4, 2112, 4]⟩
abbrev S4x2112x4x1 : Shape := ⟨4, ![4, 2112, 4, 1]⟩
abbrev S1x1x1x128 : Shape := ⟨4, ![1, 1, 1, 128]⟩

abbrev nBuf : Space → Nat
  | .hbm => 102
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x6272, .f32⟩
  | .hbm, ⟨4, _⟩ => ⟨S1x128, .f32⟩
  | .hbm, ⟨5, _⟩ => ⟨S1x128, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S4x2112x4x128, .f32⟩
  | .hbm, ⟨10, _⟩ => ⟨S4x2112x4x128, .f32⟩
  | .hbm, ⟨11, _⟩ => ⟨S4x2112x6272, .f32⟩
  | .hbm, ⟨12, _⟩ => ⟨S4x2112x512, .f32⟩
  | .hbm, ⟨13, _⟩ => ⟨S4x2112x512, .f32⟩
  | .hbm, ⟨14, _⟩ => ⟨S4x2112x1024, .f32⟩
  | .hbm, ⟨15, _⟩ => ⟨S4x2112x1024, .f32⟩
  | .hbm, ⟨16, _⟩ => ⟨S128, .f32⟩
  | .hbm, ⟨17, _⟩ => ⟨S4x2112x4x128, .f32⟩
  | .hbm, ⟨18, _⟩ => ⟨S_, .f32⟩
  | .hbm, ⟨19, _⟩ => ⟨S4x2112x4, .f32⟩
  | .hbm, ⟨20, _⟩ => ⟨S4x2112x4x1, .f32⟩
  | .hbm, ⟨21, _⟩ => ⟨S_, .f32⟩
  | .hbm, ⟨22, _⟩ => ⟨S4x2112x4x1, .f32⟩
  | .hbm, ⟨23, _⟩ => ⟨S4x2112x4x1, .f32⟩
  | .hbm, ⟨24, _⟩ => ⟨S_, .f32⟩
  | .hbm, ⟨25, _⟩ => ⟨S4x2112x4x1, .f32⟩
  | .hbm, ⟨26, _⟩ => ⟨S4x2112x4x1, .f32⟩
  | .hbm, ⟨27, _⟩ => ⟨S4x2112x4x1, .f32⟩
  | .hbm, ⟨28, _⟩ => ⟨S4x2112x4x128, .f32⟩
  | .hbm, ⟨29, _⟩ => ⟨S4x2112x4x128, .f32⟩
  | .hbm, ⟨30, _⟩ => ⟨S1x1x1x128, .f32⟩
  | .hbm, ⟨31, _⟩ => ⟨S4x2112x4x128, .f32⟩
  | .hbm, ⟨32, _⟩ => ⟨S4x2112x4x128, .f32⟩
  | .hbm, ⟨33, _⟩ => ⟨S4x2112x4x128, .f32⟩
  | .hbm, ⟨34, _⟩ => ⟨S4x2112x4x128, .f32⟩
  | .hbm, ⟨35, _⟩ => ⟨S4x2112x4x128, .f32⟩
  | .hbm, ⟨36, _⟩ => ⟨S_, .f32⟩
  | .hbm, ⟨37, _⟩ => ⟨S4x2112x4x128, .f32⟩
  | .hbm, ⟨38, _⟩ => ⟨S4x2112x4x128, .f32⟩
  | .hbm, ⟨39, _⟩ => ⟨S_, .f32⟩
  | .hbm, ⟨40, _⟩ => ⟨S4x2112x4x128, .f32⟩
  | .hbm, ⟨41, _⟩ => ⟨S4x2112x4x128, .f32⟩
  | .hbm, ⟨42, _⟩ => ⟨S4x2112x4x128, .f32⟩
  | .hbm, ⟨43, _⟩ => ⟨S4x2112x4x128, .f32⟩
  | .hbm, ⟨44, _⟩ => ⟨S4x2112x512, .f32⟩
  | .hbm, ⟨45, _⟩ => ⟨S128, .f32⟩
  | .hbm, ⟨46, _⟩ => ⟨S4x2112x4x128, .f32⟩
  | .hbm, ⟨47, _⟩ => ⟨S_, .f32⟩
  | .hbm, ⟨48, _⟩ => ⟨S4x2112x4, .f32⟩
  | .hbm, ⟨49, _⟩ => ⟨S4x2112x4x1, .f32⟩
  | .hbm, ⟨50, _⟩ => ⟨S_, .f32⟩
  | .hbm, ⟨51, _⟩ => ⟨S4x2112x4x1, .f32⟩
  | .hbm, ⟨52, _⟩ => ⟨S4x2112x4x1, .f32⟩
  | .hbm, ⟨53, _⟩ => ⟨S_, .f32⟩
  | .hbm, ⟨54, _⟩ => ⟨S4x2112x4x1, .f32⟩
  | .hbm, ⟨55, _⟩ => ⟨S4x2112x4x1, .f32⟩
  | .hbm, ⟨56, _⟩ => ⟨S4x2112x4x1, .f32⟩
  | .hbm, ⟨57, _⟩ => ⟨S4x2112x4x128, .f32⟩
  | .hbm, ⟨58, _⟩ => ⟨S4x2112x4x128, .f32⟩
  | .hbm, ⟨59, _⟩ => ⟨S1x1x1x128, .f32⟩
  | .hbm, ⟨60, _⟩ => ⟨S4x2112x4x128, .f32⟩
  | .hbm, ⟨61, _⟩ => ⟨S4x2112x4x128, .f32⟩
  | .hbm, ⟨62, _⟩ => ⟨S4x2112x4x128, .f32⟩
  | .hbm, ⟨63, _⟩ => ⟨S4x2112x4x128, .f32⟩
  | .hbm, ⟨64, _⟩ => ⟨S4x2112x4x128, .f32⟩
  | .hbm, ⟨65, _⟩ => ⟨S_, .f32⟩
  | .hbm, ⟨66, _⟩ => ⟨S4x2112x4x128, .f32⟩
  | .hbm, ⟨67, _⟩ => ⟨S4x2112x4x128, .f32⟩
  | .hbm, ⟨68, _⟩ => ⟨S_, .f32⟩
  | .hbm, ⟨69, _⟩ => ⟨S4x2112x4x128, .f32⟩
  | .hbm, ⟨70, _⟩ => ⟨S4x2112x4x128, .f32⟩
  | .hbm, ⟨71, _⟩ => ⟨S4x2112x4x128, .f32⟩
  | .hbm, ⟨72, _⟩ => ⟨S4x2112x4x128, .f32⟩
  | .hbm, ⟨73, _⟩ => ⟨S4x2112x512, .f32⟩
  | .hbm, ⟨74, _⟩ => ⟨S512x1024, .f32⟩
  | .hbm, ⟨75, _⟩ => ⟨S4x2112x1024, .f32⟩
  | .hbm, ⟨76, _⟩ => ⟨S512x1024, .f32⟩
  | .hbm, ⟨77, _⟩ => ⟨S4x2112x1024, .f32⟩
  | .hbm, ⟨78, _⟩ => ⟨S4x2112x1024, .f32⟩
  | .hbm, ⟨79, _⟩ => ⟨S4x2112x1024, .f32⟩
  | .hbm, ⟨80, _⟩ => ⟨S_, .f32⟩
  | .hbm, ⟨81, _⟩ => ⟨S4x2112x1024, .f32⟩
  | .hbm, ⟨82, _⟩ => ⟨S4x2112x1024, .f32⟩
  | .hbm, ⟨83, _⟩ => ⟨S_, .f32⟩
  | .hbm, ⟨84, _⟩ => ⟨S4x2112x1024, .f32⟩
  | .hbm, ⟨85, _⟩ => ⟨S4x2112x1024, .f32⟩
  | .hbm, ⟨86, _⟩ => ⟨S4x2112x1024, .f32⟩
  | .hbm, ⟨87, _⟩ => ⟨S4x2112x1024, .f32⟩
  | .hbm, ⟨88, _⟩ => ⟨S4x2112x1024, .f32⟩
  | .hbm, ⟨89, _⟩ => ⟨S_, .f32⟩
  | .hbm, ⟨90, _⟩ => ⟨S4x2112x1024, .f32⟩
  | .hbm, ⟨91, _⟩ => ⟨S4x2112x1024, .f32⟩
  | .hbm, ⟨92, _⟩ => ⟨S_, .f32⟩
  | .hbm, ⟨93, _⟩ => ⟨S4x2112x1024, .f32⟩
  | .hbm, ⟨94, _⟩ => ⟨S4x2112x1024, .f32⟩
  | .hbm, ⟨95, _⟩ => ⟨S4x2112x1024, .f32⟩
  | .hbm, ⟨96, _⟩ => ⟨S4x2112x1024, .f32⟩
  | .hbm, ⟨97, _⟩ => ⟨S4x2112x1024, .f32⟩
  | .hbm, ⟨98, _⟩ => ⟨S1024x1024, .f32⟩
  | .hbm, ⟨99, _⟩ => ⟨S4x2112x1024, .f32⟩
  | .hbm, ⟨100, _⟩ => ⟨S4x2112x1024, .f32⟩
  | .hbm, ⟨101, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_7 : Ref sig .tc := ⟨.hbm, 89, rfl⟩
abbrev main_v56 : Ref sig .tc := ⟨.hbm, 90, rfl⟩
abbrev main_v57 : Ref sig .tc := ⟨.hbm, 91, rfl⟩
abbrev main_cst_8 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]
-- ==== Kernel5.lean ====
abbrev S8448x1024 : Shape := ⟨2, ![8448, 1024]⟩
abbrev S8448x512 : Shape := ⟨2, ![8448, 512]⟩
abbrev S8448x6272 : Shape := ⟨2, ![8448, 6272]⟩
abbrev S1x128 : Shape := ⟨2, ![1, 128]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩
abbrev S256x3072 : Shape := ⟨2, ![256, 3072]⟩
abbrev S256x1 : Shape := ⟨2, ![256, 1]⟩
abbrev S256x128 : Shape := ⟨2, ![256, 128]⟩
abbrev S256 : Shape := ⟨1, ![256]⟩
abbrev S128 : Shape := ⟨1, ![128]⟩

abbrev nBuf : Space → Nat
  | .hbm => 17
  | .vmem => 24
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x6272, .f32⟩
  | .hbm, ⟨4, _⟩ => ⟨S1x128, .f32⟩
  | .hbm, ⟨5, _⟩ => ⟨S1x128, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S8448x6272, .bf16⟩
  | .hbm, ⟨10, _⟩ => ⟨S8448x512, .f32⟩
  | .hbm, ⟨11, _⟩ => ⟨S8448x512, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1x128, .f32⟩
  | .hbm, ⟨16, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x3072, .f32⟩
  | .local _ .vmem, ⟨7, _⟩ => ⟨S256x3072, .f32⟩
  | .local _ .vmem, ⟨8, _⟩ => ⟨S1x128, .f32⟩
  | .local _ .vmem, ⟨9, _⟩ => ⟨S1x128, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S256x3072, .bf16⟩
  | .local _ .vmem, ⟨14, _⟩ => ⟨S256x3072, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S512x1024, .f32⟩
  | .local _ .vmem, ⟨20, _⟩ => ⟨S512x1024, .f32⟩
  | .local _ .vmem, ⟨21, _⟩ => ⟨S1024x1024, .f32⟩
  | .local _ .vmem, ⟨22, _⟩ => ⟨S1x128, .f32⟩
  | .local _ .vmem, ⟨23, _⟩ => ⟨S1x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference5Ideal.lean ====
abbrev S8448x1024 : Shape := ⟨2, ![8448, 1024]⟩
abbrev S8448x512 : Shape := ⟨2, ![8448, 512]⟩
abbrev S8448x6272 : Shape := ⟨2, ![8448, 6272]⟩
abbrev S1x128 : Shape := ⟨2, ![1, 128]⟩
abbrev S512x1024 : Shape := ⟨2, ![512, 1024]⟩
abbrev S1024x1024 : Shape := ⟨2, ![1024, 1024]⟩
abbrev S4x2112x6272 : Shape := ⟨3, ![4, 2112, 6272]⟩
abbrev S4x2064x6272 : Shape := ⟨3, ![4, 2064, 6272]⟩
abbrev S4x2112x512 : Shape := ⟨3, ![4, 2112, 512]⟩
abbrev S4x2064x512 : Shape := ⟨3, ![4, 2064, 512]⟩
abbrev S4x2064x4x128 : Shape := ⟨4, ![4, 2064, 4, 128]⟩
abbrev S4x2064x1024 : Shape := ⟨3, ![4, 2064, 1024]⟩
abbrev S128 : Shape := ⟨1, ![128]⟩
abbrev S_ : Shape := ⟨0, ![]⟩
abbrev S4x2064x4 : Shape := ⟨3, ![4, 2064, 4]⟩
abbrev S4x2064x4x1 : Shape := ⟨4, ![4, 2064, 4, 1]⟩
abbrev S1x1x1x128 : Shape := ⟨4, ![1, 1, 1, 128]⟩
abbrev S4x2112x1024 : Shape := ⟨3, ![4, 2112, 1024]⟩
abbrev S1024x512 : Shape := ⟨2, ![1024, 512]⟩

abbrev nBuf : Space → Nat
  | .hbm => 236
  | .vmem => 0
  | .smem => 0
  | _ => 0

abbrev hbmTy0_0 (i : Nat) : BufTy := match i % 128 with
  | 0 => ⟨S8448x1024, .f32⟩
  | 1 => ⟨S8448x512, .f32⟩
  | 2 => ⟨S8448x512, .f32⟩
  | 3 => ⟨S8448x6272, .f32⟩
  | 4 => ⟨S1x128, .f32⟩
  | 5 => ⟨S1x128, .f32⟩
  | 6 => ⟨S512x1024, .bf16⟩
  | 7 => ⟨S512x1024, .bf16⟩
  | 8 => ⟨S1024x1024, .bf16⟩
  | 9 => ⟨S512x1024, .f32⟩
  | 10 => ⟨S512x1024, .f32⟩
  | 11 => ⟨S1024x1024, .f32⟩
  | 12 => ⟨S4x2112x6272, .f32⟩
  | 13 => ⟨S4x2064x6272, .f32⟩
  | 14 => ⟨S4x2112x512, .f32⟩
  | 15 => ⟨S4x2064x512, .f32⟩
  | 16 => ⟨S4x2064x4x128, .f32⟩
  | 17 => ⟨S4x2112x512, .f32⟩
  | 18 => ⟨S4x2064x512, .f32⟩
  | 19 => ⟨S4x2064x4x128, .f32⟩
  | 20 => ⟨S4x2064x512, .f32⟩
  | 21 => ⟨S4x2064x512, .f32⟩
  | 22 => ⟨S4x2064x1024, .f32⟩
  | 23 => ⟨S4x2064x1024, .f32⟩
  | 24 => ⟨S128, .f32⟩
  | 25 => ⟨S4x2064x4x128, .f32⟩
  | 26 => ⟨S_, .f32⟩
  | 27 => ⟨S4x2064x4, .f32⟩
  | 28 => ⟨S4x2064x4x1, .f32⟩
  | 29 => ⟨S_, .f32⟩
  | 30 => ⟨S4x2064x4x1, .f32⟩
  | 31 => ⟨S4x2064x4x1, .f32⟩
  | 32 => ⟨S_, .f32⟩
  | 33 => ⟨S4x2064x4x1, .f32⟩
  | 34 => ⟨S4x2064x4x1, .f32⟩
  | 35 => ⟨S4x2064x4x1, .f32⟩
  | 36 => ⟨S4x2064x4x1, .f32⟩
  | 37 => ⟨S_, .f32⟩
  | 38 => ⟨S4x2064x4x1, .f32⟩
  | 39 => ⟨S4x2064x4x1, .f32⟩
  | 40 => ⟨S4x2064x4x128, .f32⟩
  | 41 => ⟨S4x2064x4x128, .f32⟩
  | 42 => ⟨S1x1x1x128, .f32⟩
  | 43 => ⟨S4x2064x4x128, .f32⟩
  | 44 => ⟨S4x2064x4x128, .f32⟩
  | 45 => ⟨S4x2064x4x128, .f32⟩
  | 46 => ⟨S4x2064x4x128, .f32⟩
  | 47 => ⟨S4x2064x4x128, .f32⟩
  | 48 => ⟨S_, .f32⟩
  | 49 => ⟨S4x2064x4x128, .f32⟩
  | 50 => ⟨S4x2064x4x128, .f32⟩
  | 51 => ⟨S_, .f32⟩
  | 52 => ⟨S4x2064x4x128, .f32⟩
  | 53 => ⟨S4x2064x4x128, .f32⟩
  | 54 => ⟨S_, .f32⟩
  | 55 => ⟨S4x2064x4x128, .f32⟩
  | 56 => ⟨S4x2064x4x128, .f32⟩
  | 57 => ⟨S4x2064x4x128, .f32⟩
  | 58 => ⟨S4x2064x4x128, .f32⟩
  | 59 => ⟨S4x2064x4x128, .f32⟩
  | 60 => ⟨S4x2064x512, .f32⟩
  | 61 => ⟨S128, .f32⟩
  | 62 => ⟨S4x2064x4x128, .f32⟩
  | 63 => ⟨S_, .f32⟩
  | 64 => ⟨S4x2064x4, .f32⟩
  | 65 => ⟨S4x2064x4x1, .f32⟩
  | 66 => ⟨S_, .f32⟩
  | 67 => ⟨S4x2064x4x1, .f32⟩
  | 68 => ⟨S4x2064x4x1, .f32⟩
  | 69 => ⟨S_, .f32⟩
  | 70 => ⟨S4x2064x4x1, .f32⟩
  | 71 => ⟨S4x2064x4x1, .f32⟩
  | 72 => ⟨S4x2064x4x1, .f32⟩
  | 73 => ⟨S4x2064x4x1, .f32⟩
  | 74 => ⟨S_, .f32⟩
  | 75 => ⟨S4x2064x4x1, .f32⟩
  | 76 => ⟨S4x2064x4x1, .f32⟩
  | 77 => ⟨S4x2064x4x128, .f32⟩
  | 78 => ⟨S4x2064x4x128, .f32⟩
  | 79 => ⟨S1x1x1x128, .f32⟩
  | 80 => ⟨S4x2064x4x128, .f32⟩
  | 81 => ⟨S4x2064x4x128, .f32⟩
  | 82 => ⟨S4x2064x4x128, .f32⟩
  | 83 => ⟨S4x2064x4x128, .f32⟩
  | 84 => ⟨S4x2064x4x128, .f32⟩
  | 85 => ⟨S_, .f32⟩
  | 86 => ⟨S4x2064x4x128, .f32⟩
  | 87 => ⟨S4x2064x4x128, .f32⟩
  | 88 => ⟨S_, .f32⟩
  | 89 => ⟨S4x2064x4x128, .f32⟩
  | 90 => ⟨S4x2064x4x128, .f32⟩
  | 91 => ⟨S_, .f32⟩
  | 92 => ⟨S4x2064x4x128, .f32⟩
  | 93 => ⟨S4x2064x4x128, .f32⟩
  | 94 => ⟨S4x2064x4x128, .f32⟩
  | 95 => ⟨S4x2064x4x128, .f32⟩
  | 96 => ⟨S4x2064x4x128, .f32⟩
  | 97 => ⟨S4x2064x512, .f32⟩
  | 98 => ⟨S4x2064x1024, .f32⟩
  | 99 => ⟨S4x2064x1024, .f32⟩
  | 100 => ⟨S4x2064x1024, .f32⟩
  | 101 => ⟨S4x2064x1024, .f32⟩
  | 102 => ⟨S_, .f32⟩
  | 103 => ⟨S4x2064x1024, .f32⟩
  | 104 => ⟨S4x2064x1024, .f32⟩
  | 105 => ⟨S_, .f32⟩
  | 106 => ⟨S4x2064x1024, .f32⟩
  | 107 => ⟨S4x2064x1024, .f32⟩
  | 108 => ⟨S_, .f32⟩
  | 109 => ⟨S4x2064x1024, .f32⟩
  | 110 => ⟨S4x2064x1024, .f32⟩
  | 111 => ⟨S4x2064x1024, .f32⟩
  | 112 => ⟨S4x2064x1024, .f32⟩
  | 113 => ⟨S4x2064x1024, .f32⟩
  | 114 => ⟨S4x2064x1024, .f32⟩
  | 115 => ⟨S_, .f32⟩
  | 116 => ⟨S4x2064x1024, .f32⟩
  | 117 => ⟨S4x2064x1024, .f32⟩
  | 118 => ⟨S_, .f32⟩
  | 119 => ⟨S4x2064x1024, .f32⟩
  | 120 => ⟨S4x2064x1024, .f32⟩
  | 121 => ⟨S_, .f32⟩
  | 122 => ⟨S4x2064x1024, .f32⟩
  | 123 => ⟨S4x2064x1024, .f32⟩
  | 124 => ⟨S4x2064x1024, .f32⟩
  | 125 => ⟨S4x2064x1024, .f32⟩
  | 126 => ⟨S4x2064x1024, .f32⟩
  | 127 => ⟨S4x2064x1024, .f32⟩
  | _ => ⟨S8448x1024, .f32⟩

abbrev hbmTy0_1 (i : Nat) : BufTy := match i % 128 with
  | 0 => ⟨S4x2112x1024, .f32⟩
  | 1 => ⟨S4x2064x1024, .f32⟩
  | 2 => ⟨S1024x1024, .f32⟩
  | 3 => ⟨S1024x1024, .f32⟩
  | 4 => ⟨S4x2064x1024, .f32⟩
  | 5 => ⟨S4x2064x1024, .f32⟩
  | 6 => ⟨S4x2064x1024, .f32⟩
  | 7 => ⟨S4x2064x1024, .f32⟩
  | 8 => ⟨S4x2064x1024, .f32⟩
  | 9 => ⟨S4x2064x1024, .f32⟩
  | 10 => ⟨S4x2064x1024, .f32⟩
  | 11 => ⟨S1024x512, .f32⟩
  | 12 => ⟨S512x1024, .f32⟩
  | 13 => ⟨S4x2064x512, .f32⟩
  | 14 => ⟨S1024x512, .f32⟩
  | 15 => ⟨S512x1024, .f32⟩
  | 16 => ⟨S4x2064x512, .f32⟩
  | 17 => ⟨S4x2064x4x128, .f32⟩
  | 18 => ⟨S4x2064x4x128, .f32⟩
  | 19 => ⟨S4x2064x4x128, .f32⟩
  | 20 => ⟨S4x2064x4x128, .f32⟩
  | 21 => ⟨S4x2064x4x128, .f32⟩
  | 22 => ⟨S4x2064x4x128, .f32⟩
  | 23 => ⟨S4x2064x4x128, .f32⟩
  | 24 => ⟨S4x2064x512, .f32⟩
  | 25 => ⟨S4x2064x4x128, .f32⟩
  | 26 => ⟨S_, .f32⟩
  | 27 => ⟨S128, .f32⟩
  | 28 => ⟨S1x1x1x128, .f32⟩
  | 29 => ⟨S4x2064x4x128, .f32⟩
  | 30 => ⟨S4x2064x4x128, .f32⟩
  | 31 => ⟨S_, .f32⟩
  | 32 => ⟨S128, .f32⟩
  | 33 => ⟨S4x2064x4x128, .f32⟩
  | 34 => ⟨S_, .f32⟩
  | 35 => ⟨S4x2064x4, .f32⟩
  | 36 => ⟨S4x2064x4x1, .f32⟩
  | 37 => ⟨S4x2064x4x128, .f32⟩
  | 38 => ⟨S4x2064x4x128, .f32⟩
  | 39 => ⟨S4x2064x4x1, .f32⟩
  | 40 => ⟨S_, .f32⟩
  | 41 => ⟨S4x2064x4x1, .f32⟩
  | 42 => ⟨S4x2064x4x1, .f32⟩
  | 43 => ⟨S_, .f32⟩
  | 44 => ⟨S4x2064x4, .f32⟩
  | 45 => ⟨S4x2064x4x128, .f32⟩
  | 46 => ⟨S4x2064x4x128, .f32⟩
  | 47 => ⟨S4x2064x4x128, .f32⟩
  | 48 => ⟨S4x2064x4x128, .f32⟩
  | 49 => ⟨S4x2064x4x128, .f32⟩
  | 50 => ⟨S1x128, .f32⟩
  | 51 => ⟨S4x2064x4x128, .f32⟩
  | 52 => ⟨S4x2064x4x128, .f32⟩
  | 53 => ⟨S4x2064x4x128, .f32⟩
  | 54 => ⟨S4x2064x4x128, .f32⟩
  | 55 => ⟨S4x2064x4x128, .f32⟩
  | 56 => ⟨S4x2064x4x128, .f32⟩
  | 57 => ⟨S4x2064x4x128, .f32⟩
  | 58 => ⟨S4x2064x512, .f32⟩
  | 59 => ⟨S4x2064x4x128, .f32⟩
  | 60 => ⟨S_, .f32⟩
  | 61 => ⟨S128, .f32⟩
  | 62 => ⟨S1x1x1x128, .f32⟩
  | 63 => ⟨S4x2064x4x128, .f32⟩
  | 64 => ⟨S4x2064x4x128, .f32⟩
  | 65 => ⟨S_, .f32⟩
  | 66 => ⟨S128, .f32⟩
  | 67 => ⟨S4x2064x4x128, .f32⟩
  | 68 => ⟨S_, .f32⟩
  | 69 => ⟨S4x2064x4, .f32⟩
  | 70 => ⟨S4x2064x4x1, .f32⟩
  | 71 => ⟨S4x2064x4x128, .f32⟩
  | 72 => ⟨S4x2064x4x128, .f32⟩
  | 73 => ⟨S4x2064x4x1, .f32⟩
  | 74 => ⟨S_, .f32⟩
  | 75 => ⟨S4x2064x4x1, .f32⟩
  | 76 => ⟨S4x2064x4x1, .f32⟩
  | 77 => ⟨S_, .f32⟩
  | 78 => ⟨S4x2064x4, .f32⟩
  | 79 => ⟨S4x2064x4x128, .f32⟩
  | 80 => ⟨S4x2064x4x128, .f32⟩
  | 81 => ⟨S4x2064x4x128, .f32⟩
  | 82 => ⟨S4x2064x4x128, .f32⟩
  | 83 => ⟨S4x2064x4x128, .f32⟩
  | 84 => ⟨S1x128, .f32⟩
  | 85 => ⟨S_, .f32⟩
  | 86 => ⟨S4x2064x6272, .f32⟩
  | 87 => ⟨S_, .f32⟩
  | 88 => ⟨S4x2064x6272, .f32⟩
  | 89 => ⟨S4x2064x6272, .f32⟩
  | 90 => ⟨S_, .f32⟩
  | 91 => ⟨S4x2064x6272, .f32⟩
  | 92 => ⟨S4x2064x6272, .f32⟩
  | 93 => ⟨S_, .f32⟩
  | 94 => ⟨S4x2064x6272, .f32⟩
  | 95 => ⟨S4x2064x6272, .f32⟩
  | 96 => ⟨S4x2064x512, .f32⟩
  | 97 => ⟨S_, .f32⟩
  | 98 => ⟨S4x2112x512, .f32⟩
  | 99 => ⟨S8448x512, .f32⟩
  | 100 => ⟨S4x2064x512, .f32⟩
  | 101 => ⟨S_, .f32⟩
  | 102 => ⟨S4x2112x512, .f32⟩
  | 103 => ⟨S8448x512, .f32⟩
  | 104 => ⟨S_, .f32⟩
  | 105 => ⟨S4x2112x6272, .f32⟩
  | 106 => ⟨S8448x6272, .f32⟩
  | 107 => ⟨S8448x6272, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v33_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v33_1 : Ref sig .tc := ⟨.hbm, 57, rfl⟩
abbrev main_v33_0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_v54_2 : Ref sig .tc := ⟨.hbm, 90, rfl⟩
abbrev main_call1_cst_1 : Ref sig .tc := ⟨.hbm, 91, rfl⟩
abbrev main_call1_v6 : Ref sig .tc := ⟨.hbm, 92, rfl⟩
abbrev main_call1_v7 : Ref sig .tc := ⟨.hbm, 93, rfl⟩
abbrev main_v54_1 : Ref sig .tc := ⟨.hbm, 94, rfl⟩
abbrev main_v54_0 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_7 : Ref sig .tc := ⟨.hbm, 102, rfl⟩
abbrev main_v61 : Ref sig .tc := ⟨.hbm, 103, rfl⟩
abbrev main_v62 : Ref sig .tc := ⟨.hbm, 104, rfl⟩
abbrev main_cst_8 : Ref sig .tc := ⟨.hbm, 105, rfl⟩
abbrev main_v63 : Ref sig .tc := ⟨.hbm, 106, rfl⟩
abbrev main_v64 : Ref sig .tc := ⟨.hbm, 107, rfl⟩
abbrev main_cst_9 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_10 : Ref sig .tc := ⟨.hbm, 115, rfl⟩
abbrev main_v71 : Ref sig .tc := ⟨.hbm, 116, rfl⟩
abbrev main_v72 : Ref sig .tc := ⟨.hbm, 117, rfl⟩
abbrev main_cst_11 : Ref sig .tc := ⟨.hbm, 118, rfl⟩
abbrev main_v73 : Ref sig .tc := ⟨.hbm, 119, rfl⟩
abbrev main_v74 : Ref sig .tc := ⟨.hbm, 120, rfl⟩
abbrev main_cst_12 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_13 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_14 : Ref sig .tc := ⟨.hbm, 159, rfl⟩
abbrev main_v108 : Ref sig .tc := ⟨.hbm, 160, rfl⟩
abbrev main_v109 : Ref sig .tc := ⟨.hbm, 161, rfl⟩
abbrev main_cst_15 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_16 : Ref sig .tc := ⟨.hbm, 168, rfl⟩
abbrev main_v115 : Ref sig .tc := ⟨.hbm, 169, rfl⟩
abbrev main_v116 : Ref sig .tc := ⟨.hbm, 170, rfl⟩
abbrev main_cst_17 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_call3_v0 : Ref sig .tc := ⟨.hbm, 182, rfl⟩
abbrev main_call3_v1 : Ref sig .tc := ⟨.hbm, 183, rfl⟩
abbrev main_call3_v2 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_18 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_19 : Ref sig .tc := ⟨.hbm, 193, rfl⟩
abbrev main_v134 : Ref sig .tc := ⟨.hbm, 194, rfl⟩
abbrev main_v135 : Ref sig .tc := ⟨.hbm, 195, rfl⟩
abbrev main_cst_20 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_21 : Ref sig .tc := ⟨.hbm, 202, rfl⟩
abbrev main_v141 : Ref sig .tc := ⟨.hbm, 203, rfl⟩
abbrev main_v142 : Ref sig .tc := ⟨.hbm, 204, rfl⟩
abbrev main_cst_22 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_cst_23 : Ref sig .tc := ⟨.hbm, 213, rfl⟩
abbrev main_v150 : Ref sig .tc := ⟨.hbm, 214, rfl⟩
abbrev main_cst_24 : Ref sig .tc := ⟨.hbm, 215, rfl⟩
abbrev main_v151 : Ref sig .tc := ⟨.hbm, 216, rfl⟩
abbrev main_v152 : Ref sig .tc := ⟨.hbm, 217, rfl⟩
abbrev main_cst_25 : Ref sig .tc := ⟨.hbm, 218, rfl⟩
abbrev main_v153 : Ref sig .tc := ⟨.hbm, 219, rfl⟩
abbrev main_v154 : Ref sig .tc := ⟨.hbm, 220, rfl⟩
abbrev main_cst_26 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_27 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_28 : Ref sig .tc := ⟨.hbm, 229, rfl⟩
abbrev main_v161 : Ref sig .tc := ⟨.hbm, 230, rfl⟩
abbrev main_v162 : Ref sig .tc := ⟨.hbm, 231, rfl⟩
abbrev main_cst_29 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩

abbrev nD : Nat := 1
abbrev τ : Topo := Topo.v7x

variable {F : FTy → Type} [FloatOps F]
-- ==== Kernel6.lean ====
abbrev S1538x2x1024 : Shape := ⟨3, ![1538, 2, 1024]⟩
abbrev S1538x2x128 : Shape := ⟨3, ![1538, 2, 128]⟩

abbrev nBuf : Space → Nat
  | .hbm => 7
  | .vmem => 14
  | .smem => 0
  | _ => 0

abbrev bufTy : (tb : Table) → Fin (tcTables nBuf tb) → BufTy
  | .hbm, ⟨0, _⟩ => ⟨S1538x2x1024, .f32⟩
  | .hbm, ⟨1, _⟩ => ⟨S1538x2x1024, .f32⟩
  | .hbm, ⟨2, _⟩ => ⟨S1538x2x1024, .f32⟩
  | .hbm, ⟨3, _⟩ => ⟨S1538x2x1024, .f32⟩
  | .hbm, ⟨4, _⟩ => ⟨S1538x2x1024, .f32⟩
  | .hbm, ⟨5, _⟩ => ⟨S1538x2x1024, .f32⟩
  | .hbm, ⟨6, _⟩ => ⟨S1538x2x1024, .f32⟩
  | .local _ .vmem, ⟨0, _⟩ => ⟨S1538x2x128, .f32⟩
  | .local _ .vmem, ⟨1, _⟩ => ⟨S1538x2x128, .f32⟩
  | .local _ .vmem, ⟨2, _⟩ => ⟨S1538x2x128, .f32⟩
  | .local _ .vmem, ⟨3, _⟩ => ⟨S1538x2x128, .f32⟩
  | .local _ .vmem, ⟨4, _⟩ => ⟨S1538x2x128, .f32⟩
  | .local _ .vmem, ⟨5, _⟩ => ⟨S1538x2x128, .f32⟩
  | .local _ .vmem, ⟨6, _⟩ => ⟨S1538x2x128, .f32⟩
  | .local _ .vmem, ⟨7, _⟩ => ⟨S1538x2x128, .f32⟩
  | .local _ .vmem, ⟨8, _⟩ => ⟨S1538x2x128, .f32⟩
  | .local _ .vmem, ⟨9, _⟩ => ⟨S1538x2x128, .f32⟩
  | .local _ .vmem, ⟨10, _⟩ => ⟨S1538x2x128, .f32⟩
  | .local _ .vmem, ⟨11, _⟩ => ⟨S1538x2x128, .f32⟩
  | .local _ .vmem, ⟨12, _⟩ => ⟨S1538x2x128, .f32⟩
  | .local _ .vmem, ⟨13, _⟩ => ⟨S1538x2x128, .f32⟩
  | _, _ => ⟨S1538x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1538x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1538x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1538x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1538x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1538x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1538x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1538x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6Ideal.lean ====
abbrev S1538x2x1024 : Shape := ⟨3, ![1538, 2, 1024]⟩
abbrev S1538x2x128 : Shape := ⟨3, ![1538, 2, 128]⟩

abbrev nBuf : Space → Nat
  | .hbm => 7
  | .vmem => 14
  | .smem => 0
  | _ => 0

abbrev bufTy : (tb : Table) → Fin (tcTables nBuf tb) → BufTy
  | .hbm, ⟨0, _⟩ => ⟨S1538x2x1024, .f32⟩
  | .hbm, ⟨1, _⟩ => ⟨S1538x2x1024, .f32⟩
  | .hbm, ⟨2, _⟩ => ⟨S1538x2x1024, .f32⟩
  | .hbm, ⟨3, _⟩ => ⟨S1538x2x1024, .f32⟩
  | .hbm, ⟨4, _⟩ => ⟨S1538x2x1024, .f32⟩
  | .hbm, ⟨5, _⟩ => ⟨S1538x2x1024, .f32⟩
  | .hbm, ⟨6, _⟩ => ⟨S1538x2x1024, .f32⟩
  | .local _ .vmem, ⟨0, _⟩ => ⟨S1538x2x128, .f32⟩
  | .local _ .vmem, ⟨1, _⟩ => ⟨S1538x2x128, .f32⟩
  | .local _ .vmem, ⟨2, _⟩ => ⟨S1538x2x128, .f32⟩
  | .local _ .vmem, ⟨3, _⟩ => ⟨S1538x2x128, .f32⟩
  | .local _ .vmem, ⟨4, _⟩ => ⟨S1538x2x128, .f32⟩
  | .local _ .vmem, ⟨5, _⟩ => ⟨S1538x2x128, .f32⟩
  | .local _ .vmem, ⟨6, _⟩ => ⟨S1538x2x128, .f32⟩
  | .local _ .vmem, ⟨7, _⟩ => ⟨S1538x2x128, .f32⟩
  | .local _ .vmem, ⟨8, _⟩ => ⟨S1538x2x128, .f32⟩
  | .local _ .vmem, ⟨9, _⟩ => ⟨S1538x2x128, .f32⟩
  | .local _ .vmem, ⟨10, _⟩ => ⟨S1538x2x128, .f32⟩
  | .local _ .vmem, ⟨11, _⟩ => ⟨S1538x2x128, .f32⟩
  | .local _ .vmem, ⟨12, _⟩ => ⟨S1538x2x128, .f32⟩
  | .local _ .vmem, ⟨13, _⟩ => ⟨S1538x2x128, .f32⟩
  | _, _ => ⟨S1538x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1538x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1538x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1538x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1538x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1538x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1538x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1538x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1538x2x1024 : Shape := ⟨3, ![1538, 2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1538x2x1024, .f32⟩
  | .hbm, ⟨1, _⟩ => ⟨S1538x2x1024, .f32⟩
  | .hbm, ⟨2, _⟩ => ⟨S1538x2x1024, .f32⟩
  | .hbm, ⟨3, _⟩ => ⟨S1538x2x1024, .f32⟩
  | .hbm, ⟨4, _⟩ => ⟨S_, .f32⟩
  | .hbm, ⟨5, _⟩ => ⟨S1538x2x1024, .f32⟩
  | .hbm, ⟨6, _⟩ => ⟨S1538x2x1024, .f32⟩
  | .hbm, ⟨7, _⟩ => ⟨S_, .f32⟩
  | .hbm, ⟨8, _⟩ => ⟨S1538x2x1024, .f32⟩
  | .hbm, ⟨9, _⟩ => ⟨S1538x2x1024, .f32⟩
  | .hbm, ⟨10, _⟩ => ⟨S1538x2x1024, .f32⟩
  | .hbm, ⟨11, _⟩ => ⟨S_, .f32⟩
  | .hbm, ⟨12, _⟩ => ⟨S1538x2x1024, .f32⟩
  | .hbm, ⟨13, _⟩ => ⟨S1538x2x1024, .f32⟩
  | .hbm, ⟨14, _⟩ => ⟨S1538x2x1024, .f32⟩
  | .hbm, ⟨15, _⟩ => ⟨S_, .f32⟩
  | .hbm, ⟨16, _⟩ => ⟨S1538x2x1024, .f32⟩
  | .hbm, ⟨17, _⟩ => ⟨S1538x2x1024, .f32⟩
  | .hbm, ⟨18, _⟩ => ⟨S1538x2x1024, .f32⟩
  | .hbm, ⟨19, _⟩ => ⟨S_, .f32⟩
  | .hbm, ⟨20, _⟩ => ⟨S1538x2x1024, .f32⟩
  | .hbm, ⟨21, _⟩ => ⟨S1538x2x1024, .f32⟩
  | .hbm, ⟨22, _⟩ => ⟨S_, .f32⟩
  | .hbm, ⟨23, _⟩ => ⟨S1538x2x1024, .f32⟩
  | .hbm, ⟨24, _⟩ => ⟨S1538x2x1024, .f32⟩
  | .hbm, ⟨25, _⟩ => ⟨S1538x2x1024, .f32⟩
  | .hbm, ⟨26, _⟩ => ⟨S_, .f32⟩
  | .hbm, ⟨27, _⟩ => ⟨S1538x2x1024, .f32⟩
  | .hbm, ⟨28, _⟩ => ⟨S1538x2x1024, .f32⟩
  | .hbm, ⟨29, _⟩ => ⟨S1538x2x1024, .f32⟩
  | .hbm, ⟨30, _⟩ => ⟨S_, .f32⟩
  | .hbm, ⟨31, _⟩ => ⟨S1538x2x1024, .f32⟩
  | .hbm, ⟨32, _⟩ => ⟨S1538x2x1024, .f32⟩
  | .hbm, ⟨33, _⟩ => ⟨S1538x2x1024, .f32⟩
  | .hbm, ⟨34, _⟩ => ⟨S_, .f32⟩
  | .hbm, ⟨35, _⟩ => ⟨S1538x2x1024, .f32⟩
  | .hbm, ⟨36, _⟩ => ⟨S1538x2x1024, .f32⟩
  | _, _ => ⟨S1538x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel7Ideal.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S96x128 : Shape := ⟨2, ![96, 128]⟩

abbrev nBuf : Space → Nat
  | .hbm => 7
  | .vmem => 7
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .local _ .vmem, ⟨0, _⟩ => ⟨S96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel9Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference9Ideal.lean ====
abbrev S96x128 : Shape := ⟨2, ![96, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S96x128, .f32⟩
  | .hbm, ⟨7, _⟩ => ⟨S_, .f32⟩
  | .hbm, ⟨8, _⟩ => ⟨S96x128, .f32⟩
  | .hbm, ⟨9, _⟩ => ⟨S96x128, .f32⟩
  | .hbm, ⟨10, _⟩ => ⟨S96x128, .f32⟩
  | .hbm, ⟨11, _⟩ => ⟨S_, .f32⟩
  | .hbm, ⟨12, _⟩ => ⟨S96x128, .f32⟩
  | .hbm, ⟨13, _⟩ => ⟨S96x128, .f32⟩
  | .hbm, ⟨14, _⟩ => ⟨S96x128, .f32⟩
  | .hbm, ⟨15, _⟩ => ⟨S_, .f32⟩
  | .hbm, ⟨16, _⟩ => ⟨S96x128, .f32⟩
  | .hbm, ⟨17, _⟩ => ⟨S96x128, .f32⟩
  | .hbm, ⟨18, _⟩ => ⟨S96x128, .f32⟩
  | .hbm, ⟨19, _⟩ => ⟨S_, .f32⟩
  | .hbm, ⟨20, _⟩ => ⟨S96x128, .f32⟩
  | .hbm, ⟨21, _⟩ => ⟨S96x128, .f32⟩
  | .hbm, ⟨22, _⟩ => ⟨S_, .f32⟩
  | .hbm, ⟨23, _⟩ => ⟨S96x128, .f32⟩
  | .hbm, ⟨24, _⟩ => ⟨S96x128, .f32⟩
  | .hbm, ⟨25, _⟩ => ⟨S96x128, .f32⟩
  | .hbm, ⟨26, _⟩ => ⟨S_, .f32⟩
  | .hbm, ⟨27, _⟩ => ⟨S96x128, .f32⟩
  | .hbm, ⟨28, _⟩ => ⟨S96x128, .f32⟩
  | .hbm, ⟨29, _⟩ => ⟨S96x128, .f32⟩
  | .hbm, ⟨30, _⟩ => ⟨S_, .f32⟩
  | .hbm, ⟨31, _⟩ => ⟨S96x128, .f32⟩
  | .hbm, ⟨32, _⟩ => ⟨S96x128, .f32⟩
  | .hbm, ⟨33, _⟩ => ⟨S96x128, .f32⟩
  | .hbm, ⟨34, _⟩ => ⟨S_, .f32⟩
  | .hbm, ⟨35, _⟩ => ⟨S96x128, .f32⟩
  | .hbm, ⟨36, _⟩ => ⟨S96x128, .f32⟩
  | _, _ => ⟨S96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S8448x6272 : Shape := ⟨2, ![8448, 6272]⟩
abbrev S4x1536 : Shape := ⟨2, ![4, 1536]⟩
abbrev S8448x1536 : Shape := ⟨2, ![8448, 1536]⟩
abbrev S2112x256 : Shape := ⟨2, ![2112, 256]⟩
abbrev S4x256 : Shape := ⟨2, ![4, 256]⟩
abbrev S2112x128 : Shape := ⟨2, ![2112, 128]⟩
abbrev S4x128 : Shape := ⟨2, ![4, 128]⟩
abbrev S1x128 : Shape := ⟨2, ![1, 128]⟩
abbrev S2112 : Shape := ⟨1, ![2112]⟩
abbrev S2112x1 : Shape := ⟨2, ![2112, 1]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S8448x6272, .f32⟩
  | .hbm, ⟨1, _⟩ => ⟨S4x1536, .f32⟩
  | .hbm, ⟨2, _⟩ => ⟨S8448x1536, .f32⟩
  | .hbm, ⟨3, _⟩ => ⟨S8448x6272, .bf16⟩
  | .hbm, ⟨4, _⟩ => ⟨S8448x6272, .bf16⟩
  | .hbm, ⟨5, _⟩ => ⟨S4x1536, .f32⟩
  | .local _ .vmem, ⟨0, _⟩ => ⟨S2112x256, .f32⟩
  | .local _ .vmem, ⟨1, _⟩ => ⟨S2112x256, .f32⟩
  | .local _ .vmem, ⟨2, _⟩ => ⟨S4x256, .f32⟩
  | .local _ .vmem, ⟨3, _⟩ => ⟨S4x256, .f32⟩
  | .local _ .vmem, ⟨4, _⟩ => ⟨S2112x256, .f32⟩
  | .local _ .vmem, ⟨5, _⟩ => ⟨S2112x256, .f32⟩
  | .local _ .vmem, ⟨6, _⟩ => ⟨S2112x256, .bf16⟩
  | .local _ .vmem, ⟨7, _⟩ => ⟨S2112x256, .bf16⟩
  | .local _ .vmem, ⟨8, _⟩ => ⟨S4x256, .f32⟩
  | .local _ .vmem, ⟨9, _⟩ => ⟨S4x256, .f32⟩
  | _, _ => ⟨S8448x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 4], ![false, false]⟩

def k0_cond1 (i : grid0.Coords) : BitVec 1 :=
  let arg1 : BitVec 32 := BitVec.ofNat 32 (i 1).val
  let c0_i32_49 : BitVec 32 := 0#32
  let v161 : BitVec 1 := Scalar.cmpi .eq arg1 c0_i32_49
  let v162 : BitVec 32 := Scalar.extui v161
  let c0_i32_50 : BitVec 32 := 0#32
  let v163 : BitVec 1 := Scalar.cmpi .ne v162 c0_i32_50
  v163

def k0_cond2 (i : grid0.Coords) : BitVec 1 :=
  let arg1 : BitVec 32 := BitVec.ofNat 32 (i 1).val
  let c0_i32_51 : BitVec 32 := 0#32
  let v164 : BitVec 1 := Scalar.cmpi .sgt arg1 c0_i32_51
  let v165 : BitVec 32 := Scalar.extui v164
  let c0_i32_52 : BitVec 32 := 0#32
  let v166 : BitVec 1 := Scalar.cmpi .ne v165 c0_i32_52
  v166

def k0_cond3 (i : grid0.Coords) : BitVec 1 :=
  let arg1 : BitVec 32 := BitVec.ofNat 32 (i 1).val
  let c0_i32_113 : BitVec 32 := 0#32
  let v326 : BitVec 1 := Scalar.cmpi .eq arg1 c0_i32_113
  let v327 : BitVec 32 := Scalar.extui v326
  let c0_i32_114 : BitVec 32 := 0#32
  let v328 : BitVec 1 := Scalar.cmpi .ne v327 c0_i32_114
  v328

def k0_cond4 (i : grid0.Coords) : BitVec 1 :=
  let arg1 : BitVec 32 := BitVec.ofNat 32 (i 1).val
  let c0_i32_115 : BitVec 32 := 0#32
  let v329 : BitVec 1 := Scalar.cmpi .sgt arg1 c0_i32_115
  let v330 : BitVec 32 := Scalar.extui v329
  let c0_i32_116 : BitVec 32 := 0#32
  let v331 : BitVec 1 := Scalar.cmpi .ne v330 c0_i32_116
  v331

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2112x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2112x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2112x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference10Ideal.lean ====
abbrev S8448x6272 : Shape := ⟨2, ![8448, 6272]⟩
abbrev S4x1536 : Shape := ⟨2, ![4, 1536]⟩
abbrev S8448x1536 : Shape := ⟨2, ![8448, 1536]⟩
abbrev S4x2112x1536 : Shape := ⟨3, ![4, 2112, 1536]⟩
abbrev S_ : Shape := ⟨0, ![]⟩
abbrev S4x3x1536 : Shape := ⟨3, ![4, 3, 1536]⟩
abbrev S4x2115x1536 : Shape := ⟨3, ![4, 2115, 1536]⟩
abbrev S1x1536 : Shape := ⟨2, ![1, 1536]⟩
abbrev S1536 : Shape := ⟨1, ![1536]⟩
abbrev S1x1x1536 : Shape := ⟨3, ![1, 1, 1536]⟩
abbrev S4x2112x512 : Shape := ⟨3, ![4, 2112, 512]⟩
abbrev S4x2112x4x128 : Shape := ⟨4, ![4, 2112, 4, 128]⟩
abbrev S4x2112x4 : Shape := ⟨3, ![4, 2112, 4]⟩
abbrev S4x2112x4x1 : Shape := ⟨4, ![4, 2112, 4, 1]⟩
abbrev S4x2064x1536 : Shape := ⟨3, ![4, 2064, 1536]⟩
abbrev S8448x3072 : Shape := ⟨2, ![8448, 3072]⟩
abbrev S8448x1664 : Shape := ⟨2, ![8448, 1664]⟩

abbrev nBuf : Space → Nat
  | .hbm => 217
  | .vmem => 0
  | .smem => 0
  | _ => 0

abbrev hbmTy0_0 (i : Nat) : BufTy := match i % 128 with
  | 0 => ⟨S8448x6272, .f32⟩
  | 1 => ⟨S4x1536, .f32⟩
  | 2 => ⟨S8448x1536, .f32⟩
  | 3 => ⟨S8448x6272, .bf16⟩
  | 4 => ⟨S8448x1536, .f32⟩
  | 5 => ⟨S4x2112x1536, .f32⟩
  | 6 => ⟨S_, .f32⟩
  | 7 => ⟨S4x3x1536, .f32⟩
  | 8 => ⟨S4x2115x1536, .f32⟩
  | 9 => ⟨S_, .f32⟩
  | 10 => ⟨S4x3x1536, .f32⟩
  | 11 => ⟨S1x1536, .f32⟩
  | 12 => ⟨S1536, .f32⟩
  | 13 => ⟨S4x2112x1536, .f32⟩
  | 14 => ⟨S1x1x1536, .f32⟩
  | 15 => ⟨S4x2112x1536, .f32⟩
  | 16 => ⟨S4x2112x1536, .f32⟩
  | 17 => ⟨S_, .f32⟩
  | 18 => ⟨S4x2112x1536, .f32⟩
  | 19 => ⟨S4x2112x1536, .f32⟩
  | 20 => ⟨S1x1536, .f32⟩
  | 21 => ⟨S1536, .f32⟩
  | 22 => ⟨S4x2112x1536, .f32⟩
  | 23 => ⟨S1x1x1536, .f32⟩
  | 24 => ⟨S4x2112x1536, .f32⟩
  | 25 => ⟨S4x2112x1536, .f32⟩
  | 26 => ⟨S4x2112x1536, .f32⟩
  | 27 => ⟨S1x1536, .f32⟩
  | 28 => ⟨S1536, .f32⟩
  | 29 => ⟨S4x2112x1536, .f32⟩
  | 30 => ⟨S1x1x1536, .f32⟩
  | 31 => ⟨S4x2112x1536, .f32⟩
  | 32 => ⟨S4x2112x1536, .f32⟩
  | 33 => ⟨S4x2112x1536, .f32⟩
  | 34 => ⟨S1x1536, .f32⟩
  | 35 => ⟨S1536, .f32⟩
  | 36 => ⟨S4x2112x1536, .f32⟩
  | 37 => ⟨S1x1x1536, .f32⟩
  | 38 => ⟨S4x2112x1536, .f32⟩
  | 39 => ⟨S4x2112x1536, .f32⟩
  | 40 => ⟨S4x2112x1536, .f32⟩
  | 41 => ⟨S4x2112x1536, .f32⟩
  | 42 => ⟨S4x2112x1536, .f32⟩
  | 43 => ⟨S_, .f32⟩
  | 44 => ⟨S4x2112x1536, .f32⟩
  | 45 => ⟨S4x2112x1536, .f32⟩
  | 46 => ⟨S_, .f32⟩
  | 47 => ⟨S4x2112x1536, .f32⟩
  | 48 => ⟨S4x2112x1536, .f32⟩
  | 49 => ⟨S_, .f32⟩
  | 50 => ⟨S4x2112x1536, .f32⟩
  | 51 => ⟨S4x2112x1536, .f32⟩
  | 52 => ⟨S4x2112x1536, .f32⟩
  | 53 => ⟨S4x2112x1536, .f32⟩
  | 54 => ⟨S4x2112x512, .f32⟩
  | 55 => ⟨S4x2112x512, .f32⟩
  | 56 => ⟨S4x2112x512, .f32⟩
  | 57 => ⟨S4x2112x4x128, .f32⟩
  | 58 => ⟨S4x2112x4x128, .f32⟩
  | 59 => ⟨S_, .f32⟩
  | 60 => ⟨S4x2112x4, .f32⟩
  | 61 => ⟨S4x2112x4x1, .f32⟩
  | 62 => ⟨S_, .f32⟩
  | 63 => ⟨S4x2112x4x1, .f32⟩
  | 64 => ⟨S4x2112x4x1, .f32⟩
  | 65 => ⟨S4x2112x4x1, .f32⟩
  | 66 => ⟨S4x2112x4x1, .f32⟩
  | 67 => ⟨S_, .f32⟩
  | 68 => ⟨S4x2112x4x1, .f32⟩
  | 69 => ⟨S4x2112x4x1, .f32⟩
  | 70 => ⟨S4x2112x4x128, .f32⟩
  | 71 => ⟨S4x2112x4x128, .f32⟩
  | 72 => ⟨S_, .f32⟩
  | 73 => ⟨S4x2112x4x128, .f32⟩
  | 74 => ⟨S4x2112x4x128, .f32⟩
  | 75 => ⟨S4x2112x4x128, .f32⟩
  | 76 => ⟨S4x2112x4x128, .f32⟩
  | 77 => ⟨S_, .f32⟩
  | 78 => ⟨S4x2112x4, .f32⟩
  | 79 => ⟨S4x2112x4x1, .f32⟩
  | 80 => ⟨S_, .f32⟩
  | 81 => ⟨S4x2112x4x1, .f32⟩
  | 82 => ⟨S4x2112x4x1, .f32⟩
  | 83 => ⟨S4x2112x4x1, .f32⟩
  | 84 => ⟨S4x2112x4x1, .f32⟩
  | 85 => ⟨S_, .f32⟩
  | 86 => ⟨S4x2112x4x1, .f32⟩
  | 87 => ⟨S4x2112x4x1, .f32⟩
  | 88 => ⟨S4x2112x4x128, .f32⟩
  | 89 => ⟨S4x2112x4x128, .f32⟩
  | 90 => ⟨S4x2112x512, .f32⟩
  | 91 => ⟨S4x2112x512, .f32⟩
  | 92 => ⟨S4x2112x1536, .f32⟩
  | 93 => ⟨S8448x1536, .f32⟩
  | 94 => ⟨S4x2112x1536, .f32⟩
  | 95 => ⟨S4x2064x1536, .f32⟩
  | 96 => ⟨S4x2112x1536, .f32⟩
  | 97 => ⟨S4x2064x1536, .f32⟩
  | 98 => ⟨S_, .f32⟩
  | 99 => ⟨S4x2112x1536, .f32⟩
  | 100 => ⟨S8448x1536, .f32⟩
  | 101 => ⟨S4x2112x1536, .f32⟩
  | 102 => ⟨S4x2112x512, .f32⟩
  | 103 => ⟨S4x2112x512, .f32⟩
  | 104 => ⟨S4x2112x512, .f32⟩
  | 105 => ⟨S4x2112x4x128, .f32⟩
  | 106 => ⟨S4x2112x4x128, .f32⟩
  | 107 => ⟨S4x2112x4x128, .f32⟩
  | 108 => ⟨S_, .f32⟩
  | 109 => ⟨S4x2112x4, .f32⟩
  | 110 => ⟨S4x2112x4x1, .f32⟩
  | 111 => ⟨S4x2112x4x128, .f32⟩
  | 112 => ⟨S4x2112x4x128, .f32⟩
  | 113 => ⟨S4x2112x4x1, .f32⟩
  | 114 => ⟨S_, .f32⟩
  | 115 => ⟨S4x2112x4, .f32⟩
  | 116 => ⟨S4x2112x4x128, .f32⟩
  | 117 => ⟨S4x2112x4x128, .f32⟩
  | 118 => ⟨S4x2112x4x128, .f32⟩
  | 119 => ⟨S4x2112x4x128, .f32⟩
  | 120 => ⟨S4x2112x4x128, .f32⟩
  | 121 => ⟨S4x2112x512, .f32⟩
  | 122 => ⟨S_, .f32⟩
  | 123 => ⟨S4x2112x4x128, .f32⟩
  | 124 => ⟨S4x2112x4x128, .f32⟩
  | 125 => ⟨S4x2112x4x128, .f32⟩
  | 126 => ⟨S_, .f32⟩
  | 127 => ⟨S4x2112x4, .f32⟩
  | _ => ⟨S8448x6272, .f32⟩

abbrev hbmTy0_1 (i : Nat) : BufTy := match i % 128 with
  | 0 => ⟨S4x2112x4x1, .f32⟩
  | 1 => ⟨S4x2112x4x128, .f32⟩
  | 2 => ⟨S4x2112x4x128, .f32⟩
  | 3 => ⟨S4x2112x4x1, .f32⟩
  | 4 => ⟨S_, .f32⟩
  | 5 => ⟨S4x2112x4, .f32⟩
  | 6 => ⟨S4x2112x4x128, .f32⟩
  | 7 => ⟨S4x2112x4x128, .f32⟩
  | 8 => ⟨S4x2112x4x128, .f32⟩
  | 9 => ⟨S4x2112x4x128, .f32⟩
  | 10 => ⟨S4x2112x4x128, .f32⟩
  | 11 => ⟨S4x2112x512, .f32⟩
  | 12 => ⟨S_, .f32⟩
  | 13 => ⟨S4x2112x1536, .f32⟩
  | 14 => ⟨S_, .f32⟩
  | 15 => ⟨S4x2112x1536, .f32⟩
  | 16 => ⟨S4x2112x1536, .f32⟩
  | 17 => ⟨S_, .f32⟩
  | 18 => ⟨S4x2112x1536, .f32⟩
  | 19 => ⟨S4x2112x1536, .f32⟩
  | 20 => ⟨S4x2112x1536, .f32⟩
  | 21 => ⟨S4x2112x1536, .f32⟩
  | 22 => ⟨S4x2112x1536, .f32⟩
  | 23 => ⟨S4x2112x1536, .f32⟩
  | 24 => ⟨S4x2112x1536, .f32⟩
  | 25 => ⟨S4x2112x1536, .f32⟩
  | 26 => ⟨S4x2112x1536, .f32⟩
  | 27 => ⟨S_, .f32⟩
  | 28 => ⟨S1536, .f32⟩
  | 29 => ⟨S1x1x1536, .f32⟩
  | 30 => ⟨S_, .f32⟩
  | 31 => ⟨S1536, .f32⟩
  | 32 => ⟨S_, .f32⟩
  | 33 => ⟨S4x2115x1536, .f32⟩
  | 34 => ⟨S1x1536, .f32⟩
  | 35 => ⟨S_, .f32⟩
  | 36 => ⟨S4x1536, .f32⟩
  | 37 => ⟨S4x2112x1536, .f32⟩
  | 38 => ⟨S4x2112x1536, .f32⟩
  | 39 => ⟨S4x2112x1536, .f32⟩
  | 40 => ⟨S_, .f32⟩
  | 41 => ⟨S1536, .f32⟩
  | 42 => ⟨S1x1x1536, .f32⟩
  | 43 => ⟨S_, .f32⟩
  | 44 => ⟨S1536, .f32⟩
  | 45 => ⟨S_, .f32⟩
  | 46 => ⟨S4x2115x1536, .f32⟩
  | 47 => ⟨S4x2115x1536, .f32⟩
  | 48 => ⟨S1x1536, .f32⟩
  | 49 => ⟨S_, .f32⟩
  | 50 => ⟨S4x1536, .f32⟩
  | 51 => ⟨S4x1536, .f32⟩
  | 52 => ⟨S4x2112x1536, .f32⟩
  | 53 => ⟨S4x2112x1536, .f32⟩
  | 54 => ⟨S4x2112x1536, .f32⟩
  | 55 => ⟨S_, .f32⟩
  | 56 => ⟨S1536, .f32⟩
  | 57 => ⟨S1x1x1536, .f32⟩
  | 58 => ⟨S_, .f32⟩
  | 59 => ⟨S1536, .f32⟩
  | 60 => ⟨S_, .f32⟩
  | 61 => ⟨S4x2115x1536, .f32⟩
  | 62 => ⟨S4x2115x1536, .f32⟩
  | 63 => ⟨S1x1536, .f32⟩
  | 64 => ⟨S_, .f32⟩
  | 65 => ⟨S4x1536, .f32⟩
  | 66 => ⟨S4x1536, .f32⟩
  | 67 => ⟨S4x2112x1536, .f32⟩
  | 68 => ⟨S4x2112x1536, .f32⟩
  | 69 => ⟨S4x2112x1536, .f32⟩
  | 70 => ⟨S_, .f32⟩
  | 71 => ⟨S1536, .f32⟩
  | 72 => ⟨S1x1x1536, .f32⟩
  | 73 => ⟨S_, .f32⟩
  | 74 => ⟨S1536, .f32⟩
  | 75 => ⟨S_, .f32⟩
  | 76 => ⟨S4x2115x1536, .f32⟩
  | 77 => ⟨S4x2115x1536, .f32⟩
  | 78 => ⟨S1x1536, .f32⟩
  | 79 => ⟨S_, .f32⟩
  | 80 => ⟨S4x1536, .f32⟩
  | 81 => ⟨S4x1536, .f32⟩
  | 82 => ⟨S4x3x1536, .f32⟩
  | 83 => ⟨S4x2112x1536, .f32⟩
  | 84 => ⟨S8448x1536, .f32⟩
  | 85 => ⟨S8448x3072, .bf16⟩
  | 86 => ⟨S8448x1536, .bf16⟩
  | 87 => ⟨S8448x1664, .bf16⟩
  | 88 => ⟨S8448x6272, .bf16⟩
  | _ => ⟨S8448x6272, .f32⟩

abbrev hbmTy (i : Nat) : BufTy := match i / 128 with
  | 0 => hbmTy0_0 i
  | 1 => hbmTy0_1 i
  | _ => ⟨S8448x6272, .f32⟩

abbrev bufTy : (tb : Table) → Fin (tcTables nBuf tb) → BufTy
  | .hbm, ⟨i, _⟩ => hbmTy i
  | _, _ => ⟨S8448x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_9 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_10 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_11 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_12 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_13 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_14 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_15 : Ref sig .tc := ⟨.hbm, 140, rfl⟩
abbrev main_v108 : Ref sig .tc := ⟨.hbm, 141, rfl⟩
abbrev main_cst_16 : Ref sig .tc := ⟨.hbm, 142, rfl⟩
abbrev main_v109 : Ref sig .tc := ⟨.hbm, 143, rfl⟩
abbrev main_v110 : Ref sig .tc := ⟨.hbm, 144, rfl⟩
abbrev main_cst_17 : Ref sig .tc := ⟨.hbm, 145, rfl⟩
abbrev main_v111 : Ref sig .tc := ⟨.hbm, 146, rfl⟩
abbrev main_v112 : Ref sig .tc := ⟨.hbm, 147, rfl⟩
abbrev main_call1_v0 : Ref sig .tc := ⟨.hbm, 148, rfl⟩
abbrev main_call1_v1 : Ref sig .tc := ⟨.hbm, 149, rfl⟩
abbrev main_call1_v2 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_18 : Ref sig .tc := ⟨.hbm, 155, rfl⟩
abbrev main_v117 : Ref sig .tc := ⟨.hbm, 156, rfl⟩
abbrev main_v118 : Ref sig .tc := ⟨.hbm, 157, rfl⟩
abbrev main_cst_19 : Ref sig .tc := ⟨.hbm, 158, rfl⟩
abbrev main_v119 : Ref sig .tc := ⟨.hbm, 159, rfl⟩
abbrev main_cst_20 : Ref sig .tc := ⟨.hbm, 160, rfl⟩
abbrev main_v120 : Ref sig .tc := ⟨.hbm, 161, rfl⟩
abbrev main_v121 : Ref sig .tc := ⟨.hbm, 162, rfl⟩
abbrev main_cst_21 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_22 : Ref sig .tc := ⟨.hbm, 168, rfl⟩
abbrev main_v126 : Ref sig .tc := ⟨.hbm, 169, rfl⟩
abbrev main_v127 : Ref sig .tc := ⟨.hbm, 170, rfl⟩
abbrev main_cst_23 : Ref sig .tc := ⟨.hbm, 171, rfl⟩
abbrev main_v128 : Ref sig .tc := ⟨.hbm, 172, rfl⟩
abbrev main_cst_24 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_25 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_26 : Ref sig .tc := ⟨.hbm, 183, rfl⟩
abbrev main_v137 : Ref sig .tc := ⟨.hbm, 184, rfl⟩
abbrev main_v138 : Ref sig .tc := ⟨.hbm, 185, rfl⟩
abbrev main_cst_27 : Ref sig .tc := ⟨.hbm, 186, rfl⟩
abbrev main_v139 : Ref sig .tc := ⟨.hbm, 187, rfl⟩
abbrev main_cst_28 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_29 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_30 : Ref sig .tc := ⟨.hbm, 198, rfl⟩
abbrev main_v148 : Ref sig .tc := ⟨.hbm, 199, rfl⟩
abbrev main_v149 : Ref sig .tc := ⟨.hbm, 200, rfl⟩
abbrev main_cst_31 : Ref sig .tc := ⟨.hbm, 201, rfl⟩
abbrev main_v150 : Ref sig .tc := ⟨.hbm, 202, rfl⟩
abbrev main_cst_32 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_33 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩

abbrev nD : Nat := 1
abbrev τ : Topo := Topo.v7x

variable {F : FTy → Type} [FloatOps F]
-- ==== Kernel11.lean ====
abbrev S8448x6272 : Shape := ⟨2, ![8448, 6272]⟩
abbrev S4x1536 : Shape := ⟨2, ![4, 1536]⟩
abbrev S8448x1536 : Shape := ⟨2, ![8448, 1536]⟩
abbrev S2112x256 : Shape := ⟨2, ![2112, 256]⟩
abbrev S4x256 : Shape := ⟨2, ![4, 256]⟩
abbrev S2112x128 : Shape := ⟨2, ![2112, 128]⟩
abbrev S4x128 : Shape := ⟨2, ![4, 128]⟩
abbrev S1x128 : Shape := ⟨2, ![1, 128]⟩
abbrev S2112 : Shape := ⟨1, ![2112]⟩
abbrev S2112x1 : Shape := ⟨2, ![2112, 1]⟩

abbrev nBuf : Space → Nat
  | .hbm => 3
  | .vmem => 6
  | .smem => 0
  | _ => 0

abbrev bufTy : (tb : Table) → Fin (tcTables nBuf tb) → BufTy
  | .hbm, ⟨0, _⟩ => ⟨S8448x6272, .f32⟩
  | .hbm, ⟨1, _⟩ => ⟨S4x1536, .f32⟩
  | .hbm, ⟨2, _⟩ => ⟨S8448x1536, .f32⟩
  | .local _ .vmem, ⟨0, _⟩ => ⟨S2112x256, .f32⟩
  | .local _ .vmem, ⟨1, _⟩ => ⟨S2112x256, .f32⟩
  | .local _ .vmem, ⟨2, _⟩ => ⟨S4x256, .f32⟩
  | .local _ .vmem, ⟨3, _⟩ => ⟨S4x256, .f32⟩
  | .local _ .vmem, ⟨4, _⟩ => ⟨S2112x256, .f32⟩
  | .local _ .vmem, ⟨5, _⟩ => ⟨S2112x256, .f32⟩
  | _, _ => ⟨S8448x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2112x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8448x6272 : Shape := ⟨2, ![8448, 6272]⟩
abbrev S4x1536 : Shape := ⟨2, ![4, 1536]⟩
abbrev S8448x1536 : Shape := ⟨2, ![8448, 1536]⟩
abbrev S4x2112x1536 : Shape := ⟨3, ![4, 2112, 1536]⟩
abbrev S_ : Shape := ⟨0, ![]⟩
abbrev S4x3x1536 : Shape := ⟨3, ![4, 3, 1536]⟩
abbrev S4x2115x1536 : Shape := ⟨3, ![4, 2115, 1536]⟩
abbrev S1x1536 : Shape := ⟨2, ![1, 1536]⟩
abbrev S1536 : Shape := ⟨1, ![1536]⟩
abbrev S1x1x1536 : Shape := ⟨3, ![1, 1, 1536]⟩
abbrev S4x2112x512 : Shape := ⟨3, ![4, 2112, 512]⟩
abbrev S4x2112x4x128 : Shape := ⟨4, ![4, 2112, 4, 128]⟩
abbrev S4x2112x4 : Shape := ⟨3, ![4, 2112, 4]⟩
abbrev S4x2112x4x1 : Shape := ⟨4, ![4, 2112, 4, 1]⟩
abbrev S4x2064x1536 : Shape := ⟨3, ![4, 2064, 1536]⟩

abbrev nBuf : Space → Nat
  | .hbm => 84
  | .vmem => 0
  | .smem => 0
  | _ => 0

abbrev bufTy : (tb : Table) → Fin (tcTables nBuf tb) → BufTy
  | .hbm, ⟨0, _⟩ => ⟨S8448x6272, .f32⟩
  | .hbm, ⟨1, _⟩ => ⟨S4x1536, .f32⟩
  | .hbm, ⟨2, _⟩ => ⟨S8448x1536, .f32⟩
  | .hbm, ⟨3, _⟩ => ⟨S4x2112x1536, .f32⟩
  | .hbm, ⟨4, _⟩ => ⟨S_, .f32⟩
  | .hbm, ⟨5, _⟩ => ⟨S4x3x1536, .f32⟩
  | .hbm, ⟨6, _⟩ => ⟨S4x2115x1536, .f32⟩
  | .hbm, ⟨7, _⟩ => ⟨S1x1536, .f32⟩
  | .hbm, ⟨8, _⟩ => ⟨S1536, .f32⟩
  | .hbm, ⟨9, _⟩ => ⟨S4x2112x1536, .f32⟩
  | .hbm, ⟨10, _⟩ => ⟨S1x1x1536, .f32⟩
  | .hbm, ⟨11, _⟩ => ⟨S4x2112x1536, .f32⟩
  | .hbm, ⟨12, _⟩ => ⟨S4x2112x1536, .f32⟩
  | .hbm, ⟨13, _⟩ => ⟨S_, .f32⟩
  | .hbm, ⟨14, _⟩ => ⟨S4x2112x1536, .f32⟩
  | .hbm, ⟨15, _⟩ => ⟨S4x2112x1536, .f32⟩
  | .hbm, ⟨16, _⟩ => ⟨S1x1536, .f32⟩
  | .hbm, ⟨17, _⟩ => ⟨S1536, .f32⟩
  | .hbm, ⟨18, _⟩ => ⟨S4x2112x1536, .f32⟩
  | .hbm, ⟨19, _⟩ => ⟨S1x1x1536, .f32⟩
  | .hbm, ⟨20, _⟩ => ⟨S4x2112x1536, .f32⟩
  | .hbm, ⟨21, _⟩ => ⟨S4x2112x1536, .f32⟩
  | .hbm, ⟨22, _⟩ => ⟨S4x2112x1536, .f32⟩
  | .hbm, ⟨23, _⟩ => ⟨S1x1536, .f32⟩
  | .hbm, ⟨24, _⟩ => ⟨S1536, .f32⟩
  | .hbm, ⟨25, _⟩ => ⟨S4x2112x1536, .f32⟩
  | .hbm, ⟨26, _⟩ => ⟨S1x1x1536, .f32⟩
  | .hbm, ⟨27, _⟩ => ⟨S4x2112x1536, .f32⟩
  | .hbm, ⟨28, _⟩ => ⟨S4x2112x1536, .f32⟩
  | .hbm, ⟨29, _⟩ => ⟨S4x2112x1536, .f32⟩
  | .hbm, ⟨30, _⟩ => ⟨S1x1536, .f32⟩
  | .hbm, ⟨31, _⟩ => ⟨S1536, .f32⟩
  | .hbm, ⟨32, _⟩ => ⟨S4x2112x1536, .f32⟩
  | .hbm, ⟨33, _⟩ => ⟨S1x1x1536, .f32⟩
  | .hbm, ⟨34, _⟩ => ⟨S4x2112x1536, .f32⟩
  | .hbm, ⟨35, _⟩ => ⟨S4x2112x1536, .f32⟩
  | .hbm, ⟨36, _⟩ => ⟨S4x2112x1536, .f32⟩
  | .hbm, ⟨37, _⟩ => ⟨S4x2112x1536, .f32⟩
  | .hbm, ⟨38, _⟩ => ⟨S4x2112x1536, .f32⟩
  | .hbm, ⟨39, _⟩ => ⟨S_, .f32⟩
  | .hbm, ⟨40, _⟩ => ⟨S4x2112x1536, .f32⟩
  | .hbm, ⟨41, _⟩ => ⟨S4x2112x1536, .f32⟩
  | .hbm, ⟨42, _⟩ => ⟨S_, .f32⟩
  | .hbm, ⟨43, _⟩ => ⟨S4x2112x1536, .f32⟩
  | .hbm, ⟨44, _⟩ => ⟨S4x2112x1536, .f32⟩
  | .hbm, ⟨45, _⟩ => ⟨S4x2112x1536, .f32⟩
  | .hbm, ⟨46, _⟩ => ⟨S4x2112x512, .f32⟩
  | .hbm, ⟨47, _⟩ => ⟨S4x2112x512, .f32⟩
  | .hbm, ⟨48, _⟩ => ⟨S4x2112x512, .f32⟩
  | .hbm, ⟨49, _⟩ => ⟨S4x2112x4x128, .f32⟩
  | .hbm, ⟨50, _⟩ => ⟨S4x2112x4x128, .f32⟩
  | .hbm, ⟨51, _⟩ => ⟨S_, .f32⟩
  | .hbm, ⟨52, _⟩ => ⟨S4x2112x4, .f32⟩
  | .hbm, ⟨53, _⟩ => ⟨S4x2112x4x1, .f32⟩
  | .hbm, ⟨54, _⟩ => ⟨S_, .f32⟩
  | .hbm, ⟨55, _⟩ => ⟨S4x2112x4x1, .f32⟩
  | .hbm, ⟨56, _⟩ => ⟨S4x2112x4x1, .f32⟩
  | .hbm, ⟨57, _⟩ => ⟨S4x2112x4x1, .f32⟩
  | .hbm, ⟨58, _⟩ => ⟨S4x2112x4x128, .f32⟩
  | .hbm, ⟨59, _⟩ => ⟨S4x2112x4x128, .f32⟩
  | .hbm, ⟨60, _⟩ => ⟨S_, .f32⟩
  | .hbm, ⟨61, _⟩ => ⟨S4x2112x4x128, .f32⟩
  | .hbm, ⟨62, _⟩ => ⟨S4x2112x4x128, .f32⟩
  | .hbm, ⟨63, _⟩ => ⟨S4x2112x4x128, .f32⟩
  | .hbm, ⟨64, _⟩ => ⟨S4x2112x4x128, .f32⟩
  | .hbm, ⟨65, _⟩ => ⟨S_, .f32⟩
  | .hbm, ⟨66, _⟩ => ⟨S4x2112x4, .f32⟩
  | .hbm, ⟨67, _⟩ => ⟨S4x2112x4x1, .f32⟩
  | .hbm, ⟨68, _⟩ => ⟨S_, .f32⟩
  | .hbm, ⟨69, _⟩ => ⟨S4x2112x4x1, .f32⟩
  | .hbm, ⟨70, _⟩ => ⟨S4x2112x4x1, .f32⟩
  | .hbm, ⟨71, _⟩ => ⟨S4x2112x4x1, .f32⟩
  | .hbm, ⟨72, _⟩ => ⟨S4x2112x4x128, .f32⟩
  | .hbm, ⟨73, _⟩ => ⟨S4x2112x4x128, .f32⟩
  | .hbm, ⟨74, _⟩ => ⟨S4x2112x512, .f32⟩
  | .hbm, ⟨75, _⟩ => ⟨S4x2112x512, .f32⟩
  | .hbm, ⟨76, _⟩ => ⟨S4x2112x1536, .f32⟩
  | .hbm, ⟨77, _⟩ => ⟨S8448x1536, .f32⟩
  | .hbm, ⟨78, _⟩ => ⟨S4x2112x1536, .f32⟩
  | .hbm, ⟨79, _⟩ => ⟨S4x2064x1536, .f32⟩
  | .hbm, ⟨80, _⟩ => ⟨S_, .i32⟩
  | .hbm, ⟨81, _⟩ => ⟨S_, .f32⟩
  | .hbm, ⟨82, _⟩ => ⟨S4x2112x1536, .f32⟩
  | .hbm, ⟨83, _⟩ => ⟨S8448x1536, .f32⟩
  | _, _ => ⟨S8448x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c : Ref sig .tc := ⟨.hbm, 80, rfl⟩
abbrev main_call1_v0 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Kernel12.lean ====
abbrev S8448x1024 : Shape := ⟨2, ![8448, 1024]⟩
abbrev S16x1024 : Shape := ⟨2, ![16, 1024]⟩
abbrev S64x1024 : Shape := ⟨2, ![64, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8448x1024, .f32⟩
  | .hbm, ⟨1, _⟩ => ⟨S16x1024, .f32⟩
  | .local _ .vmem, ⟨0, _⟩ => ⟨S64x1024, .f32⟩
  | .local _ .vmem, ⟨1, _⟩ => ⟨S64x1024, .f32⟩
  | .local _ .vmem, ⟨2, _⟩ => ⟨S16x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference12Ideal.lean ====
abbrev S8448x1024 : Shape := ⟨2, ![8448, 1024]⟩
abbrev S_ : Shape := ⟨0, ![]⟩
abbrev S16x1024 : Shape := ⟨2, ![16, 1024]⟩
abbrev S1x16x1024 : Shape := ⟨3, ![1, 16, 1024]⟩
abbrev S4x16x1024 : Shape := ⟨3, ![4, 16, 1024]⟩
abbrev S4x2048x1024 : Shape := ⟨3, ![4, 2048, 1024]⟩
abbrev S4x2064x1024 : Shape := ⟨3, ![4, 2064, 1024]⟩
abbrev S4x2112x1024 : Shape := ⟨3, ![4, 2112, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S_, .f32⟩
  | .hbm, ⟨2, _⟩ => ⟨S16x1024, .f32⟩
  | .hbm, ⟨3, _⟩ => ⟨S1x16x1024, .f32⟩
  | .hbm, ⟨4, _⟩ => ⟨S4x16x1024, .f32⟩
  | .hbm, ⟨5, _⟩ => ⟨S_, .f32⟩
  | .hbm, ⟨6, _⟩ => ⟨S4x2048x1024, .f32⟩
  | .hbm, ⟨7, _⟩ => ⟨S4x2064x1024, .f32⟩
  | .hbm, ⟨8, _⟩ => ⟨S_, .f32⟩
  | .hbm, ⟨9, _⟩ => ⟨S4x2048x1024, .f32⟩
  | .hbm, ⟨10, _⟩ => ⟨S4x2112x1024, .f32⟩
  | .hbm, ⟨11, _⟩ => ⟨S4x2064x1024, .f32⟩
  | .hbm, ⟨12, _⟩ => ⟨S4x16x1024, .f32⟩
  | .hbm, ⟨13, _⟩ => ⟨S4x2048x1024, .f32⟩
  | .hbm, ⟨14, _⟩ => ⟨S_, .f32⟩
  | .hbm, ⟨15, _⟩ => ⟨S16x1024, .f32⟩
  | .hbm, ⟨16, _⟩ => ⟨S1x16x1024, .f32⟩
  | .hbm, ⟨17, _⟩ => ⟨S_, .f32⟩
  | .hbm, ⟨18, _⟩ => ⟨S16x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Rows.lean ====
/- Sums over the rows of a padded batch.

   A device's batch is stored as 8448 rows: four sequences of 2112 rows, of which the first 48 are padding and the
   other 2064 are tokens. The kernels walk the rows block by block and skip the padding by a test on the row number;
   the references take the token rows as a box of four by 2064. The lemmas here turn the one sum into the other. -/
module

public import Idealize.ShloMosaic.PureOps.Ideal
public import Idealize.ShloMosaic.Lib.Pointwise
public import Idealize.ShloMosaic.Lib.WordCmp
public import Idealize.ShloMosaic.Lib.Routing.Words

@[expose] public section

namespace Cert.Rows

open Finset Idealize.ShloMosaic Idealize.ShloMosaic.WordCmp

variable {β : Type*} [AddCommMonoid β]

/-- A sum block by block, `a` blocks of `m` consecutive numbers, is the sum over all the numbers. -/
theorem sum_blocks (F : ℕ → β) (m a : ℕ) :
    ∑ s ∈ range a, ∑ k : Fin m, F (s * m + k.val) = ∑ r ∈ range (a * m), F r := by
  induction a with
  | zero => simp
  | succ a ih => rw [sum_range_succ, ih, Nat.succ_mul, Finset.sum_range_add, Finset.sum_range (fun x => F (a * m + x))]

/-- A sum over the rows that are tokens is the sum over the box of tokens. -/
theorem sum_tokens (F : ℕ → β) :
    ∑ r ∈ range 8448, (if 48 ≤ r % 2112 then F r else 0)
      = ∑ b : Fin 4, ∑ t : Fin 2064, F (b.val * 2112 + (48 + t.val)) := by
  rw [show (8448 : ℕ) = 4 * 2112 from rfl, ← sum_blocks, Finset.sum_range]
  refine Finset.sum_congr rfl fun b _ => ?_
  have e := (Finset.sum_range (n := 2112) fun k =>
    if 48 ≤ (b.val * 2112 + k) % 2112 then F (b.val * 2112 + k) else 0).symm
  rw [e, show (2112 : ℕ) = 48 + 2064 from rfl, Finset.sum_range_add, Finset.sum_eq_zero, zero_add,
    Finset.sum_range]
  · refine Finset.sum_congr rfl fun t _ => ?_
    rw [if_pos]
    have := t.isLt; omega
  · intro k hk
    rw [if_neg]
    have := Finset.mem_range.mp hk; omega

/-- The two together: a sum over blocks of rows that skips the padding is the sum over the box of tokens. -/
theorem sum_blocks_tokens (F : ℕ → β) (m a : ℕ) (h : a * m = 8448) :
    ∑ s ∈ range a, ∑ k : Fin m, (if 48 ≤ (s * m + k.val) % 2112 then F (s * m + k.val) else 0)
      = ∑ b : Fin 4, ∑ t : Fin 2064, F (b.val * 2112 + (48 + t.val)) := by
  rw [sum_blocks fun r => if 48 ≤ r % 2112 then F r else 0, h, sum_tokens]

/-- The kernels' choice by the row number, made on 32-bit words: row `k` of block `q` of `m` rows is kept when the row's
    number within its sequence is at least 48. -/
theorem select_row {α : Type} (q m k : ℕ) (h : q * m + k < 2 ^ 31) (a b : α) :
    Scalar.select (IntOp.cmpi .sge (IntOp.remsi .vector (IntOp.addi (Scalar.muli (BitVec.ofNat 32 q) (BitVec.ofNat 32 m))
      (BitVec.ofNat 32 k)) 2112#32) 48#32) a b = if 48 ≤ (q * m + k) % 2112 then a else b := by
  have e : IntOp.addi (Scalar.muli (BitVec.ofNat 32 q) (BitVec.ofNat 32 m)) (BitVec.ofNat 32 k)
      = BitVec.ofNat 32 (q * m + k) := by
    show BitVec.ofNat 32 q * BitVec.ofNat 32 m + BitVec.ofNat 32 k = _
    rw [← BitVec.ofNat_mul, ← BitVec.ofNat_add]
  rw [e, Routing.remsi_word .vector h (by norm_num) (by norm_num),
    cmpi_sge_ofNat (w := 32) (by have := Nat.mod_lt (q * m + k) (show 0 < 2112 by norm_num); omega) (by norm_num)]
  unfold Scalar.select
  by_cases hk : 48 ≤ (q * m + k) % 2112 <;> simp [hk]

end Cert.Rows
-- ==== Proof.DwBlock.lean ====
/- The gradient of the projection's weights: what the kernel's array holds.

   At each of its points the kernel adds to a block of the result the product of a block of the transposed inputs with
   a block of the cotangent, the padding rows of the cotangent left out. The six points of a block together run over all
   the rows. -/
module

public import proofs.«01_k».proof.Proof.Gen.KernelIdeal.Value
public import proofs.«01_k».proof.Proof.Rows
public import Idealize.ShloMosaic.Lib.Pointwise

@[expose] public section

set_option maxRecDepth 16384

noncomputable section

namespace Cert.Dw

open Cert.KernelIdeal Cert.KernelIdeal.Gen Cert.KernelIdeal.Value Idealize.ShloMosaic Idealize.ShloMosaic.TcCoe Idealize.SL.Sem

/-- The product of the transposed inputs `x` (row `a`) and the cotangent `d` (column `b`) at row number `r`. -/
def term (d : S8448x6272.Idx → EReal) (x : S1024x8448.Idx → EReal) (a : Fin 1024) (b : Fin 6272) (r : ℕ) : EReal :=
  if h : r < 8448 then x (ix2 a ⟨r, h⟩) * d (ix2 ⟨r, h⟩ b) else 0

/-- One step of the kernel at an index: the sum over the block's rows that are tokens, added to what was there. -/
theorem step_apply (i : grid0.Coords) (d : S1408x896.Idx → EReal) (x : S1024x1408.Idx → EReal)
    (acc : S1024x896.Idx → EReal) (j : S1024x896.Idx) (q : ℕ) (hq : (i 1).val = q) (hq6 : q < 6) :
    k0_pay2 (F := Ideal) i d acc x j
      = acc j + ∑ k : Fin 1408, if 48 ≤ (q * 1408 + k.val) % 2112 then x (ix2 (j 0) k) * d (ix2 k (j 1)) else 0 := by
  subst hq
  pointwise [k0_pay2]
  congr 1
  refine Finset.sum_congr rfl fun k _ => ?_
  rw [Rows.select_row _ 1408 _ (by have := k.isLt; omega)]

variable (m : (ℓ : Loc nD τ sig) → Buf (Elt Ideal) ℓ)

/-- The cotangent as launched. -/
def dArr (c : Dev nD) : S8448x6272.Idx → EReal := m ((c : Thread nD τ).loc main_arg0)
/-- The transposed inputs as launched. -/
def xArr (c : Dev nD) : S1024x8448.Idx → EReal := m ((c : Thread nD τ).loc main_arg1)

theorem index_facts : ∀ t : Fin cfg0.N, win0_0.index t (0 : Fin 2) = t.val % 6 ∧ win0_0.index t (1 : Fin 2) = t.val / 6
    ∧ win0_1.index t (0 : Fin 2) = 0 ∧ win0_1.index t (1 : Fin 2) = t.val % 6 ∧ (grid0.coords t 1).val = t.val % 6 :=
  (by decide +kernel : ∀ t : Fin grid0.N, _)

/-- The block of the cotangent at a point. -/
theorem dBlock (c : Dev nD) (t : Fin cfg0.N) (r : Fin 1408) (s : Fin 896) (h1 : t.val % 6 * 1408 + r.val < 8448)
    (h2 : t.val / 6 * 896 + s.val < 6272) :
    iblk m c 0 t (ix2 r s) = dArr m c (ix2 ⟨t.val % 6 * 1408 + r.val, h1⟩ ⟨t.val / 6 * 896 + s.val, h2⟩) := by
  obtain ⟨e0, e1, -⟩ := index_facts t
  show dArr m c (((cfg0.win 0).blk t).view.emb (ix2 r s)) = _
  congr 1
  funext a; apply Fin.ext
  match a with
  | ⟨0, _⟩ => show win0_0.index t (0 : Fin 2) * 1408 + 1 * r.val = _; rw [e0]; simp
  | ⟨1, _⟩ => show win0_0.index t (1 : Fin 2) * 896 + 1 * s.val = _; rw [e1]; simp

/-- The block of the transposed inputs at a point. -/
theorem xBlock (c : Dev nD) (t : Fin cfg0.N) (a : Fin 1024) (r : Fin 1408) (h1 : t.val % 6 * 1408 + r.val < 8448) :
    iblk m c 1 t (ix2 a r) = xArr m c (ix2 a ⟨t.val % 6 * 1408 + r.val, h1⟩) := by
  obtain ⟨-, -, e0, e1, -⟩ := index_facts t
  show xArr m c (((cfg0.win 1).blk t).view.emb (ix2 a r)) = _
  congr 1
  funext b; apply Fin.ext
  match b with
  | ⟨0, _⟩ => show win0_1.index t (0 : Fin 2) * 1024 + 1 * a.val = _; rw [e0]; simp
  | ⟨1, _⟩ => show win0_1.index t (1 : Fin 2) * 1408 + 1 * r.val = _; rw [e1]; simp

/-- What point `n` adds to its block. -/
def addend (c : Dev nD) (n : ℕ) (j : S1024x896.Idx) : EReal :=
  ∑ k : Fin 1408, if 48 ≤ (n % 6 * 1408 + k.val) % 2112 then
    (if h : n / 6 * 896 + (j 1).val < 6272 then term (dArr m c) (xArr m c) (j 0) ⟨_, h⟩ (n % 6 * 1408 + k.val) else 0) else 0

theorem step_add (c : Dev nD) (n : ℕ) (h : n < cfg0.N) (acc : S1024x896.Idx → EReal) (j : S1024x896.Idx) :
    k0_pay2 (F := Ideal) (grid0.coords ⟨n, h⟩) (iblk m c 0 ⟨n, h⟩) acc (iblk m c 1 ⟨n, h⟩) j = acc j + addend m c n j := by
  obtain ⟨-, -, -, -, e⟩ := index_facts ⟨n, h⟩
  rw [step_apply _ _ _ _ _ (n % 6) e (Nat.mod_lt _ (by norm_num))]
  unfold addend
  congr 1
  refine Finset.sum_congr rfl fun k _ => ?_
  have hn : n < 42 := h
  have hk := k.isLt
  have hj : (j 1).val < 896 := (j 1).isLt
  have h1 : n % 6 * 1408 + k.val < 8448 := by omega
  have h2 : n / 6 * 896 + (j 1).val < 6272 := by omega
  rw [dif_pos h2]
  unfold term
  rw [dif_pos h1]
  congr 2
  · exact xBlock m c ⟨n, h⟩ (j 0) k h1
  · exact dBlock m c ⟨n, h⟩ k (j 1) h1 h2

/-- The kernel's array: each entry the sum over the box of tokens. -/
theorem array_apply (c : Dev nD) (i : S1024x6272.Idx) :
    (G2 m c : S1024x6272.Idx → EReal) i
      = ∑ b : Fin 4, ∑ t : Fin 2064, term (dArr m c) (xArr m c) (i 0) (i 1) (b.val * 2112 + (48 + t.val)) := by
  have h0 : (i 0).val < 1024 := (i 0).isLt
  have h1 : (i 1).val < 6272 := (i 1).isLt
  have er : run2Of i = (i 1).val / 896 := by unfold run2Of; omega
  have hN : cfg0.N = 42 := rfl
  unfold G2
  rw [dif_pos (by rw [er, hN]; omega)]
  refine (Pipeline.accAt_add_apply (ι := S1024x896.Idx) (β := EReal) (reset2 m c) (step2 m c) (fun _ => 0) (addend m c) (6 * run2Of i) 5
    (fun h j => by
      show k0_pay2 (F := Ideal) _ _ _ _ j = _
      rw [step_add]
      congr 1
      exact Ideal.ofBits_zero_f32)
    (fun n h acc j _ _ => step_add m c n h acc j) 5 le_rfl _ _).trans ?_
  show (0 : EReal) + _ = _
  rw [zero_add, ← Rows.sum_blocks_tokens (term (dArr m c) (xArr m c) (i 0) (i 1)) 1408 6 rfl]
  refine Finset.sum_congr rfl fun s hs => ?_
  have hs := Finset.mem_range.mp hs
  unfold addend
  refine Finset.sum_congr rfl fun k _ => ?_
  have e1 : (6 * run2Of i + s) % 6 = s := by omega
  have e2 : (6 * run2Of i + s) / 6 * 896 + (loc2Of i 1).val = (i 1).val := by
    show (6 * run2Of i + s) / 6 * 896 + (i 1).val % 896 = _
    rw [er]; omega
  have e3 : loc2Of i 0 = i 0 := by
    apply Fin.ext
    show (i 0).val % 1024 = _
    omega
  simp only [e1, e2, e3]
  rw [dif_pos h1]
  rfl

end Cert.Dw

end
-- ==== Proof.DwReference.lean ====
/- The gradient of the projection's weights: what the reference computes. -/
module

public import proofs.«01_k».proof.Proof.Gen.ReferenceIdeal.Run
public import proofs.«01_k».proof.Proof.DwBlock
public import Idealize.ShloMosaic.Lib.Tactic.ValueTie

@[expose] public section

set_option maxRecDepth 16384

noncomputable section

namespace Cert.Dw

open Cert.ReferenceIdeal Cert.ReferenceIdeal.Gen Idealize.ShloMosaic

/-- The reference's array: each entry the sum over the box of tokens. -/
theorem reference_apply (d : S8448x6272.Idx → EReal) (x : S1024x8448.Idx → EReal) (i : S1024x6272.Idx) :
    transpose S1024x6272 [1, 0] (Host.dotGeneral (F := Ideal) (φ₁ := .f32) (φ₂ := .f32) dot_S4x2064x6272_S4x2064x1024_S6272x1024_01_01_2_2_n_n none (extractStridedSlice S4x2064x6272 ![0, 48, 0] (shapeCast _ (extf .f32 (F := Ideal) (φ := .bf16) d bitsLt_bf16_f32) shapeCasts_S8448x6272_S4x2112x6272) slices_S4x2112x6272_S4x2064x6272_0_48_0) (extractStridedSlice S4x2064x1024 ![0, 48, 0] (shapeCast _ (extf .f32 (F := Ideal) (φ := .bf16) (transpose S8448x1024 [1, 0] x transposes_S1024x8448_S8448x1024_1_0) bitsLt_bf16_f32) shapeCasts_S8448x1024_S4x2112x1024) slices_S4x2112x1024_S4x2064x1024_0_48_0)) transposes_S6272x1024_S1024x6272_1_0 i
      = ∑ b : Fin 4, ∑ t : Fin 2064, term d x (i 0) (i 1) (b.val * 2112 + (48 + t.val)) := by
  pointwise []
  refine Finset.sum_congr rfl fun b _ => Finset.sum_congr rfl fun t _ => ?_
  unfold term
  rw [dif_pos (by have := b.isLt; have := t.isLt; omega), mul_comm]

end Cert.Dw

end
-- ==== Proof.DwClaim.lean ====
module

public import proofs.«01_k».proof.Defs
public import proofs.«01_k».proof.Proof.DwBlock
public import proofs.«01_k».proof.Proof.DwReference
public import Idealize.ShloMosaic.Adequacy
public import Idealize.ShloMosaic.Init
public import Idealize.ShloMosaic.Lib.Quiescent

@[expose] public section

noncomputable section

/-! The gradient of the projection's weights: kernel and reference have the same result. -/

namespace Cert.DwClaim

open Idealize.ShloMosaic Idealize.SL.Sem

/-- The reference runs, keeps its arguments and leaves every semaphore at zero. -/
theorem quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs run and end with equal results. -/
theorem algebraic : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1]
  obtain ⟨h0, h1⟩ := hagree c
  rw [h0, h1]
  funext i
  exact (Cert.Dw.reference_apply _ _ i).trans (Cert.Dw.array_apply m c i).symm

end Cert.DwClaim

end
-- ==== Proof.DxState.lean ====
/- The gradient of the norm's input: what the kernel's buffers hold after each of its points. -/
module

public import proofs.«01_k».proof.Proof.Gen.Kernel2Ideal.Value
public import proofs.«01_k».proof.Proof.Rows
public import Idealize.ShloMosaic.Lib.Pointwise

@[expose] public section

noncomputable section

namespace Cert.Dx

open Cert.Kernel2Ideal Cert.Kernel2Ideal.Gen Cert.Kernel2Ideal.Value Idealize.ShloMosaic Idealize.ShloMosaic.TcCoe Idealize.SL.Sem

variable {F : FTy → Type} [FloatOps F]

theorem zeros2 : (![0, 0] : Fin 2 → ℕ) = fun _ => 0 := funext fun a => by fin_cases a <;> rfl

section Cases

variable (c : Dev nD) (i : grid0.Coords) (arg2 : Memref sig .tc .vmem S1056x896 .bf16) (harg2 : arg2.IsWhole)
  (arg3 : Memref sig .tc .vmem S1024x896 .bf16) (harg3 : arg3.IsWhole)
  (arg4 : Memref sig .tc .vmem S1056x1024 .f32) (harg4 : arg4.IsWhole)
  (arg5 : Memref sig .tc .vmem S1x1024 .f32) (harg5 : arg5.IsWhole)
  (arg6 : Memref sig .tc .vmem S1056x1024 .f32) (harg6 : arg6.IsWhole)
  (arg7 : Memref sig .tc .vmem S1056x1024 .f32) (harg7 : arg7.IsWhole)
  (arg8 : Memref sig .tc .vmem S1x1024 .f32) (harg8 : arg8.IsWhole)
  (arg9 : Memref sig .tc .vmem S1056x1024 .f32) (harg9 : arg9.IsWhole)
  (x0 : Vec F S1056x896 .bf16) (x1 : Vec F S1024x896 .bf16) (x2 : Vec F S1056x1024 .f32) (x3 : Vec F S1x1024 .f32)
  (x4 : Vec F S1056x1024 .f32) (xo6 : Vec F S1x1024 .f32) (xs0 : Vec F S1056x1024 .f32)

/-- The last point of a block of rows stores the block of the first result. -/
theorem result_last (hc0 : ¬cond0_0 i) (hc1 : ¬cond0_1 i) (hc2 : cond0_2 i) :
    out0_C_5 c i arg2 harg2 arg3 harg3 arg4 harg4 arg5 harg5 arg6 harg6 arg7 harg7 arg8 harg8 arg9 harg9 hc0 hc1 hc2
      x0 x1 x2 x3 x4 xo6 xs0 = k0_pay7 x2 (k0_pay3 i x0 xs0 x1) x3 x4 := by
  unfold out0_C_5
  rw [View.read_writes_eq_canon _ _ _ (cover0_C_5 c i arg2 harg2 arg3 harg3 arg4 harg4 arg5 harg5 arg6 harg6 arg7 harg7 arg8 harg8 arg9 harg9
    hc0 hc1 hc2 x0 x1 x2 x3 x4 xo6 xs0)]
  unfold kernelRun0_C
  dsimp only
  sl_unfold_words
  rw [View.canon_unit_zero zeros2]
  simp only [View.readAt_eq_ld, harg2.read_unread, harg3.read_unread, harg4.read_unread, harg5.read_unread, harg6.read_unread,
    harg8.read_unread, harg9.read_unread, View.ld_unit_zero (S := S1056x896) zeros2, View.ld_unit_zero (S := S1024x896) zeros2,
    View.ld_unit_zero (S := S1056x1024) zeros2, View.ld_unit_zero (S := S1x1024) zeros2, shapeCast_self,
    View.readCov_unit_zero (S := S1056x1024) _ zeros2, View.readCov_unit_zero (S := S1x1024) _ zeros2]

/-- The last point of a block of rows adds that block to the second result. -/
theorem sum_last (hc0 : ¬cond0_0 i) (hc1 : ¬cond0_1 i) (hc2 : cond0_2 i) :
    out0_C_6 c i arg2 harg2 arg3 harg3 arg4 harg4 arg5 harg5 arg6 harg6 arg7 harg7 arg8 harg8 arg9 harg9 hc0 hc1 hc2
      x0 x1 x2 x3 x4 xo6 xs0 = k0_pay6 x2 (k0_pay3 i x0 xs0 x1) xo6 := by
  unfold out0_C_6
  rw [View.read_writes_eq_canon _ _ _ (cover0_C_6 c i arg2 harg2 arg3 harg3 arg4 harg4 arg5 harg5 arg6 harg6 arg7 harg7 arg8 harg8 arg9 harg9
    hc0 hc1 hc2 x0 x1 x2 x3 x4 xo6 xs0)]
  unfold kernelRun0_C
  dsimp only
  sl_unfold_words
  rw [View.canon_unit_zero zeros2]
  simp only [View.readAt_eq_ld, harg2.read_unread, harg3.read_unread, harg4.read_unread, harg5.read_unread, harg6.read_unread,
    harg8.read_unread, harg9.read_unread, View.ld_unit_zero (S := S1056x896) zeros2, View.ld_unit_zero (S := S1024x896) zeros2,
    View.ld_unit_zero (S := S1056x1024) zeros2, View.ld_unit_zero (S := S1x1024) zeros2, shapeCast_self,
    View.readCov_unit_zero (S := S1056x1024) _ zeros2, View.readCov_unit_zero (S := S1x1024) _ zeros2]

/-- The first point of all clears the second result. -/
theorem sum_first (hc0 : cond0_0 i) (hc1 : cond0_1 i) (hc2 : ¬cond0_2 i) :
    out0_A_6 c i arg2 harg2 arg3 harg3 arg4 harg4 arg5 harg5 arg6 harg6 arg7 harg7 arg8 harg8 arg9 harg9 hc0 hc1 hc2
      x0 x1 x2 x3 x4 = k0_pay2 := by
  unfold out0_A_6
  rw [View.read_writes_eq_canon _ _ _ (cover0_A_6 c i arg2 harg2 arg3 harg3 arg4 harg4 arg5 harg5 arg6 harg6 arg7 harg7 arg8 harg8 arg9 harg9
    hc0 hc1 hc2 x0 x1 x2 x3 x4)]
  unfold kernelRun0_A
  dsimp only
  rw [View.canon_unit_zero zeros2]

/-- The last point of a block of rows adds to the running product. -/
theorem acc_last (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 hc0 hc1 hc2
      x0 x1 x2 x3 x4 xo6 xs0 = k0_pay3 i x0 xs0 x1 := by
  unfold sout0_C_0
  rw [View.read_writes_eq_canon _ _ _ (scover0_C_0 c i arg2 harg2 arg3 harg3 arg4 harg4 arg5 harg5 arg6 harg6 arg7 harg7 arg8 harg8 arg9 harg9
    hc0 hc1 hc2 x0 x1 x2 x3 x4 xo6 xs0)]
  unfold kernelRun0_C
  dsimp only
  sl_unfold_words
  rw [View.canon_unit_zero zeros2]
  simp only [View.readAt_eq_ld, harg2.read_unread, harg3.read_unread, harg4.read_unread, harg5.read_unread, harg6.read_unread,
    harg8.read_unread, harg9.read_unread, View.ld_unit_zero (S := S1056x896) zeros2, View.ld_unit_zero (S := S1024x896) zeros2,
    View.ld_unit_zero (S := S1056x1024) zeros2, View.ld_unit_zero (S := S1x1024) zeros2, shapeCast_self,
    View.readCov_unit_zero (S := S1056x1024) _ zeros2, View.readCov_unit_zero (S := S1x1024) _ zeros2]

/-- An inner point adds to the running product. -/
theorem acc_next (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 hc0 hc1 hc2
      x0 x1 x2 x3 x4 xs0 = k0_pay3 i x0 xs0 x1 := by
  unfold sout0_B_0
  rw [View.read_writes_eq_canon _ _ _ (scover0_B_0 c i arg2 harg2 arg3 harg3 arg4 harg4 arg5 harg5 arg6 harg6 arg7 harg7 arg8 harg8 arg9 harg9
    hc0 hc1 hc2 x0 x1 x2 x3 x4 xs0)]
  unfold kernelRun0_B
  dsimp only
  sl_unfold_words
  rw [View.canon_unit_zero zeros2]
  simp only [View.readAt_eq_ld, harg2.read_unread, harg3.read_unread, harg4.read_unread, harg5.read_unread, harg6.read_unread,
    harg8.read_unread, harg9.read_unread, View.ld_unit_zero (S := S1056x896) zeros2, View.ld_unit_zero (S := S1024x896) zeros2,
    View.ld_unit_zero (S := S1056x1024) zeros2, View.ld_unit_zero (S := S1x1024) zeros2, shapeCast_self,
    View.readCov_unit_zero (S := S1056x1024) _ zeros2, View.readCov_unit_zero (S := S1x1024) _ zeros2]

/-- The first point of all starts the running product. -/
theorem acc_first (hc0 : cond0_0 i) (hc1 : cond0_1 i) (hc2 : ¬cond0_2 i) :
    sout0_A_0 c i arg2 harg2 arg3 harg3 arg4 harg4 arg5 harg5 arg6 harg6 arg7 harg7 arg8 harg8 arg9 harg9 hc0 hc1 hc2
      x0 x1 x2 x3 x4 = k0_pay3 i x0 k0_pay1 x1 := by
  unfold sout0_A_0
  rw [View.read_writes_eq_canon _ _ _ (scover0_A_0 c i arg2 harg2 arg3 harg3 arg4 harg4 arg5 harg5 arg6 harg6 arg7 harg7 arg8 harg8 arg9 harg9
    hc0 hc1 hc2 x0 x1 x2 x3 x4)]
  unfold kernelRun0_A
  dsimp only
  sl_unfold_words
  rw [View.canon_cons_unit_zero zeros2]
  simp only [View.readAt_eq_ld, harg2.read_unread, harg3.read_unread, harg4.read_unread, harg5.read_unread, harg6.read_unread,
    harg8.read_unread, harg9.read_unread, View.ld_unit_zero (S := S1056x896) zeros2, View.ld_unit_zero (S := S1024x896) zeros2,
    View.ld_unit_zero (S := S1056x1024) zeros2, View.ld_unit_zero (S := S1x1024) zeros2, shapeCast_self,
    View.readCov_unit_zero (S := S1056x1024) _ zeros2, View.readCov_unit_zero (S := S1x1024) _ zeros2]

/-- The first point of a block of rows starts the running product. -/
theorem acc_start (hc0 : cond0_0 i) (hc1 : ¬cond0_1 i) (hc2 : ¬cond0_2 i) :
    sout0_D_0 c i arg2 harg2 arg3 harg3 arg4 harg4 arg5 harg5 arg6 harg6 arg7 harg7 arg8 harg8 arg9 harg9 hc0 hc1 hc2
      x0 x1 x2 x3 x4 = k0_pay3 i x0 k0_pay1 x1 := by
  unfold sout0_D_0
  rw [View.read_writes_eq_canon _ _ _ (scover0_D_0 c i arg2 harg2 arg3 harg3 arg4 harg4 arg5 harg5 arg6 harg6 arg7 harg7 arg8 harg8 arg9 harg9
    hc0 hc1 hc2 x0 x1 x2 x3 x4)]
  unfold kernelRun0_D
  dsimp only
  sl_unfold_words
  rw [View.canon_cons_unit_zero zeros2]
  simp only [View.readAt_eq_ld, harg2.read_unread, harg3.read_unread, harg4.read_unread, harg5.read_unread, harg6.read_unread,
    harg8.read_unread, harg9.read_unread, View.ld_unit_zero (S := S1056x896) zeros2, View.ld_unit_zero (S := S1024x896) zeros2,
    View.ld_unit_zero (S := S1056x1024) zeros2, View.ld_unit_zero (S := S1x1024) zeros2, shapeCast_self,
    View.readCov_unit_zero (S := S1056x1024) _ zeros2, View.readCov_unit_zero (S := S1x1024) _ zeros2]

end Cases

variable (m : (ℓ : Loc nD τ sig) → Buf (Elt F) ℓ)

theorem mod_first {n : ℕ} (h : n % 7 = 0) : ¬n % 7 = 6 := by omega
theorem mod_last {n : ℕ} (h : n % 7 = 6) : ¬n % 7 = 0 := by omega
theorem mod_all {n : ℕ} (h : ¬n % 7 = 0) : ¬n % 56 = 0 := by omega
theorem mod_zero {n : ℕ} (h : n < 56) (h0 : n ≠ 0) : ¬n % 56 = 0 := by omega

/-- What a point leaves: the block of the first result, the second result, the running product. -/
abbrev St := Vec F S1056x1024 .f32 × Vec F S1x1024 .f32 × Vec F S1056x1024 .f32

/-- The running product at the first point of a block of rows. -/
theorem acc_point_start (c : Dev nD) (t : Fin cfg0.N) (h : t.val % 7 = 0) :
    (outsAt0 m c t.val t.isLt).2.2 = k0_pay3 (grid0.coords t) (iblk m c 0 t) (k0_pay1 (F := F)) (iblk m c 1 t) := by
  by_cases h1 : t.val % 56 = 0
  · have e := congrArg (fun s : St (F := F) => s.2.2) (outsAt0_A m c t h h1 (mod_first h))
    dsimp only at e
    exact e.trans (acc_first c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) scM0_0 (Memref.isWhole_whole _) (iblk m c 0 t) (iblk m c 1 t)
        (iblk m c 2 t) (iblk m c 3 t) (iblk m c 4 t)
        ((hcond0_0 t).mpr h) ((hcond0_1 t).mpr h1) (fun h' => (mod_first h) ((hcond0_2 t).mp h')))
  · have e := congrArg (fun s : St (F := F) => s.2.2) (outsAt0_D m c t h h1 (mod_first h))
    dsimp only at e
    exact e.trans (acc_start c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) scM0_0 (Memref.isWhole_whole _) (iblk m c 0 t) (iblk m c 1 t)
        (iblk m c 2 t) (iblk m c 3 t) (iblk m c 4 t)
        ((hcond0_0 t).mpr h) (fun h' => h1 ((hcond0_1 t).mp h')) (fun h' => (mod_first h) ((hcond0_2 t).mp h')))

/-- The running product at the other points of a block of rows. -/
theorem acc_point_next (c : Dev nD) (t : Fin cfg0.N) (h : ¬t.val % 7 = 0) :
    (outsAt0 m c t.val t.isLt).2.2 = k0_pay3 (grid0.coords t) (iblk m c 0 t)
      (outsAt0 m c (t.val - 1) (Nat.lt_of_le_of_lt (Nat.sub_le _ _) t.isLt)).2.2 (iblk m c 1 t) := by
  by_cases h2 : t.val % 7 = 6
  · have e := congrArg (fun s : St (F := F) => s.2.2) (outsAt0_C m c t h (mod_all h) h2)
    dsimp only at e
    exact e.trans (acc_last c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) scM0_0 (Memref.isWhole_whole _) (iblk m c 0 t) (iblk m c 1 t)
        (iblk m c 2 t) (iblk m c 3 t) (iblk m c 4 t) _ _
        (fun h' => h ((hcond0_0 t).mp h')) (fun h' => (mod_all h) ((hcond0_1 t).mp h')) ((hcond0_2 t).mpr h2))
  · have e := congrArg (fun s : St (F := F) => s.2.2) (outsAt0_B m c t h (mod_all h) h2)
    dsimp only at e
    exact e.trans (acc_next c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) scM0_0 (Memref.isWhole_whole _) (iblk m c 0 t) (iblk m c 1 t)
        (iblk m c 2 t) (iblk m c 3 t) (iblk m c 4 t) _
        (fun h' => h ((hcond0_0 t).mp h')) (fun h' => (mod_all h) ((hcond0_1 t).mp h')) (fun h' => h2 ((hcond0_2 t).mp h')))

/-- The block of the first result, at the last point of its rows. -/
theorem result_point (c : Dev nD) (t : Fin cfg0.N) (h : t.val % 7 = 6) :
    (outsAt0 m c t.val t.isLt).1 = k0_pay7 (iblk m c 2 t) (outsAt0 m c t.val t.isLt).2.2 (iblk m c 3 t) (iblk m c 4 t) := by
  rw [acc_point_next m c t (mod_last h)]
  have e := congrArg (fun s : St (F := F) => s.1) (outsAt0_C m c t (mod_last h) (mod_all (mod_last h)) h)
  dsimp only at e
  exact e.trans (result_last c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) (iblk m c 0 t) (iblk m c 1 t)
      (iblk m c 2 t) (iblk m c 3 t) (iblk m c 4 t) _ _
      (fun h' => (mod_last h) ((hcond0_0 t).mp h')) (fun h' => (mod_all (mod_last h)) ((hcond0_1 t).mp h')) ((hcond0_2 t).mpr h))

/-- The second result after the first point. -/
theorem sum_point_first (c : Dev nD) (t : Fin cfg0.N) (h : t.val = 0) : (outsAt0 m c t.val t.isLt).2.1 = k0_pay2 (F := F) := by
  have h0 : t.val % 7 = 0 := by rw [h]
  have h1 : t.val % 56 = 0 := by rw [h]
  have e := congrArg (fun s : St (F := F) => s.2.1) (outsAt0_A m c t h0 h1 (mod_first h0))
  dsimp only at e
  exact e.trans (sum_first c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) (iblk m c 0 t) (iblk m c 1 t)
      (iblk m c 2 t) (iblk m c 3 t) (iblk m c 4 t)
      ((hcond0_0 t).mpr h0) ((hcond0_1 t).mpr h1) (fun h' => (mod_first h0) ((hcond0_2 t).mp h')))

/-- The second result after the last point of a block of rows. -/
theorem sum_point_last (c : Dev nD) (t : Fin cfg0.N) (h : t.val % 7 = 6) :
    (outsAt0 m c t.val t.isLt).2.1 = k0_pay6 (iblk m c 2 t) (outsAt0 m c t.val t.isLt).2.2
      (outsAt0 m c (t.val - 1) (Nat.lt_of_le_of_lt (Nat.sub_le _ _) t.isLt)).2.1 := by
  rw [acc_point_next m c t (mod_last h)]
  have e := congrArg (fun s : St (F := F) => s.2.1) (outsAt0_C m c t (mod_last h) (mod_all (mod_last h)) h)
  dsimp only at e
  exact e.trans (sum_last c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) (iblk m c 0 t) (iblk m c 1 t)
      (iblk m c 2 t) (iblk m c 3 t) (iblk m c 4 t) _ _
      (fun h' => (mod_last h) ((hcond0_0 t).mp h')) (fun h' => (mod_all (mod_last h)) ((hcond0_1 t).mp h')) ((hcond0_2 t).mpr h))

/-- The other points leave the second result as it is. -/
theorem sum_point_other (c : Dev nD) (t : Fin cfg0.N) (h : ¬t.val % 7 = 6) (h0 : t.val ≠ 0) :
    (outsAt0 m c t.val t.isLt).2.1 = (outsAt0 m c (t.val - 1) (Nat.lt_of_le_of_lt (Nat.sub_le _ _) t.isLt)).2.1 := by
  by_cases h1 : t.val % 7 = 0
  · have e := congrArg (fun s : St (F := F) => s.2.1) (outsAt0_D m c t h1 (mod_zero t.isLt h0) h)
    dsimp only at e
    exact e.trans rfl
  · have e := congrArg (fun s : St (F := F) => s.2.1) (outsAt0_B m c t h1 (mod_all h1) h)
    dsimp only at e
    exact e.trans rfl

end Cert.Dx

end
-- ==== Proof.NormRow.lean ====
/- One row of the gradient of a root-mean-square norm, in the two forms in which it is computed.

   For a row `x` of any length, with `v` the mean of its squares plus a small constant and `r = 1 / √v`, the norm is `x · r · w`. With `D`
   the cotangent of the norm, the kernel computes `r · (D w − (x r) · mean (D w · x r))`, while differentiating `x · r` and
   `r = v ^ (-1/2)` one after the other gives `D w · r + 2 · x · (Σ x (D w)) · (−1/2 · r / v) / n`, with `n` the length as a
   float word. The two are equal on all
   extended reals: `r` is a nonnegative real number, and scaling by it respects every sum. -/
module

public import Idealize.ShloMosaic.PureOps.Ideal
public import Idealize.ShloMosaic.PureOps.Ideal.Laws
public import Idealize.ShloMosaic.Lib.Pointwise

@[expose] public section

noncomputable section

namespace Cert.Norm

open Idealize.ShloMosaic

variable {n : ℕ} (c : EReal)

/-- The mean of the squares of a row, plus the small constant. -/
def meanSq (x : Fin n → EReal) : EReal :=
  Ideal.div (∑ l, x l * x l) c + Ideal.ofBits FTy.f32 897988541#32

/-- The factor by which a row is scaled. -/
def scale (x : Fin n → EReal) : EReal := Ideal.rsqrt (meanSq c x)

/-- The row as the kernel computes it. -/
def gradK (x D w : Fin n → EReal) (h : EReal) (a : Fin n) : EReal :=
  h + scale c x * (D a * w a - x a * scale c x
    * Ideal.div (∑ l, D l * w l * (x l * scale c x)) c)

/-- The common factor of the row's second part, as differentiation gives it. -/
def second (x D w : Fin n → EReal) : EReal :=
  Ideal.div ((∑ l, x l * (D l * w l)) * (Ideal.ofBits FTy.f32 3204448256#32 * Ideal.div (scale c x) (meanSq c x))) c

/-- The row as differentiation gives it. -/
def gradR (x D w : Fin n → EReal) (h : EReal) (a : Fin n) : EReal :=
  h + D a * w a * scale c x + x a * second c x D w + second c x D w * x a

theorem ofBits_neg_half : Ideal.ofBits FTy.f32 3204448256#32 = ((-(1 / 2) : ℝ) : EReal) := by
  simp [Ideal.ofBits, Ideal.ieee]
  norm_num
  norm_cast
  norm_num

theorem eps_pos : ∃ e : ℝ, 0 < e ∧ Ideal.ofBits FTy.f32 897988541#32 = (e : EReal) := by
  refine ⟨_, ?_, by simp [Ideal.ofBits, Ideal.ieee]; rfl⟩
  positivity

theorem sq_nonneg (a : EReal) : 0 ≤ a * a := by
  rw [EReal.mul_nonneg_iff]
  rcases le_total 0 a with h | h
  · exact .inl ⟨h, h⟩
  · exact .inr ⟨h, h⟩

theorem div_real (a : EReal) (k : ℝ) (hk : k ≠ 0) : Ideal.div a (k : EReal) = a * ((k⁻¹ : ℝ) : EReal) := by
  unfold Ideal.div
  rw [if_neg (by exact_mod_cast hk), EReal.coe_inv]

/-- Either the row's mean square is infinite and the factor zero, or both are positive real numbers. -/
theorem scale_cases (q : ℝ) (hq : 0 < q) (hc : c = (q : EReal)) (x : Fin n → EReal) :
    (meanSq c x = ⊤ ∧ scale c x = 0) ∨ ∃ v : ℝ, 0 < v ∧ meanSq c x = (v : EReal) ∧ scale c x = (((Real.sqrt v)⁻¹ : ℝ) : EReal) := by
  subst hc
  obtain ⟨e, he, hE⟩ := eps_pos
  have hs : 0 ≤ ∑ l, x l * x l := Finset.sum_nonneg fun l _ => sq_nonneg _
  have hm : meanSq (q : EReal) x = (∑ l, x l * x l) * ((q⁻¹ : ℝ) : EReal) + (e : EReal) := by
    unfold meanSq; rw [hE, div_real _ _ hq.ne']
  generalize (∑ l, x l * x l) = s at hs hm
  induction s with
  | bot => exact absurd hs (by simp)
  | top =>
    left
    rw [EReal.top_mul_coe_of_pos (by positivity), EReal.top_add_coe] at hm
    exact ⟨hm, by unfold scale; rw [hm]; rfl⟩
  | coe s =>
    right
    have hs' : 0 ≤ s := by exact_mod_cast hs
    refine ⟨s * q⁻¹ + e, by positivity, by rw [hm]; push_cast; rfl, ?_⟩
    have hm' : meanSq (q : EReal) x = ((s * q⁻¹ + e : ℝ) : EReal) := by rw [hm]; push_cast; rfl
    have hv : 0 < s * q⁻¹ + e := by positivity
    unfold scale; rw [hm']
    show (if _ then _ else if _ then _ else _ : EReal) = _
    rw [if_neg (not_lt.mpr hv.le), if_neg hv.ne']

/-- A nonnegative real factor comes out of a sum. -/
theorem sum_mul_coe {ι : Type} (s : Finset ι) (f : ι → EReal) (r : ℝ) (hr : 0 ≤ r) :
    ∑ l ∈ s, f l * (r : EReal) = (∑ l ∈ s, f l) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- The same factor of one sign twice. -/
theorem mul_coe_add_self (y : EReal) (c : ℝ) : y * (c : EReal) + y * (c : EReal) = y * ((2 * c : ℝ) : EReal) := by
  induction y with
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | coe y => norm_cast; ring

/-- The two forms of the row agree. -/
theorem grad_eq (q : ℝ) (hn : 0 < q) (hcn : c = (q : EReal)) (x D w : Fin n → EReal) (h : EReal) (a : Fin n) :
    gradK c x D w h a = gradR c x D w h a := by
  subst hcn
  unfold gradK gradR second
  rw [ofBits_neg_half]
  rcases scale_cases _ q hn rfl x with ⟨hv, hr⟩ | ⟨v, hv, hm, hr⟩
  · rw [hv, hr]
    have e : Ideal.div 0 (⊤ : EReal) = 0 := by unfold Ideal.div; simp
    simp only [e, div_real _ q hn.ne', mul_zero, zero_mul, add_zero]
  · rw [hm, hr]
    have hq : 0 < Real.sqrt v := Real.sqrt_pos.mpr hv
    have hq2 : v = Real.sqrt v * Real.sqrt v := (Real.mul_self_sqrt hv.le).symm
    have hk : q ≠ 0 := hn.ne'
    rw [div_real _ v hv.ne', div_real _ _ hk, div_real _ _ hk]
    rw [hq2] at hv
    have hc : 2 * (-(1 / 2) * ((Real.sqrt v)⁻¹ * v⁻¹) * q⁻¹)
        = -((Real.sqrt v)⁻¹ * (Real.sqrt v)⁻¹ * (Real.sqrt v)⁻¹ * q⁻¹) := by
      rw [hq2, Real.sqrt_mul_self hq.le]
      field_simp
    have hr0 : 0 ≤ (Real.sqrt v)⁻¹ := by positivity
    generalize (Real.sqrt v)⁻¹ = r at hc hr0 ⊢
    generalize v⁻¹ = u at hc ⊢
    generalize q⁻¹ = k at hc ⊢
    generalize (-(1 / 2) : ℝ) = z at hc ⊢
    have e1 : ∑ l, D l * w l * (x l * (r : EReal)) = (∑ l, D l * w l * x l) * (r : EReal) := by
      rw [← sum_mul_coe _ _ _ hr0]
      exact Finset.sum_congr rfl fun l _ => (mul_assoc _ _ _).symm
    have e2 : ∑ l, x l * (D l * w l) = ∑ l, D l * w l * x l := Finset.sum_congr rfl fun l _ => mul_comm _ _
    rw [e1, e2]
    generalize (∑ l, D l * w l * x l) = S
    generalize D a * w a = G
    generalize x a = X
    have e3 : X * (S * ((z : EReal) * ((r : EReal) * (u : EReal))) * (k : EReal)) = X * S * ((z * (r * u) * k : ℝ) : EReal) := by
      simp only [EReal.coe_mul]; ac_rfl
    have e4 : (r : EReal) * (X * (r : EReal) * (S * (r : EReal) * (k : EReal))) = X * S * ((r * r * r * k : ℝ) : EReal) := by
      simp only [EReal.coe_mul]; ac_rfl
    rw [EReal.mul_sub_of_nonneg_of_ne_top (by exact_mod_cast hr0) (EReal.coe_ne_top r), e4,
      mul_comm (S * _ * _) X, e3, add_assoc, add_assoc, mul_coe_add_self, hc, EReal.coe_neg, mul_neg, mul_comm G,
      sub_eq_add_neg]

/-- A scaled entry is a real number. -/
theorem scaled_real (q : ℝ) (hq : 0 < q) (hc : c = (q : EReal)) (x : Fin n → EReal) (a : Fin n) :
    ∃ r : ℝ, x a * scale c x = (r : EReal) := by
  rcases scale_cases c q hq hc x with ⟨-, hr⟩ | ⟨v, -, hm, hr⟩
  · exact ⟨0, by rw [hr, mul_zero]; rfl⟩
  · have hle : x a * x a ≤ ∑ l, x l * x l :=
      Finset.single_le_sum (f := fun l => x l * x l) (fun l _ => sq_nonneg _) (Finset.mem_univ a)
    have hlt : x a * x a ≠ ⊤ := by
      intro ht
      rw [ht, top_le_iff] at hle
      obtain ⟨e, -, hE⟩ := eps_pos
      unfold meanSq at hm
      rw [hle, hc, hE, div_real _ _ hq.ne', EReal.top_mul_coe_of_pos (by positivity), EReal.top_add_coe] at hm
      exact absurd hm (EReal.top_ne_coe v)
    rw [hr]
    generalize x a = X at hlt
    induction X with
    | bot => exact absurd rfl hlt
    | top => exact absurd rfl hlt
    | coe X => exact ⟨X * (Real.sqrt v)⁻¹, by push_cast; rfl⟩

end Cert.Norm

end
-- ==== Proof.RmsRow.lean ====
/- One row of 1024 of the gradient of a root-mean-square norm, in the two forms in which it is computed.

   For a row `x`, with `v` the mean of its squares plus a small constant and `r = 1 / √v`, the norm is `x · r · w`. With `D`
   the cotangent of the norm, the kernel computes `r · (D w − (x r) · mean (D w · x r))`, while differentiating `x · r` and
   `r = v ^ (-1/2)` one after the other gives `D w · r + 2 · x · (Σ x (D w)) · (−1/2 · r / v) / 1024`. The two are equal on all
   extended reals: `r` is a nonnegative real number, and scaling by it respects every sum. -/
module

public import proofs.«01_k».proof.Proof.NormRow

@[expose] public section

noncomputable section

namespace Cert.Rms

open Idealize.ShloMosaic

/-- The mean of the squares of a row, plus the small constant. -/
def meanSq (x : Fin 1024 → EReal) : EReal :=
  Ideal.div (∑ l, x l * x l) (Ideal.ofBits FTy.f32 1149239296#32) + Ideal.ofBits FTy.f32 897988541#32

/-- The factor by which a row is scaled. -/
def scale (x : Fin 1024 → EReal) : EReal := Ideal.rsqrt (meanSq x)

/-- The row as the kernel computes it. -/
def gradK (x D w : Fin 1024 → EReal) (h : EReal) (a : Fin 1024) : EReal :=
  h + scale x * (D a * w a - x a * scale x
    * Ideal.div (∑ l, D l * w l * (x l * scale x)) (Ideal.ofBits FTy.f32 1149239296#32))

/-- The common factor of the row's second part, as differentiation gives it. -/
def second (x D w : Fin 1024 → EReal) : EReal :=
  Ideal.div ((∑ l, x l * (D l * w l)) * (Ideal.ofBits FTy.f32 3204448256#32 * Ideal.div (scale x) (meanSq x)))
    (Ideal.ofBits FTy.f32 1149239296#32)

/-- The row as differentiation gives it. -/
def gradR (x D w : Fin 1024 → EReal) (h : EReal) (a : Fin 1024) : EReal :=
  h + D a * w a * scale x + x a * second x D w + second x D w * x a

theorem ofBits_1024 : Ideal.ofBits FTy.f32 1149239296#32 = ((1024 : ℝ) : EReal) := by
  simp [Ideal.ofBits, Ideal.ieee]
  norm_num
  norm_cast
  norm_num

/-- The two forms of the row agree. -/
theorem grad_eq (x D w : Fin 1024 → EReal) (h : EReal) (a : Fin 1024) : gradK x D w h a = gradR x D w h a :=
  Norm.grad_eq _ 1024 (by norm_num) ofBits_1024 x D w h a

end Cert.Rms

end
-- ==== Proof.DxBlock.lean ====
/- The gradient of the norm's input and weights: what the kernel's arrays hold.

   For each block of 1056 rows the kernel walks the 7 blocks of 896 columns, adding up the product of the cotangent, its
   padding rows left out, with the transposed weights. After the last of them it has the cotangent of the norm for those
   rows; it stores the gradient of the norm's input for them and adds their part to the gradient of the norm's weights. -/
module

public import proofs.«01_k».proof.Proof.DxState
public import proofs.«01_k».proof.Proof.RmsRow

@[expose] public section

set_option maxRecDepth 16384

noncomputable section

namespace Cert.Dx

open Cert.Kernel2Ideal Cert.Kernel2Ideal.Gen Cert.Kernel2Ideal.Value Idealize.ShloMosaic Idealize.ShloMosaic.TcCoe Idealize.SL.Sem

/-- One product of the cotangent `d`, zero on the padding, and the transposed weights `w`. -/
def term (d : S8448x6272.Idx → EReal) (w : S1024x6272.Idx → EReal) (p : Fin 8448) (a : Fin 1024) (k : ℕ) : EReal :=
  if 48 ≤ p.val % 2112 then (if h : k < 6272 then d (ix2 p ⟨k, h⟩) * w (ix2 a ⟨k, h⟩) else 0) else 0

/-- The cotangent of the norm. -/
def prod (d : S8448x6272.Idx → EReal) (w : S1024x6272.Idx → EReal) (p : Fin 8448) (a : Fin 1024) : EReal :=
  ∑ k ∈ Finset.range 6272, term d w p a k

theorem prod_eq (d : S8448x6272.Idx → EReal) (w : S1024x6272.Idx → EReal) (p : Fin 8448) (a : Fin 1024) :
    prod d w p a = if 48 ≤ p.val % 2112 then ∑ k : Fin 6272, d (ix2 p k) * w (ix2 a k) else 0 := by
  unfold prod term
  by_cases h : 48 ≤ p.val % 2112
  · simp only [if_pos h]
    rw [Finset.sum_range]
    exact Finset.sum_congr rfl fun k _ => dif_pos k.isLt
  · simp only [if_neg h, Finset.sum_const_zero]

/-- One step of the running product at an index. -/
theorem step_apply (i : grid0.Coords) (d : S1056x896.Idx → EReal) (acc : S1056x1024.Idx → EReal)
    (w : S1024x896.Idx → EReal) (j : S1056x1024.Idx) (q : ℕ) (hq : (i 0).val = q) (hq8 : q < 8) :
    k0_pay3 (F := Ideal) i d acc w j
      = acc j + ∑ k : Fin 896, if 48 ≤ (q * 1056 + (j 0).val) % 2112 then d (ix2 (j 0) k) * w (ix2 (j 1) k) else 0 := by
  subst hq
  pointwise [k0_pay3]
  have h0 : (j 0).val < 1056 := (j 0).isLt
  congr 1
  refine Finset.sum_congr rfl fun k _ => ?_
  rw [Rows.select_row _ 1056 _ (by omega)]

/-- The block of the first result at an index. -/
theorem result_apply (x D : S1056x1024.Idx → EReal) (w : S1x1024.Idx → EReal) (h : S1056x1024.Idx → EReal)
    (r : Fin 1056) (a : Fin 1024) :
    k0_pay7 (F := Ideal) x D w h (ix2 r a)
      = Rms.gradK (fun l => x (ix2 r l)) (fun l => D (ix2 r l)) (fun l => w (ix2 0 l)) (h (ix2 r a)) a := by
  pointwise [k0_pay7, k0_pay5, k0_pay4]
  rfl

/-- A block's part of the second result at an index. -/
theorem sum_apply (x D : S1056x1024.Idx → EReal) (w : S1x1024.Idx → EReal) (j : S1x1024.Idx) :
    k0_pay6 (F := Ideal) x D w j
      = w j + ∑ r : Fin 1056, D (ix2 r (j 1)) * (x (ix2 r (j 1)) * Rms.scale (fun l => x (ix2 r l))) := by
  pointwise [k0_pay6, k0_pay5, k0_pay4]
  rfl

variable (m : (ℓ : Loc nD τ sig) → Buf (Elt Ideal) ℓ)

/-- The arguments as launched: the cotangent, the transposed weights, the norm's input, the norm's weights, the cotangent
    that reaches the norm's input beside the projection. -/
def dArr (c : Dev nD) : S8448x6272.Idx → EReal := m ((c : Thread nD τ).loc main_arg0)
def wArr (c : Dev nD) : S1024x6272.Idx → EReal := m ((c : Thread nD τ).loc main_arg1)
def xArr (c : Dev nD) : S8448x1024.Idx → EReal := m ((c : Thread nD τ).loc main_arg2)
def nArr (c : Dev nD) : S1x1024.Idx → EReal := m ((c : Thread nD τ).loc main_arg3)
def hArr (c : Dev nD) : S8448x1024.Idx → EReal := m ((c : Thread nD τ).loc main_arg4)

theorem index_facts : ∀ t : Fin cfg0.N, win0_0.index t (0 : Fin 2) = t.val / 7 ∧ win0_0.index t (1 : Fin 2) = t.val % 7
    ∧ win0_1.index t (0 : Fin 2) = 0 ∧ win0_1.index t (1 : Fin 2) = t.val % 7
    ∧ win0_2.index t (0 : Fin 2) = t.val / 7 ∧ win0_2.index t (1 : Fin 2) = 0
    ∧ win0_3.index t (0 : Fin 2) = 0 ∧ win0_3.index t (1 : Fin 2) = 0
    ∧ win0_4.index t (0 : Fin 2) = t.val / 7 ∧ win0_4.index t (1 : Fin 2) = 0 ∧ (grid0.coords t 0).val = t.val / 7 :=
  (by decide +kernel : ∀ t : Fin grid0.N, _)

theorem point_lt (t : Fin cfg0.N) : t.val < 56 := t.isLt

/-- The row of the arrays that row `r` of point `t`'s blocks is. -/
def row (t : Fin cfg0.N) (r : Fin 1056) : Fin 8448 :=
  ⟨t.val / 7 * 1056 + r.val, by have h := point_lt t; have hr := r.isLt; omega⟩

theorem dBlock (c : Dev nD) (t : Fin cfg0.N) (r : Fin 1056) (s : Fin 896) (h : t.val % 7 * 896 + s.val < 6272) :
    iblk m c 0 t (ix2 r s) = dArr m c (ix2 (row t r) ⟨t.val % 7 * 896 + s.val, h⟩) := by
  obtain ⟨e0, e1, -⟩ := index_facts t
  show dArr m c (((cfg0.win 0).blk t).view.emb (ix2 r s)) = _
  congr 1
  funext a; apply Fin.ext
  match a with
  | ⟨0, _⟩ => show win0_0.index t (0 : Fin 2) * 1056 + 1 * r.val = t.val / 7 * 1056 + r.val; rw [e0, one_mul]
  | ⟨1, _⟩ => show win0_0.index t (1 : Fin 2) * 896 + 1 * s.val = t.val % 7 * 896 + s.val; rw [e1, one_mul]

theorem wBlock (c : Dev nD) (t : Fin cfg0.N) (a : Fin 1024) (s : Fin 896) (h : t.val % 7 * 896 + s.val < 6272) :
    iblk m c 1 t (ix2 a s) = wArr m c (ix2 a ⟨t.val % 7 * 896 + s.val, h⟩) := by
  obtain ⟨-, -, e0, e1, -⟩ := index_facts t
  show wArr m c (((cfg0.win 1).blk t).view.emb (ix2 a s)) = _
  congr 1
  funext b; apply Fin.ext
  match b with
  | ⟨0, _⟩ => show win0_1.index t (0 : Fin 2) * 1024 + 1 * a.val = a.val; rw [e0]; simp
  | ⟨1, _⟩ => show win0_1.index t (1 : Fin 2) * 896 + 1 * s.val = t.val % 7 * 896 + s.val; rw [e1, one_mul]

theorem xBlock (c : Dev nD) (t : Fin cfg0.N) (r : Fin 1056) (a : Fin 1024) :
    iblk m c 2 t (ix2 r a) = xArr m c (ix2 (row t r) a) := by
  obtain ⟨-, -, -, -, e0, e1, -⟩ := index_facts t
  show xArr m c (((cfg0.win 2).blk t).view.emb (ix2 r a)) = _
  congr 1
  funext b; apply Fin.ext
  match b with
  | ⟨0, _⟩ => show win0_2.index t (0 : Fin 2) * 1056 + 1 * r.val = t.val / 7 * 1056 + r.val; rw [e0, one_mul]
  | ⟨1, _⟩ => show win0_2.index t (1 : Fin 2) * 1024 + 1 * a.val = a.val; rw [e1]; simp

theorem nBlock (c : Dev nD) (t : Fin cfg0.N) (a : Fin 1024) : iblk m c 3 t (ix2 0 a) = nArr m c (ix2 0 a) := by
  obtain ⟨-, -, -, -, -, -, e0, e1, -⟩ := index_facts t
  show nArr m c (((cfg0.win 3).blk t).view.emb (ix2 0 a)) = _
  congr 1
  funext b; apply Fin.ext
  match b with
  | ⟨0, _⟩ => show win0_3.index t (0 : Fin 2) * 1 + 1 * 0 = 0; rw [e0]
  | ⟨1, _⟩ => show win0_3.index t (1 : Fin 2) * 1024 + 1 * a.val = a.val; rw [e1]; simp

theorem hBlock (c : Dev nD) (t : Fin cfg0.N) (r : Fin 1056) (a : Fin 1024) :
    iblk m c 4 t (ix2 r a) = hArr m c (ix2 (row t r) a) := by
  obtain ⟨-, -, -, -, -, -, -, -, e0, e1, -⟩ := index_facts t
  show hArr m c (((cfg0.win 4).blk t).view.emb (ix2 r a)) = _
  congr 1
  funext b; apply Fin.ext
  match b with
  | ⟨0, _⟩ => show win0_4.index t (0 : Fin 2) * 1056 + 1 * r.val = t.val / 7 * 1056 + r.val; rw [e0, one_mul]
  | ⟨1, _⟩ => show win0_4.index t (1 : Fin 2) * 1024 + 1 * a.val = a.val; rw [e1]; simp

/-- One step of the running product, in the arrays. -/
theorem step_add (c : Dev nD) (t : Fin cfg0.N) (acc : S1056x1024.Idx → EReal) (r : Fin 1056) (a : Fin 1024) :
    k0_pay3 (F := Ideal) (grid0.coords t) (iblk m c 0 t) acc (iblk m c 1 t) (ix2 r a)
      = acc (ix2 r a) + ∑ k : Fin 896, term (dArr m c) (wArr m c) (row t r) a (t.val % 7 * 896 + k.val) := by
  obtain ⟨-, -, -, -, -, -, -, -, -, -, e⟩ := index_facts t
  have ht := point_lt t
  rw [step_apply _ _ _ _ _ (t.val / 7) e (by omega)]
  congr 1
  refine Finset.sum_congr rfl fun k _ => ?_
  have hk := k.isLt
  have h : t.val % 7 * 896 + k.val < 6272 := by omega
  unfold term
  by_cases hv : 48 ≤ (row t r).val % 2112
  · rw [if_pos hv, dif_pos h]
    refine (if_pos hv).trans ?_
    exact congr (congrArg _ (dBlock m c t r k h)) (wBlock m c t a k h)
  · rw [if_neg hv]
    exact if_neg hv

/-- The running product after a point: the columns walked so far. -/
theorem acc_apply (c : Dev nD) (r : Fin 1056) (a : Fin 1024) : ∀ (n : ℕ) (hn : n < cfg0.N),
    (outsAt0 m c n hn).2.2 (ix2 r a)
      = ∑ k ∈ Finset.range ((n % 7 + 1) * 896), term (dArr m c) (wArr m c) (row ⟨n, hn⟩ r) a k := by
  have start : ∀ (n : ℕ) (hn : n < cfg0.N), n % 7 = 0 → (outsAt0 m c n hn).2.2 (ix2 r a)
      = ∑ k ∈ Finset.range ((n % 7 + 1) * 896), term (dArr m c) (wArr m c) (row ⟨n, hn⟩ r) a k := by
    intro n hn h
    refine (congrFun (acc_point_start m c ⟨n, hn⟩ h) (ix2 r a)).trans ?_
    rw [step_add, ← Rows.sum_blocks, h, Finset.sum_range_one]
    refine (congrArg (· + _) Ideal.ofBits_zero_f32).trans ?_
    rw [zero_add]
  intro n
  induction n with
  | zero => exact fun hn => start 0 hn rfl
  | succ n ih =>
    intro hn
    by_cases h : (n + 1) % 7 = 0
    · exact start _ hn h
    · refine (congrFun (acc_point_next m c ⟨n + 1, hn⟩ h) (ix2 r a)).trans ?_
      rw [step_add]
      refine (congrArg (· + _) (ih (Nat.lt_of_succ_lt hn))).trans ?_
      rw [← Rows.sum_blocks _ 896 ((n + 1) % 7 + 1), Finset.sum_range_succ, Rows.sum_blocks]
      have e1 : n % 7 + 1 = (n + 1) % 7 := by omega
      have e2 : row ⟨n, Nat.lt_of_succ_lt hn⟩ r = row ⟨n + 1, hn⟩ r := by
        apply Fin.ext
        show n / 7 * 1056 + r.val = (n + 1) / 7 * 1056 + r.val
        have : n / 7 = (n + 1) / 7 := by omega
        rw [this]
      rw [e1, e2]

/-- After the last block of columns the running product is the cotangent of the norm. -/
theorem acc_last_apply (c : Dev nD) (r : Fin 1056) (a : Fin 1024) (t : Fin cfg0.N) (h : t.val % 7 = 6) :
    (outsAt0 m c t.val t.isLt).2.2 (ix2 r a) = prod (dArr m c) (wArr m c) (row t r) a := by
  rw [acc_apply, h]
  rfl

/-- The first result's array. -/
theorem input_array (c : Dev nD) (i : S8448x1024.Idx) :
    (G5 m c : S8448x1024.Idx → EReal) i = Rms.gradK (fun l => xArr m c (ix2 (i 0) l)) (prod (dArr m c) (wArr m c) (i 0))
      (fun l => nArr m c (ix2 0 l)) (hArr m c i) (i 1) := by
  have h0 : (i 0).val < 8448 := (i 0).isLt
  have h1 : (i 1).val < 1024 := (i 1).isLt
  have er : run5Of i = (i 0).val / 1056 := by unfold run5Of; omega
  have hp : pt5Of i < cfg0.N := by
    show pt5Of i < 56
    unfold pt5Of; rw [er]; omega
  have hm : pt5Of i % 7 = 6 := by unfold pt5Of; omega
  unfold G5
  rw [dif_pos hp, ← outsAt0_sweep m c _ hp]
  have el : loc5Of i = ix2 ⟨(i 0).val % 1056, Nat.mod_lt _ (by norm_num)⟩ (i 1) := by
    funext a; apply Fin.ext
    match a with
    | ⟨0, _⟩ => rfl
    | ⟨1, _⟩ => show (i 1).val % 1024 = (i 1).val; omega
  have ew : row ⟨pt5Of i, hp⟩ ⟨(i 0).val % 1056, Nat.mod_lt _ (by norm_num)⟩ = i 0 := by
    apply Fin.ext
    show pt5Of i / 7 * 1056 + (i 0).val % 1056 = (i 0).val
    unfold pt5Of; rw [er]; omega
  refine (congrFun (result_point m c ⟨pt5Of i, hp⟩ hm) _).trans ?_
  rw [el]
  refine (result_apply _ _ _ _ _ _).trans ?_
  have e : hArr m c i = hArr m c (ix2 (i 0) (i 1)) := congrArg _ (by funext a; fin_cases a <;> rfl)
  rw [e]
  congr 1
  · funext l; exact (xBlock m c _ _ l).trans (by rw [ew])
  · funext l; exact (acc_last_apply m c _ l ⟨pt5Of i, hp⟩ hm).trans (by rw [ew])
  · funext l; exact nBlock m c _ l
  · exact (hBlock m c _ _ _).trans (by rw [ew])

/-- What row `p` adds to the second result. -/
def part (c : Dev nD) (a : Fin 1024) (p : ℕ) : EReal :=
  if h : p < 8448 then prod (dArr m c) (wArr m c) ⟨p, h⟩ a
    * (xArr m c (ix2 ⟨p, h⟩ a) * Rms.scale (fun l => xArr m c (ix2 ⟨p, h⟩ l))) else 0

/-- The second result after a point: the blocks of rows finished so far. -/
theorem weight_apply (c : Dev nD) (a : Fin 1024) : ∀ (n : ℕ) (hn : n < cfg0.N),
    (outsAt0 m c n hn).2.1 (ix2 0 a) = ∑ p ∈ Finset.range ((n + 1) / 7 * 1056), part m c a p := by
  intro n
  induction n with
  | zero =>
    intro hn
    refine (congrFun (sum_point_first m c ⟨0, hn⟩ rfl) (ix2 0 a)).trans ?_
    exact Ideal.ofBits_zero_f32
  | succ n ih =>
    intro hn
    by_cases h : (n + 1) % 7 = 6
    · refine (congrFun (sum_point_last m c ⟨n + 1, hn⟩ h) (ix2 0 a)).trans ?_
      rw [sum_apply]
      refine (congrArg (· + _) (ih (Nat.lt_of_succ_lt hn))).trans ?_
      have e : (n + 1 + 1) / 7 = (n + 1) / 7 + 1 := by omega
      rw [e, ← Rows.sum_blocks _ 1056 ((n + 1) / 7 + 1), Finset.sum_range_succ, Rows.sum_blocks]
      congr 1
      refine Finset.sum_congr rfl fun r _ => ?_
      have hr := (row ⟨n + 1, hn⟩ r).isLt
      unfold part
      rw [dif_pos (show (n + 1) / 7 * 1056 + r.val < 8448 from hr)]
      refine congr (congrArg _ (acc_last_apply m c r a ⟨n + 1, hn⟩ h)) (congr (congrArg _ (xBlock m c _ r a)) ?_)
      exact congrArg _ (funext fun l => xBlock m c _ r l)
    · refine (congrFun (sum_point_other m c ⟨n + 1, hn⟩ h (Nat.succ_ne_zero n)) (ix2 0 a)).trans ?_
      refine (ih (Nat.lt_of_succ_lt hn)).trans ?_
      rw [show (n + 1 + 1) / 7 = (n + 1) / 7 by omega]

/-- The second result's array. -/
theorem weight_array (c : Dev nD) (i : S1x1024.Idx) :
    (G6 m c : S1x1024.Idx → EReal) i = ∑ p : Fin 8448, prod (dArr m c) (wArr m c) p (i 1)
      * (xArr m c (ix2 p (i 1)) * Rms.scale (fun l => xArr m c (ix2 p l))) := by
  have hN : 55 < cfg0.N := by show 55 < 56; norm_num
  have ei : i = ix2 0 (i 1) := by
    funext a; apply Fin.ext
    match a with
    | ⟨0, _⟩ => have h := (i 0).isLt; show (i 0).val = 0; exact Nat.lt_one_iff.mp h
    | ⟨1, _⟩ => rfl
  rw [G6_last, ← outsAt0_sweep m c 55 hN]
  refine (congrArg _ ei).trans ?_
  refine (weight_apply m c (i 1) 55 hN).trans ?_
  rw [Finset.sum_range]
  refine Finset.sum_congr rfl fun p _ => ?_
  exact dif_pos p.isLt

end Cert.Dx

end
-- ==== Proof.DxReference.lean ====
/- The gradient of the norm's input and weights: what the reference computes, entry by entry. -/
module

public import proofs.«01_k».proof.Proof.Gen.Reference2Ideal.Read
public import proofs.«01_k».proof.Proof.RmsRow
public import Idealize.ShloMosaic.Lib.Pointwise

@[expose] public section

set_option maxRecDepth 16384

noncomputable section

namespace Cert.DxReference

open Cert.Reference2Ideal Cert.Reference2Ideal.Gen Cert.Reference2Ideal.Value Cert.Reference2Ideal.Read Idealize.ShloMosaic Idealize.ShloMosaic.TcCoe Idealize.SL.Sem

theorem box_of_token {n : ℕ} (h0 : n < 8448) (h : 48 ≤ n % 2112) : n / 2112 < 4 ∧ 48 ≤ n % 2112 ∧ n % 2112 - 48 < 2064 := by
  omega

theorem token_of_box {n : ℕ} (h : 48 ≤ n % 2112) : n / 2112 * 2112 + (48 + (n % 2112 - 48)) = n := by omega

/-- The cotangent of the norm: the product with the transposed weights at the tokens, zero on the padding. -/
theorem product_apply (x0 : S8448x6272.Idx → EReal) (x1 : S1024x6272.Idx → EReal) (j : S8448x1024.Idx) :
    val_main_v26 (F := Ideal) x0 x1 j
      = if 48 ≤ (j 0).val % 2112 then ∑ k : Fin 6272, x0 (ix2 (j 0) k) * x1 (ix2 (j 1) k) else (0 : EReal) := by
  unfold val_main_v26 val_main_v25 val_main_v24 val_main_v23 val_main_v22 val_main_v21 val_main_v19 val_main_cst_3
  pointwise []
  have h0 : (j 0).val < 8448 := (j 0).isLt
  by_cases h : 48 ≤ (j 0).val % 2112
  · refine (dif_pos (box_of_token h0 h)).trans ((if_pos h).trans ?_).symm
    refine Finset.sum_congr rfl fun k _ => congrArg (· * _) (congrArg x0 ?_)
    exact congrArg (fun p => ix2 p k) (Fin.ext (token_of_box h)).symm
  · exact (dif_neg fun hh => h hh.2.1).trans (if_neg h).symm

/-- The first result. -/
theorem input_apply (x0 : S8448x6272.Idx → EReal) (x1 : S1024x6272.Idx → EReal) (x2 : S8448x1024.Idx → EReal)
    (x3 : S1x1024.Idx → EReal) (x4 : S8448x1024.Idx → EReal) (j : S8448x1024.Idx) :
    val_main_v47 (F := Ideal) x0 x1 x2 x3 x4 j
      = Rms.gradR (fun l => x2 (ix2 (j 0) l)) (fun l => val_main_v26 (F := Ideal) x0 x1 (ix2 (j 0) l)) (fun l => x3 (ix2 0 l))
          (x4 j) (j 1) := by
  unfold val_main_v47 val_main_v46 val_main_v45 val_main_v44 val_main_v43 val_main_v42 val_main_v41 val_main_v40 val_main_v39
    val_main_v38 val_main_v37 val_main_v36 val_main_v35 val_main_v34 val_main_v33 val_main_v31 val_main_v30 val_main_v14
    val_main_v11 val_main_v10 val_main_v9 val_main_v8 val_main_v7 val_main_v6 val_main_v5 val_main_v4 val_main_v3 val_main_v2
    val_main_v1 val_main_v0 val_main_cst_2 val_main_cst_1 val_main_cst_0 val_main_cst val_main_cst_8 val_main_cst_7
    val_main_cst_6
  generalize val_main_v26 (F := Ideal) x0 x1 = y
  pointwise []
  have ej : j = ix2 (j 0) (j 1) := by funext a; fin_cases a <;> rfl
  simp only [Fin.sum_univ_one, Finset.univ_unique, Finset.sum_singleton]
  unfold Rms.gradR Rms.second Rms.scale Rms.meanSq
  rw [show y j = y (ix2 (j 0) (j 1)) from congrArg y ej, show x2 j = x2 (ix2 (j 0) (j 1)) from congrArg x2 ej]

/-- The second result. -/
theorem weight_apply (x0 : S8448x6272.Idx → EReal) (x1 : S1024x6272.Idx → EReal) (x2 : S8448x1024.Idx → EReal)
    (j : S1x1024.Idx) :
    val_main_v48 (F := Ideal) x0 x1 x2 j
      = ∑ p : Fin 8448, x2 (ix2 p (j 1)) * Rms.scale (fun l => x2 (ix2 p l)) * val_main_v26 (F := Ideal) x0 x1 (ix2 p (j 1)) := by
  unfold val_main_v48 val_main_v32 val_main_v29 val_main_v28 val_main_v27 val_main_v13 val_main_v12 val_main_v8 val_main_v7
    val_main_v6 val_main_v5 val_main_v4 val_main_v3 val_main_v2 val_main_v1 val_main_cst_1 val_main_cst_0 val_main_cst
    val_main_cst_4 val_main_cst_5
  generalize val_main_v26 (F := Ideal) x0 x1 = y
  pointwise []
  simp only [Fin.sum_univ_one, Finset.univ_unique, Finset.sum_singleton]
  rfl

end Cert.DxReference

end
-- ==== Proof.DxClaim.lean ====
module

public import proofs.«01_k».proof.Defs
public import proofs.«01_k».proof.Proof.DxBlock
public import proofs.«01_k».proof.Proof.DxReference
public import Idealize.ShloMosaic.Adequacy
public import Idealize.ShloMosaic.Init
public import Idealize.ShloMosaic.Lib.Quiescent

@[expose] public section

noncomputable section

/-! The gradient of the layer's input and of its norm weights: kernel and reference have the same results. -/

namespace Cert.DxClaim

open Idealize.ShloMosaic Idealize.SL.Sem

/-- The reference runs, keeps its arguments and leaves every semaphore at zero. -/
theorem quiescent : quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The gradient of the normalised rows is the same product on both sides. -/
theorem product_eq (d : Cert.Kernel2Ideal.S8448x6272.Idx → EReal) (w : Cert.Kernel2Ideal.S1024x6272.Idx → EReal) (p : Fin 8448)
    (a : Fin 1024) : Cert.Reference2Ideal.Read.val_main_v26 (F := Ideal) d w (ix2 p a) = Cert.Dx.prod d w p a :=
  (Cert.DxReference.product_apply d w (ix2 p a)).trans (Cert.Dx.prod_eq d w p a).symm

/-- Both programs run and end with equal results. -/
theorem algebraic : algebraic_Kernel2Ideal_Reference2Ideal := by
  intro m ρ m' ρ' _ hagree
  refine ⟨_, _, Cert.Kernel2Ideal.Value.run (F := Ideal) m ρ, ?_⟩
  refine (θ_run Cert.Reference2Ideal.defs _ _).mono (fun _ h c => ⟨?_, ?_, (h c).2.2⟩)
    (Cert.Reference2Ideal.Value.run (F := Ideal) m' ρ')
  · rw [(h c).1]
    obtain ⟨h0, h1, h2, h3, h4⟩ := hagree c
    rw [Cert.Reference2Ideal.Read.val_main_v47_eq, h0, h1, h2, h3, h4]
    funext i
    refine (Cert.DxReference.input_apply _ _ _ _ _ i).trans ((Cert.Rms.grad_eq _ _ _ _ _).symm.trans ?_)
    refine Eq.trans ?_ (Cert.Dx.input_array m c i).symm
    exact congrArg (fun D => Cert.Rms.gradK _ D _ _ _) (funext fun l => product_eq _ _ _ l)
  · refine (h c).2.1.trans ((Cert.Reference2Ideal.Read.val_main_v48_eq (F := Ideal) _ _ _).trans ?_)
    obtain ⟨h0, h1, h2, h3, h4⟩ := hagree c
    rw [h0, h1, h2]
    funext i
    refine (Cert.DxReference.weight_apply _ _ _ i).trans (Eq.trans ?_ (Cert.Dx.weight_array m c i).symm)
    refine Finset.sum_congr rfl fun p _ => ?_
    exact (mul_comm _ _).trans (congrArg (· * _) (product_eq _ _ p (i 1)))

end Cert.DxClaim

end
-- ==== Proof.NpBody.lean ====
/- The normed projection: one run of the kernel's body. -/
module

public import proofs.«01_k».proof.Proof.Gen.Kernel3Ideal.Frame
public import proofs.«01_k».proof.Proof.Gen.Kernel3Ideal.Skeleton
public import Idealize.ShloMosaic.Lib.Pipeline.Value

@[expose] public section

set_option maxRecDepth 16384

noncomputable section

namespace Cert.Np

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem zeros2 : (![0, 0] : Fin 2 → ℕ) = fun _ => 0 := funext fun a => by fin_cases a <;> rfl

/-- The body norms its block of rows exactly at the first block of columns. -/
theorem norms_iff : ∀ t : Fin cfg0.N, k0_cond1 (grid0.coords t) = 1#1 ↔ t.val % 7 = 0 :=
  (fun t => by
    have ht : t.val < 42 := Nat.lt_of_lt_of_eq t.isLt N_0
    have e0 : (grid0.coords t 0).val = t.val / 7 % 6 := Pipeline.Grid.coords_val t 0 (by decide) rfl
    have e1 : (grid0.coords t 1).val = t.val / 1 % 7 := Pipeline.Grid.coords_val t 1 (by decide) rfl
    simp only [k0_cond1, e0, e1]
    word_cmp
   : ∀ t : Fin grid0.N, k0_cond1 (grid0.coords t) = 1#1 ↔ t.val % 7 = 0)

section Body

variable (c : Dev nD) (i : grid0.Coords) (arg2 : Memref sig .tc .vmem S1408x1024 .f32) (harg2 : arg2.IsWhole)
  (arg3 : Memref sig .tc .vmem S1x1024 .f32) (harg3 : arg3.IsWhole)
  (arg4 : Memref sig .tc .vmem S1024x896 .bf16) (harg4 : arg4.IsWhole)
  (arg5 : Memref sig .tc .vmem S1408x896 .f32) (harg5 : arg5.IsWhole)
  (arg6 : Memref sig .tc .vmem S1024x1408 .bf16) (harg6 : arg6.IsWhole)
  (arg7 : Memref sig .tc .vmem S1408x1024 .bf16) (harg7 : arg7.IsWhole)
  (x0 : Vec F S1408x1024 .f32) (x1 : Vec F S1x1024 .f32) (x2 : Vec F S1024x896 .bf16)

/-- At the first block of columns the body leaves the normed rows in its scratch, their transpose in the second
    result's block and their product in the first result's. -/
theorem run_first (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay4 (k0_pay2 x0 x1) x2)
            ∗ owns (c : Thread nD τ) arg6 fullShare (k0_pay3 x0 x1)
            ∗ owns (c : Thread nD τ) arg7 fullShare (k0_pay2 x0 x1)) -∗ K ⟨⟩))
      ⊢ wp frame (wpE (defs₀ (F := F)) Variants.none c none) E
          (cc0_norm_proj_fwd i arg2 harg2 arg3 harg3 arg4 harg4 arg5 harg5 arg6 harg6 arg7 harg7) K := by
  simp only [cc0_norm_proj_fwd_eq_skeleton]; unfold cc0_norm_proj_fwd_skel
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S1408x896.size (by sl_kernel_rfl))]
    sl_unfold_words
    rw [View.canon_unit_zero zeros2]
    simp only [View.readAt_eq_ld, harg2.read_unread, harg3.read_unread, harg4.read_unread,
      View.ld_unit_zero (S := S1408x1024) zeros2, View.ld_unit_zero (S := S1x1024) zeros2, View.ld_unit_zero (S := S1024x896) zeros2,
      View.readCov_unit_zero (S := S1408x1024) _ zeros2]
  isplitl [H4]
  · iexists _; isplitr
    swap; · iexact H4
    ipureintro
    rw [View.read_writes_eq_canon _ _ _ (View.cover_of_tiledL _ S1024x1408.size (by sl_kernel_rfl))]
    sl_unfold_words
    rw [View.canon_unit_zero zeros2]
    simp only [View.readAt_eq_ld, harg2.read_unread, harg3.read_unread,
      View.ld_unit_zero (S := S1408x1024) zeros2, View.ld_unit_zero (S := S1x1024) zeros2]
  iexists _; isplitr
  swap; · iexact HS
  ipureintro
  rw [View.read_writes_eq_canon _ _ _ (View.cover_of_tiledL _ S1408x1024.size (by sl_kernel_rfl))]
  sl_unfold_words
  rw [View.canon_unit_zero zeros2]
  simp only [View.readAt_eq_ld, harg2.read_unread, harg3.read_unread,
    View.ld_unit_zero (S := S1408x1024) zeros2, View.ld_unit_zero (S := S1x1024) zeros2]

/-- At a later block of columns the body multiplies the rows its scratch holds, and leaves the rest as it was. -/
theorem run_later (hc : ¬k0_cond1 i = 1#1) (x4 : Vec F S1024x1408 .bf16) (xs : Vec F S1408x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4
        ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay4 xs x2)
            ∗ owns (c : Thread nD τ) arg6 fullShare x4
            ∗ owns (c : Thread nD τ) arg7 fullShare xs) -∗ K ⟨⟩))
      ⊢ wp frame (wpE (defs₀ (F := F)) Variants.none c none) E
          (cc0_norm_proj_fwd i arg2 harg2 arg3 harg3 arg4 harg4 arg5 harg5 arg6 harg6 arg7 harg7) K := by
  simp only [cc0_norm_proj_fwd_eq_skeleton]; unfold cc0_norm_proj_fwd_skel
  unfold owns
  iintro ⟨H0, H1, ⟨%f2, %hf2, H2⟩, ⟨%d3, %f3, -, H3⟩, H4, ⟨%fs, %hfs, HS⟩, Hk⟩
  obtain rfl := harg4.eq_unread hf2; obtain rfl := harg7.eq_unread hfs
  sl_exec (disch := first | sl_exact hc)
  sl_step
  iapply Hk
  isplitl [H0]; · iexact H0
  isplitl [H1]; · iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S1408x896.size (by sl_kernel_rfl))]
    sl_unfold_words
    rw [View.canon_unit_zero zeros2]
    simp only [View.readAt_eq_ld, harg4.read_unread, harg7.read_unread,
      View.ld_unit_zero (S := S1408x1024) zeros2, View.ld_unit_zero (S := S1024x896) zeros2]
  isplitl [H4]; · iexact H4
  iexists _; isplitr
  · ipureintro; exact harg7.read_unread _
  iexact HS

end Body

end Cert.Np

end
-- ==== Proof.NpRun.lean ====
/- The normed projection: the run of the whole kernel, and what each block of its results holds. -/
module

public import proofs.«01_k».proof.Proof.NpBody
public import Idealize.ShloMosaic.Lib.Pointwise
public import Idealize.ShloMosaic.Lib.Pipeline.TableIdle
public import Idealize.ShloMosaic.Lib.Claim

@[expose] public section

set_option maxRecDepth 16384

noncomputable section

namespace Cert.Np

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks a point works on -/

/-- The rows of the layer's input at a point. -/
def rowsAt (c : Dev nD) (t : Fin cfg0.N) : Vec F S1408x1024 .f32 := iblk m c 0 t
/-- The norm's weight, the same at every point. -/
def weightAt (c : Dev nD) (t : Fin cfg0.N) : Vec F S1x1024 .f32 := iblk m c 1 t
/-- The columns of the projection at a point. -/
def colsAt (c : Dev nD) (t : Fin cfg0.N) : Vec F S1024x896 .bf16 := iblk m c 2 t
/-- The normed rows at a point. -/
def normedAt (c : Dev nD) (t : Fin cfg0.N) : Vec F S1408x1024 .bf16 := k0_pay2 (rowsAt m c t) (weightAt m c t)
/-- Their transpose. -/
def turnedAt (c : Dev nD) (t : Fin cfg0.N) : Vec F S1024x1408 .bf16 := k0_pay3 (rowsAt m c t) (weightAt m c t)

theorem rows_index : ∀ t : Fin cfg0.N, win0_0.index t (0 : Fin 2) = t.val / 7 ∧ win0_0.index t (1 : Fin 2) = 0 :=
  (by decide +kernel : ∀ t : Fin grid0.N, _)
theorem weight_index : ∀ t : Fin cfg0.N, win0_1.index t (0 : Fin 2) = 0 ∧ win0_1.index t (1 : Fin 2) = 0 :=
  (by decide +kernel : ∀ t : Fin grid0.N, _)
theorem cols_index : ∀ t : Fin cfg0.N, win0_2.index t (0 : Fin 2) = 0 ∧ win0_2.index t (1 : Fin 2) = t.val % 7 :=
  (by decide +kernel : ∀ t : Fin grid0.N, _)

theorem row_lt (t : Fin cfg0.N) (r : Fin 1408) : t.val / 7 * 1408 + r.val < 8448 := by
  have h : t.val < 42 := Nat.lt_of_lt_of_eq t.isLt N_0
  have hr := r.isLt
  omega
theorem col_lt (t : Fin cfg0.N) (s : Fin 896) : t.val % 7 * 896 + s.val < 6272 := by
  have hs := s.isLt
  omega

theorem rowsAt_apply (c : Dev nD) (t : Fin cfg0.N) (r : Fin 1408) (s : Fin 1024) :
    rowsAt m c t (ix2 r s) = V m c main_arg0 (ix2 ⟨t.val / 7 * 1408 + r.val, row_lt t r⟩ s) := by
  show V m c main_arg0 (((cfg0.win 0).blk t).view.emb (ix2 r s)) = _
  congr 1
  funext a
  apply Fin.ext
  match a with
  | ⟨0, _⟩ =>
    show win0_0.index t (0 : Fin 2) * 1408 + 1 * r.val = _
    rw [(rows_index t).1]
    simp
  | ⟨1, _⟩ =>
    show win0_0.index t (1 : Fin 2) * 1024 + 1 * s.val = _
    rw [(rows_index t).2]
    simp

theorem weightAt_apply (c : Dev nD) (t : Fin cfg0.N) (r : Fin 1) (s : Fin 1024) :
    weightAt m c t (ix2 r s) = V m c main_arg1 (ix2 r s) := by
  show V m c main_arg1 (((cfg0.win 1).blk t).view.emb (ix2 r s)) = _
  congr 1
  funext a
  apply Fin.ext
  match a with
  | ⟨0, _⟩ =>
    show win0_1.index t (0 : Fin 2) * 1 + 1 * r.val = _
    rw [(weight_index t).1]
    simp
  | ⟨1, _⟩ =>
    show win0_1.index t (1 : Fin 2) * 1024 + 1 * s.val = _
    rw [(weight_index t).2]
    simp

theorem colsAt_apply (c : Dev nD) (t : Fin cfg0.N) (r : Fin 1024) (s : Fin 896) :
    colsAt m c t (ix2 r s) = V m c main_arg2 (ix2 r ⟨t.val % 7 * 896 + s.val, col_lt t s⟩) := by
  show V m c main_arg2 (((cfg0.win 2).blk t).view.emb (ix2 r s)) = _
  congr 1
  funext a
  apply Fin.ext
  match a with
  | ⟨0, _⟩ =>
    show win0_2.index t (0 : Fin 2) * 1024 + 1 * r.val = _
    rw [(cols_index t).1]
    simp
  | ⟨1, _⟩ =>
    show win0_2.index t (1 : Fin 2) * 896 + 1 * s.val = _
    rw [(cols_index t).2]
    simp

theorem div7 {n : ℕ} (h : ¬n % 7 = 0) : (n - 1) / 7 = n / 7 := by omega

/-- Between two points with the same block of rows, rows and weight stay. -/
theorem rowsAt_pred (c : Dev nD) (t : Fin cfg0.N) (h : ¬t.val % 7 = 0) (hp : t.val - 1 < cfg0.N) :
    rowsAt m c ⟨t.val - 1, hp⟩ = rowsAt m c t := by
  funext j
  rw [← ix2_eta j]
  refine (rowsAt_apply m c _ _ _).trans (Eq.trans ?_ (rowsAt_apply m c _ _ _).symm)
  congr 2
  exact Fin.ext (congrArg (fun x => x * 1408 + (j 0).val) (div7 h))
theorem weightAt_pred (c : Dev nD) (t t' : Fin cfg0.N) : weightAt m c t' = weightAt m c t := by
  funext j
  rw [← ix2_eta j]
  exact (weightAt_apply m c _ _ _).trans (weightAt_apply m c _ _ _).symm
theorem normedAt_pred (c : Dev nD) (t : Fin cfg0.N) (h : ¬t.val % 7 = 0) (hp : t.val - 1 < cfg0.N) :
    normedAt m c ⟨t.val - 1, hp⟩ = normedAt m c t := by
  unfold normedAt
  rw [rowsAt_pred m c t h hp, weightAt_pred m c t]
theorem turnedAt_pred (c : Dev nD) (t : Fin cfg0.N) (h : ¬t.val % 7 = 0) (hp : t.val - 1 < cfg0.N) :
    turnedAt m c ⟨t.val - 1, hp⟩ = turnedAt m c t := by
  unfold turnedAt
  rw [rowsAt_pred m c t h hp, weightAt_pred m c t]

/-! ## What is held between points -/

/-- The kernel's scratch. -/
abbrev scratch : Memref sig .tc .vmem S1408x1024 .bf16 := Memref.whole cc0_scratch0

/-- At the start nothing is known of the scratch; after a point it holds that point's normed rows. -/
def held (c : Dev nD) : (n : ℕ) → n ≤ cfg0.N → sProp 𝕄
  | 0, _ => Pipeline.ΦA spec0 c
  | n + 1, hn => iprop(owns (c : Thread nD τ) scratch fullShare (normedAt m c ⟨n, hn⟩) ∗ (∃ r, prngReg c r))

theorem start_eq (c : Dev nD) :
    (Pipeline.ΦA spec0 c : sProp 𝕄) = iprop((∃ d, owns (c : Thread nD τ) scratch fullShare d) ∗ (∃ r, prngReg c r)) := by
  unfold Pipeline.ΦA
  rw [scopedRest0_eq]
  simp only [scratch, owns_whole]
  rfl

theorem held_zero (c : Dev nD) (n : ℕ) (h : n ≤ cfg0.N) (hz : n = 0) : held m c n h = Pipeline.ΦA spec0 c := by
  subst hz; rfl
theorem held_pos (c : Dev nD) (n : ℕ) (h : n ≤ cfg0.N) (hz : n ≠ 0) :
    held m c n h = iprop(owns (c : Thread nD τ) scratch fullShare (normedAt m c ⟨n - 1, by omega⟩) ∗ (∃ r, prngReg c r)) := by
  cases n with
  | zero => exact absurd rfl hz
  | succ n => rfl

/-- Whatever came before, some contents of the scratch are held. -/
theorem held_forget (c : Dev nD) (n : ℕ) (h : n ≤ cfg0.N) : held m c n h ⊢ Pipeline.ΦA spec0 c := by
  cases n with
  | zero => exact Idealize.SL.BI.Entails.refl _
  | succ n =>
    rw [start_eq]
    unfold held
    iintro ⟨HS, Hg⟩
    isplitl [HS]; · iexists _; iexact HS
    iexact Hg

/-- The arrays as the kernel finds them, what each point leaves in its blocks, what is held in between. -/
def dats (_ : Fin 1) (c : Dev nD) : Dat τ (Elt F) Unit ℕ (UR sig nD τ) ℕ cfg0 c where
  A w := V m c (Pipeline.arrRef spec0 w)
  after w t := match w with
    | ⟨0, _⟩ => rowsAt m c t
    | ⟨1, _⟩ => weightAt m c t
    | ⟨2, _⟩ => colsAt m c t
    | ⟨3, _⟩ => k0_pay4 (normedAt m c t) (colsAt m c t)
    | ⟨4, _⟩ => turnedAt m c t
  Φ t := held m c t.val (Nat.le_of_lt_succ t.isLt)
  q _ := fullShare
  owed _ := 0

theorem arrays (c : Dev nD) (w : Fin cfg0.W) : (dats m 0 c).A w = V m c (Pipeline.arrRef spec0 w) := by
  dsimp only [dats]
theorem before_rows (c : Dev nD) (t : Fin cfg0.N) (d) : (dats m 0 c).before 0 t d = rowsAt m c t :=
  before0_0_of m (dats m 0 c) (arrays m c 0) (fun _ => rfl) t d
theorem before_weight (c : Dev nD) (t : Fin cfg0.N) (d) : (dats m 0 c).before 1 t d = weightAt m c t :=
  before0_1_of m (dats m 0 c) (arrays m c 1) (fun _ => rfl) t d
theorem before_cols (c : Dev nD) (t : Fin cfg0.N) (d) : (dats m 0 c).before 2 t d = colsAt m c t :=
  before0_2_of m (dats m 0 c) (arrays m c 2) (fun _ => rfl) t d

/-- The second result's block is stored at the first block of columns only. -/
theorem stored_first : ∀ t : Fin cfg0.N, cfg0.idle 4 (grid0.coords t) = false ↔ t.val % 7 = 0 :=
  (by decide +kernel : ∀ t : Fin grid0.N, _)
/-- From then on its buffer keeps that block until it is written back. -/
theorem keeps : ∀ t : Fin cfg0.N, cfg0.fresh 4 t.val = decide (t.val % 7 = 0) := fun t =>
  Pipeline.Cfg.fresh_tab cfg0 4 (fun n => decide (n % 7 = 0)) rfl (by decide +kernel) t.val (Nat.le_of_lt t.isLt)

theorem before_turned (c : Dev nD) (t : Fin cfg0.N) (h : ¬t.val % 7 = 0) (d) : (dats m 0 c).before 4 t d = turnedAt m c t := by
  rw [Dat.before_out_traj (dats m 0 c) 4 rfl (fun _ _ => rfl) (fun t _ _ hf => ?_) t.val t rfl d, keeps t,
    if_neg (by simpa using h)]
  · exact turnedAt_pred m c t h _
  · rw [keeps t] at hf
    exact (turnedAt_pred m c t (by simpa using hf) _).symm

/-! ## The body at a point -/

/-- What the body gets at a point, -/
def gets (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it gives back. -/
def returns (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- Owning the second result's block as it should be is what is to be given back for it, at every point. -/
theorem leaves_turned (c : Dev nD) (t : Fin cfg0.N) :
    owns (c : Thread nD τ) (st0_4 t) fullShare (turnedAt m c t) ⊢ ((dats m 0 c).leavesExact 4 t : sProp 𝕄) := by
  unfold Dat.leavesExact
  cases hi : cfg0.idle 4 (cfg0.grid.coords t)
  · exact Idealize.SL.BI.Entails.refl _
  · have h : ¬t.val % 7 = 0 := fun h => Bool.false_ne_true (((stored_first t).mpr h).symm.trans hi)
    cases hf : (cfg0.win 4).flush t
    · show _ ⊢ iprop(∃ d, owns (c : Thread nD τ) (st0_4 t) fullShare ((dats m 0 c).before 4 t d))
      iintro H
      iexists (turnedAt m c t)
      rw [before_turned m c t h]
      iexact H
    · exact Idealize.SL.BI.Entails.refl _

theorem body_at (c : Dev nD) (t : Fin cfg0.N) :
    gets m c t ⊢ wp frame (wpE (defs₀ (F := F)) Variants.none c none) Set.univ (bodyAt0 t) (fun _ => returns m c t) := by
  unfold gets returns bodyAt0
  simp only [before_rows, before_weight, before_cols]
  rw [show (dats m 0 c).owesAt () t.succ = (dats m 0 c).owesAt () t.castSucc from rfl]
  rw [show (dats m 0 c).Φ t.succ
    = iprop(owns (c : Thread nD τ) scratch fullShare (normedAt m c t) ∗ (∃ r, prngReg c r)) from rfl]
  rw [show (dats m 0 c).Φ t.castSucc = held m c t.val (Nat.le_of_lt t.isLt) from rfl]
  rw [show (dats m 0 c).leavesExact 0 t = owns (c : Thread nD τ) (st0_0 t) fullShare (rowsAt m c t) from rfl]
  rw [show (dats m 0 c).leavesExact 1 t = owns (c : Thread nD τ) (st0_1 t) fullShare (weightAt m c t) from rfl]
  rw [show (dats m 0 c).leavesExact 2 t = owns (c : Thread nD τ) (st0_2 t) fullShare (colsAt m c t) from rfl]
  rw [show (dats m 0 c).leavesExact 3 t
    = owns (c : Thread nD τ) (st0_3 t) fullShare (k0_pay4 (normedAt m c t) (colsAt m c t)) from rfl]
  by_cases h : t.val % 7 = 0
  · refine (BIClass.sep_mono (held_forget m c t.val _) .rfl).trans ?_
    rw [start_eq]
    iintro ⟨⟨HS, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ (rowsAt m c t) (weightAt m c t) (colsAt m c t)
      ((norms_iff t).mpr h) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_turned m c t)
    iexact H4
  · rw [held_pos m c t.val _ (fun hz => h (by rw [hz])), normedAt_pred m c t h]
    simp only [before_turned m c t h]
    iintro ⟨⟨HS, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (rowsAt m c t) (weightAt m c t) (colsAt m c t)
      (fun hc => h ((norms_iff t).mp hc)) (turnedAt m c t) (normedAt m c t) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_turned m c t)
    iexact H4

theorem row_of_body (t : Fin cfg0.N) : defs₀ (F := F) .tc cfg0.body (cfg0.bodyArgs t (cfg0.slots t)) = bodyAt0 t := by
  unfold defs₀; rw [Defs.onTc_tc]

theorem body_every (c : Dev nD) : BodyObligation (dats (F := F) m 0 c) (defs₀ (F := F)) Variants.none () Set.univ := fun t => by
  rw [bigSep_W0, bigSep_W0, row_of_body]
  exact triple_restated (body_at m c t) rfl .rfl fun _ => .rfl

/-! ## The whole run -/

set_option backward.isDefEq.respectTransparency.types false in
/-- Every run ends, with the arrays at what the points left in their blocks, and no signal left over. -/
theorem ends : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_every m c).loose) (hshare := fun c => (dats m 0 c).share_full fun _ => rfl)
    (howed := fun _ _ => rfl) (V := V m) (hmain := hmain m Variants.none) (hA := arrays m)
    (hin := fun c => Idealize.SL.BI.Entails.refl _)
    (hout := fun c => held_forget m c cfg0.N (Nat.le_refl _))

/-- The arguments are as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays m) ((θ_run defs _ _).mono (fun _ h => h.1) (ends m ρ)))
    ((θ_run defs _ _).mono (fun _ h => h.2) (ends m ρ))

end Cert.Np

end
-- ==== Proof.NpBits.lean ====
module

public import proofs.«01_k».proof.Defs
public import proofs.«01_k».proof.Proof.NpRun
public import proofs.«01_k».proof.Proof.Gen.Kernel3

@[expose] public section

noncomputable section

/-! The normed projection in bits: its text is that of the ideal program, so the one run serves both. -/

namespace Cert.NpBits

open Idealize.ShloMosaic Idealize.SL.Sem

set_option maxRecDepth 16384

/-- The two programs have the same kernel in their tables. -/
theorem table : Cert.Kernel3.defs₀ (F := Bits) = Cert.Kernel3Ideal.defs₀ (F := Bits) := by
  unfold Cert.Kernel3.defs₀ Cert.Kernel3Ideal.defs₀
  refine congrArg Defs.onTc ?_
  funext b x
  match b with
  | ⟨0, _⟩ =>
    obtain ⟨t, s⟩ := x
    rfl

/-- The kernel in bits runs, keeps its arguments and leaves every semaphore at zero. -/
theorem frame : quiescent_Kernel3 := fun m ρ _ => by
  have h := Cert.Np.unchanged (F := Bits) m ρ
  unfold Cert.Kernel3Ideal.defs at h
  unfold Cert.Kernel3.defs
  rw [table]
  exact h

end Cert.NpBits

end
-- ==== Proof.NpBlock.lean ====
/- The normed projection: the arrays its results are left in. -/
module

public import proofs.«01_k».proof.Proof.NpRun
public import proofs.«01_k».proof.Proof.RmsRow

@[expose] public section

set_option maxRecDepth 16384

noncomputable section

namespace Cert.Np

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The normed input. -/
def normed (h : S8448x1024.Idx → EReal) (w : S1x1024.Idx → EReal) (r : Fin 8448) (s : Fin 1024) : EReal :=
  h (ix2 r s) * Rms.scale (fun l => h (ix2 r l)) * w (ix2 0 s)

/-- The first result: the normed input times the projection. -/
def product (h : S8448x1024.Idx → EReal) (w : S1x1024.Idx → EReal) (p : S1024x6272.Idx → EReal) (j : S8448x6272.Idx) : EReal :=
  ∑ l : Fin 1024, normed h w (j 0) l * p (ix2 l (j 1))

/-- The second result: the normed input, transposed. -/
def turned (h : S8448x1024.Idx → EReal) (w : S1x1024.Idx → EReal) (j : S1024x8448.Idx) : EReal := normed h w (j 1) (j 0)

theorem normedAt_apply (c : Dev nD) (t : Fin cfg0.N) (r : Fin 1408) (s : Fin 1024) :
    normedAt m c t (ix2 r s) = normed (V m c main_arg0) (V m c main_arg1) ⟨t.val / 7 * 1408 + r.val, row_lt t r⟩ s := by
  have e0 := rowsAt_apply m c t r
  have e1 := weightAt_apply m c t 0
  unfold normedAt
  generalize rowsAt m c t = x at e0 ⊢
  generalize weightAt m c t = w at e1 ⊢
  pointwise [k0_pay2, k0_pay1]
  unfold normed Rms.scale Rms.meanSq
  simp only [← e0, ← e1]

theorem turnedAt_apply (c : Dev nD) (t : Fin cfg0.N) (r : Fin 1408) (s : Fin 1024) :
    turnedAt m c t (ix2 s r) = normed (V m c main_arg0) (V m c main_arg1) ⟨t.val / 7 * 1408 + r.val, row_lt t r⟩ s := by
  have e0 := rowsAt_apply m c t r
  have e1 := weightAt_apply m c t 0
  unfold turnedAt
  generalize rowsAt m c t = x at e0 ⊢
  generalize weightAt m c t = w at e1 ⊢
  pointwise [k0_pay3, k0_pay1]
  unfold normed Rms.scale Rms.meanSq
  simp only [← e0, ← e1]

theorem productAt_apply (c : Dev nD) (t : Fin cfg0.N) (r : Fin 1408) (s : Fin 896) :
    k0_pay4 (F := Ideal) (normedAt m c t) (colsAt m c t) (ix2 r s)
      = product (V m c main_arg0) (V m c main_arg1) (V m c main_arg2)
          (ix2 ⟨t.val / 7 * 1408 + r.val, row_lt t r⟩ ⟨t.val % 7 * 896 + s.val, col_lt t s⟩) := by
  have e0 := normedAt_apply m c t r
  have e1 := fun l => colsAt_apply m c t l s
  generalize normedAt m c t = x at e0 ⊢
  generalize colsAt m c t = w at e1 ⊢
  pointwise [k0_pay4]
  simp only [e0, e1]
  rfl

theorem product_index : ∀ t : Fin cfg0.N, win0_3.index t (0 : Fin 2) = t.val / 7 ∧ win0_3.index t (1 : Fin 2) = t.val % 7 :=
  (by decide +kernel : ∀ t : Fin grid0.N, _)
theorem turned_index : ∀ t : Fin cfg0.N, win0_4.index t (0 : Fin 2) = 0 ∧ win0_4.index t (1 : Fin 2) = t.val / 7 :=
  (by decide +kernel : ∀ t : Fin grid0.N, _)

theorem product_place (t : Fin cfg0.N) (r : Fin 1408) (s : Fin 896) :
    ((cfg0.win 3).blk t).view.emb (ix2 r s)
      = ix2 (⟨t.val / 7 * 1408 + r.val, row_lt t r⟩ : Fin 8448) (⟨t.val % 7 * 896 + s.val, col_lt t s⟩ : Fin 6272) := by
  funext a
  apply Fin.ext
  match a with
  | ⟨0, _⟩ =>
    show win0_3.index t (0 : Fin 2) * 1408 + 1 * r.val = _
    rw [(product_index t).1]
    simp
  | ⟨1, _⟩ =>
    show win0_3.index t (1 : Fin 2) * 896 + 1 * s.val = _
    rw [(product_index t).2]
    simp

theorem turned_place (t : Fin cfg0.N) (s : Fin 1024) (r : Fin 1408) :
    ((cfg0.win 4).blk t).view.emb (ix2 s r) = ix2 (s : Fin 1024) (⟨t.val / 7 * 1408 + r.val, row_lt t r⟩ : Fin 8448) := by
  funext a
  apply Fin.ext
  match a with
  | ⟨0, _⟩ =>
    show win0_4.index t (0 : Fin 2) * 1024 + 1 * s.val = _
    rw [(turned_index t).1]
    simp
  | ⟨1, _⟩ =>
    show win0_4.index t (1 : Fin 2) * 1408 + 1 * r.val = _
    rw [(turned_index t).2]
    simp

theorem point_lt {a b : ℕ} (ha : a < 8448) (hb : b < 6272) : a / 1408 * 7 + b / 896 < 42 := by omega
theorem point_row {a b : ℕ} (hb : b < 6272) : (a / 1408 * 7 + b / 896) / 7 * 1408 + a % 1408 = a := by omega
theorem point_col {a b : ℕ} (hb : b < 6272) : (a / 1408 * 7 + b / 896) % 7 * 896 + b % 896 = b := by omega
theorem last_lt {a : ℕ} (ha : a < 8448) : a / 1408 * 7 + 6 < 42 := by omega
theorem last_row (a : ℕ) : (a / 1408 * 7 + 6) / 7 * 1408 + a % 1408 = a := by omega
theorem last_mod (a : ℕ) : (a / 1408 * 7 + 6) % 7 = 6 := by omega

/-- The first result's array at the end. -/
theorem product_array (c : Dev nD) :
    (dats m 0 c).arrAt 3 cfg0.N = product (V m c main_arg0) (V m c main_arg1) (V m c main_arg2) := by
  refine (dats m 0 c).arrAt_eq_of_cover 3 (product (V m c main_arg0) (V m c main_arg1) (V m c main_arg2)) (fun t _ => ?_) fun i => ?_
  · funext y
    show k0_pay4 (F := Ideal) (normedAt m c t) (colsAt m c t) y
      = product (V m c main_arg0) (V m c main_arg1) (V m c main_arg2) (((cfg0.win 3).blk t).view.emb y)
    have ey : y = ix2 (y 0) (y 1) := (ix2_eta y).symm
    refine (congrArg (k0_pay4 (F := Ideal) (normedAt m c t) (colsAt m c t)) ey).trans ((productAt_apply m c t (y 0) (y 1)).trans ?_)
    exact congrArg _ ((product_place t (y 0) (y 1)).symm.trans (congrArg _ ey.symm))
  · have h0 : (i (0 : Fin 2)).val < 8448 := (i (0 : Fin 2)).isLt
    have h1 : (i (1 : Fin 2)).val < 6272 := (i (1 : Fin 2)).isLt
    refine ⟨⟨(i (0 : Fin 2)).val / 1408 * 7 + (i (1 : Fin 2)).val / 896, Nat.lt_of_lt_of_eq (point_lt h0 h1) N_0.symm⟩, flush0_3 _, ?_⟩
    refine Finset.mem_map.mpr ⟨ix2 ⟨(i (0 : Fin 2)).val % 1408, Nat.mod_lt _ (by decide)⟩ ⟨(i (1 : Fin 2)).val % 896, Nat.mod_lt _ (by decide)⟩,
      Finset.mem_univ _, ?_⟩
    refine (product_place _ _ _).trans ?_
    funext a
    apply Fin.ext
    match a with
    | ⟨0, _⟩ => exact point_row h1
    | ⟨1, _⟩ => exact point_col h1

/-- The second result's array at the end. -/
theorem turned_array (c : Dev nD) :
    (dats m 0 c).arrAt 4 cfg0.N = turned (V m c main_arg0) (V m c main_arg1) := by
  refine (dats m 0 c).arrAt_eq_of_cover 4 (turned (V m c main_arg0) (V m c main_arg1)) (fun t _ => ?_) fun i => ?_
  · funext y
    show turnedAt m c t y = turned (V m c main_arg0) (V m c main_arg1) (((cfg0.win 4).blk t).view.emb y)
    have ey : y = ix2 (y 0) (y 1) := (ix2_eta y).symm
    refine (congrArg (turnedAt m c t) ey).trans ((turnedAt_apply m c t (y 1) (y 0)).trans ?_)
    exact congrArg (turned (V m c main_arg0) (V m c main_arg1)) ((turned_place t (y 0) (y 1)).symm.trans (congrArg _ ey.symm))
  · have h1 : (i (1 : Fin 2)).val < 8448 := (i (1 : Fin 2)).isLt
    refine ⟨⟨(i (1 : Fin 2)).val / 1408 * 7 + 6, Nat.lt_of_lt_of_eq (last_lt h1) N_0.symm⟩, (flush0_4 _).mpr (last_mod _), ?_⟩
    refine Finset.mem_map.mpr ⟨ix2 ⟨(i (0 : Fin 2)).val, (i (0 : Fin 2)).isLt⟩ ⟨(i (1 : Fin 2)).val % 1408, Nat.mod_lt _ (by decide)⟩,
      Finset.mem_univ _, ?_⟩
    refine (turned_place _ _ _).trans ?_
    funext a
    apply Fin.ext
    match a with
    | ⟨0, _⟩ => rfl
    | ⟨1, _⟩ => exact last_row _

/-- The run, with what its results hold. -/
theorem run : θ_run defs (onTc (τ := τ) (main (F := Ideal))) ⟨m, fun _ => 0, ρ⟩ (fun r => ∀ c : Dev nD,
      r.2.mem ((c.tc : Thread nD τ).loc main_v0_0) = product (V m c main_arg0) (V m c main_arg1) (V m c main_arg2)
      ∧ r.2.mem ((c.tc : Thread nD τ).loc main_v0_1) = turned (V m c main_arg0) (V m c main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.1 c |>.1 3).trans (product_array m c), (h.1.1 c |>.1 4).trans (turned_array m c), h.2.1 c⟩)
    (θ_run_and (ends m ρ) (unchanged m ρ))

end Cert.Np

end
-- ==== Proof.NpReference.lean ====
/- The normed projection: what the reference computes, entry by entry. -/
module

public import proofs.«01_k».proof.Proof.Gen.Reference3Ideal.Read
public import proofs.«01_k».proof.Proof.RmsRow
public import Idealize.ShloMosaic.Lib.Pointwise

@[expose] public section

set_option maxRecDepth 16384

noncomputable section

namespace Cert.NpReference

open Cert.Reference3Ideal Cert.Reference3Ideal.Gen Cert.Reference3Ideal.Value Cert.Reference3Ideal.Read Idealize.ShloMosaic Idealize.ShloMosaic.TcCoe Idealize.SL.Sem

/-- The normed input. -/
theorem normed_apply (x0 : S8448x1024.Idx → EReal) (x1 : S1x1024.Idx → EReal) (r : Fin 8448) (s : Fin 1024) :
    val_main_v13 (F := Ideal) x0 x1 (ix2 r s)
      = x0 (ix2 r s) * Rms.scale (fun l => x0 (ix2 r l)) * x1 (ix2 0 s) := by
  unfold val_main_v13 val_main_v12 val_main_v11 val_main_v10 val_main_v9 val_main_v8 val_main_v7 val_main_v6 val_main_v5
    val_main_v4 val_main_v3 val_main_v2 val_main_v1 val_main_v0 val_main_cst val_main_cst_0 val_main_cst_1
  pointwise []
  rfl

/-- The first result. -/
theorem product_apply (x0 : S8448x1024.Idx → EReal) (x1 : S1x1024.Idx → EReal) (x2 : S1024x6272.Idx → EReal) (j : S8448x6272.Idx) :
    val_main_v15 (F := Ideal) x0 x1 x2 j
      = ∑ l : Fin 1024, x0 (ix2 (j 0) l) * Rms.scale (fun k => x0 (ix2 (j 0) k)) * x1 (ix2 0 l) * x2 (ix2 l (j 1)) := by
  have e := normed_apply x0 x1 (j 0)
  unfold val_main_v15 val_main_v14
  generalize val_main_v13 (F := Ideal) x0 x1 = y at e ⊢
  pointwise []
  exact Finset.sum_congr rfl fun l _ => congrArg (· * x2 (ix2 l (j 1))) (e l)

/-- The second result. -/
theorem turned_apply (x0 : S8448x1024.Idx → EReal) (x1 : S1x1024.Idx → EReal) (j : S1024x8448.Idx) :
    val_main_v17 (F := Ideal) x0 x1 j
      = x0 (ix2 (j 1) (j 0)) * Rms.scale (fun k => x0 (ix2 (j 1) k)) * x1 (ix2 0 (j 0)) := by
  have e := normed_apply x0 x1 (j 1) (j 0)
  unfold val_main_v17 val_main_v16
  generalize val_main_v13 (F := Ideal) x0 x1 = y at e ⊢
  pointwise []
  exact e

end Cert.NpReference

end
-- ==== Proof.NpClaim.lean ====
module

public import proofs.«01_k».proof.Defs
public import proofs.«01_k».proof.Proof.NpBlock
public import proofs.«01_k».proof.Proof.NpReference
public import proofs.«01_k».proof.Proof.Gen.Reference3Ideal.Run
public import Idealize.ShloMosaic.Adequacy
public import Idealize.ShloMosaic.Init
public import Idealize.ShloMosaic.Lib.Quiescent

@[expose] public section

noncomputable section

/-! The normed projection: kernel and reference have the same results. -/

namespace Cert.NpClaim

open Idealize.ShloMosaic Idealize.SL.Sem

/-- The kernel runs, keeps its arguments and leaves every semaphore at zero. -/
theorem frame : quiescent_Kernel3Ideal := fun m ρ _ => Cert.Np.unchanged (F := Ideal) m ρ

/-- So does the reference. -/
theorem quiescent : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Both programs run and end with equal results. -/
theorem algebraic : algebraic_Kernel3Ideal_Reference3Ideal := by
  intro m ρ m' ρ' _ hagree
  refine ⟨_, _, Cert.Np.run m ρ, ?_⟩
  refine (θ_run Cert.Reference3Ideal.defs _ _).mono (fun _ h c => ⟨(h c).1.trans ?_, (h c).2.1.trans ?_, (h c).2.2⟩)
    (Cert.Reference3Ideal.Value.run (F := Ideal) m' ρ')
  · obtain ⟨h0, h1, h2⟩ := hagree c
    rw [h0, h1, h2]
    funext i
    exact Cert.NpReference.product_apply _ _ _ i
  · obtain ⟨h0, h1, h2⟩ := hagree c
    rw [h0, h1]
    funext i
    exact Cert.NpReference.turned_apply _ _ i

end Cert.NpClaim

end
-- ==== Proof.GateRow.lean ====
module

public import Idealize.ShloMosaic.PureOps.Ideal.Laws

@[expose] public section

noncomputable section

/-! One row of a branch's end: each head's output is divided by its root mean square, scaled, and gated; the two branches,
    projected, are merged by two further gates and projected once more. -/

namespace Cert.Gate

open Idealize.ShloMosaic

/-- One over the root of the mean square of a head, with the small constant added. -/
def scale (o : Fin 128 → EReal) : EReal :=
  Ideal.rsqrt (Ideal.div (∑ x, o x * o x) (Ideal.ofBits .f32 1124073472#32) + Ideal.ofBits .f32 897988541#32)

/-- `x` times its logistic. -/
def silu (x : EReal) : EReal := x * Ideal.logistic x

/-- Entry `j` of the head that starts at column `n`. -/
def head (o z : Fin 512 → EReal) (g : Fin 128 → EReal) (n : ℕ) (hn : n + 128 ≤ 512) (j : Fin 128) : EReal :=
  o ⟨n + j.val, by have := j.isLt; omega⟩ * scale (fun x => o ⟨n + x.val, by have := x.isLt; omega⟩) * g j
    * silu (z ⟨n + j.val, by have := j.isLt; omega⟩)

theorem head_lt (k : Fin 512) (x : Fin 128) : k.val / 128 * 128 + x.val < 512 := by
  have h := k.isLt
  have := x.isLt
  omega

/-- Column `k` of the four heads. -/
def gated (o z : Fin 512 → EReal) (g : Fin 128 → EReal) (k : Fin 512) : EReal :=
  o k * scale (fun x => o ⟨k.val / 128 * 128 + x.val, head_lt k x⟩) * g ⟨k.val % 128, Nat.mod_lt _ (by decide)⟩ * silu (z k)

theorem gated_head (o z : Fin 512 → EReal) (g : Fin 128 → EReal) (n : ℕ) (hn : n + 128 ≤ 512) (j : Fin 128) (k : Fin 512)
    (hk : k.val = n + j.val) (h0 : n % 128 = 0) : head o z g n hn j = gated o z g k := by
  have hj := j.isLt
  have e1 : k.val / 128 * 128 = n := by omega
  have e2 : k.val % 128 = j.val := by omega
  have ek : k = ⟨n + j.val, by omega⟩ := Fin.ext hk
  have ej : (⟨k.val % 128, Nat.mod_lt _ (by decide)⟩ : Fin 128) = j := Fin.ext e2
  unfold head gated
  rw [ej]
  have es : (fun x : Fin 128 => o ⟨k.val / 128 * 128 + x.val, head_lt k x⟩) = fun x => o ⟨n + x.val, by have := x.isLt; omega⟩ := by
    funext x
    exact congrArg o (Fin.ext (congrArg (· + x.val) e1))
  rw [es]
  have eo : o ⟨n + j.val, by omega⟩ = o k := congrArg o ek.symm
  have ez : z ⟨n + j.val, by omega⟩ = z k := congrArg z ek.symm
  rw [eo, ez]

/-- The four heads side by side. -/
theorem four_heads (o z : Fin 512 → EReal) (g : Fin 128 → EReal) (a b c d : Fin 128 → EReal)
    (ha : ∀ j, a j = head o z g 0 (by decide) j) (hb : ∀ j, b j = head o z g 128 (by decide) j)
    (hc : ∀ j, c j = head o z g 256 (by decide) j) (hd : ∀ j, d j = head o z g 384 (by decide) j) (k : Fin 512) :
    (if h : k.val < 128 then a ⟨k.val, h⟩
      else if h1 : k.val - 128 < 128 then b ⟨k.val - 128, h1⟩
      else if h2 : k.val - 128 - 128 < 128 then c ⟨k.val - 128 - 128, h2⟩
      else d ⟨k.val - 128 - 128 - 128, by have := k.isLt; omega⟩) = gated o z g k := by
  have hk := k.isLt
  split
  · rw [ha]; exact gated_head o z g 0 _ _ k (by simp) rfl
  · split
    · rw [hb]; exact gated_head o z g 128 _ _ k (by show k.val = 128 + (k.val - 128); omega) rfl
    · split
      · rw [hc]; exact gated_head o z g 256 _ _ k (by show k.val = 256 + (k.val - 128 - 128); omega) rfl
      · rw [hd]; exact gated_head o z g 384 _ _ k (by show k.val = 384 + (k.val - 128 - 128 - 128); omega) rfl

/-- The merge of the two projected branches. -/
def mixed (ya yb : Fin 512 → EReal) (ta tb : Fin 1024 → EReal) (wa wb : Fin 512 → Fin 1024 → EReal) (x : Fin 1024) : EReal :=
  Ideal.logistic (ta x) * (∑ l, ya l * wa l x) + Ideal.logistic (tb x) * ∑ l, yb l * wb l x

end Cert.Gate

end
-- ==== Proof.MfBlock.lean ====
module

public import proofs.«01_k».proof.Proof.Gen.Kernel4Ideal.Value
public import proofs.«01_k».proof.Proof.GateRow
public import Idealize.ShloMosaic.Lib.Pointwise

@[expose] public section

set_option maxRecDepth 16384

noncomputable section

/-! The merge of the branches: what the kernel's array holds. Each point has 384 rows of everything. -/

namespace Cert.Mf

open Cert.Kernel4Ideal Cert.Kernel4Ideal.Gen Cert.Kernel4Ideal.Value Idealize.ShloMosaic Idealize.ShloMosaic.TcCoe Idealize.SL.Sem

theorem zeros2 : (![0, 0] : Fin 2 → ℕ) = fun _ => 0 := funext fun a => by fin_cases a <;> rfl

section Heads

variable (o z : S384x512.Idx → EReal) (g : S1x128.Idx → EReal) (r : Fin 384) (j : Fin 128)

/-- A head of the first branch. -/
theorem headA0 : k0_pay2 (F := Ideal) o z g (ix2 r j)
    = Gate.head (fun l => o (ix2 r l)) (fun l => z (ix2 r l)) (fun l => g (ix2 0 l)) 0 (by decide) j := by
  pointwise [k0_pay2]
  simp only [Gate.head, Gate.scale, Gate.silu, Nat.zero_add]

theorem headA1 : k0_pay3 (F := Ideal) o z g (ix2 r j)
    = Gate.head (fun l => o (ix2 r l)) (fun l => z (ix2 r l)) (fun l => g (ix2 0 l)) 128 (by decide) j := by
  pointwise [k0_pay3]
  rfl

/-- A head of the second branch. -/
theorem headB0 : k0_pay8 (F := Ideal) o z g (ix2 r j)
    = Gate.head (fun l => o (ix2 r l)) (fun l => z (ix2 r l)) (fun l => g (ix2 0 l)) 0 (by decide) j := by
  pointwise [k0_pay8]
  simp only [Gate.head, Gate.scale, Gate.silu, Nat.zero_add]

theorem headB1 : k0_pay9 (F := Ideal) o z g (ix2 r j)
    = Gate.head (fun l => o (ix2 r l)) (fun l => z (ix2 r l)) (fun l => g (ix2 0 l)) 128 (by decide) j := by
  pointwise [k0_pay9]
  rfl

theorem headB2 : k0_pay10 (F := Ideal) o z g (ix2 r j)
    = Gate.head (fun l => o (ix2 r l)) (fun l => z (ix2 r l)) (fun l => g (ix2 0 l)) 256 (by decide) j := by
  pointwise [k0_pay10]
  rfl

theorem headB3 : k0_pay11 (F := Ideal) o z g (ix2 r j)
    = Gate.head (fun l => o (ix2 r l)) (fun l => z (ix2 r l)) (fun l => g (ix2 0 l)) 384 (by decide) j := by
  pointwise [k0_pay11]
  rfl

/-- The heads of the first branch side by side. -/
theorem headsA (k : Fin 512) : k0_pay7 (F := Ideal) o z g (k0_pay2 o z g) (k0_pay3 o z g) (k0_pay4 o) (k0_pay5 o) (k0_pay6 (F := Ideal)) (ix2 r k)
    = Gate.gated (fun l => o (ix2 r l)) (fun l => z (ix2 r l)) (fun l => g (ix2 0 l)) k := by
  pointwise [k0_pay7]
  refine Eq.trans ?_ (Gate.four_heads (fun l => o (ix2 r l)) (fun l => z (ix2 r l)) (fun l => g (ix2 0 l)) _ _ _ _
    (fun j => headA0 o z g r j) (fun j => headA1 o z g r j) (fun j => rfl) (fun j => rfl) k)
  split
  · rfl
  · split
    · rfl
    · split
      · pointwise [k0_pay4, k0_pay5, k0_pay6]
        rfl
      · rfl

end Heads

/-- What a point stores, from the heads of its branches. -/
theorem stored_apply (ya : S384x512.Idx → EReal) (o z : S384x512.Idx → EReal) (g : S1x128.Idx → EReal)
    (wa wb : S512x1024.Idx → EReal) (ta tb h : S384x1024.Idx → EReal) (wo : S1024x1024.Idx → EReal) (r : Fin 384) (e : Fin 1024) :
    k0_pay1 (F := Ideal) ya (k0_pay8 o z g) (k0_pay9 o z g) (k0_pay10 o z g) (k0_pay11 o z g) wa wb ta tb h wo (ix2 r e)
      = h (ix2 r e) + ∑ x, Gate.mixed (fun l => ya (ix2 r l)) (Gate.gated (fun l => o (ix2 r l)) (fun l => z (ix2 r l)) (fun l => g (ix2 0 l)))
          (fun l => ta (ix2 r l)) (fun l => tb (ix2 r l)) (fun l x => wa (ix2 l x)) (fun l x => wb (ix2 l x)) x * wo (ix2 x e) := by
  pointwise [k0_pay1]
  unfold Gate.mixed
  refine congrArg _ (Finset.sum_congr rfl fun x _ => ?_)
  congr 3
  refine Finset.sum_congr rfl fun l _ => ?_
  congr 1
  exact Gate.four_heads (fun l => o (ix2 r l)) (fun l => z (ix2 r l)) (fun l => g (ix2 0 l)) _ _ _ _
    (fun j => headB0 o z g r j) (fun j => headB1 o z g r j) (fun j => headB2 o z g r j) (fun j => headB3 o z g r j) l

end Cert.Mf

end
-- ==== Proof.MfArray.lean ====
module

public import proofs.«01_k».proof.Proof.MfBlock

@[expose] public section

set_option maxRecDepth 16384

noncomputable section

/-! The merge of the branches: the kernel's array at the end, and its run. -/

namespace Cert.Mf

open Cert.Kernel4Ideal Cert.Kernel4Ideal.Gen Cert.Kernel4Ideal.Value Idealize.ShloMosaic Idealize.ShloMosaic.TcCoe Idealize.SL.Sem

/-- Entry `(p, e)` of the merge, from the arguments. -/
def merged (h : S8448x1024.Idx → EReal) (oa ob : S8448x512.Idx → EReal) (p : S8448x6272.Idx → EReal) (ga gb : S1x128.Idx → EReal)
    (wa wb : S512x1024.Idx → EReal) (wo : S1024x1024.Idx → EReal) (i : S8448x1024.Idx) : EReal :=
  h i + ∑ x, Gate.mixed
      (Gate.gated (fun l => oa (ix2 (i 0) l)) (fun l => p (ix2 (i 0) ⟨l.val, by have := l.isLt; omega⟩)) (fun l => ga (ix2 0 l)))
      (Gate.gated (fun l => ob (ix2 (i 0) l)) (fun l => p (ix2 (i 0) ⟨512 + l.val, by have := l.isLt; omega⟩)) (fun l => gb (ix2 0 l)))
      (fun l => p (ix2 (i 0) ⟨1024 + l.val, by have := l.isLt; omega⟩)) (fun l => p (ix2 (i 0) ⟨2048 + l.val, by have := l.isLt; omega⟩))
      (fun l x => wa (ix2 l x)) (fun l x => wb (ix2 l x)) x * wo (ix2 x (i 1))

/-- The columns of a block of the projection that gate the first and the second branch, and that gate them in the merge. -/
abbrev cols0 {F : FTy → Type} (x : Vec F S384x3072 .f32) : Vec F S384x512 .f32 :=
  View.ld x (Rect.unit (s := S384x3072) ![0, 0] S384x512.size inb_S384x3072_S384x512_0_0)

abbrev cols512 {F : FTy → Type} (x : Vec F S384x3072 .f32) : Vec F S384x512 .f32 :=
  View.ld x (Rect.unit (s := S384x3072) ![0, 512] S384x512.size inb_S384x3072_S384x512_0_512)

abbrev cols1024 {F : FTy → Type} (x : Vec F S384x3072 .f32) : Vec F S384x1024 .f32 :=
  View.ld x (Rect.unit (s := S384x3072) ![0, 1024] S384x1024.size inb_S384x3072_S384x1024_0_1024)

abbrev cols2048 {F : FTy → Type} (x : Vec F S384x3072 .f32) : Vec F S384x1024 .f32 :=
  View.ld x (Rect.unit (s := S384x3072) ![0, 2048] S384x1024.size inb_S384x3072_S384x1024_0_2048)

section Point

variable {F : FTy → Type} [FloatOps F] (c : Dev nD) (i : grid0.Coords)
  (arg1 : Memref sig .tc .vmem S384x1024 .f32) (harg1 : arg1.IsWhole)
  (arg2 : Memref sig .tc .vmem S384x512 .f32) (harg2 : arg2.IsWhole)
  (arg3 : Memref sig .tc .vmem S384x512 .f32) (harg3 : arg3.IsWhole)
  (arg4 : Memref sig .tc .vmem S384x3072 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S1024x1024 .bf16) (harg9 : arg9.IsWhole)
  (arg10 : Memref sig .tc .vmem S384x1024 .f32) (harg10 : arg10.IsWhole)
  (x0 : Vec F S384x1024 .f32)
  (x1 : Vec F S384x512 .f32)
  (x2 : Vec F S384x512 .f32)
  (x3 : Vec F S384x3072 .f32)
  (x4 : Vec F S1x128 .f32)
  (x5 : Vec F S1x128 .f32)
  (x6 : Vec F S512x1024 .bf16)
  (x7 : Vec F S512x1024 .bf16)
  (x8 : Vec F S1024x1024 .bf16)

/-- What the point stores. -/
theorem out_eq :
    out0_A_9 c i arg1 harg1 arg2 harg2 arg3 harg3 arg4 harg4 arg5 harg5 arg6 harg6 arg7 harg7 arg8 harg8 arg9 harg9 arg10 harg10
      x0 x1 x2 x3 x4 x5 x6 x7 x8
      = k0_pay1 (k0_pay7 x1 (cols0 x3) x4
            (k0_pay2 x1 (cols0 x3) x4)
            (k0_pay3 x1 (cols0 x3) x4)
            (k0_pay4 x1) (k0_pay5 x1) (k0_pay6 (F := F)))
          (k0_pay8 x2 (cols512 x3) x5)
          (k0_pay9 x2 (cols512 x3) x5)
          (k0_pay10 x2 (cols512 x3) x5)
          (k0_pay11 x2 (cols512 x3) x5)
          x6 x7 (cols1024 x3)
          (cols2048 x3) x0 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  unfold kernelRun0_A
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread,
    View.ld_unit_zero (S := S384x1024) zeros2, View.ld_unit_zero (S := S384x512) zeros2, View.ld_unit_zero (S := S1x128) zeros2,
    View.ld_unit_zero (S := S512x1024) zeros2, View.ld_unit_zero (S := S1024x1024) zeros2]

end Point

theorem cols0_apply (x : S384x3072.Idx → EReal) (r : Fin 384) (l : Fin 512) :
    cols0 (F := Ideal) x (ix2 r l) = x (ix2 r ⟨l.val, by have := l.isLt; omega⟩) := by
  show x ((Rect.unit (s := S384x3072) ![0, 0] S384x512.size inb_S384x3072_S384x512_0_0).idx (ix2 r l)) = _
  refine congrArg x (funext fun a => Fin.ext ?_)
  match a with
  | ⟨0, _⟩ => show 0 + 1 * r.val = r.val; omega
  | ⟨1, _⟩ => show 0 + 1 * l.val = l.val; omega

theorem cols512_apply (x : S384x3072.Idx → EReal) (r : Fin 384) (l : Fin 512) :
    cols512 (F := Ideal) x (ix2 r l) = x (ix2 r ⟨512 + l.val, by have := l.isLt; omega⟩) := by
  show x ((Rect.unit (s := S384x3072) ![0, 512] S384x512.size inb_S384x3072_S384x512_0_512).idx (ix2 r l)) = _
  refine congrArg x (funext fun a => Fin.ext ?_)
  match a with
  | ⟨0, _⟩ => show 0 + 1 * r.val = r.val; omega
  | ⟨1, _⟩ => show 512 + 1 * l.val = 512 + l.val; omega

theorem cols1024_apply (x : S384x3072.Idx → EReal) (r : Fin 384) (l : Fin 1024) :
    cols1024 (F := Ideal) x (ix2 r l) = x (ix2 r ⟨1024 + l.val, by have := l.isLt; omega⟩) := by
  show x ((Rect.unit (s := S384x3072) ![0, 1024] S384x1024.size inb_S384x3072_S384x1024_0_1024).idx (ix2 r l)) = _
  refine congrArg x (funext fun a => Fin.ext ?_)
  match a with
  | ⟨0, _⟩ => show 0 + 1 * r.val = r.val; omega
  | ⟨1, _⟩ => show 1024 + 1 * l.val = 1024 + l.val; omega

theorem cols2048_apply (x : S384x3072.Idx → EReal) (r : Fin 384) (l : Fin 1024) :
    cols2048 (F := Ideal) x (ix2 r l) = x (ix2 r ⟨2048 + l.val, by have := l.isLt; omega⟩) := by
  show x ((Rect.unit (s := S384x3072) ![0, 2048] S384x1024.size inb_S384x3072_S384x1024_0_2048).idx (ix2 r l)) = _
  refine congrArg x (funext fun a => Fin.ext ?_)
  match a with
  | ⟨0, _⟩ => show 0 + 1 * r.val = r.val; omega
  | ⟨1, _⟩ => show 2048 + 1 * l.val = 2048 + l.val; omega

variable (m : (ℓ : Loc nD τ sig) → Buf (Elt Ideal) ℓ) (ρ : Dev nD → PrngReg)

theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_9.index t (0 : Fin 2) = t.val ∧ win0_9.index t (1 : Fin 2) = 0 :=
  (by decide +kernel : ∀ t : Fin grid0.N, _)

theorem whole_facts : ∀ t : Fin cfg0.N, (∀ a, win0_4.index t a = 0) ∧ (∀ a, win0_5.index t a = 0) ∧ (∀ a, win0_6.index t a = 0)
    ∧ (∀ a, win0_7.index t a = 0) ∧ (∀ a, win0_8.index t a = 0) :=
  (by decide +kernel : ∀ t : Fin grid0.N, _)

theorem point_lt (t : Fin cfg0.N) : t.val < 22 := t.isLt

/-- The row of the arrays that row `r` of point `t`'s blocks is. -/
def row (t : Fin cfg0.N) (r : Fin 384) : Fin 8448 :=
  ⟨t.val * 384 + r.val, by have h := point_lt t; have hr := r.isLt; omega⟩

theorem hBlock (c : Dev nD) (t : Fin cfg0.N) (r : Fin 384) (l : Fin 1024) :
    iblk m c 0 t (ix2 r l) = V m c main_arg0 (ix2 (row t r) l) := by
  obtain ⟨e0, e1, -⟩ := index_facts t
  show V m c main_arg0 (((cfg0.win 0).blk t).view.emb (ix2 r l)) = _
  refine congrArg (V m c main_arg0) (funext fun a => Fin.ext ?_)
  match a with
  | ⟨0, _⟩ => show win0_0.index t (0 : Fin 2) * 384 + 1 * r.val = t.val * 384 + r.val; rw [e0, one_mul]
  | ⟨1, _⟩ => show win0_0.index t (1 : Fin 2) * 1024 + 1 * l.val = l.val; rw [e1]; simp

theorem oaBlock (c : Dev nD) (t : Fin cfg0.N) (r : Fin 384) (l : Fin 512) :
    iblk m c 1 t (ix2 r l) = V m c main_arg1 (ix2 (row t r) l) := by
  obtain ⟨-, -, e0, e1, -⟩ := index_facts t
  show V m c main_arg1 (((cfg0.win 1).blk t).view.emb (ix2 r l)) = _
  refine congrArg (V m c main_arg1) (funext fun a => Fin.ext ?_)
  match a with
  | ⟨0, _⟩ => show win0_1.index t (0 : Fin 2) * 384 + 1 * r.val = t.val * 384 + r.val; rw [e0, one_mul]
  | ⟨1, _⟩ => show win0_1.index t (1 : Fin 2) * 512 + 1 * l.val = l.val; rw [e1]; simp

theorem obBlock (c : Dev nD) (t : Fin cfg0.N) (r : Fin 384) (l : Fin 512) :
    iblk m c 2 t (ix2 r l) = V m c main_arg2 (ix2 (row t r) l) := by
  obtain ⟨-, -, -, -, e0, e1, -⟩ := index_facts t
  show V m c main_arg2 (((cfg0.win 2).blk t).view.emb (ix2 r l)) = _
  refine congrArg (V m c main_arg2) (funext fun a => Fin.ext ?_)
  match a with
  | ⟨0, _⟩ => show win0_2.index t (0 : Fin 2) * 384 + 1 * r.val = t.val * 384 + r.val; rw [e0, one_mul]
  | ⟨1, _⟩ => show win0_2.index t (1 : Fin 2) * 512 + 1 * l.val = l.val; rw [e1]; simp

theorem pBlock (c : Dev nD) (t : Fin cfg0.N) (r : Fin 384) (l : Fin 3072) :
    X0_3 m c t (ix2 r l) = V m c main_arg3 (ix2 (row t r) ⟨l.val, by have := l.isLt; omega⟩) := by
  obtain ⟨-, -, -, -, -, -, e0, e1, -⟩ := index_facts t
  unfold X0_3 Pipeline.Window.fill
  rw [dif_pos (moved0_3 t (ix2 r l))]
  unfold iblk
  refine congrArg (V m c main_arg3) (funext fun a => Fin.ext ?_)
  match a with
  | ⟨0, _⟩ => show win0_3.index t (0 : Fin 2) * 384 + 1 * r.val = t.val * 384 + r.val; rw [e0, one_mul]
  | ⟨1, _⟩ => show win0_3.index t (1 : Fin 2) * 3072 + 1 * l.val = l.val; rw [e1]; simp

theorem block4 (c : Dev nD) (t : Fin cfg0.N) (i : S1x128.Idx) : iblk m c 4 t i = V m c main_arg4 i := by
  obtain ⟨e, -⟩ := whole_facts t
  show V m c main_arg4 (((cfg0.win 4).blk t).view.emb i) = _
  refine congrArg (V m c main_arg4) (funext fun a => Fin.ext ?_)
  match a with
  | ⟨0, _⟩ => show win0_4.index t (0 : Fin 2) * 1 + 1 * (i 0).val = (i 0).val; rw [e 0]; simp
  | ⟨1, _⟩ => show win0_4.index t (1 : Fin 2) * 128 + 1 * (i 1).val = (i 1).val; rw [e 1]; simp

theorem block5 (c : Dev nD) (t : Fin cfg0.N) (i : S1x128.Idx) : iblk m c 5 t i = V m c main_arg5 i := by
  obtain ⟨-, e, -⟩ := whole_facts t
  show V m c main_arg5 (((cfg0.win 5).blk t).view.emb i) = _
  refine congrArg (V m c main_arg5) (funext fun a => Fin.ext ?_)
  match a with
  | ⟨0, _⟩ => show win0_5.index t (0 : Fin 2) * 1 + 1 * (i 0).val = (i 0).val; rw [e 0]; simp
  | ⟨1, _⟩ => show win0_5.index t (1 : Fin 2) * 128 + 1 * (i 1).val = (i 1).val; rw [e 1]; simp

theorem block6 (c : Dev nD) (t : Fin cfg0.N) (i : S512x1024.Idx) : iblk m c 6 t i = V m c main_arg6 i := by
  obtain ⟨-, -, e, -⟩ := whole_facts t
  show V m c main_arg6 (((cfg0.win 6).blk t).view.emb i) = _
  refine congrArg (V m c main_arg6) (funext fun a => Fin.ext ?_)
  match a with
  | ⟨0, _⟩ => show win0_6.index t (0 : Fin 2) * 512 + 1 * (i 0).val = (i 0).val; rw [e 0]; simp
  | ⟨1, _⟩ => show win0_6.index t (1 : Fin 2) * 1024 + 1 * (i 1).val = (i 1).val; rw [e 1]; simp

theorem block7 (c : Dev nD) (t : Fin cfg0.N) (i : S512x1024.Idx) : iblk m c 7 t i = V m c main_arg7 i := by
  obtain ⟨-, -, -, e, -⟩ := whole_facts t
  show V m c main_arg7 (((cfg0.win 7).blk t).view.emb i) = _
  refine congrArg (V m c main_arg7) (funext fun a => Fin.ext ?_)
  match a with
  | ⟨0, _⟩ => show win0_7.index t (0 : Fin 2) * 512 + 1 * (i 0).val = (i 0).val; rw [e 0]; simp
  | ⟨1, _⟩ => show win0_7.index t (1 : Fin 2) * 1024 + 1 * (i 1).val = (i 1).val; rw [e 1]; simp

theorem block8 (c : Dev nD) (t : Fin cfg0.N) (i : S1024x1024.Idx) : iblk m c 8 t i = V m c main_arg8 i := by
  obtain ⟨-, -, -, -, e⟩ := whole_facts t
  show V m c main_arg8 (((cfg0.win 8).blk t).view.emb i) = _
  refine congrArg (V m c main_arg8) (funext fun a => Fin.ext ?_)
  match a with
  | ⟨0, _⟩ => show win0_8.index t (0 : Fin 2) * 1024 + 1 * (i 0).val = (i 0).val; rw [e 0]; simp
  | ⟨1, _⟩ => show win0_8.index t (1 : Fin 2) * 1024 + 1 * (i 1).val = (i 1).val; rw [e 1]; simp

/-- The merge, of the arguments as launched. -/
abbrev result (c : Dev nD) : S8448x1024.Idx → EReal :=
  merged (V m c main_arg0) (V m c main_arg1) (V m c main_arg2) (V m c main_arg3) (V m c main_arg4) (V m c main_arg5)
    (V m c main_arg6) (V m c main_arg7) (V m c main_arg8)

/-- What a point leaves in the result's buffer. -/
theorem after_apply (c : Dev nD) (t : Fin cfg0.N) (r : Fin 384) (e : Fin 1024) :
    outsAt0 m c t (ix2 r e) = result m c (ix2 (row t r) e) := by
  refine (congrFun (out_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (X0_3 m c t) (iblk m c 4 t) (iblk m c 5 t) (iblk m c 6 t) (iblk m c 7 t)
    (iblk m c 8 t)) (ix2 r e)).trans ?_
  refine (stored_apply _ _ _ _ _ _ _ _ _ _ r e).trans ?_
  unfold result merged
  refine congr (congrArg _ (hBlock m c t r e)) (Finset.sum_congr rfl fun x _ => ?_)
  refine congr (congrArg _ ?_) (block8 m c t (ix2 x e))
  have ya : (fun l : Fin 512 => k0_pay7 (F := Ideal) (iblk m c 1 t) (cols0 (X0_3 m c t)) (iblk m c 4 t)
      (k0_pay2 (iblk m c 1 t) (cols0 (X0_3 m c t)) (iblk m c 4 t)) (k0_pay3 (iblk m c 1 t) (cols0 (X0_3 m c t)) (iblk m c 4 t))
      (k0_pay4 (iblk m c 1 t)) (k0_pay5 (iblk m c 1 t)) (k0_pay6 (F := Ideal)) (ix2 r l))
      = Gate.gated (fun l => V m c main_arg1 (ix2 (row t r) l))
          (fun l => V m c main_arg3 (ix2 (row t r) ⟨l.val, by have := l.isLt; omega⟩)) (fun l => V m c main_arg4 (ix2 0 l)) := by
    funext l
    refine (headsA _ _ _ r l).trans ?_
    have e1 : (fun l => iblk m c 1 t (ix2 r l)) = fun l => V m c main_arg1 (ix2 (row t r) l) := funext fun l => oaBlock m c t r l
    have e2 : (fun l => cols0 (F := Ideal) (X0_3 m c t) (ix2 r l))
        = fun l => V m c main_arg3 (ix2 (row t r) ⟨l.val, by have := l.isLt; omega⟩) :=
      funext fun l => (cols0_apply _ r l).trans (pBlock m c t r _)
    have e3 : (fun l => iblk m c 4 t (ix2 0 l)) = fun l => V m c main_arg4 (ix2 0 l) := funext fun l => block4 m c t (ix2 0 l)
    exact congrFun (congr (congr (congrArg Gate.gated e1) e2) e3) l
  have yb : Gate.gated (fun l => iblk m c 2 t (ix2 r l)) (fun l => cols512 (F := Ideal) (X0_3 m c t) (ix2 r l)) (fun l => iblk m c 5 t (ix2 0 l))
      = Gate.gated (fun l => V m c main_arg2 (ix2 (row t r) l))
          (fun l => V m c main_arg3 (ix2 (row t r) ⟨512 + l.val, by have := l.isLt; omega⟩)) (fun l => V m c main_arg5 (ix2 0 l)) := by
    have e1 : (fun l => iblk m c 2 t (ix2 r l)) = fun l => V m c main_arg2 (ix2 (row t r) l) := funext fun l => obBlock m c t r l
    have e2 : (fun l => cols512 (F := Ideal) (X0_3 m c t) (ix2 r l))
        = fun l => V m c main_arg3 (ix2 (row t r) ⟨512 + l.val, by have := l.isLt; omega⟩) :=
      funext fun l => (cols512_apply _ r l).trans (pBlock m c t r _)
    have e3 : (fun l => iblk m c 5 t (ix2 0 l)) = fun l => V m c main_arg5 (ix2 0 l) := funext fun l => block5 m c t (ix2 0 l)
    exact congr (congr (congrArg Gate.gated e1) e2) e3
  have ta : (fun l => cols1024 (F := Ideal) (X0_3 m c t) (ix2 r l))
      = fun l => V m c main_arg3 (ix2 (row t r) ⟨1024 + l.val, by have := l.isLt; omega⟩) :=
    funext fun l => (cols1024_apply _ r l).trans (pBlock m c t r _)
  have tb : (fun l => cols2048 (F := Ideal) (X0_3 m c t) (ix2 r l))
      = fun l => V m c main_arg3 (ix2 (row t r) ⟨2048 + l.val, by have := l.isLt; omega⟩) :=
    funext fun l => (cols2048_apply _ r l).trans (pBlock m c t r _)
  have wa : (fun (l : Fin 512) (x : Fin 1024) => iblk m c 6 t (ix2 l x)) = fun l x => V m c main_arg6 (ix2 l x) :=
    funext fun l => funext fun x => block6 m c t (ix2 l x)
  have wb : (fun (l : Fin 512) (x : Fin 1024) => iblk m c 7 t (ix2 l x)) = fun l x => V m c main_arg7 (ix2 l x) :=
    funext fun l => funext fun x => block7 m c t (ix2 l x)
  exact congrFun (congr (congr (congr (congr (congr (congrArg Gate.mixed ya) yb) ta) tb) wa) wb) x

theorem place (t : Fin cfg0.N) (r : Fin 384) (e : Fin 1024) : ((cfg0.win 9).blk t).view.emb (ix2 r e) = ix2 (row t r) e := by
  obtain ⟨-, -, -, -, -, -, -, -, e0, e1⟩ := index_facts t
  refine funext fun a => Fin.ext ?_
  match a with
  | ⟨0, _⟩ => show win0_9.index t (0 : Fin 2) * 384 + 1 * r.val = t.val * 384 + r.val; rw [e0, one_mul]
  | ⟨1, _⟩ => show win0_9.index t (1 : Fin 2) * 1024 + 1 * e.val = e.val; rw [e1]; simp

theorem flushes : ∀ t : Fin cfg0.N, (cfg0.win 9).flush t = true := (by decide +kernel : ∀ t : Fin grid0.N, _)

theorem row_split (a : ℕ) : a / 384 * 384 + a % 384 = a := by omega
theorem split_lt {a : ℕ} (h : a < 8448) : a / 384 < 22 := by omega

/-- The result's array at the end. -/
theorem array (c : Dev nD) : (dats m 0 c).arrAt 9 cfg0.N = result m c := by
  refine (dats m 0 c).arrAt_eq_of_cover 9 (result m c) (fun t _ => ?_) fun i => ?_
  · rw [flushed9]
    funext y
    show outsAt0 m c t y = result m c (((cfg0.win 9).blk t).view.emb y)
    have ey : y = ix2 (y 0) (y 1) := (ix2_eta y).symm
    refine (congrArg (outsAt0 m c t) ey).trans ((after_apply m c t (y 0) (y 1)).trans ?_)
    exact congrArg (result m c) ((place t (y 0) (y 1)).symm.trans (congrArg _ ey.symm))
  · have h0 : (i (0 : Fin 2)).val < 8448 := (i (0 : Fin 2)).isLt
    refine ⟨⟨(i (0 : Fin 2)).val / 384, split_lt h0⟩, flushes _, ?_⟩
    refine Finset.mem_map.mpr ⟨ix2 ⟨(i (0 : Fin 2)).val % 384, Nat.mod_lt _ (by decide)⟩ ⟨(i (1 : Fin 2)).val, (i (1 : Fin 2)).isLt⟩,
      Finset.mem_univ _, ?_⟩
    refine (place _ _ _).trans ?_
    funext a
    apply Fin.ext
    match a with
    | ⟨0, _⟩ => exact row_split _
    | ⟨1, _⟩ => rfl

/-- The run, with what its result holds. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (array m c), (h c).2⟩) (run_blocks m ρ)

end Cert.Mf

end
-- ==== Proof.MfReference.lean ====
module

public import proofs.«01_k».proof.Proof.Gen.Reference4Ideal.Read
public import proofs.«01_k».proof.Proof.GateRow
public import Idealize.ShloMosaic.Lib.Pointwise

@[expose] public section

set_option maxRecDepth 16384

noncomputable section

/-! The merge of the branches: what the reference computes, at an index. -/

namespace Cert.MfReference

open Cert.Reference4Ideal Cert.Reference4Ideal.Gen Cert.Reference4Ideal.Value Cert.Reference4Ideal.Read Idealize.ShloMosaic Idealize.ShloMosaic.TcCoe Idealize.SL.Sem

/-- The row of sequence `b`'s token `t`. -/
def row (b : Fin 4) (t : Fin 2112) : Fin 8448 := ⟨b.val * 2112 + t.val, by have := b.isLt; have := t.isLt; omega⟩

/-- The first branch, normed and gated. -/
theorem branchA (x1 : S8448x512.Idx → EReal) (x3 : S8448x6272.Idx → EReal) (x4 : S1x128.Idx → EReal) (b : Fin 4) (t : Fin 2112) (k : Fin 512) :
    val_main_v24 (F := Ideal) x1 x3 x4 (ix3 b t k)
      = Gate.gated (fun l => x1 (ix2 (row b t) l)) (fun l => x3 (ix2 (row b t) ⟨l.val, by have := l.isLt; omega⟩)) (fun l => x4 (ix2 0 l)) k := by
  unfold val_main_v24 val_main_v23 val_main_v22 val_main_v21 val_main_v20 val_main_v19 val_main_v18 val_main_v17 val_main_v16
    val_main_v15 val_main_v14 val_main_v13 val_main_v12 val_main_v11 val_main_v10 val_main_v9 val_main_v8 val_main_v7 val_main_v0
    val_main_cst val_main_cst_0 val_main_cst_1 val_main_call0_v5 val_main_call0_v4 val_main_call0_v3 val_main_call0_v2
    val_main_call0_v1 val_main_call0_v0 val_main_v21 val_main_v3 val_main_v2 val_main_call0_cst val_main_call0_cst_0
  pointwise []
  rfl

/-- The second branch, normed and gated. -/
theorem branchB (x2 : S8448x512.Idx → EReal) (x3 : S8448x6272.Idx → EReal) (x5 : S1x128.Idx → EReal) (b : Fin 4) (t : Fin 2112) (k : Fin 512) :
    val_main_v42 (F := Ideal) x2 x3 x5 (ix3 b t k)
      = Gate.gated (fun l => x2 (ix2 (row b t) l)) (fun l => x3 (ix2 (row b t) ⟨512 + l.val, by have := l.isLt; omega⟩)) (fun l => x5 (ix2 0 l)) k := by
  unfold val_main_v42 val_main_v41 val_main_v40 val_main_v39 val_main_v38 val_main_v37 val_main_v36 val_main_v35 val_main_v34
    val_main_v33 val_main_v32 val_main_v31 val_main_v30 val_main_v29 val_main_v28 val_main_v27 val_main_v26 val_main_v25 val_main_v1
    val_main_cst_2 val_main_cst_3 val_main_cst_4 val_main_call1_v5 val_main_call1_v4 val_main_call1_v3 val_main_call1_v2
    val_main_call1_v1 val_main_call1_v0 val_main_v39 val_main_v4 val_main_v2 val_main_call1_cst val_main_call1_cst_0
  pointwise []
  rfl

/-- The gates of the merge. -/
theorem gateA (x3 : S8448x6272.Idx → EReal) (b : Fin 4) (t : Fin 2112) (k : Fin 1024) :
    val_main_v52 (F := Ideal) x3 (ix3 b t k) = Ideal.logistic (x3 (ix2 (row b t) ⟨1024 + k.val, by have := k.isLt; omega⟩)) := by
  unfold val_main_v52 val_main_v51 val_main_v50 val_main_v49 val_main_v48 val_main_v47 val_main_v5 val_main_v2 val_main_cst_5 val_main_cst_6
  pointwise []
  rfl

theorem gateB (x3 : S8448x6272.Idx → EReal) (b : Fin 4) (t : Fin 2112) (k : Fin 1024) :
    val_main_v59 (F := Ideal) x3 (ix3 b t k) = Ideal.logistic (x3 (ix2 (row b t) ⟨2048 + k.val, by have := k.isLt; omega⟩)) := by
  unfold val_main_v59 val_main_v58 val_main_v57 val_main_v56 val_main_v55 val_main_v54 val_main_v6 val_main_v2 val_main_cst_7 val_main_cst_8
  pointwise []
  rfl

theorem row_split (p : Fin 8448) (h1 : p.val / 2112 < 4) (h2 : p.val % 2112 < 2112) : row ⟨p.val / 2112, h1⟩ ⟨p.val % 2112, h2⟩ = p := by
  apply Fin.ext
  show p.val / 2112 * 2112 + p.val % 2112 = p.val
  omega

/-- The reference's result. -/
theorem result_apply (x0 : S8448x1024.Idx → EReal) (x1 x2 : S8448x512.Idx → EReal) (x3 : S8448x6272.Idx → EReal)
    (x4 x5 : S1x128.Idx → EReal) (x6 x7 : S512x1024.Idx → EReal) (x8 : S1024x1024.Idx → EReal) (p : Fin 8448) (e : Fin 1024) :
    val_main_v66 (F := Ideal) x0 x1 x2 x3 x4 x5 x6 x7 x8 (ix2 p e)
      = x0 (ix2 p e) + ∑ x, Gate.mixed
          (Gate.gated (fun l => x1 (ix2 p l)) (fun l => x3 (ix2 p ⟨l.val, by have := l.isLt; omega⟩)) (fun l => x4 (ix2 0 l)))
          (Gate.gated (fun l => x2 (ix2 p l)) (fun l => x3 (ix2 p ⟨512 + l.val, by have := l.isLt; omega⟩)) (fun l => x5 (ix2 0 l)))
          (fun l => x3 (ix2 p ⟨1024 + l.val, by have := l.isLt; omega⟩)) (fun l => x3 (ix2 p ⟨2048 + l.val, by have := l.isLt; omega⟩))
          (fun l x => x6 (ix2 l x)) (fun l x => x7 (ix2 l x)) x * x8 (ix2 x e) := by
  have h1 : p.val / 2112 < 4 := by have := p.isLt; omega
  have h2 : p.val % 2112 < 2112 := Nat.mod_lt _ (by decide)
  have ya := fun k => branchA x1 x3 x4 ⟨p.val / 2112, h1⟩ ⟨p.val % 2112, h2⟩ k
  have yb := fun k => branchB x2 x3 x5 ⟨p.val / 2112, h1⟩ ⟨p.val % 2112, h2⟩ k
  have ta := fun k => gateA x3 ⟨p.val / 2112, h1⟩ ⟨p.val % 2112, h2⟩ k
  have tb := fun k => gateB x3 ⟨p.val / 2112, h1⟩ ⟨p.val % 2112, h2⟩ k
  rw [row_split p h1 h2] at ya yb ta tb
  unfold val_main_v66 val_main_v65 val_main_v64 val_main_v63 val_main_v62 val_main_v61 val_main_v60 val_main_v53 val_main_v46
    val_main_v45 val_main_v44 val_main_v43
  generalize val_main_v24 (F := Ideal) x1 x3 x4 = y1 at ya ⊢
  generalize val_main_v42 (F := Ideal) x2 x3 x5 = y2 at yb ⊢
  generalize val_main_v52 (F := Ideal) x3 = s1 at ta ⊢
  generalize val_main_v59 (F := Ideal) x3 = s2 at tb ⊢
  pointwise []
  unfold Gate.mixed
  simp only [ya, yb, ta, tb]

end Cert.MfReference

end
-- ==== Proof.MfClaim.lean ====
module

public import proofs.«01_k».proof.Defs
public import proofs.«01_k».proof.Proof.MfArray
public import proofs.«01_k».proof.Proof.MfReference
public import Idealize.ShloMosaic.Adequacy
public import Idealize.ShloMosaic.Init
public import Idealize.ShloMosaic.Lib.Quiescent

@[expose] public section

noncomputable section

/-! The merge of the branches: kernel and reference have the same result. -/

namespace Cert.MfClaim

open Idealize.ShloMosaic Idealize.SL.Sem

/-- The reference runs, keeps its arguments and leaves every semaphore at zero. -/
theorem quiescent : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Both programs run and end with equal results. -/
theorem algebraic : algebraic_Kernel4Ideal_Reference4Ideal := by
  intro m ρ m' ρ' _ hagree
  refine ⟨_, Cert.Mf.run m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2, h3, h4, h5, h6, h7, h8⟩ := hagree c
  rw [Cert.Reference4Ideal.Read.val_main_v66_eq, h0, h1, h2, h3, h4, h5, h6, h7, h8]
  funext i
  exact (congrArg _ (ix2_eta i).symm).trans ((Cert.MfReference.result_apply _ _ _ _ _ _ _ _ _ (i 0) (i 1)).trans
    (congrArg (Cert.Mf.result m c) (ix2_eta i)))

end Cert.MfClaim

end
-- ==== Proof.MvState.lean ====
module

public import proofs.«01_k».proof.Proof.Gen.Kernel5Ideal.Value
public import Idealize.ShloMosaic.Lib.Pointwise
public import Idealize.ShloMosaic.Lib.Pipeline.Value

@[expose] public section

set_option maxRecDepth 16384

noncomputable section

/-! The gradient of the merge: what a point stores in its eight results, from what it holds. Each point has 256 rows. The first
    three results are stored afresh at every point; the other five are sums over the points, begun at zero by the first. -/

namespace Cert.Mv

open Cert.Kernel5Ideal Cert.Kernel5Ideal.Gen Cert.Kernel5Ideal.Value Idealize.ShloMosaic Idealize.ShloMosaic.TcCoe Idealize.SL.Sem

theorem zeros2 : (![0, 0] : Fin 2 → ℕ) = fun _ => 0 := funext fun a => by fin_cases a <;> rfl

section Terms

variable {F : FTy → Type} [FloatOps F]

/-- The columns of a block of the projection that gate the first and the second branch, and that gate them in the merge. -/
abbrev cols0 (x : Vec F S256x3072 .f32) : Vec F S256x512 .f32 :=
  View.ld x (Rect.unit (s := S256x3072) ![0, 0] S256x512.size inb_S256x3072_S256x512_0_0)

abbrev cols512 (x : Vec F S256x3072 .f32) : Vec F S256x512 .f32 :=
  View.ld x (Rect.unit (s := S256x3072) ![0, 512] S256x512.size inb_S256x3072_S256x512_0_512)

abbrev cols1024 (x : Vec F S256x3072 .f32) : Vec F S256x1024 .f32 :=
  View.ld x (Rect.unit (s := S256x3072) ![0, 1024] S256x1024.size inb_S256x3072_S256x1024_0_1024)

abbrev cols2048 (x : Vec F S256x3072 .f32) : Vec F S256x1024 .f32 :=
  View.ld x (Rect.unit (s := S256x3072) ![0, 2048] S256x1024.size inb_S256x3072_S256x1024_0_2048)

variable (o z : Vec F S256x512 .f32) (g : Vec F S1x128 .f32) (w : Vec F S512x1024 .bf16) (s dm : FVec F S256x1024 .f32)

/-- The branches, normed and gated. -/
def yA : FVec F S256x512 .f32 :=
  k0_pay14 z g (k0_pay9 z g (k0_pay7 o) (k0_pay8 o)) (k0_pay10 o z g) (k0_pay11 o z g) (k0_pay12 o) (k0_pay13 o)

def yB : FVec F S256x512 .f32 :=
  k0_pay19 o z g (k0_pay15 o z g) (k0_pay16 o z g) (k0_pay17 o) (k0_pay18 o) (FloatOps.ofBits FTy.f32 897988541#32)

/-- The branches, projected. -/
def projA : FVec F S256x1024 .f32 := k0_pay20 (yA o z g) w

def projB : FVec F S256x1024 .f32 :=
  k0_pay21 o z g (k0_pay15 o z g) (k0_pay16 o z g) (k0_pay17 o) (k0_pay18 o) (FloatOps.ofBits FTy.f32 897988541#32) w

/-- The gradients of the branches' outputs. -/
def doA : FVec F S256x512 .f32 :=
  k0_pay75 (k0_pay43 g (k0_pay34 o) (k0_pay35 z) (k0_pay36 s dm w) (k0_pay37 o))
    (k0_pay55 g (k0_pay45 z) (k0_pay46 (k0_pay32 s dm w)) (k0_pay47 o) (k0_pay48 o))
    (k0_pay64 g (k0_pay58 (k0_pay32 s dm w)) (k0_pay59 o) (k0_pay60 o) (k0_pay62 z))
    (k0_pay68 o) (k0_pay69 o) (k0_pay73 z (k0_pay32 s dm w) g) (k0_pay74 o z (k0_pay32 s dm w) g)

def doB : FVec F S256x512 .f32 :=
  k0_pay116 g (k0_pay87 g (k0_pay82 o) (k0_pay83 o) (k0_pay85 z (k0_pay29 s dm) w))
    (k0_pay99 (k0_pay91 o) (k0_pay92 o) (k0_pay96 z (k0_pay77 (k0_pay29 s dm) w) g)
      (k0_pay97 o z (k0_pay77 (k0_pay29 s dm) w) g) (k0_pay98 (F := F)))
    (k0_pay108 o z (k0_pay77 (k0_pay29 s dm) w) g) (k0_pay109 o) (k0_pay110 z) (k0_pay111 (k0_pay77 (k0_pay29 s dm) w))

/-- The gradients of the columns that gate them. -/
def dzA : FVec F S256x512 .bf16 :=
  k0_pay120 (k0_pay76 (k0_pay40 g (k0_pay34 o) (k0_pay35 z) (k0_pay36 s dm w) (k0_pay37 o))
    (k0_pay52 (k0_pay45 z) (k0_pay49 o (k0_pay32 s dm w) g) (k0_pay50 z) (k0_pay51 (F := F)))
    (k0_pay61 o z (k0_pay32 s dm w) g) (k0_pay70 o z (k0_pay32 s dm w) g))

def dzB : FVec F S256x512 .bf16 :=
  k0_pay121 (k0_pay117 g (k0_pay84 o z (k0_pay29 s dm) w g) (k0_pay93 o z (k0_pay77 (k0_pay29 s dm) w) g)
    (k0_pay105 o z (k0_pay77 (k0_pay29 s dm) w) g) (k0_pay109 o) (k0_pay110 z) (k0_pay111 (k0_pay77 (k0_pay29 s dm) w)))

/-- The gradients of the scales of the heads' norms, added to what is there. -/
def dgA (x : Vec F S1x128 .f32) : FVec F S1x128 .f32 :=
  k0_pay118 (k0_pay72 o z (k0_pay32 s dm w)
    (k0_pay54 (k0_pay42 (k0_pay33 (F := F)) (k0_pay34 o) (k0_pay35 z) (k0_pay36 s dm w) (k0_pay37 o))
      (k0_pay45 z) (k0_pay46 (k0_pay32 s dm w)) (k0_pay48 o))
    (k0_pay58 (k0_pay32 s dm w)) (k0_pay60 o) (k0_pay62 z)) x

def dgB (x : Vec F S1x128 .f32) : FVec F S1x128 .f32 :=
  k0_pay119 (k0_pay115 (k0_pay107 o z (k0_pay77 (k0_pay29 s dm) w)
      (k0_pay95 o z (k0_pay77 (k0_pay29 s dm) w) (k0_pay78 (F := F)) (k0_pay86 o z (k0_pay29 s dm) w)))
    (k0_pay109 o) (k0_pay110 z) (k0_pay111 (k0_pay77 (k0_pay29 s dm) w))) x

/-- The gradient of the output projection, added to what is there. -/
def dO (oa ob za zb : Vec F S256x512 .f32) (ta tb : Vec F S256x1024 .f32) (ga gb : Vec F S1x128 .f32) (wa wb : Vec F S512x1024 .bf16)
    (dh : Vec F S256x1024 .f32) (x : Vec F S1024x1024 .f32) : FVec F S1024x1024 .f32 :=
  k0_pay27 dh (k0_pay25 x) (k0_pay26 ob zb ta tb (yA oa za ga) gb (k0_pay15 ob zb gb) (k0_pay16 ob zb gb) (k0_pay17 ob) (k0_pay18 ob)
    (FloatOps.ofBits FTy.f32 897988541#32) wa wb)

/-- The gradient of the projection, in the four stripes it is stored in. -/
def dproj (a b : FVec F S256x512 .bf16) (u v : FVec F S256x1024 .bf16) : Vec F S256x3072 .bf16 :=
  View.canon [⟨Rect.unit (s := S256x3072) ![0, 2048] S256x1024.size inb_S256x3072_S256x1024_0_2048, v⟩,
    ⟨Rect.unit (s := S256x3072) ![0, 1024] S256x1024.size inb_S256x3072_S256x1024_0_1024, u⟩,
    ⟨Rect.unit (s := S256x3072) ![0, 512] S256x512.size inb_S256x3072_S256x512_0_512, b⟩,
    ⟨Rect.unit (s := S256x3072) ![0, 0] S256x512.size inb_S256x3072_S256x512_0_0, a⟩]

end Terms

section Point

variable {F : FTy → Type} [FloatOps F] (c : Dev nD) (i : grid0.Coords)
  (arg1 : Memref sig .tc .vmem S256x1024 .f32) (harg1 : arg1.IsWhole)
  (arg2 : Memref sig .tc .vmem S256x512 .f32) (harg2 : arg2.IsWhole)
  (arg3 : Memref sig .tc .vmem S256x512 .f32) (harg3 : arg3.IsWhole)
  (arg4 : Memref sig .tc .vmem S256x3072 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S1024x1024 .bf16) (harg9 : arg9.IsWhole)
  (arg10 : Memref sig .tc .vmem S256x3072 .bf16) (harg10 : arg10.IsWhole)
  (arg11 : Memref sig .tc .vmem S256x512 .f32) (harg11 : arg11.IsWhole)
  (arg12 : Memref sig .tc .vmem S256x512 .f32) (harg12 : arg12.IsWhole)
  (arg13 : Memref sig .tc .vmem S512x1024 .f32) (harg13 : arg13.IsWhole)
  (arg14 : Memref sig .tc .vmem S512x1024 .f32) (harg14 : arg14.IsWhole)
  (arg15 : Memref sig .tc .vmem S1024x1024 .f32) (harg15 : arg15.IsWhole)
  (arg16 : Memref sig .tc .vmem S1x128 .f32) (harg16 : arg16.IsWhole)
  (arg17 : Memref sig .tc .vmem S1x128 .f32) (harg17 : arg17.IsWhole)
  (x0 : Vec F S256x1024 .f32)
  (x1 : Vec F S256x512 .f32)
  (x2 : Vec F S256x512 .f32)
  (x3 : Vec F S256x3072 .f32)
  (x4 : Vec F S1x128 .f32)
  (x5 : Vec F S1x128 .f32)
  (x6 : Vec F S512x1024 .bf16)
  (x7 : Vec F S512x1024 .bf16)
  (x8 : Vec F S1024x1024 .bf16)
  (xo12 : Vec F S512x1024 .f32)
  (xo13 : Vec F S512x1024 .f32)
  (xo14 : Vec F S1024x1024 .f32)
  (xo15 : Vec F S1x128 .f32)
  (xo16 : Vec F S1x128 .f32)

theorem storedA_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = dproj (dzA x1 (cols0 x3) x4 x6 (k0_pay22 (cols1024 x3)) (k0_pay24 (k0_pay6 i x0) x8)) (dzB x2 (cols512 x3) x5 x7 (k0_pay23 (cols2048 x3)) (k0_pay24 (k0_pay6 i x0) x8))
          (k0_pay122 (projA x1 (cols0 x3) x4 x6) (k0_pay22 (cols1024 x3)) (k0_pay24 (k0_pay6 i x0) x8))
          (k0_pay123 (projB x2 (cols512 x3) x5 x7) (k0_pay23 (cols2048 x3)) (k0_pay24 (k0_pay6 i x0) x8)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedA_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = doA x1 (cols0 x3) x4 x6 (k0_pay22 (cols1024 x3)) (k0_pay24 (k0_pay6 i x0) x8) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedA_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = doB x2 (cols512 x3) x5 x7 (k0_pay23 (cols2048 x3)) (k0_pay24 (k0_pay6 i x0) x8) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedA_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = k0_pay30 (yA x1 (cols0 x3) x4) (k0_pay22 (cols1024 x3)) (k0_pay24 (k0_pay6 i x0) x8) (k0_pay1 (F := F)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_cons_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedA_13 (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = k0_pay31 (yB x2 (cols512 x3) x5) (k0_pay23 (cols2048 x3)) (k0_pay24 (k0_pay6 i x0) x8) (k0_pay2 (F := F)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_cons_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedA_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = dO x1 x2 (cols0 x3) (cols512 x3) (cols1024 x3) (cols2048 x3) x4 x5 x6 x7 (k0_pay6 i x0) (k0_pay3 (F := F)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_cons_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedA_15 (hc0 : cond0_0 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = dgA x1 (cols0 x3) x6 (k0_pay22 (cols1024 x3)) (k0_pay24 (k0_pay6 i x0) x8) (k0_pay4 (F := F)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_cons_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedA_16 (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = dgB x2 (cols512 x3) x7 (k0_pay23 (cols2048 x3)) (k0_pay24 (k0_pay6 i x0) x8) (k0_pay5 (F := F)) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_cons_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedB_9 (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16
      = dproj (dzA x1 (cols0 x3) x4 x6 (k0_pay22 (cols1024 x3)) (k0_pay24 (k0_pay6 i x0) x8)) (dzB x2 (cols512 x3) x5 x7 (k0_pay23 (cols2048 x3)) (k0_pay24 (k0_pay6 i x0) x8))
          (k0_pay122 (projA x1 (cols0 x3) x4 x6) (k0_pay22 (cols1024 x3)) (k0_pay24 (k0_pay6 i x0) x8))
          (k0_pay123 (projB x2 (cols512 x3) x5 x7) (k0_pay23 (cols2048 x3)) (k0_pay24 (k0_pay6 i x0) x8)) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedB_10 (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16
      = doA x1 (cols0 x3) x4 x6 (k0_pay22 (cols1024 x3)) (k0_pay24 (k0_pay6 i x0) x8) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16)]
  unfold kernelRun0_B
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedB_11 (hc0 : ¬cond0_0 i) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16
      = doB x2 (cols512 x3) x5 x7 (k0_pay23 (cols2048 x3)) (k0_pay24 (k0_pay6 i x0) x8) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16)]
  unfold kernelRun0_B
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedB_12 (hc0 : ¬cond0_0 i) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16
      = k0_pay30 (yA x1 (cols0 x3) x4) (k0_pay22 (cols1024 x3)) (k0_pay24 (k0_pay6 i x0) x8) xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16)]
  unfold kernelRun0_B
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedB_13 (hc0 : ¬cond0_0 i) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16
      = k0_pay31 (yB x2 (cols512 x3) x5) (k0_pay23 (cols2048 x3)) (k0_pay24 (k0_pay6 i x0) x8) xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16)]
  unfold kernelRun0_B
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedB_14 (hc0 : ¬cond0_0 i) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16
      = dO x1 x2 (cols0 x3) (cols512 x3) (cols1024 x3) (cols2048 x3) x4 x5 x6 x7 (k0_pay6 i x0) xo14 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16)]
  unfold kernelRun0_B
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedB_15 (hc0 : ¬cond0_0 i) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16
      = dgA x1 (cols0 x3) x6 (k0_pay22 (cols1024 x3)) (k0_pay24 (k0_pay6 i x0) x8) xo15 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16)]
  unfold kernelRun0_B
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

theorem storedB_16 (hc0 : ¬cond0_0 i) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16
      = dgB x2 (cols512 x3) x7 (k0_pay23 (cols2048 x3)) (k0_pay24 (k0_pay6 i x0) x8) xo16 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo12 xo13 xo14 xo15 xo16)]
  unfold kernelRun0_B
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread,
    View.ld_unit_zero (S := S256x1024) zeros2, View.ld_unit_zero (S := S256x512) zeros2, View.ld_unit_zero (S := S1x128) zeros2, View.ld_unit_zero (S := S512x1024) zeros2, View.ld_unit_zero (S := S1024x1024) zeros2, shapeCast_self,
    View.readCov_unit_zero (S := S1x128) _ zeros2, View.readCov_unit_zero (S := S512x1024) _ zeros2, View.readCov_unit_zero (S := S1024x1024) _ zeros2]
  rfl

end Point

end Cert.Mv

end
-- ==== Proof.MvSweep.lean ====
module

public import proofs.«01_k».proof.Proof.MvState

@[expose] public section

set_option maxRecDepth 16384

noncomputable section

/-! The gradient of the merge: what each point leaves in the eight results' buffers. -/

namespace Cert.Mv

open Cert.Kernel5Ideal Cert.Kernel5Ideal.Gen Cert.Kernel5Ideal.Value Idealize.ShloMosaic Idealize.ShloMosaic.TcCoe Idealize.SL.Sem

variable {F : FTy → Type} [FloatOps F] (m : (ℓ : Loc nD τ sig) → Buf (Elt F) ℓ)

theorem later {n : ℕ} (h : n < 33) (h0 : n ≠ 0) : ¬n % 33 = 0 := by omega

/-- The rows of the result's cotangent that a point works with, and the cotangent of its merged rows. -/
abbrev kept0 (c : Dev nD) (t : Fin cfg0.N) : Vec F S256x1024 .f32 := k0_pay6 (grid0.coords t) (iblk m c 0 t)

abbrev cot (c : Dev nD) (t : Fin cfg0.N) : FVec F S256x1024 .f32 := k0_pay24 (kept0 m c t) (iblk m c 8 t)

/-- The columns of the projection's gradient that a point writes. -/
theorem point_9 (c : Dev nD) (t : Fin cfg0.N) : (outsAt0 m c t.val t.isLt).1
      = dproj (dzA (iblk m c 1 t) (cols0 (X0_3 m c t)) (iblk m c 4 t) (iblk m c 6 t) (k0_pay22 (cols1024 (X0_3 m c t))) (cot m c t)) (dzB (iblk m c 2 t) (cols512 (X0_3 m c t)) (iblk m c 5 t) (iblk m c 7 t) (k0_pay23 (cols2048 (X0_3 m c t))) (cot m c t))
          (k0_pay122 (projA (iblk m c 1 t) (cols0 (X0_3 m c t)) (iblk m c 4 t) (iblk m c 6 t)) (k0_pay22 (cols1024 (X0_3 m c t))) (cot m c t))
          (k0_pay123 (projB (iblk m c 2 t) (cols512 (X0_3 m c t)) (iblk m c 5 t) (iblk m c 7 t)) (k0_pay23 (cols2048 (X0_3 m c t))) (cot m c t)) := by
  by_cases h : t.val % 33 = 0
  · have e := congrArg (fun s => s.1) (outsAt0_A m c t h)
    dsimp only at e
    exact e.trans (storedA_9 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) ((hcond0_0 t).mpr h))
  · have e := congrArg (fun s => s.1) (outsAt0_B m c t h)
    dsimp only at e
    exact e.trans (storedB_9 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) _ _ _ _ _ (fun h' => h ((hcond0_0 t).mp h')))

/-- The gradients of the recurrences' outputs. -/
theorem point_10 (c : Dev nD) (t : Fin cfg0.N) : (outsAt0 m c t.val t.isLt).2.1
      = doA (iblk m c 1 t) (cols0 (X0_3 m c t)) (iblk m c 4 t) (iblk m c 6 t) (k0_pay22 (cols1024 (X0_3 m c t))) (cot m c t) := by
  by_cases h : t.val % 33 = 0
  · have e := congrArg (fun s => s.2.1) (outsAt0_A m c t h)
    dsimp only at e
    exact e.trans (storedA_10 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) ((hcond0_0 t).mpr h))
  · have e := congrArg (fun s => s.2.1) (outsAt0_B m c t h)
    dsimp only at e
    exact e.trans (storedB_10 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) _ _ _ _ _ (fun h' => h ((hcond0_0 t).mp h')))

theorem point_11 (c : Dev nD) (t : Fin cfg0.N) : (outsAt0 m c t.val t.isLt).2.2.1
      = doB (iblk m c 2 t) (cols512 (X0_3 m c t)) (iblk m c 5 t) (iblk m c 7 t) (k0_pay23 (cols2048 (X0_3 m c t))) (cot m c t) := by
  by_cases h : t.val % 33 = 0
  · have e := congrArg (fun s => s.2.2.1) (outsAt0_A m c t h)
    dsimp only at e
    exact e.trans (storedA_11 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) ((hcond0_0 t).mpr h))
  · have e := congrArg (fun s => s.2.2.1) (outsAt0_B m c t h)
    dsimp only at e
    exact e.trans (storedB_11 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) _ _ _ _ _ (fun h' => h ((hcond0_0 t).mp h')))

/-- The sums over the rows: the first point begins at zero, the others go on. -/
theorem first_12 (c : Dev nD) (t : Fin cfg0.N) (h : t.val = 0) : (outsAt0 m c t.val t.isLt).2.2.2.1
      = k0_pay30 (yA (iblk m c 1 t) (cols0 (X0_3 m c t)) (iblk m c 4 t)) (k0_pay22 (cols1024 (X0_3 m c t))) (cot m c t) (k0_pay1 (F := F)) := by
  have h0 : t.val % 33 = 0 := by rw [h]
  have e := congrArg (fun s => s.2.2.2.1) (outsAt0_A m c t h0)
  dsimp only at e
  exact e.trans (storedA_12 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) ((hcond0_0 t).mpr h0))

theorem next_12 (c : Dev nD) (t : Fin cfg0.N) (h : t.val ≠ 0) : (outsAt0 m c t.val t.isLt).2.2.2.1
      = k0_pay30 (yA (iblk m c 1 t) (cols0 (X0_3 m c t)) (iblk m c 4 t)) (k0_pay22 (cols1024 (X0_3 m c t))) (cot m c t) (outsAt0 m c (t.val - 1) (Nat.lt_of_le_of_lt (Nat.sub_le _ _) t.isLt)).2.2.2.1 := by
  have h0 := later t.isLt h
  have e := congrArg (fun s => s.2.2.2.1) (outsAt0_B m c t h0)
  dsimp only at e
  exact e.trans (storedB_12 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) _ _ _ _ _ (fun h' => h0 ((hcond0_0 t).mp h')))

theorem first_13 (c : Dev nD) (t : Fin cfg0.N) (h : t.val = 0) : (outsAt0 m c t.val t.isLt).2.2.2.2.1
      = k0_pay31 (yB (iblk m c 2 t) (cols512 (X0_3 m c t)) (iblk m c 5 t)) (k0_pay23 (cols2048 (X0_3 m c t))) (cot m c t) (k0_pay2 (F := F)) := by
  have h0 : t.val % 33 = 0 := by rw [h]
  have e := congrArg (fun s => s.2.2.2.2.1) (outsAt0_A m c t h0)
  dsimp only at e
  exact e.trans (storedA_13 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) ((hcond0_0 t).mpr h0))

theorem next_13 (c : Dev nD) (t : Fin cfg0.N) (h : t.val ≠ 0) : (outsAt0 m c t.val t.isLt).2.2.2.2.1
      = k0_pay31 (yB (iblk m c 2 t) (cols512 (X0_3 m c t)) (iblk m c 5 t)) (k0_pay23 (cols2048 (X0_3 m c t))) (cot m c t) (outsAt0 m c (t.val - 1) (Nat.lt_of_le_of_lt (Nat.sub_le _ _) t.isLt)).2.2.2.2.1 := by
  have h0 := later t.isLt h
  have e := congrArg (fun s => s.2.2.2.2.1) (outsAt0_B m c t h0)
  dsimp only at e
  exact e.trans (storedB_13 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) _ _ _ _ _ (fun h' => h0 ((hcond0_0 t).mp h')))

theorem first_14 (c : Dev nD) (t : Fin cfg0.N) (h : t.val = 0) : (outsAt0 m c t.val t.isLt).2.2.2.2.2.1
      = dO (iblk m c 1 t) (iblk m c 2 t) (cols0 (X0_3 m c t)) (cols512 (X0_3 m c t)) (cols1024 (X0_3 m c t)) (cols2048 (X0_3 m c t)) (iblk m c 4 t) (iblk m c 5 t)
          (iblk m c 6 t) (iblk m c 7 t) (kept0 m c t) (k0_pay3 (F := F)) := by
  have h0 : t.val % 33 = 0 := by rw [h]
  have e := congrArg (fun s => s.2.2.2.2.2.1) (outsAt0_A m c t h0)
  dsimp only at e
  exact e.trans (storedA_14 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) ((hcond0_0 t).mpr h0))

theorem next_14 (c : Dev nD) (t : Fin cfg0.N) (h : t.val ≠ 0) : (outsAt0 m c t.val t.isLt).2.2.2.2.2.1
      = dO (iblk m c 1 t) (iblk m c 2 t) (cols0 (X0_3 m c t)) (cols512 (X0_3 m c t)) (cols1024 (X0_3 m c t)) (cols2048 (X0_3 m c t)) (iblk m c 4 t) (iblk m c 5 t)
          (iblk m c 6 t) (iblk m c 7 t) (kept0 m c t) (outsAt0 m c (t.val - 1) (Nat.lt_of_le_of_lt (Nat.sub_le _ _) t.isLt)).2.2.2.2.2.1 := by
  have h0 := later t.isLt h
  have e := congrArg (fun s => s.2.2.2.2.2.1) (outsAt0_B m c t h0)
  dsimp only at e
  exact e.trans (storedB_14 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) _ _ _ _ _ (fun h' => h0 ((hcond0_0 t).mp h')))

theorem first_15 (c : Dev nD) (t : Fin cfg0.N) (h : t.val = 0) : (outsAt0 m c t.val t.isLt).2.2.2.2.2.2.1
      = dgA (iblk m c 1 t) (cols0 (X0_3 m c t)) (iblk m c 6 t) (k0_pay22 (cols1024 (X0_3 m c t))) (cot m c t) (k0_pay4 (F := F)) := by
  have h0 : t.val % 33 = 0 := by rw [h]
  have e := congrArg (fun s => s.2.2.2.2.2.2.1) (outsAt0_A m c t h0)
  dsimp only at e
  exact e.trans (storedA_15 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) ((hcond0_0 t).mpr h0))

theorem next_15 (c : Dev nD) (t : Fin cfg0.N) (h : t.val ≠ 0) : (outsAt0 m c t.val t.isLt).2.2.2.2.2.2.1
      = dgA (iblk m c 1 t) (cols0 (X0_3 m c t)) (iblk m c 6 t) (k0_pay22 (cols1024 (X0_3 m c t))) (cot m c t) (outsAt0 m c (t.val - 1) (Nat.lt_of_le_of_lt (Nat.sub_le _ _) t.isLt)).2.2.2.2.2.2.1 := by
  have h0 := later t.isLt h
  have e := congrArg (fun s => s.2.2.2.2.2.2.1) (outsAt0_B m c t h0)
  dsimp only at e
  exact e.trans (storedB_15 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) _ _ _ _ _ (fun h' => h0 ((hcond0_0 t).mp h')))

theorem first_16 (c : Dev nD) (t : Fin cfg0.N) (h : t.val = 0) : (outsAt0 m c t.val t.isLt).2.2.2.2.2.2.2
      = dgB (iblk m c 2 t) (cols512 (X0_3 m c t)) (iblk m c 7 t) (k0_pay23 (cols2048 (X0_3 m c t))) (cot m c t) (k0_pay5 (F := F)) := by
  have h0 : t.val % 33 = 0 := by rw [h]
  have e := congrArg (fun s => s.2.2.2.2.2.2.2) (outsAt0_A m c t h0)
  dsimp only at e
  exact e.trans (storedA_16 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) ((hcond0_0 t).mpr h0))

theorem next_16 (c : Dev nD) (t : Fin cfg0.N) (h : t.val ≠ 0) : (outsAt0 m c t.val t.isLt).2.2.2.2.2.2.2
      = dgB (iblk m c 2 t) (cols512 (X0_3 m c t)) (iblk m c 7 t) (k0_pay23 (cols2048 (X0_3 m c t))) (cot m c t) (outsAt0 m c (t.val - 1) (Nat.lt_of_le_of_lt (Nat.sub_le _ _) t.isLt)).2.2.2.2.2.2.2 := by
  have h0 := later t.isLt h
  have e := congrArg (fun s => s.2.2.2.2.2.2.2) (outsAt0_B m c t h0)
  dsimp only at e
  exact e.trans (storedB_16 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t) (ms0_11 t) (hs0_11 t)
        (ms0_12 t) (hs0_12 t) (ms0_13 t) (hs0_13 t) (ms0_14 t) (hs0_14 t) (ms0_15 t) (hs0_15 t) (ms0_16 t) (hs0_16 t)
        (iblk m c 0 t) (iblk m c 1 t) (iblk m c 2 t) (X0_3 m c t) (iblk m c 4 t) (iblk m c 5 t)
        (iblk m c 6 t) (iblk m c 7 t) (iblk m c 8 t) _ _ _ _ _ (fun h' => h0 ((hcond0_0 t).mp h')))

end Cert.Mv

end
-- ==== Proof.MvRow.lean ====
module

public import proofs.«01_k».proof.Proof.GateRow
public import proofs.«01_k».proof.Proof.NormRow

@[expose] public section

noncomputable section

/-! One row of the gradient of the merge of the two branches.

    A branch is a row of its recurrence's outputs `o`, the columns `z` that gate them, the columns `t` that gate the branch in
    the merge, the scale `g` of the heads' norm and the projection `w`. With `dm` the cotangent of the merged row, the gradients
    follow branch by branch; a head's gradient is stated in two forms, which agree. -/

namespace Cert.Mv

open Idealize.ShloMosaic

/-- The number 128, as the programs have it. -/
abbrev width : EReal := Ideal.ofBits .f32 1124073472#32

theorem width_eq : width = ((128 : ℝ) : EReal) := by
  simp [width, Ideal.ofBits, Ideal.ieee]
  norm_num
  norm_cast
  norm_num

/-- The gradient of a head's output, as the kernel computes it. -/
def headDo (o z g dy : Fin 128 → EReal) (j : Fin 128) : EReal :=
  Gate.scale o * (dy j * Gate.silu (z j) * g j
    - o j * Gate.scale o * Ideal.div (∑ x, dy x * Gate.silu (z x) * g x * (o x * Gate.scale o)) width)

/-- The gradient of a head's gate, as the kernel computes it. -/
def headDz (o z g dy : Fin 128 → EReal) (j : Fin 128) : EReal :=
  dy j * (o j * Gate.scale o) * g j * (Ideal.logistic (z j) * (1 + z j * (1 - Ideal.logistic (z j))))

/-- What a head adds to the gradient of the norm's scale. -/
def headDg (o z dy : Fin 128 → EReal) (j : Fin 128) : EReal := dy j * Gate.silu (z j) * (o j * Gate.scale o)

/-- The common factor of the second part of a head's gradient, as differentiation gives it. -/
def factor (o z g dy : Fin 128 → EReal) : EReal := Norm.second width o (fun x => dy x * Gate.silu (z x)) g

/-- The gradient of a head's output, as differentiation gives it. -/
def refDo (o z g dy : Fin 128 → EReal) (j : Fin 128) : EReal :=
  dy j * Gate.silu (z j) * g j * Gate.scale o + o j * factor o z g dy + factor o z g dy * o j

/-- The gradient of a head's gate, as differentiation gives it. -/
def refDz (o z g dy : Fin 128 → EReal) (j : Fin 128) : EReal :=
  o j * Gate.scale o * g j * dy j * Ideal.logistic (z j)
    + z j * (o j * Gate.scale o * g j * dy j) * (Ideal.logistic (z j) * (1 - Ideal.logistic (z j)))

theorem headDo_eq (o z g dy : Fin 128 → EReal) (j : Fin 128) : headDo o z g dy j = refDo o z g dy j := by
  have e := Norm.grad_eq width 128 (by norm_num) width_eq o (fun x => dy x * Gate.silu (z x)) g 0 j
  unfold Norm.gradK Norm.gradR at e
  rw [zero_add, zero_add] at e
  exact e

/-- A real number among the extended reals. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, by push_cast; rfl⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨u, hu⟩ := h a
    obtain ⟨v, hv⟩ := ih
    exact ⟨u + v, by rw [Finset.sum_insert ha, hu, hv]; push_cast; rfl⟩

theorem logistic_coe (z : ℝ) : ∃ s : ℝ, Ideal.logistic (z : EReal) = (s : EReal) := by
  refine ⟨(1 + Real.exp (-z))⁻¹, ?_⟩
  show Ideal.div 1 (1 + Ideal.exp (-(z : EReal))) = _
  have e : (1 : EReal) + Ideal.exp (-(z : EReal)) = ((1 + Real.exp (-z) : ℝ) : EReal) := by
    rw [← EReal.coe_neg]; rfl
  rw [e, Norm.div_real _ _ (by positivity), one_mul]

theorem logistic_top : Ideal.logistic ⊤ = 1 := by
  show Ideal.div 1 (1 + Ideal.exp (-⊤)) = 1
  have e : (1 : EReal) + Ideal.exp (-⊤) = ((1 : ℝ) : EReal) := by
    rw [EReal.neg_top, show Ideal.exp ⊥ = 0 from rfl, add_zero]; rfl
  rw [e, Norm.div_real _ _ (by norm_num)]
  simp

theorem logistic_bot : Ideal.logistic ⊥ = 0 := by
  show Ideal.div 1 (1 + Ideal.exp (-⊥)) = 0
  have e : (1 : EReal) + Ideal.exp (-⊥) = ⊤ := by
    rw [EReal.neg_bot, show Ideal.exp ⊤ = ⊤ from rfl]; exact EReal.coe_add_top 1
  rw [e]
  unfold Ideal.div
  simp

theorem IsReal.logistic (z : EReal) : IsReal (Ideal.logistic z) := by
  induction z with
  | bot => exact ⟨0, by rw [logistic_bot]; rfl⟩
  | top => exact ⟨1, by rw [logistic_top]; rfl⟩
  | coe z => exact logistic_coe z

/-- The slope of the gate, in its two forms. -/
theorem gate_slope (a : EReal) (ha : IsReal a) (z : EReal) :
    a * (Ideal.logistic z * (1 + z * (1 - Ideal.logistic z)))
      = a * Ideal.logistic z + z * a * (Ideal.logistic z * (1 - Ideal.logistic z)) := by
  obtain ⟨a, rfl⟩ := ha
  induction z with
  | bot => rw [logistic_bot]; simp
  | top =>
    rw [logistic_top]
    have e : (1 : EReal) - 1 = 0 := by
      rw [show (1 : EReal) = ((1 : ℝ) : EReal) from rfl, ← EReal.coe_sub]; simp
    rw [e]; simp
  | coe z =>
    obtain ⟨s, hs⟩ := logistic_coe z
    rw [hs, show (1 : EReal) = ((1 : ℝ) : EReal) from rfl]
    norm_cast
    ring

theorem headDz_eq (o z g dy : Fin 128 → EReal) (j : Fin 128) (hg : IsReal (g j)) (hd : IsReal (dy j)) :
    headDz o z g dy j = refDz o z g dy j := by
  have hn : IsReal (o j * Gate.scale o) := Norm.scaled_real width 128 (by norm_num) width_eq o j
  have h := gate_slope (o j * Gate.scale o * g j * dy j) ((hn.mul hg).mul hd) (z j)
  refine Eq.trans (congrArg (· * _) ?_) h
  rw [mul_comm (dy j), mul_assoc (o j * Gate.scale o), mul_comm (dy j), ← mul_assoc]

/-- Column `k`'s head of a row of four heads. -/
def cut (x : Fin 512 → EReal) (n : ℕ) (hn : n + 128 ≤ 512) : Fin 128 → EReal := fun y => x ⟨n + y.val, by have := y.isLt; omega⟩

theorem start_le (k : Fin 512) : k.val / 128 * 128 + 128 ≤ 512 := by have := k.isLt; omega

/-- A function of heads, column by column. -/
def columns (f : (o z g dy : Fin 128 → EReal) → Fin 128 → EReal) (o z : Fin 512 → EReal) (g : Fin 128 → EReal)
    (dy : Fin 512 → EReal) (k : Fin 512) : EReal :=
  f (cut o _ (start_le k)) (cut z _ (start_le k)) g (cut dy _ (start_le k)) ⟨k.val % 128, Nat.mod_lt _ (by decide)⟩

theorem columns_at (f : (o z g dy : Fin 128 → EReal) → Fin 128 → EReal) (o z : Fin 512 → EReal) (g : Fin 128 → EReal)
    (dy : Fin 512 → EReal) (n : ℕ) (hn : n + 128 ≤ 512) (h0 : n % 128 = 0) (j : Fin 128) (k : Fin 512) (hk : k.val = n + j.val) :
    columns f o z g dy k = f (cut o n hn) (cut z n hn) g (cut dy n hn) j := by
  have hj := j.isLt
  have e1 : k.val / 128 * 128 = n := by omega
  have e2 : k.val % 128 = j.val := by omega
  have ej : (⟨k.val % 128, Nat.mod_lt _ (by decide)⟩ : Fin 128) = j := Fin.ext e2
  have ec : ∀ x, cut x _ (start_le k) = cut x n hn := fun x => funext fun y => congrArg x (Fin.ext (congrArg (· + y.val) e1))
  unfold columns
  rw [ej, ec, ec, ec]

/-- Four heads side by side. -/
theorem four (f : (o z g dy : Fin 128 → EReal) → Fin 128 → EReal) (o z : Fin 512 → EReal) (g : Fin 128 → EReal)
    (dy : Fin 512 → EReal) (a b c d : Fin 128 → EReal)
    (ha : ∀ j, a j = f (cut o 0 (by decide)) (cut z 0 (by decide)) g (cut dy 0 (by decide)) j)
    (hb : ∀ j, b j = f (cut o 128 (by decide)) (cut z 128 (by decide)) g (cut dy 128 (by decide)) j)
    (hc : ∀ j, c j = f (cut o 256 (by decide)) (cut z 256 (by decide)) g (cut dy 256 (by decide)) j)
    (hd : ∀ j, d j = f (cut o 384 (by decide)) (cut z 384 (by decide)) g (cut dy 384 (by decide)) j) (k : Fin 512) :
    (if h : k.val < 128 then a ⟨k.val, h⟩
      else if h1 : k.val - 128 < 128 then b ⟨k.val - 128, h1⟩
      else if h2 : k.val - 128 - 128 < 128 then c ⟨k.val - 128 - 128, h2⟩
      else d ⟨k.val - 128 - 128 - 128, by have := k.isLt; omega⟩) = columns f o z g dy k := by
  have hk := k.isLt
  split
  · rw [ha]; exact (columns_at f o z g dy 0 _ rfl _ k (by simp)).symm
  · split
    · rw [hb]; exact (columns_at f o z g dy 128 _ rfl _ k (by show k.val = 128 + (k.val - 128); omega)).symm
    · split
      · rw [hc]; exact (columns_at f o z g dy 256 _ rfl _ k (by show k.val = 256 + (k.val - 128 - 128); omega)).symm
      · rw [hd]; exact (columns_at f o z g dy 384 _ rfl _ k (by show k.val = 384 + (k.val - 128 - 128 - 128); omega)).symm

/-- A branch's row, and what acts on it. -/
structure Branch where
  o : Fin 512 → EReal
  z : Fin 512 → EReal
  t : Fin 1024 → EReal
  g : Fin 128 → EReal
  w : Fin 512 → Fin 1024 → EReal

/-- The cotangent of the merged row. -/
def dmixed (dh : Fin 1024 → EReal) (wo : Fin 1024 → Fin 1024 → EReal) (x : Fin 1024) : EReal := ∑ e, dh e * wo x e

namespace Branch

variable (B : Branch) (dm : Fin 1024 → EReal)

/-- The branch, normed and gated. -/
def y : Fin 512 → EReal := Gate.gated B.o B.z B.g

/-- The branch, projected. -/
def proj (x : Fin 1024) : EReal := ∑ l, B.y l * B.w l x

/-- The cotangent of the normed and gated branch. -/
def dy (l : Fin 512) : EReal := ∑ x, dm x * Ideal.logistic (B.t x) * B.w l x

/-- The gradient of the branch's gate in the merge. -/
def dt (x : Fin 1024) : EReal := dm x * B.proj x * Ideal.logistic (B.t x) * (1 - Ideal.logistic (B.t x))

/-- The gradient of the recurrence's outputs. -/
def dout : Fin 512 → EReal := columns headDo B.o B.z B.g (B.dy dm)

/-- The gradient of the columns that gate them. -/
def dz : Fin 512 → EReal := columns headDz B.o B.z B.g (B.dy dm)

/-- The row's part of the projection's gradient. -/
def dw (l : Fin 512) (x : Fin 1024) : EReal := B.y l * (dm x * Ideal.logistic (B.t x))

/-- The row's part of the gradient of the heads' scale. -/
def dg (j : Fin 128) : EReal :=
  headDg (cut B.o 0 (by decide)) (cut B.z 0 (by decide)) (cut (B.dy dm) 0 (by decide)) j
    + headDg (cut B.o 128 (by decide)) (cut B.z 128 (by decide)) (cut (B.dy dm) 128 (by decide)) j
    + headDg (cut B.o 256 (by decide)) (cut B.z 256 (by decide)) (cut (B.dy dm) 256 (by decide)) j
    + headDg (cut B.o 384 (by decide)) (cut B.z 384 (by decide)) (cut (B.dy dm) 384 (by decide)) j

/-- Where the cotangent is zero, so are the gradients. -/
theorem dy_zero : B.dy (fun _ => 0) = fun _ => 0 := by
  funext l; simp [dy]

theorem dt_zero (x : Fin 1024) : B.dt (fun _ => 0) x = 0 := by simp [dt]

theorem dout_zero (l : Fin 512) : B.dout (fun _ => 0) l = 0 := by
  have e : Ideal.div 0 width = 0 := by rw [width_eq, Norm.div_real _ _ (by norm_num), zero_mul]
  unfold dout
  rw [dy_zero]
  simp [columns, headDo, cut, e]

theorem dz_zero (l : Fin 512) : B.dz (fun _ => 0) l = 0 := by
  unfold dz
  rw [dy_zero]
  simp [columns, headDz, cut]

theorem dw_zero (l : Fin 512) (x : Fin 1024) : B.dw (fun _ => 0) l x = 0 := by simp [dw]

theorem dg_zero (j : Fin 128) : B.dg (fun _ => 0) j = 0 := by
  unfold dg
  rw [dy_zero]
  simp [headDg, cut]

/-- With a real cotangent, scale and projection, the gates' gradient as differentiation gives it. -/
theorem dz_eq (hd : ∀ x, IsReal (dm x)) (hw : ∀ l x, IsReal (B.w l x)) (hg : ∀ j, IsReal (B.g j)) (k : Fin 512) :
    B.dz dm k = columns refDz B.o B.z B.g (B.dy dm) k := by
  have h : ∀ l, IsReal (B.dy dm l) := fun l => IsReal.sum _ _ fun x => ((hd x).mul (IsReal.logistic _)).mul (hw l x)
  exact headDz_eq _ _ _ _ _ (hg _) (h _)

theorem dout_eq (k : Fin 512) : B.dout dm k = columns refDo B.o B.z B.g (B.dy dm) k := headDo_eq _ _ _ _ _

end Branch

theorem dmixed_zero (wo : Fin 1024 → Fin 1024 → EReal) : dmixed (fun _ => 0) wo = fun _ => 0 := by
  funext x; simp [dmixed]

/-- The merged row. -/
def mixed (A B : Branch) (x : Fin 1024) : EReal := Ideal.logistic (A.t x) * A.proj x + Ideal.logistic (B.t x) * B.proj x

end Cert.Mv

end
-- ==== Proof.MvBlock.lean ====
module

public import proofs.«01_k».proof.Proof.MvState
public import proofs.«01_k».proof.Proof.MvRow

@[expose] public section

set_option maxRecDepth 16384

noncomputable section

/-! The gradient of the merge: the entries of what a point stores, row by row. -/

namespace Cert.Mv

open Cert.Kernel5Ideal Cert.Kernel5Ideal.Gen Cert.Kernel5Ideal.Value Idealize.ShloMosaic Idealize.ShloMosaic.TcCoe Idealize.SL.Sem

section Heads

variable (o z d : S256x512.Idx → EReal) (g : S1x128.Idx → EReal) (r : Fin 256) (j : Fin 128)

abbrev headOf (x : S256x512.Idx → EReal) (r : Fin 256) (n : ℕ) (hn : n + 128 ≤ 512) : Fin 128 → EReal := cut (fun l => x (ix2 r l)) n hn

abbrev scaleRow (g : S1x128.Idx → EReal) : Fin 128 → EReal := fun l => g (ix2 0 l)

theorem dzA1 : k0_pay52 (F := Ideal) (k0_pay45 z) (k0_pay49 o d g) (k0_pay50 z) (k0_pay51 (F := Ideal)) (ix2 r j)
    = headDz (headOf o r 128 (by decide)) (headOf z r 128 (by decide)) (scaleRow g) (headOf d r 128 (by decide)) j := by
  pointwise [k0_pay52, k0_pay45, k0_pay49, k0_pay50, k0_pay51, k0_pay46, k0_pay48, k0_pay47, k0_pay44]
  rfl

theorem dzA2 : k0_pay61 (F := Ideal) o z d g (ix2 r j)
    = headDz (headOf o r 256 (by decide)) (headOf z r 256 (by decide)) (scaleRow g) (headOf d r 256 (by decide)) j := by
  pointwise [k0_pay61, k0_pay56, k0_pay57, k0_pay58, k0_pay59, k0_pay60]
  rfl

theorem dzA3 : k0_pay70 (F := Ideal) o z d g (ix2 r j)
    = headDz (headOf o r 384 (by decide)) (headOf z r 384 (by decide)) (scaleRow g) (headOf d r 384 (by decide)) j := by
  pointwise [k0_pay70, k0_pay65, k0_pay66, k0_pay67, k0_pay68, k0_pay69]
  rfl

theorem dzA0 (s dm : S256x1024.Idx → EReal) (w : S512x1024.Idx → EReal) :
    k0_pay40 (F := Ideal) g (k0_pay34 o) (k0_pay35 z) (k0_pay36 s dm w) (k0_pay37 o) (ix2 r j)
    = headDz (headOf o r 0 (by decide)) (headOf z r 0 (by decide)) (scaleRow g) (headOf (k0_pay32 (F := Ideal) s dm w) r 0 (by decide)) j := by
  unfold k0_pay36
  generalize k0_pay32 (F := Ideal) s dm w = d
  pointwise [k0_pay40, k0_pay34, k0_pay35, k0_pay37, k0_pay38, k0_pay39]
  simp only [headDz, cut, Gate.scale, Nat.zero_add]

theorem doA1 : k0_pay55 (F := Ideal) g (k0_pay45 z) (k0_pay46 d) (k0_pay47 o) (k0_pay48 o) (ix2 r j)
    = headDo (headOf o r 128 (by decide)) (headOf z r 128 (by decide)) (scaleRow g) (headOf d r 128 (by decide)) j := by
  pointwise [k0_pay55, k0_pay45, k0_pay46, k0_pay47, k0_pay48, k0_pay44, k0_pay53]
  rfl

theorem doA2 : k0_pay64 (F := Ideal) g (k0_pay58 d) (k0_pay59 o) (k0_pay60 o) (k0_pay62 z) (ix2 r j)
    = headDo (headOf o r 256 (by decide)) (headOf z r 256 (by decide)) (scaleRow g) (headOf d r 256 (by decide)) j := by
  pointwise [k0_pay64, k0_pay56, k0_pay57, k0_pay58, k0_pay59, k0_pay60, k0_pay62, k0_pay63]
  rfl

theorem doA0 (s dm : S256x1024.Idx → EReal) (w : S512x1024.Idx → EReal) :
    k0_pay43 (F := Ideal) g (k0_pay34 o) (k0_pay35 z) (k0_pay36 s dm w) (k0_pay37 o) (ix2 r j)
    = headDo (headOf o r 0 (by decide)) (headOf z r 0 (by decide)) (scaleRow g) (headOf (k0_pay32 (F := Ideal) s dm w) r 0 (by decide)) j := by
  unfold k0_pay36
  generalize k0_pay32 (F := Ideal) s dm w = d
  pointwise [k0_pay43, k0_pay34, k0_pay35, k0_pay37, k0_pay38, k0_pay39, k0_pay41]
  simp only [headDo, cut, Gate.scale, Gate.silu, Nat.zero_add]

theorem dzB0 (e : S256x1024.Idx → EReal) (w : S512x1024.Idx → EReal) : k0_pay84 (F := Ideal) o z e w g (ix2 r j)
    = headDz (headOf o r 0 (by decide)) (headOf z r 0 (by decide)) (scaleRow g) (headOf (k0_pay77 (F := Ideal) e w) r 0 (by decide)) j := by
  unfold k0_pay84 k0_pay81
  generalize k0_pay77 (F := Ideal) e w = d
  pointwise [k0_pay79, k0_pay80, k0_pay82, k0_pay83]
  simp only [headDz, cut, Gate.scale, Nat.zero_add]

theorem dzB1 : k0_pay93 (F := Ideal) o z d g (ix2 r j)
    = headDz (headOf o r 128 (by decide)) (headOf z r 128 (by decide)) (scaleRow g) (headOf d r 128 (by decide)) j := by
  pointwise [k0_pay93, k0_pay88, k0_pay89, k0_pay90, k0_pay91, k0_pay92]
  rfl

theorem dzB2 : k0_pay105 (F := Ideal) o z d g (ix2 r j)
    = headDz (headOf o r 256 (by decide)) (headOf z r 256 (by decide)) (scaleRow g) (headOf d r 256 (by decide)) j := by
  pointwise [k0_pay105, k0_pay100, k0_pay101, k0_pay102, k0_pay103, k0_pay104]
  rfl

theorem doB0 (e : S256x1024.Idx → EReal) (w : S512x1024.Idx → EReal) :
    k0_pay87 (F := Ideal) g (k0_pay82 o) (k0_pay83 o) (k0_pay85 z e w) (ix2 r j)
    = headDo (headOf o r 0 (by decide)) (headOf z r 0 (by decide)) (scaleRow g) (headOf (k0_pay77 (F := Ideal) e w) r 0 (by decide)) j := by
  unfold k0_pay85 k0_pay81
  generalize k0_pay77 (F := Ideal) e w = d
  pointwise [k0_pay87, k0_pay79, k0_pay80, k0_pay82, k0_pay83]
  simp only [headDo, cut, Gate.scale, Gate.silu, Nat.zero_add]

theorem doB1 : k0_pay99 (F := Ideal) (k0_pay91 o) (k0_pay92 o) (k0_pay96 z d g) (k0_pay97 o z d g) (k0_pay98 (F := Ideal)) (ix2 r j)
    = headDo (headOf o r 128 (by decide)) (headOf z r 128 (by decide)) (scaleRow g) (headOf d r 128 (by decide)) j := by
  pointwise [k0_pay99, k0_pay91, k0_pay92, k0_pay96, k0_pay97, k0_pay98, k0_pay88, k0_pay89, k0_pay90, k0_pay94]
  rfl

theorem doB2 : k0_pay108 (F := Ideal) o z d g (ix2 r j)
    = headDo (headOf o r 256 (by decide)) (headOf z r 256 (by decide)) (scaleRow g) (headOf d r 256 (by decide)) j := by
  pointwise [k0_pay108, k0_pay100, k0_pay101, k0_pay102, k0_pay103, k0_pay104, k0_pay106]
  rfl

end Heads

section Rows

variable (o z : S256x512.Idx → EReal) (g : S1x128.Idx → EReal) (t dm : S256x1024.Idx → EReal) (w : S512x1024.Idx → EReal) (r : Fin 256)

/-- A row of a block, as a branch. -/
abbrev branch (o z : S256x512.Idx → EReal) (t : S256x1024.Idx → EReal) (g : S1x128.Idx → EReal) (w : S512x1024.Idx → EReal)
    (r : Fin 256) : Branch :=
  ⟨fun l => o (ix2 r l), fun l => z (ix2 r l), fun x => t (ix2 r x), fun l => g (ix2 0 l), fun l x => w (ix2 l x)⟩

abbrev rowOf (dm : S256x1024.Idx → EReal) (r : Fin 256) : Fin 1024 → EReal := fun x => dm (ix2 r x)

/-- The cotangents of the branches. -/
theorem dyA_apply (l : Fin 512) : k0_pay32 (F := Ideal) (k0_pay22 t) dm w (ix2 r l) = (branch o z t g w r).dy (rowOf dm r) l := by
  pointwise [k0_pay32, k0_pay22, k0_pay28]
  rfl

theorem dyB_apply (l : Fin 512) :
    k0_pay77 (F := Ideal) (k0_pay29 (k0_pay23 t) dm) w (ix2 r l) = (branch o z t g w r).dy (rowOf dm r) l := by
  pointwise [k0_pay77, k0_pay29, k0_pay23]
  rfl

/-- The four heads of a stored row, in terms of the cotangent's array. -/
theorem columns_block (f : (o z g dy : Fin 128 → EReal) → Fin 128 → EReal) (d : S256x512.Idx → EReal)
    (h : ∀ l, d (ix2 r l) = (branch o z t g w r).dy (rowOf dm r) l) (k : Fin 512) :
    columns f (fun l => o (ix2 r l)) (fun l => z (ix2 r l)) (scaleRow g) (fun l => d (ix2 r l)) k
      = columns f (branch o z t g w r).o (branch o z t g w r).z (branch o z t g w r).g ((branch o z t g w r).dy (rowOf dm r)) k :=
  congrFun (congrArg (columns f _ _ _) (funext h)) k

theorem doA_apply (k : Fin 512) : doA (F := Ideal) o z g w (k0_pay22 t) dm (ix2 r k) = (branch o z t g w r).dout (rowOf dm r) k := by
  refine Eq.trans ?_ (columns_block o z g t dm w r headDo _ (dyA_apply o z g t dm w r) k)
  unfold doA
  generalize hs : k0_pay22 (F := Ideal) t = s
  pointwise [k0_pay75]
  refine Eq.trans ?_ (four headDo (fun l => o (ix2 r l)) (fun l => z (ix2 r l)) (scaleRow g)
    (fun l => k0_pay32 (F := Ideal) s dm w (ix2 r l)) _ _ _ _
    (fun j => doA0 o z g r j s dm w) (fun j => doA1 o z _ g r j) (fun j => doA2 o z _ g r j) (fun j => rfl) k)
  split
  · rfl
  · split
    · rfl
    · split
      · rfl
      · generalize k0_pay32 (F := Ideal) s dm w = d
        pointwise [k0_pay65, k0_pay66, k0_pay67, k0_pay68, k0_pay69, k0_pay71, k0_pay73, k0_pay74]
        rfl

theorem doB_apply (k : Fin 512) : doB (F := Ideal) o z g w (k0_pay23 t) dm (ix2 r k) = (branch o z t g w r).dout (rowOf dm r) k := by
  refine Eq.trans ?_ (columns_block o z g t dm w r headDo _ (dyB_apply o z g t dm w r) k)
  unfold doB
  generalize k0_pay29 (F := Ideal) (k0_pay23 t) dm = e
  pointwise [k0_pay116]
  refine Eq.trans ?_ (four headDo (fun l => o (ix2 r l)) (fun l => z (ix2 r l)) (scaleRow g)
    (fun l => k0_pay77 (F := Ideal) e w (ix2 r l)) _ _ _ _
    (fun j => doB0 o z g r j e w) (fun j => doB1 o z _ g r j) (fun j => doB2 o z _ g r j) (fun j => rfl) k)
  split
  · rfl
  · split
    · rfl
    · split
      · rfl
      · generalize k0_pay77 (F := Ideal) e w = d
        pointwise [k0_pay109, k0_pay110, k0_pay111, k0_pay112, k0_pay113, k0_pay114]
        rfl

theorem dzA_apply (k : Fin 512) : dzA (F := Ideal) o z g w (k0_pay22 t) dm (ix2 r k) = (branch o z t g w r).dz (rowOf dm r) k := by
  refine Eq.trans ?_ (columns_block o z g t dm w r headDz _ (dyA_apply o z g t dm w r) k)
  unfold dzA
  generalize hs : k0_pay22 (F := Ideal) t = s
  pointwise [k0_pay120, k0_pay76]
  exact four headDz (fun l => o (ix2 r l)) (fun l => z (ix2 r l)) (scaleRow g)
    (fun l => k0_pay32 (F := Ideal) s dm w (ix2 r l)) _ _ _ _
    (fun j => dzA0 o z g r j s dm w) (fun j => dzA1 o z _ g r j) (fun j => dzA2 o z _ g r j) (fun j => dzA3 o z _ g r j) k

theorem dzB_apply (k : Fin 512) : dzB (F := Ideal) o z g w (k0_pay23 t) dm (ix2 r k) = (branch o z t g w r).dz (rowOf dm r) k := by
  refine Eq.trans ?_ (columns_block o z g t dm w r headDz _ (dyB_apply o z g t dm w r) k)
  unfold dzB
  generalize k0_pay29 (F := Ideal) (k0_pay23 t) dm = e
  pointwise [k0_pay121, k0_pay117]
  refine Eq.trans ?_ (four headDz (fun l => o (ix2 r l)) (fun l => z (ix2 r l)) (scaleRow g)
    (fun l => k0_pay77 (F := Ideal) e w (ix2 r l)) _ _ _ _
    (fun j => dzB0 o z g r j e w) (fun j => dzB1 o z _ g r j) (fun j => dzB2 o z _ g r j) (fun j => rfl) k)
  split
  · rfl
  · split
    · rfl
    · split
      · rfl
      · generalize k0_pay77 (F := Ideal) e w = d
        pointwise [k0_pay109, k0_pay110, k0_pay111, k0_pay112, k0_pay113]
        rfl

end Rows

end Cert.Mv

end
-- ==== Proof.MvPoint.lean ====
module

public import proofs.«01_k».proof.Proof.MvBlock
public import proofs.«01_k».proof.Proof.Rows

@[expose] public section

set_option maxRecDepth 16384

noncomputable section

/-! The gradient of the merge: what a point adds to the sums over the rows, and what it writes into the columns of the
    projection's gradient. -/

namespace Cert.Mv

open Cert.Kernel5Ideal Cert.Kernel5Ideal.Gen Cert.Kernel5Ideal.Value Idealize.ShloMosaic Idealize.ShloMosaic.TcCoe Idealize.SL.Sem

variable (o z : S256x512.Idx → EReal) (g : S1x128.Idx → EReal) (t dm : S256x1024.Idx → EReal) (w : S512x1024.Idx → EReal) (r : Fin 256)

/-- The branches, normed and gated. -/
theorem yA_apply (k : Fin 512) : yA (F := Ideal) o z g (ix2 r k)
    = Gate.gated (fun l => o (ix2 r l)) (fun l => z (ix2 r l)) (scaleRow g) k := by
  unfold yA
  pointwise [k0_pay14, k0_pay9, k0_pay10, k0_pay11, k0_pay7, k0_pay8, k0_pay12, k0_pay13]
  refine Eq.trans ?_ (Gate.four_heads (fun l => o (ix2 r l)) (fun l => z (ix2 r l)) (scaleRow g) _ _ _ _
    (fun j => rfl) (fun j => rfl) (fun j => rfl) (fun j => rfl) k)
  split
  · simp only [Gate.head, Gate.scale, Gate.silu, Nat.zero_add]
  · split
    · rfl
    · split
      · rfl
      · rfl

theorem yB_apply (k : Fin 512) : yB (F := Ideal) o z g (ix2 r k)
    = Gate.gated (fun l => o (ix2 r l)) (fun l => z (ix2 r l)) (scaleRow g) k := by
  unfold yB
  pointwise [k0_pay19, k0_pay15, k0_pay16, k0_pay17, k0_pay18]
  refine Eq.trans ?_ (Gate.four_heads (fun l => o (ix2 r l)) (fun l => z (ix2 r l)) (scaleRow g) _ _ _ _
    (fun j => rfl) (fun j => rfl) (fun j => rfl) (fun j => rfl) k)
  split
  · simp only [Gate.head, Gate.scale, Gate.silu, Nat.zero_add]
  · split
    · rfl
    · split
      · rfl
      · rfl

/-- The branches, projected. -/
theorem projA_apply (x : Fin 1024) : projA (F := Ideal) o z g w (ix2 r x) = (branch o z t g w r).proj x := by
  unfold projA
  generalize hy : yA (F := Ideal) o z g = y
  pointwise [k0_pay20]
  subst hy
  exact Finset.sum_congr rfl fun l _ => congrArg (· * _) (yA_apply o z g r l)

theorem projB_apply (x : Fin 1024) : projB (F := Ideal) o z g w (ix2 r x) = (branch o z t g w r).proj x := by
  show matmul (F := Ideal) dot_S256x512_S512x1024_S256x1024_1_0_0_1_n_n none (truncf .bf16 (yB (F := Ideal) o z g) bitsLt_bf16_f32) w
    (constant S256x1024 .f32 0x00000000#32) (ix2 r x) = _
  generalize hy : yB (F := Ideal) o z g = y
  pointwise []
  subst hy
  exact Finset.sum_congr rfl fun l _ => congrArg (· * _) (yB_apply o z g r l)

/-- The cotangent of the merged rows. -/
theorem dm_apply (dh : S256x1024.Idx → EReal) (wo : S1024x1024.Idx → EReal) (x : Fin 1024) :
    k0_pay24 (F := Ideal) dh wo (ix2 r x) = dmixed (rowOf dh r) (fun x e => wo (ix2 x e)) x := by
  pointwise [k0_pay24]
  rfl

/-- The gradients of the branches' gates in the merge. -/
theorem dtA_apply (p : S256x1024.Idx → EReal) (hp : ∀ x, p (ix2 r x) = (branch o z t g w r).proj x) (x : Fin 1024) :
    k0_pay122 (F := Ideal) p (k0_pay22 t) dm (ix2 r x) = (branch o z t g w r).dt (rowOf dm r) x := by
  pointwise [k0_pay122, k0_pay22]
  rw [hp]
  rfl

theorem dtB_apply (p : S256x1024.Idx → EReal) (hp : ∀ x, p (ix2 r x) = (branch o z t g w r).proj x) (x : Fin 1024) :
    k0_pay123 (F := Ideal) p (k0_pay23 t) dm (ix2 r x) = (branch o z t g w r).dt (rowOf dm r) x := by
  pointwise [k0_pay123, k0_pay23]
  rw [hp]
  rfl

/-- What a point adds to the gradients of the projections. -/
theorem dwA_apply (x0 : S512x1024.Idx → EReal) (l : Fin 512) (x : Fin 1024) :
    k0_pay30 (F := Ideal) (yA o z g) (k0_pay22 t) dm x0 (ix2 l x)
      = x0 (ix2 l x) + ∑ r, (branch o z t g w r).dw (rowOf dm r) l x := by
  generalize hy : yA (F := Ideal) o z g = y
  pointwise [k0_pay30, k0_pay28, k0_pay22]
  subst hy
  exact congrArg _ (Finset.sum_congr rfl fun r _ => congrArg (· * _) (yA_apply o z g r l))

theorem dwB_apply (x0 : S512x1024.Idx → EReal) (l : Fin 512) (x : Fin 1024) :
    k0_pay31 (F := Ideal) (yB o z g) (k0_pay23 t) dm x0 (ix2 l x)
      = x0 (ix2 l x) + ∑ r, (branch o z t g w r).dw (rowOf dm r) l x := by
  generalize hy : yB (F := Ideal) o z g = y
  pointwise [k0_pay31, k0_pay29, k0_pay23]
  subst hy
  exact congrArg _ (Finset.sum_congr rfl fun r _ => congrArg (· * _) (yB_apply o z g r l))

/-- What a point adds to the gradients of the heads' scales. -/
theorem dgA_apply (x0 : S1x128.Idx → EReal) (j : Fin 128) :
    dgA (F := Ideal) o z w (k0_pay22 t) dm x0 (ix2 0 j)
      = x0 (ix2 0 j) + ∑ r, (branch o z t g w r).dg (rowOf dm r) j := by
  have h := fun r => dyA_apply o z g t dm w r
  unfold dgA
  unfold k0_pay36
  generalize k0_pay32 (F := Ideal) (k0_pay22 t) dm w = d at h ⊢
  pointwise [k0_pay118, k0_pay72, k0_pay54, k0_pay42, k0_pay33, k0_pay34, k0_pay35, k0_pay37, k0_pay45, k0_pay46, k0_pay48, k0_pay58, k0_pay60, k0_pay62,
    k0_pay41, k0_pay39, k0_pay38, k0_pay53, k0_pay44, k0_pay47, k0_pay63, k0_pay57, k0_pay56, k0_pay59, k0_pay71, k0_pay69, k0_pay68, k0_pay65, k0_pay66, k0_pay67]
  simp only [h, Branch.dg, Finset.sum_add_distrib, headDg, cut, Gate.scale, Gate.silu, Nat.zero_add]

theorem dgB_apply (x0 : S1x128.Idx → EReal) (j : Fin 128) :
    dgB (F := Ideal) o z w (k0_pay23 t) dm x0 (ix2 0 j)
      = x0 (ix2 0 j) + ∑ r, (branch o z t g w r).dg (rowOf dm r) j := by
  have h := fun r => dyB_apply o z g t dm w r
  unfold dgB
  unfold k0_pay86
  generalize k0_pay29 (F := Ideal) (k0_pay23 t) dm = e at h ⊢
  unfold k0_pay85 k0_pay81
  generalize k0_pay77 (F := Ideal) e w = d at h ⊢
  pointwise [k0_pay119, k0_pay115, k0_pay107, k0_pay95, k0_pay78, k0_pay79, k0_pay80, k0_pay82, k0_pay83, k0_pay109, k0_pay110, k0_pay111,
    k0_pay112, k0_pay113, k0_pay114, k0_pay88, k0_pay89, k0_pay90, k0_pay91, k0_pay92, k0_pay94, k0_pay100, k0_pay101, k0_pay102, k0_pay103, k0_pay104, k0_pay106]
  simp only [h, Branch.dg, Finset.sum_add_distrib, headDg, cut, Gate.scale, Gate.silu, Nat.zero_add]

/-- What a point adds to the gradient of the output projection. -/
theorem dO_apply (oa ob za zb : S256x512.Idx → EReal) (ta tb : S256x1024.Idx → EReal) (ga gb : S1x128.Idx → EReal)
    (wa wb : S512x1024.Idx → EReal) (dh : S256x1024.Idx → EReal) (x0 : S1024x1024.Idx → EReal) (x e : Fin 1024) :
    dO (F := Ideal) oa ob za zb ta tb ga gb wa wb dh x0 (ix2 x e)
      = x0 (ix2 x e) + ∑ r, mixed (branch oa za ta ga wa r) (branch ob zb tb gb wb r) x * dh (ix2 r e) := by
  show k0_pay27 (F := Ideal) dh (k0_pay25 x0) (truncf .bf16 (addf (mulf (k0_pay22 ta) (projA (F := Ideal) oa za ga wa))
    (mulf (k0_pay23 tb) (projB (F := Ideal) ob zb gb wb))) bitsLt_bf16_f32) (ix2 x e) = _
  have ha := fun r x => projA_apply oa za ga ta wa r x
  have hb := fun r x => projB_apply ob zb gb tb wb r x
  generalize projA (F := Ideal) oa za ga wa = pa at ha ⊢
  generalize projB (F := Ideal) ob zb gb wb = pb at hb ⊢
  pointwise [k0_pay27, k0_pay25, k0_pay22, k0_pay23]
  simp only [ha, hb]
  rfl

/-- The cotangent a point works with: the rows that are tokens. -/
theorem kept (i : grid0.Coords) (dh : S256x1024.Idx → EReal) (e : Fin 1024) :
    k0_pay6 (F := Ideal) i dh (ix2 r e) = if 48 ≤ ((i 0).val * 256 + r.val) % 2112 then dh (ix2 r e) else 0 := by
  have hi : (i 0).val < 33 := (i 0).isLt
  pointwise [k0_pay6]
  refine (Rows.select_row _ 256 _ (by omega) _ _).trans ?_
  rfl

end Cert.Mv

end
-- ==== Proof.MvLines.lean ====
module

public import proofs.«01_k».proof.Proof.MvRow
public import proofs.«01_k».proof.Proof.Rows

@[expose] public section

noncomputable section

/-! The gradient of the merge, row by row of a device's batch: what its eight results are, from the arguments. The cotangent is
    taken at the tokens only; on the padding it counts as zero, and so do the gradients. -/

namespace Cert.Mv

open Idealize.ShloMosaic

/-- The arguments: the cotangent `h` of the merge's output, the recurrences' outputs `oa` and `ob`, the projection `p` whose
    first 3072 columns gate, the scales of the heads' norms, the branches' projections and the output projection. -/
structure Args where
  h : Fin 8448 → Fin 1024 → EReal
  oa : Fin 8448 → Fin 512 → EReal
  ob : Fin 8448 → Fin 512 → EReal
  p : Fin 8448 → Fin 6272 → EReal
  ga : Fin 128 → EReal
  gb : Fin 128 → EReal
  wa : Fin 512 → Fin 1024 → EReal
  wb : Fin 512 → Fin 1024 → EReal
  wo : Fin 1024 → Fin 1024 → EReal

namespace Args

variable (A : Args) (r : Fin 8448)

/-- The branches' rows. -/
def lineA : Branch :=
  ⟨A.oa r, fun l => A.p r ⟨l.val, by have := l.isLt; omega⟩, fun x => A.p r ⟨1024 + x.val, by have := x.isLt; omega⟩, A.ga, A.wa⟩

def lineB : Branch :=
  ⟨A.ob r, fun l => A.p r ⟨512 + l.val, by have := l.isLt; omega⟩, fun x => A.p r ⟨2048 + x.val, by have := x.isLt; omega⟩, A.gb, A.wb⟩

/-- The cotangent of a row, and of its merged row. -/
def dh (e : Fin 1024) : EReal := if 48 ≤ r.val % 2112 then A.h r e else 0

def dm : Fin 1024 → EReal := dmixed (A.dh r) A.wo

/-- A row of the projection's gradient: the columns that gate the branches, and those that gate them in the merge. -/
def stripes (a b : Fin 512 → EReal) (u v : Fin 1024 → EReal) (k : ℕ) : EReal :=
  if h : k < 512 then a ⟨k, h⟩ else if h : k - 512 < 512 then b ⟨k - 512, h⟩
  else if h : k - 1024 < 1024 then u ⟨k - 1024, h⟩ else if h : k - 2048 < 1024 then v ⟨k - 2048, h⟩ else 0

/-- The eight results. -/
def dproj (k : ℕ) : EReal :=
  stripes ((A.lineA r).dz (A.dm r)) ((A.lineB r).dz (A.dm r)) ((A.lineA r).dt (A.dm r)) ((A.lineB r).dt (A.dm r)) k

def doa (k : Fin 512) : EReal := (A.lineA r).dout (A.dm r) k

def dob (k : Fin 512) : EReal := (A.lineB r).dout (A.dm r) k

def dwaRow (l : Fin 512) (x : Fin 1024) : EReal := (A.lineA r).dw (A.dm r) l x

def dwbRow (l : Fin 512) (x : Fin 1024) : EReal := (A.lineB r).dw (A.dm r) l x

def dwoRow (x e : Fin 1024) : EReal := mixed (A.lineA r) (A.lineB r) x * A.dh r e

def dgaRow (j : Fin 128) : EReal := (A.lineA r).dg (A.dm r) j

def dgbRow (j : Fin 128) : EReal := (A.lineB r).dg (A.dm r) j

end Args

section Stripes

variable (a b : Fin 512 → EReal) (u v : Fin 1024 → EReal)

theorem stripes_a (k : ℕ) (l : Fin 512) (h : k = l.val) : Args.stripes a b u v k = a l := by
  subst h
  exact dif_pos l.isLt

theorem stripes_b (k : ℕ) (l : Fin 512) (h : k = 512 + l.val) : Args.stripes a b u v k = b l := by
  have hl := l.isLt
  unfold Args.stripes
  rw [dif_neg (by omega), dif_pos (by omega)]
  exact congrArg b (Fin.ext (by show k - 512 = l.val; omega))

theorem stripes_u (k : ℕ) (l : Fin 1024) (h : k = 1024 + l.val) : Args.stripes a b u v k = u l := by
  have hl := l.isLt
  unfold Args.stripes
  rw [dif_neg (by omega), dif_neg (by omega), dif_pos (by omega)]
  exact congrArg u (Fin.ext (by show k - 1024 = l.val; omega))

theorem stripes_v (k : ℕ) (l : Fin 1024) (h : k = 2048 + l.val) : Args.stripes a b u v k = v l := by
  have hl := l.isLt
  unfold Args.stripes
  rw [dif_neg (by omega), dif_neg (by omega), dif_neg (by omega), dif_pos (by omega)]
  exact congrArg v (Fin.ext (by show k - 2048 = l.val; omega))

end Stripes

/-- A sum over all rows that skips the padding is the sum over the tokens. -/
theorem sum_kept (f : Fin 8448 → EReal) (h : ∀ r : Fin 8448, ¬48 ≤ r.val % 2112 → f r = 0) :
    ∑ r, f r = ∑ b : Fin 4, ∑ t : Fin 2064, f ⟨b.val * 2112 + (48 + t.val), by have := b.isLt; have := t.isLt; omega⟩ := by
  have e := Rows.sum_tokens (fun n => if hn : n < 8448 then f ⟨n, hn⟩ else 0)
  have e1 : ∑ r ∈ Finset.range 8448, (if 48 ≤ r % 2112 then (if hn : r < 8448 then f ⟨r, hn⟩ else 0) else 0) = ∑ r, f r := by
    rw [Finset.sum_range]
    refine Finset.sum_congr rfl fun r _ => ?_
    by_cases hr : 48 ≤ r.val % 2112
    · rw [if_pos hr, dif_pos r.isLt]
    · rw [if_neg hr, h r hr]
  rw [← e1, e]
  refine Finset.sum_congr rfl fun b _ => Finset.sum_congr rfl fun t _ => ?_
  exact dif_pos _

namespace Args

variable (A : Args) (r : Fin 8448)

theorem dh_pad (h : ¬48 ≤ r.val % 2112) : A.dh r = fun _ => 0 := funext fun _ => if_neg h

theorem dm_pad (h : ¬48 ≤ r.val % 2112) : A.dm r = fun _ => 0 := by
  unfold dm
  rw [dh_pad A r h, dmixed_zero]

theorem doa_pad (h : ¬48 ≤ r.val % 2112) (k : Fin 512) : A.doa r k = 0 := by
  unfold doa; rw [dm_pad A r h]; exact Branch.dout_zero _ k

theorem dob_pad (h : ¬48 ≤ r.val % 2112) (k : Fin 512) : A.dob r k = 0 := by
  unfold dob; rw [dm_pad A r h]; exact Branch.dout_zero _ k

theorem dwaRow_pad (h : ¬48 ≤ r.val % 2112) (l : Fin 512) (x : Fin 1024) : A.dwaRow r l x = 0 := by
  unfold dwaRow; rw [dm_pad A r h]; exact Branch.dw_zero _ l x

theorem dwbRow_pad (h : ¬48 ≤ r.val % 2112) (l : Fin 512) (x : Fin 1024) : A.dwbRow r l x = 0 := by
  unfold dwbRow; rw [dm_pad A r h]; exact Branch.dw_zero _ l x

theorem dwoRow_pad (h : ¬48 ≤ r.val % 2112) (x e : Fin 1024) : A.dwoRow r x e = 0 := by
  unfold dwoRow; rw [dh_pad A r h]; exact mul_zero _

theorem dgaRow_pad (h : ¬48 ≤ r.val % 2112) (j : Fin 128) : A.dgaRow r j = 0 := by
  unfold dgaRow; rw [dm_pad A r h]; exact Branch.dg_zero _ j

theorem dgbRow_pad (h : ¬48 ≤ r.val % 2112) (j : Fin 128) : A.dgbRow r j = 0 := by
  unfold dgbRow; rw [dm_pad A r h]; exact Branch.dg_zero _ j

theorem dproj_pad (h : ¬48 ≤ r.val % 2112) (k : ℕ) : A.dproj r k = 0 := by
  unfold dproj stripes
  rw [dm_pad A r h]
  split
  · exact Branch.dz_zero _ _
  · split
    · exact Branch.dz_zero _ _
    · split
      · exact Branch.dt_zero _ _
      · split
        · exact Branch.dt_zero _ _
        · rfl

end Args

end Cert.Mv

end
-- ==== Proof.MvArray.lean ====
module

public import proofs.«01_k».proof.Proof.MvSweep
public import proofs.«01_k».proof.Proof.MvPoint
public import proofs.«01_k».proof.Proof.MvLines

@[expose] public section

set_option maxRecDepth 16384

noncomputable section

/-! The gradient of the merge: what a point's blocks are in the arguments, and what the point computes from them. -/

namespace Cert.Mv

open Cert.Kernel5Ideal Cert.Kernel5Ideal.Gen Cert.Kernel5Ideal.Value Idealize.ShloMosaic Idealize.ShloMosaic.TcCoe Idealize.SL.Sem

theorem cols0_apply (x : S256x3072.Idx → EReal) (r : Fin 256) (l : Fin 512) :
    cols0 (F := Ideal) x (ix2 r l) = x (ix2 r ⟨l.val, by have := l.isLt; omega⟩) := by
  show x ((Rect.unit (s := S256x3072) ![0, 0] S256x512.size inb_S256x3072_S256x512_0_0).idx (ix2 r l)) = _
  refine congrArg x (funext fun a => Fin.ext ?_)
  match a with
  | ⟨0, _⟩ => show 0 + 1 * r.val = r.val; omega
  | ⟨1, _⟩ => show 0 + 1 * l.val = l.val; omega

theorem cols512_apply (x : S256x3072.Idx → EReal) (r : Fin 256) (l : Fin 512) :
    cols512 (F := Ideal) x (ix2 r l) = x (ix2 r ⟨512 + l.val, by have := l.isLt; omega⟩) := by
  show x ((Rect.unit (s := S256x3072) ![0, 512] S256x512.size inb_S256x3072_S256x512_0_512).idx (ix2 r l)) = _
  refine congrArg x (funext fun a => Fin.ext ?_)
  match a with
  | ⟨0, _⟩ => show 0 + 1 * r.val = r.val; omega
  | ⟨1, _⟩ => show 512 + 1 * l.val = 512 + l.val; omega

theorem cols1024_apply (x : S256x3072.Idx → EReal) (r : Fin 256) (l : Fin 1024) :
    cols1024 (F := Ideal) x (ix2 r l) = x (ix2 r ⟨1024 + l.val, by have := l.isLt; omega⟩) := by
  show x ((Rect.unit (s := S256x3072) ![0, 1024] S256x1024.size inb_S256x3072_S256x1024_0_1024).idx (ix2 r l)) = _
  refine congrArg x (funext fun a => Fin.ext ?_)
  match a with
  | ⟨0, _⟩ => show 0 + 1 * r.val = r.val; omega
  | ⟨1, _⟩ => show 1024 + 1 * l.val = 1024 + l.val; omega

theorem cols2048_apply (x : S256x3072.Idx → EReal) (r : Fin 256) (l : Fin 1024) :
    cols2048 (F := Ideal) x (ix2 r l) = x (ix2 r ⟨2048 + l.val, by have := l.isLt; omega⟩) := by
  show x ((Rect.unit (s := S256x3072) ![0, 2048] S256x1024.size inb_S256x3072_S256x1024_0_2048).idx (ix2 r l)) = _
  refine congrArg x (funext fun a => Fin.ext ?_)
  match a with
  | ⟨0, _⟩ => show 0 + 1 * r.val = r.val; omega
  | ⟨1, _⟩ => show 2048 + 1 * l.val = 2048 + l.val; omega

variable (m : (ℓ : Loc nD τ sig) → Buf (Elt Ideal) ℓ)

theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ (grid0.coords t 0).val = t.val :=
  (by decide +kernel : ∀ t : Fin grid0.N, _)

theorem whole_facts : ∀ t : Fin cfg0.N, (∀ a, win0_4.index t a = 0) ∧ (∀ a, win0_5.index t a = 0) ∧ (∀ a, win0_6.index t a = 0)
    ∧ (∀ a, win0_7.index t a = 0) ∧ (∀ a, win0_8.index t a = 0) :=
  (by decide +kernel : ∀ t : Fin grid0.N, _)

theorem point_lt (t : Fin cfg0.N) : t.val < 33 := t.isLt

/-- The row of the arrays that row `r` of point `t`'s blocks is. -/
def row (t : Fin cfg0.N) (r : Fin 256) : Fin 8448 :=
  ⟨t.val * 256 + r.val, by have h := point_lt t; have hr := r.isLt; omega⟩

/-- The arguments as launched. -/
def args (c : Dev nD) : Args where
  h r e := V m c main_arg0 (ix2 r e)
  oa r l := V m c main_arg1 (ix2 r l)
  ob r l := V m c main_arg2 (ix2 r l)
  p r l := V m c main_arg3 (ix2 r l)
  ga j := V m c main_arg4 (ix2 0 j)
  gb j := V m c main_arg5 (ix2 0 j)
  wa l x := V m c main_arg6 (ix2 l x)
  wb l x := V m c main_arg7 (ix2 l x)
  wo x e := V m c main_arg8 (ix2 x e)

theorem hBlock (c : Dev nD) (t : Fin cfg0.N) (r : Fin 256) (l : Fin 1024) :
    iblk m c 0 t (ix2 r l) = V m c main_arg0 (ix2 (row t r) l) := by
  obtain ⟨e0, e1, -⟩ := index_facts t
  show V m c main_arg0 (((cfg0.win 0).blk t).view.emb (ix2 r l)) = _
  refine congrArg (V m c main_arg0) (funext fun a => Fin.ext ?_)
  match a with
  | ⟨0, _⟩ => show win0_0.index t (0 : Fin 2) * 256 + 1 * r.val = t.val * 256 + r.val; rw [e0, one_mul]
  | ⟨1, _⟩ => show win0_0.index t (1 : Fin 2) * 1024 + 1 * l.val = l.val; rw [e1]; simp

theorem oaBlock (c : Dev nD) (t : Fin cfg0.N) (r : Fin 256) (l : Fin 512) :
    iblk m c 1 t (ix2 r l) = V m c main_arg1 (ix2 (row t r) l) := by
  obtain ⟨-, -, e0, e1, -⟩ := index_facts t
  show V m c main_arg1 (((cfg0.win 1).blk t).view.emb (ix2 r l)) = _
  refine congrArg (V m c main_arg1) (funext fun a => Fin.ext ?_)
  match a with
  | ⟨0, _⟩ => show win0_1.index t (0 : Fin 2) * 256 + 1 * r.val = t.val * 256 + r.val; rw [e0, one_mul]
  | ⟨1, _⟩ => show win0_1.index t (1 : Fin 2) * 512 + 1 * l.val = l.val; rw [e1]; simp

theorem obBlock (c : Dev nD) (t : Fin cfg0.N) (r : Fin 256) (l : Fin 512) :
    iblk m c 2 t (ix2 r l) = V m c main_arg2 (ix2 (row t r) l) := by
  obtain ⟨-, -, -, -, e0, e1, -⟩ := index_facts t
  show V m c main_arg2 (((cfg0.win 2).blk t).view.emb (ix2 r l)) = _
  refine congrArg (V m c main_arg2) (funext fun a => Fin.ext ?_)
  match a with
  | ⟨0, _⟩ => show win0_2.index t (0 : Fin 2) * 256 + 1 * r.val = t.val * 256 + r.val; rw [e0, one_mul]
  | ⟨1, _⟩ => show win0_2.index t (1 : Fin 2) * 512 + 1 * l.val = l.val; rw [e1]; simp

theorem pBlock (c : Dev nD) (t : Fin cfg0.N) (r : Fin 256) (l : Fin 3072) :
    X0_3 m c t (ix2 r l) = V m c main_arg3 (ix2 (row t r) ⟨l.val, by have := l.isLt; omega⟩) := by
  obtain ⟨-, -, -, -, -, -, e0, e1, -⟩ := index_facts t
  unfold X0_3 Pipeline.Window.fill
  rw [dif_pos (moved0_3 t (ix2 r l))]
  unfold iblk
  refine congrArg (V m c main_arg3) (funext fun a => Fin.ext ?_)
  match a with
  | ⟨0, _⟩ => show win0_3.index t (0 : Fin 2) * 256 + 1 * r.val = t.val * 256 + r.val; rw [e0, one_mul]
  | ⟨1, _⟩ => show win0_3.index t (1 : Fin 2) * 3072 + 1 * l.val = l.val; rw [e1]; simp

theorem block4 (c : Dev nD) (t : Fin cfg0.N) (i : S1x128.Idx) : iblk m c 4 t i = V m c main_arg4 i := by
  obtain ⟨e, -⟩ := whole_facts t
  show V m c main_arg4 (((cfg0.win 4).blk t).view.emb i) = _
  refine congrArg (V m c main_arg4) (funext fun a => Fin.ext ?_)
  match a with
  | ⟨0, _⟩ => show win0_4.index t (0 : Fin 2) * 1 + 1 * (i 0).val = (i 0).val; rw [e 0]; simp
  | ⟨1, _⟩ => show win0_4.index t (1 : Fin 2) * 128 + 1 * (i 1).val = (i 1).val; rw [e 1]; simp

theorem block5 (c : Dev nD) (t : Fin cfg0.N) (i : S1x128.Idx) : iblk m c 5 t i = V m c main_arg5 i := by
  obtain ⟨-, e, -⟩ := whole_facts t
  show V m c main_arg5 (((cfg0.win 5).blk t).view.emb i) = _
  refine congrArg (V m c main_arg5) (funext fun a => Fin.ext ?_)
  match a with
  | ⟨0, _⟩ => show win0_5.index t (0 : Fin 2) * 1 + 1 * (i 0).val = (i 0).val; rw [e 0]; simp
  | ⟨1, _⟩ => show win0_5.index t (1 : Fin 2) * 128 + 1 * (i 1).val = (i 1).val; rw [e 1]; simp

theorem block6 (c : Dev nD) (t : Fin cfg0.N) (i : S512x1024.Idx) : iblk m c 6 t i = V m c main_arg6 i := by
  obtain ⟨-, -, e, -⟩ := whole_facts t
  show V m c main_arg6 (((cfg0.win 6).blk t).view.emb i) = _
  refine congrArg (V m c main_arg6) (funext fun a => Fin.ext ?_)
  match a with
  | ⟨0, _⟩ => show win0_6.index t (0 : Fin 2) * 512 + 1 * (i 0).val = (i 0).val; rw [e 0]; simp
  | ⟨1, _⟩ => show win0_6.index t (1 : Fin 2) * 1024 + 1 * (i 1).val = (i 1).val; rw [e 1]; simp

theorem block7 (c : Dev nD) (t : Fin cfg0.N) (i : S512x1024.Idx) : iblk m c 7 t i = V m c main_arg7 i := by
  obtain ⟨-, -, -, e, -⟩ := whole_facts t
  show V m c main_arg7 (((cfg0.win 7).blk t).view.emb i) = _
  refine congrArg (V m c main_arg7) (funext fun a => Fin.ext ?_)
  match a with
  | ⟨0, _⟩ => show win0_7.index t (0 : Fin 2) * 512 + 1 * (i 0).val = (i 0).val; rw [e 0]; simp
  | ⟨1, _⟩ => show win0_7.index t (1 : Fin 2) * 1024 + 1 * (i 1).val = (i 1).val; rw [e 1]; simp

theorem block8 (c : Dev nD) (t : Fin cfg0.N) (i : S1024x1024.Idx) : iblk m c 8 t i = V m c main_arg8 i := by
  obtain ⟨-, -, -, -, e⟩ := whole_facts t
  show V m c main_arg8 (((cfg0.win 8).blk t).view.emb i) = _
  refine congrArg (V m c main_arg8) (funext fun a => Fin.ext ?_)
  match a with
  | ⟨0, _⟩ => show win0_8.index t (0 : Fin 2) * 1024 + 1 * (i 0).val = (i 0).val; rw [e 0]; simp
  | ⟨1, _⟩ => show win0_8.index t (1 : Fin 2) * 1024 + 1 * (i 1).val = (i 1).val; rw [e 1]; simp

/-- A row of a point's blocks is a row of the arguments. -/
theorem branchA (c : Dev nD) (t : Fin cfg0.N) (r : Fin 256) :
    branch (iblk m c 1 t) (cols0 (X0_3 m c t)) (cols1024 (X0_3 m c t)) (iblk m c 4 t) (iblk m c 6 t) r
      = (args m c).lineA (row t r) := by
  unfold branch Args.lineA args
  congr 1
  · exact funext fun l => oaBlock m c t r l
  · exact funext fun l => (cols0_apply _ r l).trans (pBlock m c t r _)
  · exact funext fun l => (cols1024_apply _ r l).trans (pBlock m c t r _)
  · exact funext fun l => block4 m c t (ix2 0 l)
  · exact funext fun l => funext fun x => block6 m c t (ix2 l x)

/-- A row of a point's blocks is a row of the arguments. -/
theorem branchB (c : Dev nD) (t : Fin cfg0.N) (r : Fin 256) :
    branch (iblk m c 2 t) (cols512 (X0_3 m c t)) (cols2048 (X0_3 m c t)) (iblk m c 5 t) (iblk m c 7 t) r
      = (args m c).lineB (row t r) := by
  unfold branch Args.lineB args
  congr 1
  · exact funext fun l => obBlock m c t r l
  · exact funext fun l => (cols512_apply _ r l).trans (pBlock m c t r _)
  · exact funext fun l => (cols2048_apply _ r l).trans (pBlock m c t r _)
  · exact funext fun l => block5 m c t (ix2 0 l)
  · exact funext fun l => funext fun x => block7 m c t (ix2 l x)

theorem kept_row (c : Dev nD) (t : Fin cfg0.N) (r : Fin 256) : rowOf (kept0 m c t) r = (args m c).dh (row t r) := by
  obtain ⟨-, -, -, -, -, -, -, -, e⟩ := index_facts t
  funext x
  refine (kept r (grid0.coords t) (iblk m c 0 t) x).trans ?_
  rw [e]
  unfold Args.dh
  by_cases h : 48 ≤ (row t r).val % 2112
  · exact (if_pos h).trans ((hBlock m c t r x).trans (if_pos h).symm)
  · exact (if_neg h).trans (if_neg h).symm

theorem cot_row (c : Dev nD) (t : Fin cfg0.N) (r : Fin 256) : rowOf (cot m c t) r = (args m c).dm (row t r) := by
  funext x
  refine (dm_apply r (kept0 m c t) (iblk m c 8 t) x).trans ?_
  rw [kept_row]
  unfold Args.dm
  exact congrFun (congrArg _ (funext fun x => funext fun e => block8 m c t (ix2 x e))) x

/-- The first three results' blocks. -/
theorem out_10 (c : Dev nD) (t : Fin cfg0.N) (r : Fin 256) (k : Fin 512) :
    (outsAt0 m c t.val t.isLt).2.1 (ix2 r k) = (args m c).doa (row t r) k := by
  rw [point_10]
  refine (doA_apply _ _ _ _ _ _ r k).trans ?_
  rw [branchA, cot_row]
  rfl

theorem out_11 (c : Dev nD) (t : Fin cfg0.N) (r : Fin 256) (k : Fin 512) :
    (outsAt0 m c t.val t.isLt).2.2.1 (ix2 r k) = (args m c).dob (row t r) k := by
  rw [point_11]
  refine (doB_apply _ _ _ _ _ _ r k).trans ?_
  rw [branchB, cot_row]
  rfl

/-- A stripe of the block of columns holds its columns. -/
theorem mem_stripe (n w : ℕ) (size : Fin 2 → ℕ) (h0 : size 0 = 256) (h1 : size 1 = w) (inb : ∀ a, ![0, n] a + size a ≤ S256x3072.size a)
    (y : S256x3072.Idx) (hl : n ≤ (y 1).val) (hr : (y 1).val < n + w) : y ∈ (Rect.unit (s := S256x3072) ![0, n] size inb).set := by
  have hy : (y 0).val < 256 := (y 0).isLt
  rw [Rect.mem_set_unit]
  intro a
  match a with
  | ⟨0, _⟩ => exact ⟨Nat.zero_le _, by show (y 0).val < 0 + size 0; rw [h0, zero_add]; exact hy⟩
  | ⟨1, _⟩ => exact ⟨hl, by show (y 1).val < n + size 1; rw [h1]; exact hr⟩

section Stripes

variable (a b : S256x512.Idx → EReal) (u v : S256x1024.Idx → EReal)

/-- A row of four stripes. -/
abbrev striped (y : S256x3072.Idx) : EReal :=
  Args.stripes (fun l => a (ix2 (y 0) l)) (fun l => b (ix2 (y 0) l)) (fun l => u (ix2 (y 0) l)) (fun l => v (ix2 (y 0) l)) (y 1).val

theorem stripe_a (x : S256x512.Idx) :
    a x = striped a b u v ((Rect.unit (s := S256x3072) ![0, 0] S256x512.size inb_S256x3072_S256x512_0_0).emb x) := by
  have h0 : (((Rect.unit (s := S256x3072) ![0, 0] S256x512.size inb_S256x3072_S256x512_0_0).emb x) 0 : Fin 256) = x 0 :=
    Fin.ext (by show 0 + 1 * (x 0).val = (x 0).val; omega)
  have h1 : (((Rect.unit (s := S256x3072) ![0, 0] S256x512.size inb_S256x3072_S256x512_0_0).emb x) 1).val = (x 1).val := by
    show 0 + 1 * (x 1).val = (x 1).val
    omega
  refine Eq.trans ?_ (stripes_a _ _ _ _ _ (x 1) h1).symm
  exact congrArg a ((ix2_eta x).symm.trans (congrArg (fun q => ix2 q (x 1)) h0.symm))

theorem stripe_b (x : S256x512.Idx) :
    b x = striped a b u v ((Rect.unit (s := S256x3072) ![0, 512] S256x512.size inb_S256x3072_S256x512_0_512).emb x) := by
  have h0 : (((Rect.unit (s := S256x3072) ![0, 512] S256x512.size inb_S256x3072_S256x512_0_512).emb x) 0 : Fin 256) = x 0 :=
    Fin.ext (by show 0 + 1 * (x 0).val = (x 0).val; omega)
  have h1 : (((Rect.unit (s := S256x3072) ![0, 512] S256x512.size inb_S256x3072_S256x512_0_512).emb x) 1).val = 512 + (x 1).val := by
    show 512 + 1 * (x 1).val = 512 + (x 1).val
    omega
  refine Eq.trans ?_ (stripes_b _ _ _ _ _ (x 1) h1).symm
  exact congrArg b ((ix2_eta x).symm.trans (congrArg (fun q => ix2 q (x 1)) h0.symm))

theorem stripe_u (x : S256x1024.Idx) :
    u x = striped a b u v ((Rect.unit (s := S256x3072) ![0, 1024] S256x1024.size inb_S256x3072_S256x1024_0_1024).emb x) := by
  have h0 : (((Rect.unit (s := S256x3072) ![0, 1024] S256x1024.size inb_S256x3072_S256x1024_0_1024).emb x) 0 : Fin 256) = x 0 :=
    Fin.ext (by show 0 + 1 * (x 0).val = (x 0).val; omega)
  have h1 : (((Rect.unit (s := S256x3072) ![0, 1024] S256x1024.size inb_S256x3072_S256x1024_0_1024).emb x) 1).val = 1024 + (x 1).val := by
    show 1024 + 1 * (x 1).val = 1024 + (x 1).val
    omega
  refine Eq.trans ?_ (stripes_u _ _ _ _ _ (x 1) h1).symm
  exact congrArg u ((ix2_eta x).symm.trans (congrArg (fun q => ix2 q (x 1)) h0.symm))

theorem stripe_v (x : S256x1024.Idx) :
    v x = striped a b u v ((Rect.unit (s := S256x3072) ![0, 2048] S256x1024.size inb_S256x3072_S256x1024_0_2048).emb x) := by
  have h0 : (((Rect.unit (s := S256x3072) ![0, 2048] S256x1024.size inb_S256x3072_S256x1024_0_2048).emb x) 0 : Fin 256) = x 0 :=
    Fin.ext (by show 0 + 1 * (x 0).val = (x 0).val; omega)
  have h1 : (((Rect.unit (s := S256x3072) ![0, 2048] S256x1024.size inb_S256x3072_S256x1024_0_2048).emb x) 1).val = 2048 + (x 1).val := by
    show 2048 + 1 * (x 1).val = 2048 + (x 1).val
    omega
  refine Eq.trans ?_ (stripes_v _ _ _ _ _ (x 1) h1).symm
  exact congrArg v ((ix2_eta x).symm.trans (congrArg (fun q => ix2 q (x 1)) h0.symm))

/-- Four stripes side by side, at an index. -/
theorem dproj_apply (y : S256x3072.Idx) : dproj (F := Ideal) a b u v y = striped a b u v y := by
  unfold dproj
  refine View.canon_apply_of_pieces (Val := Elt Ideal) (e := .bf16) (S := S256x3072) (striped a b u v) _ ?_ y ?_
  · intro p hp
    rcases List.mem_cons.mp hp with rfl | hp
    · exact stripe_v a b u v
    rcases List.mem_cons.mp hp with rfl | hp
    · exact stripe_u a b u v
    rcases List.mem_cons.mp hp with rfl | hp
    · exact stripe_b a b u v
    rcases List.mem_cons.mp hp with rfl | hp
    · exact stripe_a a b u v
    · exact absurd hp List.not_mem_nil
  · have hy : (y 1).val < 3072 := (y 1).isLt
    by_cases h1 : (y 1).val < 512
    · refine ⟨⟨Rect.unit (s := S256x3072) ![0, 0] S256x512.size inb_S256x3072_S256x512_0_0, a⟩, ?_, mem_stripe 0 512 S256x512.size rfl rfl inb_S256x3072_S256x512_0_0 y (Nat.zero_le _) (by omega)⟩
      exact List.mem_cons_of_mem _ (List.mem_cons_of_mem _ (List.mem_cons_of_mem _ List.mem_cons_self))
    by_cases h2 : (y 1).val < 1024
    · refine ⟨⟨Rect.unit (s := S256x3072) ![0, 512] S256x512.size inb_S256x3072_S256x512_0_512, b⟩, ?_, mem_stripe 512 512 S256x512.size rfl rfl inb_S256x3072_S256x512_0_512 y (by omega) (by omega)⟩
      exact List.mem_cons_of_mem _ (List.mem_cons_of_mem _ List.mem_cons_self)
    by_cases h3 : (y 1).val < 2048
    · refine ⟨⟨Rect.unit (s := S256x3072) ![0, 1024] S256x1024.size inb_S256x3072_S256x1024_0_1024, u⟩, ?_, mem_stripe 1024 1024 S256x1024.size rfl rfl inb_S256x3072_S256x1024_0_1024 y (by omega) (by omega)⟩
      exact List.mem_cons_of_mem _ List.mem_cons_self
    · refine ⟨⟨Rect.unit (s := S256x3072) ![0, 2048] S256x1024.size inb_S256x3072_S256x1024_0_2048, v⟩, ?_, mem_stripe 2048 1024 S256x1024.size rfl rfl inb_S256x3072_S256x1024_0_2048 y (by omega) (by omega)⟩
      exact List.mem_cons_self

end Stripes

theorem out_9 (c : Dev nD) (t : Fin cfg0.N) (y : S256x3072.Idx) :
    (outsAt0 m c t.val t.isLt).1 y = (args m c).dproj (row t (y 0)) (y 1).val := by
  rw [point_9]
  refine (dproj_apply _ _ _ _ y).trans ?_
  have ha := branchA m c t (y 0)
  have hb := branchB m c t (y 0)
  have hd := cot_row m c t (y 0)
  unfold Args.dproj
  rw [← ha, ← hb, ← hd]
  have e1 := funext fun l => dzA_apply (iblk m c 1 t) (cols0 (X0_3 m c t)) (iblk m c 4 t) (cols1024 (X0_3 m c t)) (cot m c t) (iblk m c 6 t) (y 0) l
  have e2 := funext fun l => dzB_apply (iblk m c 2 t) (cols512 (X0_3 m c t)) (iblk m c 5 t) (cols2048 (X0_3 m c t)) (cot m c t) (iblk m c 7 t) (y 0) l
  have e3 := funext fun x => dtA_apply (iblk m c 1 t) (cols0 (X0_3 m c t)) (iblk m c 4 t) (cols1024 (X0_3 m c t)) (cot m c t) (iblk m c 6 t) (y 0)
    _ (fun x => projA_apply _ _ _ _ _ _ x) x
  have e4 := funext fun x => dtB_apply (iblk m c 2 t) (cols512 (X0_3 m c t)) (iblk m c 5 t) (cols2048 (X0_3 m c t)) (cot m c t) (iblk m c 7 t) (y 0)
    _ (fun x => projB_apply _ _ _ _ _ _ x) x
  exact congrFun (congr (congr (congr (congrArg Args.stripes e1) e2) e3) e4) _

end Cert.Mv

end
-- ==== Proof.MvSums.lean ====
module

public import proofs.«01_k».proof.Proof.MvArray

@[expose] public section

set_option maxRecDepth 16384

noncomputable section

/-! The gradient of the merge: the kernel's eight arrays at the end, and its run. -/

namespace Cert.Mv

open Cert.Kernel5Ideal Cert.Kernel5Ideal.Gen Cert.Kernel5Ideal.Value Idealize.ShloMosaic Idealize.ShloMosaic.TcCoe Idealize.SL.Sem

/-- A sum that every point adds its rows to is, after the last point, the sum over all the rows. -/
theorem sweep (f : Fin 8448 → EReal) (s : (n : ℕ) → n < cfg0.N → EReal)
    (first : ∀ h0, s 0 h0 = 0 + ∑ r, f (row ⟨0, h0⟩ r))
    (next : ∀ n hn, s (n + 1) hn = s n (Nat.lt_of_succ_lt hn) + ∑ r, f (row ⟨n + 1, hn⟩ r)) :
    ∀ n hn, n = 32 → s n hn = ∑ r, f r := by
  have part : ∀ n hn, ∑ r, f (row ⟨n, hn⟩ r) = ∑ r : Fin 256, (fun p => if h : p < 8448 then f ⟨p, h⟩ else 0) (n * 256 + r.val) :=
    fun n hn => Finset.sum_congr rfl fun r _ => by
      show f (row ⟨n, hn⟩ r) = dite (n * 256 + r.val < 8448) (fun h => f ⟨_, h⟩) (fun _ => 0)
      rw [dif_pos (show n * 256 + r.val < 8448 from (row ⟨n, hn⟩ r).isLt)]
      rfl
  have h : ∀ n hn, s n hn = ∑ p ∈ Finset.range ((n + 1) * 256), if h : p < 8448 then f ⟨p, h⟩ else 0 := by
    intro n
    induction n with
    | zero =>
      intro hn
      rw [first, part, zero_add, ← Rows.sum_blocks _ 256 (0 + 1), Finset.sum_range_succ, Finset.sum_range_zero, zero_add]
    | succ n ih =>
      intro hn
      rw [next, part, ih, ← Rows.sum_blocks _ 256 (n + 1 + 1), Finset.sum_range_succ _ (n + 1), ← Rows.sum_blocks _ 256 (n + 1)]
  intro n hn e
  rw [h, show (n + 1) * 256 = 8448 by omega, Finset.sum_range]
  exact Finset.sum_congr rfl fun p _ => dif_pos p.isLt

variable (m : (ℓ : Loc nD τ sig) → Buf (Elt Ideal) ℓ) (ρ : Dev nD → PrngReg)

theorem last_lt : 32 < cfg0.N := by show 32 < 33; omega

/-- The rows of `dwa`'s sum. -/
theorem sum_12 (c : Dev nD) (t : Fin cfg0.N) (ht : t.val = 32) (l : Fin 512) (x : Fin 1024) :
    (outsAt0 m c t.val t.isLt).2.2.2.1 (ix2 l x) = ∑ r, (args m c).dwaRow r l x := by
  have step := fun t x0 => (dwA_apply (iblk m c 1 t) (cols0 (X0_3 m c t)) (iblk m c 4 t) (cols1024 (X0_3 m c t)) (cot m c t) (iblk m c 6 t) x0 l x).trans
    (congrArg _ (Finset.sum_congr rfl fun r _ => congrFun (congrFun (congr (congrArg Branch.dw (branchA m c t r)) (cot_row m c t r)) l) x))
  refine sweep _ (fun n hn => (outsAt0 m c n hn).2.2.2.1 (ix2 l x)) (fun h0 => ?_) (fun n hn => ?_) t.val t.isLt ht
  · refine (congrFun (first_12 m c ⟨0, h0⟩ rfl) (ix2 l x)).trans ((step ⟨0, h0⟩ _).trans ?_)
    exact congrArg (· + _) Ideal.ofBits_zero_f32
  · exact (congrFun (next_12 m c ⟨n + 1, hn⟩ (Nat.succ_ne_zero n)) (ix2 l x)).trans (step ⟨n + 1, hn⟩ _)

/-- The rows of `dwb`'s sum. -/
theorem sum_13 (c : Dev nD) (t : Fin cfg0.N) (ht : t.val = 32) (l : Fin 512) (x : Fin 1024) :
    (outsAt0 m c t.val t.isLt).2.2.2.2.1 (ix2 l x) = ∑ r, (args m c).dwbRow r l x := by
  have step := fun t x0 => (dwB_apply (iblk m c 2 t) (cols512 (X0_3 m c t)) (iblk m c 5 t) (cols2048 (X0_3 m c t)) (cot m c t) (iblk m c 7 t) x0 l x).trans
    (congrArg _ (Finset.sum_congr rfl fun r _ => congrFun (congrFun (congr (congrArg Branch.dw (branchB m c t r)) (cot_row m c t r)) l) x))
  refine sweep _ (fun n hn => (outsAt0 m c n hn).2.2.2.2.1 (ix2 l x)) (fun h0 => ?_) (fun n hn => ?_) t.val t.isLt ht
  · refine (congrFun (first_13 m c ⟨0, h0⟩ rfl) (ix2 l x)).trans ((step ⟨0, h0⟩ _).trans ?_)
    exact congrArg (· + _) Ideal.ofBits_zero_f32
  · exact (congrFun (next_13 m c ⟨n + 1, hn⟩ (Nat.succ_ne_zero n)) (ix2 l x)).trans (step ⟨n + 1, hn⟩ _)

/-- The rows of `dwo`'s sum. -/
theorem sum_14 (c : Dev nD) (t : Fin cfg0.N) (ht : t.val = 32) (x e : Fin 1024) :
    (outsAt0 m c t.val t.isLt).2.2.2.2.2.1 (ix2 x e) = ∑ r, (args m c).dwoRow r x e := by
  have step := fun t x0 => (dO_apply (iblk m c 1 t) (iblk m c 2 t) (cols0 (X0_3 m c t)) (cols512 (X0_3 m c t)) (cols1024 (X0_3 m c t)) (cols2048 (X0_3 m c t))
    (iblk m c 4 t) (iblk m c 5 t) (iblk m c 6 t) (iblk m c 7 t) (kept0 m c t) x0 x e).trans
    (congrArg _ (Finset.sum_congr rfl fun r _ => congr (congrArg _ (congrFun (congr (congrArg mixed (branchA m c t r)) (branchB m c t r)) x)) (congrFun (kept_row m c t r) e)))
  refine sweep _ (fun n hn => (outsAt0 m c n hn).2.2.2.2.2.1 (ix2 x e)) (fun h0 => ?_) (fun n hn => ?_) t.val t.isLt ht
  · refine (congrFun (first_14 m c ⟨0, h0⟩ rfl) (ix2 x e)).trans ((step ⟨0, h0⟩ _).trans ?_)
    exact congrArg (· + _) Ideal.ofBits_zero_f32
  · exact (congrFun (next_14 m c ⟨n + 1, hn⟩ (Nat.succ_ne_zero n)) (ix2 x e)).trans (step ⟨n + 1, hn⟩ _)

/-- The rows of `dga`'s sum. -/
theorem sum_15 (c : Dev nD) (t : Fin cfg0.N) (ht : t.val = 32) (j : Fin 128) :
    (outsAt0 m c t.val t.isLt).2.2.2.2.2.2.1 (ix2 0 j) = ∑ r, (args m c).dgaRow r j := by
  have step := fun t x0 => (dgA_apply (iblk m c 1 t) (cols0 (X0_3 m c t)) (iblk m c 4 t) (cols1024 (X0_3 m c t)) (cot m c t) (iblk m c 6 t) x0 j).trans
    (congrArg _ (Finset.sum_congr rfl fun r _ => congrFun (congr (congrArg Branch.dg (branchA m c t r)) (cot_row m c t r)) j))
  refine sweep _ (fun n hn => (outsAt0 m c n hn).2.2.2.2.2.2.1 (ix2 0 j)) (fun h0 => ?_) (fun n hn => ?_) t.val t.isLt ht
  · refine (congrFun (first_15 m c ⟨0, h0⟩ rfl) (ix2 0 j)).trans ((step ⟨0, h0⟩ _).trans ?_)
    exact congrArg (· + _) Ideal.ofBits_zero_f32
  · exact (congrFun (next_15 m c ⟨n + 1, hn⟩ (Nat.succ_ne_zero n)) (ix2 0 j)).trans (step ⟨n + 1, hn⟩ _)

/-- The rows of `dgb`'s sum. -/
theorem sum_16 (c : Dev nD) (t : Fin cfg0.N) (ht : t.val = 32) (j : Fin 128) :
    (outsAt0 m c t.val t.isLt).2.2.2.2.2.2.2 (ix2 0 j) = ∑ r, (args m c).dgbRow r j := by
  have step := fun t x0 => (dgB_apply (iblk m c 2 t) (cols512 (X0_3 m c t)) (iblk m c 5 t) (cols2048 (X0_3 m c t)) (cot m c t) (iblk m c 7 t) x0 j).trans
    (congrArg _ (Finset.sum_congr rfl fun r _ => congrFun (congr (congrArg Branch.dg (branchB m c t r)) (cot_row m c t r)) j))
  refine sweep _ (fun n hn => (outsAt0 m c n hn).2.2.2.2.2.2.2 (ix2 0 j)) (fun h0 => ?_) (fun n hn => ?_) t.val t.isLt ht
  · refine (congrFun (first_16 m c ⟨0, h0⟩ rfl) (ix2 0 j)).trans ((step ⟨0, h0⟩ _).trans ?_)
    exact congrArg (· + _) Ideal.ofBits_zero_f32
  · exact (congrFun (next_16 m c ⟨n + 1, hn⟩ (Nat.succ_ne_zero n)) (ix2 0 j)).trans (step ⟨n + 1, hn⟩ _)

theorem out_facts : ∀ t : Fin cfg0.N, win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem sum_facts : ∀ t : Fin cfg0.N, (∀ a, win0_12.index t a = 0) ∧ (∀ a, win0_13.index t a = 0) ∧ (∀ a, win0_14.index t a = 0)
    ∧ (∀ a, win0_15.index t a = 0) ∧ (∀ a, win0_16.index t a = 0) :=
  (by decide +kernel : ∀ t : Fin grid0.N, _)

theorem flush_rows : ∀ t : Fin cfg0.N, (cfg0.win 9).flush t = true ∧ (cfg0.win 10).flush t = true ∧ (cfg0.win 11).flush t = true :=
  (by decide +kernel : ∀ t : Fin grid0.N, _)

theorem flush_sums : ∀ t : Fin cfg0.N, ((cfg0.win 12).flush t = true ↔ t.val = 32) ∧ ((cfg0.win 13).flush t = true ↔ t.val = 32)
    ∧ ((cfg0.win 14).flush t = true ↔ t.val = 32) ∧ ((cfg0.win 15).flush t = true ↔ t.val = 32) ∧ ((cfg0.win 16).flush t = true ↔ t.val = 32) :=
  (by decide +kernel : ∀ t : Fin grid0.N, _)

theorem extent9 : ∀ t : Fin cfg0.N, ∀ a, (cfg0.win 9).xsize (cfg0.grid.coords t) a = (cfg0.win 9).size a := by decide +kernel

theorem row_split (a : ℕ) : a / 256 * 256 + a % 256 = a := by omega
theorem split_lt {a : ℕ} (h : a < 8448) : a / 256 < 33 := by omega

/-- The results. -/
def dprojArr (c : Dev nD) : S8448x6272.Idx → EReal := fun i => (args m c).dproj (i 0) (i 1).val
def doaArr (c : Dev nD) : S8448x512.Idx → EReal := fun i => (args m c).doa (i 0) (i 1)
def dobArr (c : Dev nD) : S8448x512.Idx → EReal := fun i => (args m c).dob (i 0) (i 1)
def dwaArr (c : Dev nD) : S512x1024.Idx → EReal := fun i => ∑ r, (args m c).dwaRow r (i 0) (i 1)
def dwbArr (c : Dev nD) : S512x1024.Idx → EReal := fun i => ∑ r, (args m c).dwbRow r (i 0) (i 1)
def dwoArr (c : Dev nD) : S1024x1024.Idx → EReal := fun i => ∑ r, (args m c).dwoRow r (i 0) (i 1)
def dgaArr (c : Dev nD) : S1x128.Idx → EReal := fun i => ∑ r, (args m c).dgaRow r (i 1)
def dgbArr (c : Dev nD) : S1x128.Idx → EReal := fun i => ∑ r, (args m c).dgbRow r (i 1)

theorem place_10 (t : Fin cfg0.N) (r : Fin 256) (e : Fin 512) : ((cfg0.win 10).blk t).view.emb (ix2 r e) = ix2 (row t r) e := by
  obtain ⟨-, -, e0, e1, -⟩ := out_facts t
  refine funext fun a => Fin.ext ?_
  match a with
  | ⟨0, _⟩ => show win0_10.index t (0 : Fin 2) * 256 + 1 * r.val = t.val * 256 + r.val; rw [e0, one_mul]
  | ⟨1, _⟩ => show win0_10.index t (1 : Fin 2) * 512 + 1 * e.val = e.val; rw [e1]; simp

theorem array_10 (c : Dev nD) : (dats m 0 c).arrAt 10 cfg0.N = doaArr m c := by
  refine (dats m 0 c).arrAt_eq_of_cover 10 (doaArr m c) (fun t _ => ?_) fun i => ?_
  · rw [flushed10]
    funext y
    show (outsAt0 m c t.val t.isLt).2.1 y = doaArr m c (((cfg0.win 10).blk t).view.emb y)
    have ey : y = ix2 (y 0) (y 1) := (ix2_eta y).symm
    refine (congrArg (outsAt0 m c t.val t.isLt).2.1 ey).trans ((out_10 m c t (y 0) (y 1)).trans ?_)
    have e : ix2 (row t (y 0)) (y 1) = ((cfg0.win 10).blk t).view.emb y := (place_10 t (y 0) (y 1)).symm.trans (congrArg _ ey.symm)
    show doaArr m c (ix2 (row t (y 0)) (y 1)) = _
    exact congrArg (doaArr m c) e
  · have h0 : (i (0 : Fin 2)).val < 8448 := (i (0 : Fin 2)).isLt
    refine ⟨⟨(i (0 : Fin 2)).val / 256, split_lt h0⟩, (flush_rows _).2.1, ?_⟩
    refine Finset.mem_map.mpr ⟨ix2 ⟨(i (0 : Fin 2)).val % 256, Nat.mod_lt _ (by decide)⟩ ⟨(i (1 : Fin 2)).val, (i (1 : Fin 2)).isLt⟩,
      Finset.mem_univ _, ?_⟩
    refine (place_10 _ _ _).trans ?_
    funext a
    apply Fin.ext
    match a with
    | ⟨0, _⟩ => exact row_split _
    | ⟨1, _⟩ => rfl

theorem place_11 (t : Fin cfg0.N) (r : Fin 256) (e : Fin 512) : ((cfg0.win 11).blk t).view.emb (ix2 r e) = ix2 (row t r) e := by
  obtain ⟨-, -, -, -, e0, e1⟩ := out_facts t
  refine funext fun a => Fin.ext ?_
  match a with
  | ⟨0, _⟩ => show win0_11.index t (0 : Fin 2) * 256 + 1 * r.val = t.val * 256 + r.val; rw [e0, one_mul]
  | ⟨1, _⟩ => show win0_11.index t (1 : Fin 2) * 512 + 1 * e.val = e.val; rw [e1]; simp

theorem array_11 (c : Dev nD) : (dats m 0 c).arrAt 11 cfg0.N = dobArr m c := by
  refine (dats m 0 c).arrAt_eq_of_cover 11 (dobArr m c) (fun t _ => ?_) fun i => ?_
  · rw [flushed11]
    funext y
    show (outsAt0 m c t.val t.isLt).2.2.1 y = dobArr m c (((cfg0.win 11).blk t).view.emb y)
    have ey : y = ix2 (y 0) (y 1) := (ix2_eta y).symm
    refine (congrArg (outsAt0 m c t.val t.isLt).2.2.1 ey).trans ((out_11 m c t (y 0) (y 1)).trans ?_)
    have e : ix2 (row t (y 0)) (y 1) = ((cfg0.win 11).blk t).view.emb y := (place_11 t (y 0) (y 1)).symm.trans (congrArg _ ey.symm)
    show dobArr m c (ix2 (row t (y 0)) (y 1)) = _
    exact congrArg (dobArr m c) e
  · have h0 : (i (0 : Fin 2)).val < 8448 := (i (0 : Fin 2)).isLt
    refine ⟨⟨(i (0 : Fin 2)).val / 256, split_lt h0⟩, (flush_rows _).2.2, ?_⟩
    refine Finset.mem_map.mpr ⟨ix2 ⟨(i (0 : Fin 2)).val % 256, Nat.mod_lt _ (by decide)⟩ ⟨(i (1 : Fin 2)).val, (i (1 : Fin 2)).isLt⟩,
      Finset.mem_univ _, ?_⟩
    refine (place_11 _ _ _).trans ?_
    funext a
    apply Fin.ext
    match a with
    | ⟨0, _⟩ => exact row_split _
    | ⟨1, _⟩ => rfl

theorem place_12 (t : Fin cfg0.N) (y : S512x1024.Idx) : ((cfg0.win 12).blk t).view.emb y = y := by
  obtain ⟨e, -⟩ := sum_facts t
  refine funext fun a => Fin.ext ?_
  match a with
  | ⟨0, _⟩ => show win0_12.index t (0 : Fin 2) * 512 + 1 * (y 0).val = (y 0).val; rw [e 0]; simp
  | ⟨1, _⟩ => show win0_12.index t (1 : Fin 2) * 1024 + 1 * (y 1).val = (y 1).val; rw [e 1]; simp

theorem array_12 (c : Dev nD) : (dats m 0 c).arrAt 12 cfg0.N = dwaArr m c := by
  refine (dats m 0 c).arrAt_eq_of_cover 12 (dwaArr m c) (fun t hf => ?_) fun i => ?_
  · have ht : t.val = 32 := (flush_sums t).1.mp hf
    rw [flushed12]
    funext y
    show (outsAt0 m c t.val t.isLt).2.2.2.1 y = dwaArr m c (((cfg0.win 12).blk t).view.emb y)
    refine (congrArg (outsAt0 m c t.val t.isLt).2.2.2.1 (ix2_eta y).symm).trans ((sum_12 m c t ht (y 0) (y 1)).trans ?_)
    show dwaArr m c (ix2 (y 0) (y 1)) = _
    exact congrArg (dwaArr m c) ((ix2_eta y).trans (place_12 t y).symm)
  · exact ⟨⟨32, last_lt⟩, (flush_sums _).1.mpr rfl, Finset.mem_map.mpr ⟨i, Finset.mem_univ _, place_12 _ i⟩⟩

theorem place_13 (t : Fin cfg0.N) (y : S512x1024.Idx) : ((cfg0.win 13).blk t).view.emb y = y := by
  obtain ⟨-, e, -⟩ := sum_facts t
  refine funext fun a => Fin.ext ?_
  match a with
  | ⟨0, _⟩ => show win0_13.index t (0 : Fin 2) * 512 + 1 * (y 0).val = (y 0).val; rw [e 0]; simp
  | ⟨1, _⟩ => show win0_13.index t (1 : Fin 2) * 1024 + 1 * (y 1).val = (y 1).val; rw [e 1]; simp

theorem array_13 (c : Dev nD) : (dats m 0 c).arrAt 13 cfg0.N = dwbArr m c := by
  refine (dats m 0 c).arrAt_eq_of_cover 13 (dwbArr m c) (fun t hf => ?_) fun i => ?_
  · have ht : t.val = 32 := (flush_sums t).2.1.mp hf
    rw [flushed13]
    funext y
    show (outsAt0 m c t.val t.isLt).2.2.2.2.1 y = dwbArr m c (((cfg0.win 13).blk t).view.emb y)
    refine (congrArg (outsAt0 m c t.val t.isLt).2.2.2.2.1 (ix2_eta y).symm).trans ((sum_13 m c t ht (y 0) (y 1)).trans ?_)
    show dwbArr m c (ix2 (y 0) (y 1)) = _
    exact congrArg (dwbArr m c) ((ix2_eta y).trans (place_13 t y).symm)
  · exact ⟨⟨32, last_lt⟩, (flush_sums _).2.1.mpr rfl, Finset.mem_map.mpr ⟨i, Finset.mem_univ _, place_13 _ i⟩⟩

theorem place_14 (t : Fin cfg0.N) (y : S1024x1024.Idx) : ((cfg0.win 14).blk t).view.emb y = y := by
  obtain ⟨-, -, e, -⟩ := sum_facts t
  refine funext fun a => Fin.ext ?_
  match a with
  | ⟨0, _⟩ => show win0_14.index t (0 : Fin 2) * 1024 + 1 * (y 0).val = (y 0).val; rw [e 0]; simp
  | ⟨1, _⟩ => show win0_14.index t (1 : Fin 2) * 1024 + 1 * (y 1).val = (y 1).val; rw [e 1]; simp

theorem array_14 (c : Dev nD) : (dats m 0 c).arrAt 14 cfg0.N = dwoArr m c := by
  refine (dats m 0 c).arrAt_eq_of_cover 14 (dwoArr m c) (fun t hf => ?_) fun i => ?_
  · have ht : t.val = 32 := (flush_sums t).2.2.1.mp hf
    rw [flushed14]
    funext y
    show (outsAt0 m c t.val t.isLt).2.2.2.2.2.1 y = dwoArr m c (((cfg0.win 14).blk t).view.emb y)
    refine (congrArg (outsAt0 m c t.val t.isLt).2.2.2.2.2.1 (ix2_eta y).symm).trans ((sum_14 m c t ht (y 0) (y 1)).trans ?_)
    show dwoArr m c (ix2 (y 0) (y 1)) = _
    exact congrArg (dwoArr m c) ((ix2_eta y).trans (place_14 t y).symm)
  · exact ⟨⟨32, last_lt⟩, (flush_sums _).2.2.1.mpr rfl, Finset.mem_map.mpr ⟨i, Finset.mem_univ _, place_14 _ i⟩⟩

theorem place_15 (t : Fin cfg0.N) (y : S1x128.Idx) : ((cfg0.win 15).blk t).view.emb y = y := by
  obtain ⟨-, -, -, e, -⟩ := sum_facts t
  refine funext fun a => Fin.ext ?_
  match a with
  | ⟨0, _⟩ => show win0_15.index t (0 : Fin 2) * 1 + 1 * (y 0).val = (y 0).val; rw [e 0]; simp
  | ⟨1, _⟩ => show win0_15.index t (1 : Fin 2) * 128 + 1 * (y 1).val = (y 1).val; rw [e 1]; simp

theorem array_15 (c : Dev nD) : (dats m 0 c).arrAt 15 cfg0.N = dgaArr m c := by
  refine (dats m 0 c).arrAt_eq_of_cover 15 (dgaArr m c) (fun t hf => ?_) fun i => ?_
  · have ht : t.val = 32 := (flush_sums t).2.2.2.1.mp hf
    rw [flushed15]
    funext y
    show (outsAt0 m c t.val t.isLt).2.2.2.2.2.2.1 y = dgaArr m c (((cfg0.win 15).blk t).view.emb y)
    have ey : y = ix2 0 (y 1) := (ix2_eta y).symm.trans (congrArg (fun q => ix2 q (y 1)) (Subsingleton.elim (α := Fin 1) _ _))
    refine (congrArg (outsAt0 m c t.val t.isLt).2.2.2.2.2.2.1 ey).trans ((sum_15 m c t ht (y 1)).trans ?_)
    show dgaArr m c (ix2 0 (y 1)) = _
    exact congrArg (dgaArr m c) (ey.symm.trans (place_15 t y).symm)
  · exact ⟨⟨32, last_lt⟩, (flush_sums _).2.2.2.1.mpr rfl, Finset.mem_map.mpr ⟨i, Finset.mem_univ _, place_15 _ i⟩⟩

theorem place_16 (t : Fin cfg0.N) (y : S1x128.Idx) : ((cfg0.win 16).blk t).view.emb y = y := by
  obtain ⟨-, -, -, -, e⟩ := sum_facts t
  refine funext fun a => Fin.ext ?_
  match a with
  | ⟨0, _⟩ => show win0_16.index t (0 : Fin 2) * 1 + 1 * (y 0).val = (y 0).val; rw [e 0]; simp
  | ⟨1, _⟩ => show win0_16.index t (1 : Fin 2) * 128 + 1 * (y 1).val = (y 1).val; rw [e 1]; simp

theorem array_16 (c : Dev nD) : (dats m 0 c).arrAt 16 cfg0.N = dgbArr m c := by
  refine (dats m 0 c).arrAt_eq_of_cover 16 (dgbArr m c) (fun t hf => ?_) fun i => ?_
  · have ht : t.val = 32 := (flush_sums t).2.2.2.2.mp hf
    rw [flushed16]
    funext y
    show (outsAt0 m c t.val t.isLt).2.2.2.2.2.2.2 y = dgbArr m c (((cfg0.win 16).blk t).view.emb y)
    have ey : y = ix2 0 (y 1) := (ix2_eta y).symm.trans (congrArg (fun q => ix2 q (y 1)) (Subsingleton.elim (α := Fin 1) _ _))
    refine (congrArg (outsAt0 m c t.val t.isLt).2.2.2.2.2.2.2 ey).trans ((sum_16 m c t ht (y 1)).trans ?_)
    show dgbArr m c (ix2 0 (y 1)) = _
    exact congrArg (dgbArr m c) (ey.symm.trans (place_16 t y).symm)
  · exact ⟨⟨32, last_lt⟩, (flush_sums _).2.2.2.2.mpr rfl, Finset.mem_map.mpr ⟨i, Finset.mem_univ _, place_16 _ i⟩⟩

/-- The first 3072 columns of the projection's gradient. -/
theorem array_9 (c : Dev nD) (i : S8448x6272.Idx) (hi : (i 1).val < 3072) : (dats m 0 c).arrAt 9 cfg0.N i = dprojArr m c i := by
  have h0 : (i (0 : Fin 2)).val < 8448 := (i (0 : Fin 2)).isLt
  refine (dats m 0 c).arrAt_apply_of_mem 9 (dprojArr m c) (fun t _ => ?_) cfg0.N ⟨(i (0 : Fin 2)).val / 256, split_lt h0⟩ i
    (split_lt h0) (flush_rows _).1 ?_
  · rw [flushed9]
    obtain ⟨e0, e1, -⟩ := out_facts t
    funext y
    show (outsAt0 m c t.val t.isLt).1 ((cfg0.win 9).xinj (grid0.coords t) y) = dprojArr m c (((cfg0.win 9).blk t).view.emb y)
    refine (out_9 m c t _).trans ?_
    refine congr (congrArg _ (Fin.ext ?_)) ?_
    · show t.val * 256 + (y 0).val = win0_9.index t (0 : Fin 2) * 256 + 1 * (y 0).val
      rw [e0, one_mul]
    · show (y 1).val = win0_9.index t (1 : Fin 2) * 3072 + 1 * (y 1).val
      rw [e1, one_mul, zero_mul, zero_add]
  · obtain ⟨e0, e1, -⟩ := out_facts ⟨(i (0 : Fin 2)).val / 256, split_lt h0⟩
    have hx := extent9 ⟨(i (0 : Fin 2)).val / 256, split_lt h0⟩
    refine Finset.mem_map.mpr ⟨fun a => ⟨![(i (0 : Fin 2)).val % 256, (i (1 : Fin 2)).val] a, ?_⟩, Finset.mem_univ _, ?_⟩
    · show _ < (cfg0.win 9).xsize (cfg0.grid.coords ⟨(i (0 : Fin 2)).val / 256, split_lt h0⟩) a
      rw [hx a]
      match a with
      | ⟨0, _⟩ => exact Nat.mod_lt _ (by decide)
      | ⟨1, _⟩ => exact hi
    · refine funext fun a => Fin.ext ?_
      match a with
      | ⟨0, _⟩ =>
        show win0_9.index ⟨(i (0 : Fin 2)).val / 256, split_lt h0⟩ (0 : Fin 2) * 256 + 1 * ((i (0 : Fin 2)).val % 256) = (i (0 : Fin 2)).val
        rw [e0, one_mul]; exact row_split _
      | ⟨1, _⟩ =>
        show win0_9.index ⟨(i (0 : Fin 2)).val / 256, split_lt h0⟩ (1 : Fin 2) * 3072 + 1 * (i (1 : Fin 2)).val = (i (1 : Fin 2)).val
        rw [e1, one_mul, zero_mul, zero_add]

/-- The run, with what its results hold. -/
theorem run : θ_run defs (onTc (τ := τ) (main (F := Ideal))) ⟨m, fun _ => 0, ρ⟩ fun r => ∀ c : Dev nD,
      (∀ i : S8448x6272.Idx, (i 1).val < 3072 → r.2.mem ((c.tc : Thread nD τ).loc main_v0_0) i = dprojArr m c i)
      ∧ r.2.mem ((c.tc : Thread nD τ).loc main_v0_1) = doaArr m c
      ∧ r.2.mem ((c.tc : Thread nD τ).loc main_v0_2) = dobArr m c
      ∧ r.2.mem ((c.tc : Thread nD τ).loc main_v0_3) = dwaArr m c
      ∧ r.2.mem ((c.tc : Thread nD τ).loc main_v0_4) = dwbArr m c
      ∧ r.2.mem ((c.tc : Thread nD τ).loc main_v0_5) = dwoArr m c
      ∧ r.2.mem ((c.tc : Thread nD τ).loc main_v0_6) = dgaArr m c
      ∧ r.2.mem ((c.tc : Thread nD τ).loc main_v0_7) = dgbArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (run_blocks m ρ)
  obtain ⟨h9, h10, h11, h12, h13, h14, h15, h16, hk⟩ := h c
  exact ⟨fun i hi => (congrFun h9 i).trans (array_9 m c i hi), h10.trans (array_10 m c), h11.trans (array_11 m c), h12.trans (array_12 m c),
    h13.trans (array_13 m c), h14.trans (array_14 m c), h15.trans (array_15 m c), h16.trans (array_16 m c), hk⟩

end Cert.Mv

end
-- ==== Proof.MvToken.lean ====
module

public import proofs.«01_k».proof.Proof.Gen.Reference5Ideal.Read
public import proofs.«01_k».proof.Proof.MvLines
public import Idealize.ShloMosaic.Lib.Pointwise

@[expose] public section

set_option maxRecDepth 16384

noncomputable section

/-! The gradient of the merge: what the reference computes at a token. -/

namespace Cert.MvReference

open Cert.Reference5Ideal Cert.Reference5Ideal.Gen Cert.Reference5Ideal.Value Cert.Reference5Ideal.Read Idealize.ShloMosaic Idealize.ShloMosaic.TcCoe Idealize.SL.Sem
open Cert.Mv

/-- The row of sequence `b`'s token `t`. -/
def row (b : Fin 4) (t : Fin 2064) : Fin 8448 := ⟨b.val * 2112 + (48 + t.val), by have := b.isLt; have := t.isLt; omega⟩

theorem row_token (b : Fin 4) (t : Fin 2064) : 48 ≤ (row b t).val % 2112 := by
  have hb := b.isLt
  have ht := t.isLt
  show 48 ≤ (b.val * 2112 + (48 + t.val)) % 2112
  omega

/-- The arguments, row by row. -/
def argsOf (x0 : S8448x1024.Idx → EReal) (x1 x2 : S8448x512.Idx → EReal) (x3 : S8448x6272.Idx → EReal)
    (x4 x5 : S1x128.Idx → EReal) (x6 x7 : S512x1024.Idx → EReal) (x8 : S1024x1024.Idx → EReal) : Args where
  h r e := x0 (ix2 r e)
  oa r l := x1 (ix2 r l)
  ob r l := x2 (ix2 r l)
  p r l := x3 (ix2 r l)
  ga j := x4 (ix2 0 j)
  gb j := x5 (ix2 0 j)
  wa l x := x6 (ix2 l x)
  wb l x := x7 (ix2 l x)
  wo x e := x8 (ix2 x e)

theorem cut_le (h : Fin 4) : h.val * 128 + 128 ≤ 512 := by have := h.isLt; omega

variable (x0 : S8448x1024.Idx → EReal) (x1 x2 : S8448x512.Idx → EReal) (x3 : S8448x6272.Idx → EReal)
    (x4 x5 : S1x128.Idx → EReal) (x6 x7 : S512x1024.Idx → EReal) (x8 : S1024x1024.Idx → EReal) (b : Fin 4) (t : Fin 2064)

/-- Branch A, normed and gated. -/
theorem yA (k : Fin 512) : val_main_v35 (F := Ideal) x1 x3 x4 (ix3 b t k) = ((argsOf x0 x1 x2 x3 x4 x5 x6 x7 x8).lineA (row b t)).y k := by
  unfold val_main_v35 val_main_v34 val_main_v33_0 val_main_v33_2 val_main_call0_v4 val_main_call0_cst_0 val_main_call0_v3
    val_main_call0_v2 val_main_call0_cst val_main_call0_v1 val_main_call0_v0 val_main_v32 val_main_v31 val_main_v30 val_main_v29
    val_main_v28 val_main_v27 val_main_v23 val_main_v22 val_main_v21 val_main_cst_1 val_main_v20 val_main_v19 val_main_cst_0
    val_main_v18 val_main_v17 val_main_cst val_main_v16 val_main_v15 val_main_v11 val_main_v7 val_main_v6 val_main_v5 val_main_v4
    val_main_v3
  pointwise []
  rfl

theorem gateA (x : Fin 1024) : val_main_v64 (F := Ideal) x3 (ix3 b t x) = Ideal.logistic (((argsOf x0 x1 x2 x3 x4 x5 x6 x7 x8).lineA (row b t)).t x) := by
  unfold val_main_v64 val_main_v63 val_main_cst_8 val_main_v62 val_main_v61 val_main_cst_7 val_main_v60 val_main_v59 val_main_v13
    val_main_v4 val_main_v3
  pointwise []
  rfl

theorem projA (x : Fin 1024) : val_main_v57 (F := Ideal) x1 x3 x4 x6 (ix3 b t x) = ((argsOf x0 x1 x2 x3 x4 x5 x6 x7 x8).lineA (row b t)).proj x := by
  have hy := yA x0 x1 x2 x3 x4 x5 x6 x7 x8 b t
  unfold val_main_v57 val_main_v0
  generalize val_main_v35 (F := Ideal) x1 x3 x4 = y at hy ⊢
  pointwise []
  simp only [hy]
  rfl

/-- Branch B, normed and gated. -/
theorem yB (k : Fin 512) : val_main_v56 (F := Ideal) x2 x3 x5 (ix3 b t k) = ((argsOf x0 x1 x2 x3 x4 x5 x6 x7 x8).lineB (row b t)).y k := by
  unfold val_main_v56 val_main_v55 val_main_v54_0 val_main_v54_2 val_main_call1_v4 val_main_call1_cst_0 val_main_call1_v3
    val_main_call1_v2 val_main_call1_cst val_main_call1_v1 val_main_call1_v0 val_main_v53 val_main_v52 val_main_v51 val_main_v50
    val_main_v49 val_main_v48 val_main_v44 val_main_v43 val_main_v42 val_main_cst_5 val_main_v41 val_main_v40 val_main_cst_4
    val_main_v39 val_main_v38 val_main_cst_3 val_main_v37 val_main_v36 val_main_v12 val_main_v10 val_main_v9 val_main_v8
    val_main_v4 val_main_v3
  pointwise []
  rfl

theorem gateB (x : Fin 1024) : val_main_v74 (F := Ideal) x3 (ix3 b t x) = Ideal.logistic (((argsOf x0 x1 x2 x3 x4 x5 x6 x7 x8).lineB (row b t)).t x) := by
  unfold val_main_v74 val_main_v73 val_main_cst_11 val_main_v72 val_main_v71 val_main_cst_10 val_main_v70 val_main_v69 val_main_v14
    val_main_v4 val_main_v3
  pointwise []
  rfl

theorem projB (x : Fin 1024) : val_main_v58 (F := Ideal) x2 x3 x5 x7 (ix3 b t x) = ((argsOf x0 x1 x2 x3 x4 x5 x6 x7 x8).lineB (row b t)).proj x := by
  have hy := yB x0 x1 x2 x3 x4 x5 x6 x7 x8 b t
  unfold val_main_v58 val_main_v1
  generalize val_main_v56 (F := Ideal) x2 x3 x5 = y at hy ⊢
  pointwise []
  simp only [hy]
  rfl

/-- The cotangent at a token. -/
theorem dh_apply (e : Fin 1024) : val_main_v82 (F := Ideal) x0 (ix3 b t e) = (argsOf x0 x1 x2 x3 x4 x5 x6 x7 x8).dh (row b t) e := by
  unfold val_main_v82 val_main_v81
  pointwise []
  exact (if_pos (row_token b t)).symm

theorem dm_apply (x : Fin 1024) : val_main_v85 (F := Ideal) x0 x8 (ix3 b t x) = (argsOf x0 x1 x2 x3 x4 x5 x6 x7 x8).dm (row b t) x := by
  have hh := dh_apply x0 x1 x2 x3 x4 x5 x6 x7 x8 b t
  unfold val_main_v85 val_main_v2
  generalize val_main_v82 (F := Ideal) x0 = h at hh ⊢
  pointwise []
  simp only [hh]
  rfl

/-- The merged row. -/
theorem mixed_apply (x : Fin 1024) :
    val_main_v79 (F := Ideal) x1 x2 x3 x4 x5 x6 x7 (ix3 b t x) = mixed ((argsOf x0 x1 x2 x3 x4 x5 x6 x7 x8).lineA (row b t)) ((argsOf x0 x1 x2 x3 x4 x5 x6 x7 x8).lineB (row b t)) x := by
  have hpA := projA x0 x1 x2 x3 x4 x5 x6 x7 x8 b t
  have hsA := gateA x0 x1 x2 x3 x4 x5 x6 x7 x8 b t
  have hpB := projB x0 x1 x2 x3 x4 x5 x6 x7 x8 b t
  have hsB := gateB x0 x1 x2 x3 x4 x5 x6 x7 x8 b t
  unfold val_main_v79 val_main_v78 val_main_v68
  generalize val_main_v57 (F := Ideal) x1 x3 x4 x6 = pA at hpA ⊢
  generalize val_main_v64 (F := Ideal) x3 = sA at hsA ⊢
  generalize val_main_v58 (F := Ideal) x2 x3 x5 x7 = pB at hpB ⊢
  generalize val_main_v74 (F := Ideal) x3 = sB at hsB ⊢
  pointwise []
  simp only [hpA, hsA, hpB, hsB]
  rfl

/-- The cotangent of branch A's projection. -/
theorem gatedA (x : Fin 1024) : val_main_v89 (F := Ideal) x0 x3 x8 (ix3 b t x) = ((argsOf x0 x1 x2 x3 x4 x5 x6 x7 x8).dm (row b t)) x * Ideal.logistic (((argsOf x0 x1 x2 x3 x4 x5 x6 x7 x8).lineA (row b t)).t x) := by
  have hs := gateA x0 x1 x2 x3 x4 x5 x6 x7 x8 b t
  have hd := dm_apply x0 x1 x2 x3 x4 x5 x6 x7 x8 b t
  unfold val_main_v89
  generalize val_main_v64 (F := Ideal) x3 = s at hs ⊢
  generalize val_main_v85 (F := Ideal) x0 x8 = dm at hd ⊢
  pointwise []
  rw [hs, hd]
  exact mul_comm _ _

theorem dyA (l : Fin 512) : val_main_v97 (F := Ideal) x0 x3 x6 x8 (ix3 b t l) = ((argsOf x0 x1 x2 x3 x4 x5 x6 x7 x8).lineA (row b t)).dy ((argsOf x0 x1 x2 x3 x4 x5 x6 x7 x8).dm (row b t)) l := by
  have hg := gatedA x0 x1 x2 x3 x4 x5 x6 x7 x8 b t
  unfold val_main_v97 val_main_v0
  generalize val_main_v89 (F := Ideal) x0 x3 x8 = g at hg ⊢
  pointwise []
  simp only [hg]
  rfl

theorem dtA (x : Fin 1024) : val_main_v91 (F := Ideal) x0 x1 x3 x4 x6 x8 (ix3 b t x) = ((argsOf x0 x1 x2 x3 x4 x5 x6 x7 x8).lineA (row b t)).dt ((argsOf x0 x1 x2 x3 x4 x5 x6 x7 x8).dm (row b t)) x := by
  have hs := gateA x0 x1 x2 x3 x4 x5 x6 x7 x8 b t
  have hd := dm_apply x0 x1 x2 x3 x4 x5 x6 x7 x8 b t
  have hp := projA x0 x1 x2 x3 x4 x5 x6 x7 x8 b t
  unfold val_main_v91 val_main_v90 val_main_v67 val_main_v66 val_main_v65 val_main_cst_9
  generalize val_main_v64 (F := Ideal) x3 = s at hs ⊢
  generalize val_main_v85 (F := Ideal) x0 x8 = dm at hd ⊢
  generalize val_main_v57 (F := Ideal) x1 x3 x4 x6 = p at hp ⊢
  pointwise []
  rw [hs, hd, hp]
  exact (mul_assoc _ _ _).symm

/-- A head of the gradient of branch A's gate. -/
theorem dzA (h : Fin 4) (j : Fin 128) : val_main_v127 (F := Ideal) x0 x1 x3 x4 x6 x8 (ix4 b t h j)
    = refDz (cut ((argsOf x0 x1 x2 x3 x4 x5 x6 x7 x8).lineA (row b t)).o _ (cut_le h)) (cut ((argsOf x0 x1 x2 x3 x4 x5 x6 x7 x8).lineA (row b t)).z _ (cut_le h)) ((argsOf x0 x1 x2 x3 x4 x5 x6 x7 x8).lineA (row b t)).g (cut (((argsOf x0 x1 x2 x3 x4 x5 x6 x7 x8).lineA (row b t)).dy ((argsOf x0 x1 x2 x3 x4 x5 x6 x7 x8).dm (row b t))) _ (cut_le h)) j := by
  have hy := dyA x0 x1 x2 x3 x4 x5 x6 x7 x8 b t
  unfold val_main_v127 val_main_call3_v2 val_main_call3_v1 val_main_call3_v0 val_main_v125 val_main_v124 val_main_v33_1
    val_main_call0_v7 val_main_call0_v6 val_main_call0_cst_1 val_main_v33_2 val_main_call0_v4 val_main_call0_cst_0
    val_main_call0_v3 val_main_call0_v2 val_main_call0_cst val_main_call0_v1 val_main_call0_v0 val_main_v32 val_main_v31
    val_main_v30 val_main_v29 val_main_v28 val_main_v27 val_main_v23 val_main_v22 val_main_v21 val_main_cst_1 val_main_v20
    val_main_v19 val_main_cst_0 val_main_v18 val_main_v17 val_main_cst val_main_v16 val_main_v15 val_main_v11 val_main_v7
    val_main_v6 val_main_v5 val_main_v4 val_main_v3
  generalize val_main_v97 (F := Ideal) x0 x3 x6 x8 = dy at hy ⊢
  pointwise []
  simp only [hy]
  rfl

/-- A head of the gradient of branch A. -/
theorem doutA (h : Fin 4) (j : Fin 128) : val_main_v148 (F := Ideal) x0 x1 x3 x4 x6 x8 (ix4 b t h j)
    = refDo (cut ((argsOf x0 x1 x2 x3 x4 x5 x6 x7 x8).lineA (row b t)).o _ (cut_le h)) (cut ((argsOf x0 x1 x2 x3 x4 x5 x6 x7 x8).lineA (row b t)).z _ (cut_le h)) ((argsOf x0 x1 x2 x3 x4 x5 x6 x7 x8).lineA (row b t)).g (cut (((argsOf x0 x1 x2 x3 x4 x5 x6 x7 x8).lineA (row b t)).dy ((argsOf x0 x1 x2 x3 x4 x5 x6 x7 x8).dm (row b t))) _ (cut_le h)) j := by
  have hy := dyA x0 x1 x2 x3 x4 x5 x6 x7 x8 b t
  unfold val_main_v148 val_main_v147 val_main_v146 val_main_v145 val_main_v144 val_main_v143 val_main_cst_22 val_main_v142
    val_main_v141 val_main_cst_21 val_main_v140 val_main_v139 val_main_v138 val_main_v137 val_main_v136 val_main_cst_20
    val_main_v135 val_main_v133 val_main_v132 val_main_v126 val_main_v124 val_main_v33_0 val_main_v33_2 val_main_call0_v4
    val_main_call0_cst_0 val_main_call0_v3 val_main_call0_v2 val_main_call0_cst val_main_call0_v1 val_main_call0_v0 val_main_v32
    val_main_v29 val_main_v26 val_main_v25 val_main_cst_2 val_main_v24 val_main_v23 val_main_v22 val_main_v21 val_main_cst_1
    val_main_v20 val_main_v19 val_main_cst_0 val_main_v18 val_main_v17 val_main_cst val_main_v16 val_main_v15 val_main_v11
    val_main_v7 val_main_v6 val_main_v5 val_main_v4 val_main_v3
  generalize val_main_v97 (F := Ideal) x0 x3 x6 x8 = dy at hy ⊢
  pointwise []
  simp only [Finset.univ_unique, Finset.sum_singleton, hy]
  rfl

/-- The cotangent of branch B's projection. -/
theorem gatedB (x : Fin 1024) : val_main_v86 (F := Ideal) x0 x3 x8 (ix3 b t x) = ((argsOf x0 x1 x2 x3 x4 x5 x6 x7 x8).dm (row b t)) x * Ideal.logistic (((argsOf x0 x1 x2 x3 x4 x5 x6 x7 x8).lineB (row b t)).t x) := by
  have hs := gateB x0 x1 x2 x3 x4 x5 x6 x7 x8 b t
  have hd := dm_apply x0 x1 x2 x3 x4 x5 x6 x7 x8 b t
  unfold val_main_v86
  generalize val_main_v74 (F := Ideal) x3 = s at hs ⊢
  generalize val_main_v85 (F := Ideal) x0 x8 = dm at hd ⊢
  pointwise []
  rw [hs, hd]
  exact mul_comm _ _

theorem dyB (l : Fin 512) : val_main_v94 (F := Ideal) x0 x3 x7 x8 (ix3 b t l) = ((argsOf x0 x1 x2 x3 x4 x5 x6 x7 x8).lineB (row b t)).dy ((argsOf x0 x1 x2 x3 x4 x5 x6 x7 x8).dm (row b t)) l := by
  have hg := gatedB x0 x1 x2 x3 x4 x5 x6 x7 x8 b t
  unfold val_main_v94 val_main_v1
  generalize val_main_v86 (F := Ideal) x0 x3 x8 = g at hg ⊢
  pointwise []
  simp only [hg]
  rfl

theorem dtB (x : Fin 1024) : val_main_v88 (F := Ideal) x0 x2 x3 x5 x7 x8 (ix3 b t x) = ((argsOf x0 x1 x2 x3 x4 x5 x6 x7 x8).lineB (row b t)).dt ((argsOf x0 x1 x2 x3 x4 x5 x6 x7 x8).dm (row b t)) x := by
  have hs := gateB x0 x1 x2 x3 x4 x5 x6 x7 x8 b t
  have hd := dm_apply x0 x1 x2 x3 x4 x5 x6 x7 x8 b t
  have hp := projB x0 x1 x2 x3 x4 x5 x6 x7 x8 b t
  unfold val_main_v88 val_main_v87 val_main_v77 val_main_v76 val_main_v75 val_main_cst_12
  generalize val_main_v74 (F := Ideal) x3 = s at hs ⊢
  generalize val_main_v85 (F := Ideal) x0 x8 = dm at hd ⊢
  generalize val_main_v58 (F := Ideal) x2 x3 x5 x7 = p at hp ⊢
  pointwise []
  rw [hs, hd, hp]
  exact (mul_assoc _ _ _).symm

/-- A head of the gradient of branch B's gate. -/
theorem dzB (h : Fin 4) (j : Fin 128) : val_main_v101 (F := Ideal) x0 x2 x3 x5 x7 x8 (ix4 b t h j)
    = refDz (cut ((argsOf x0 x1 x2 x3 x4 x5 x6 x7 x8).lineB (row b t)).o _ (cut_le h)) (cut ((argsOf x0 x1 x2 x3 x4 x5 x6 x7 x8).lineB (row b t)).z _ (cut_le h)) ((argsOf x0 x1 x2 x3 x4 x5 x6 x7 x8).lineB (row b t)).g (cut (((argsOf x0 x1 x2 x3 x4 x5 x6 x7 x8).lineB (row b t)).dy ((argsOf x0 x1 x2 x3 x4 x5 x6 x7 x8).dm (row b t))) _ (cut_le h)) j := by
  have hy := dyB x0 x1 x2 x3 x4 x5 x6 x7 x8 b t
  unfold val_main_v101 val_main_call2_v2 val_main_call2_v1 val_main_call2_v0 val_main_v99 val_main_v98 val_main_v54_1
    val_main_call1_v7 val_main_call1_v6 val_main_call1_cst_1 val_main_v54_2 val_main_call1_v4 val_main_call1_cst_0
    val_main_call1_v3 val_main_call1_v2 val_main_call1_cst val_main_call1_v1 val_main_call1_v0 val_main_v53 val_main_v52
    val_main_v51 val_main_v50 val_main_v49 val_main_v48 val_main_v44 val_main_v43 val_main_v42 val_main_cst_5 val_main_v41
    val_main_v40 val_main_cst_4 val_main_v39 val_main_v38 val_main_cst_3 val_main_v37 val_main_v36 val_main_v12 val_main_v10
    val_main_v9 val_main_v8 val_main_v4 val_main_v3
  generalize val_main_v94 (F := Ideal) x0 x3 x7 x8 = dy at hy ⊢
  pointwise []
  simp only [hy]
  rfl

/-- A head of the gradient of branch B. -/
theorem doutB (h : Fin 4) (j : Fin 128) : val_main_v122 (F := Ideal) x0 x2 x3 x5 x7 x8 (ix4 b t h j)
    = refDo (cut ((argsOf x0 x1 x2 x3 x4 x5 x6 x7 x8).lineB (row b t)).o _ (cut_le h)) (cut ((argsOf x0 x1 x2 x3 x4 x5 x6 x7 x8).lineB (row b t)).z _ (cut_le h)) ((argsOf x0 x1 x2 x3 x4 x5 x6 x7 x8).lineB (row b t)).g (cut (((argsOf x0 x1 x2 x3 x4 x5 x6 x7 x8).lineB (row b t)).dy ((argsOf x0 x1 x2 x3 x4 x5 x6 x7 x8).dm (row b t))) _ (cut_le h)) j := by
  have hy := dyB x0 x1 x2 x3 x4 x5 x6 x7 x8 b t
  unfold val_main_v122 val_main_v121 val_main_v120 val_main_v119 val_main_v118 val_main_v117 val_main_cst_17 val_main_v116
    val_main_v115 val_main_cst_16 val_main_v114 val_main_v113 val_main_v112 val_main_v111 val_main_v110 val_main_cst_15
    val_main_v109 val_main_v107 val_main_v106 val_main_v100 val_main_v98 val_main_v54_0 val_main_v54_2 val_main_call1_v4
    val_main_call1_cst_0 val_main_call1_v3 val_main_call1_v2 val_main_call1_cst val_main_call1_v1 val_main_call1_v0 val_main_v53
    val_main_v50 val_main_v47 val_main_v46 val_main_cst_6 val_main_v45 val_main_v44 val_main_v43 val_main_v42 val_main_cst_5
    val_main_v41 val_main_v40 val_main_cst_4 val_main_v39 val_main_v38 val_main_cst_3 val_main_v37 val_main_v36 val_main_v12
    val_main_v10 val_main_v9 val_main_v8 val_main_v4 val_main_v3
  generalize val_main_v94 (F := Ideal) x0 x3 x7 x8 = dy at hy ⊢
  pointwise []
  simp only [Finset.univ_unique, Finset.sum_singleton, hy]
  rfl

end Cert.MvReference

end
-- ==== Proof.MvReference.lean ====
module

public import proofs.«01_k».proof.Proof.MvToken

@[expose] public section

set_option maxRecDepth 16384

noncomputable section

/-! The gradient of the merge: what the reference's results hold. -/

namespace Cert.MvReference

open Cert.Reference5Ideal Cert.Reference5Ideal.Gen Cert.Reference5Ideal.Value Cert.Reference5Ideal.Read Idealize.ShloMosaic Idealize.ShloMosaic.TcCoe Idealize.SL.Sem
open Cert.Mv

theorem box_of_token {n : ℕ} (h0 : n < 8448) (h : 48 ≤ n % 2112) : n / 2112 < 4 ∧ 48 ≤ n % 2112 ∧ n % 2112 - 48 < 2064 := by
  omega

theorem token_of_box {n : ℕ} (h : 48 ≤ n % 2112) : n / 2112 * 2112 + (48 + (n % 2112 - 48)) = n := by omega

theorem row_of (p : Fin 8448) (h : 48 ≤ p.val % 2112) (hb : p.val / 2112 < 4) (ht : p.val % 2112 - 48 < 2064) :
    row ⟨p.val / 2112, hb⟩ ⟨p.val % 2112 - 48, ht⟩ = p :=
  Fin.ext (token_of_box h)

/-- A sum over all axes but the last. -/
theorem sum_last {n0 n1 n2 n3 : ℕ} (h : (⟨4, ![n0, n1, n2, n3]⟩ : Shape).ReducesTo [0, 1, 2] ⟨1, ![n3]⟩)
    (v : (⟨4, ![n0, n1, n2, n3]⟩ : Shape).Idx → EReal) (init : EReal) (j : Fin n3) :
    Ideal.hostReduceAdd h v init (ix1 j) = init + ∑ a, ∑ b, ∑ c, v (ix4 a b c j) := by
  unfold Ideal.hostReduceAdd
  refine congrArg (init + ·) ?_
  refine (Finset.sum_filter_eq_sum_of_fiber _ (fun k : Fin n0 × Fin n1 × Fin n2 => (ix4 k.1 k.2.1 k.2.2 j : (⟨4, ![n0, n1, n2, n3]⟩ : Shape).Idx))
    (fun k l e => Prod.ext (congrFun e 0) (Prod.ext (congrFun e 1) (congrFun e 2))) (fun i => ?_) v).trans ?_
  · constructor
    · intro e
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun e 0)).symm
    · rintro ⟨k, rfl⟩
      funext b
      apply Fin.ext
      match b with
      | ⟨0, _⟩ => rfl
  · rw [Fintype.sum_prod_type]
    exact Finset.sum_congr rfl fun a _ => Fintype.sum_prod_type _

variable (x0 : S8448x1024.Idx → EReal) (x1 x2 : S8448x512.Idx → EReal) (x3 : S8448x6272.Idx → EReal)
    (x4 x5 : S1x128.Idx → EReal) (x6 x7 : S512x1024.Idx → EReal) (x8 : S1024x1024.Idx → EReal)

/-- The gradient of branch A. -/
theorem doa_apply (p : Fin 8448) (k : Fin 512) : val_main_v162 (F := Ideal) x0 x1 x3 x4 x6 x8 (ix2 p k) = (argsOf x0 x1 x2 x3 x4 x5 x6 x7 x8).doa p k := by
  have h := doutA x0 x1 x2 x3 x4 x5 x6 x7 x8
  unfold val_main_v162 val_main_v161 val_main_cst_28 val_main_v160
  generalize val_main_v148 (F := Ideal) x0 x1 x3 x4 x6 x8 = y at h ⊢
  pointwise []
  have h0 := p.isLt
  by_cases hh : 48 ≤ p.val % 2112
  · refine (dif_pos (box_of_token h0 hh)).trans ((h _ _ _ _).trans ?_)
    refine Eq.trans ?_ (Branch.dout_eq ((argsOf x0 x1 x2 x3 x4 x5 x6 x7 x8).lineA p) ((argsOf x0 x1 x2 x3 x4 x5 x6 x7 x8).dm p) k).symm
    rw [row_of p hh]
    rfl
  · exact (dif_neg fun q => hh q.2.1).trans ((argsOf x0 x1 x2 x3 x4 x5 x6 x7 x8).doa_pad p hh k).symm

/-- The gradient of branch A's gates, at a token. -/
theorem dzA_row (b : Fin 4) (t : Fin 2064) (k : Fin 512) : val_main_v128 (F := Ideal) x0 x1 x3 x4 x6 x8 (ix3 b t k)
    = columns refDz ((argsOf x0 x1 x2 x3 x4 x5 x6 x7 x8).lineA (row b t)).o ((argsOf x0 x1 x2 x3 x4 x5 x6 x7 x8).lineA (row b t)).z ((argsOf x0 x1 x2 x3 x4 x5 x6 x7 x8).lineA (row b t)).g
        (((argsOf x0 x1 x2 x3 x4 x5 x6 x7 x8).lineA (row b t)).dy ((argsOf x0 x1 x2 x3 x4 x5 x6 x7 x8).dm (row b t))) k := by
  have h := dzA x0 x1 x2 x3 x4 x5 x6 x7 x8 b t
  unfold val_main_v128
  generalize val_main_v127 (F := Ideal) x0 x1 x3 x4 x6 x8 = y at h ⊢
  pointwise []
  exact h _ _

/-- The gradient of branch A's projection. -/
theorem dwaRow_sum (l : Fin 512) (x : Fin 1024) : val_main_v96 (F := Ideal) x0 x1 x3 x4 x8 (ix2 l x) = ∑ p, (argsOf x0 x1 x2 x3 x4 x5 x6 x7 x8).dwaRow p l x := by
  have hg := gatedA x0 x1 x2 x3 x4 x5 x6 x7 x8
  have hy := yA x0 x1 x2 x3 x4 x5 x6 x7 x8
  unfold val_main_v96 val_main_v95
  generalize val_main_v89 (F := Ideal) x0 x3 x8 = g at hg ⊢
  generalize val_main_v35 (F := Ideal) x1 x3 x4 = y at hy ⊢
  pointwise []
  refine Eq.trans ?_ (sum_kept (fun p => (argsOf x0 x1 x2 x3 x4 x5 x6 x7 x8).dwaRow p l x) fun p hp => (argsOf x0 x1 x2 x3 x4 x5 x6 x7 x8).dwaRow_pad p hp _ _).symm
  refine Finset.sum_congr rfl fun b _ => Finset.sum_congr rfl fun t _ => ?_
  rw [hg, hy]
  exact mul_comm _ _

/-- What a head's column adds to the gradient of branch A's scale. -/
theorem dgaRow_head (b : Fin 4) (t : Fin 2064) (h : Fin 4) (j : Fin 128) : val_main_v129 (F := Ideal) x0 x1 x3 x6 x8 (ix4 b t h j)
    = headDg (cut ((argsOf x0 x1 x2 x3 x4 x5 x6 x7 x8).lineA (row b t)).o _ (cut_le h)) (cut ((argsOf x0 x1 x2 x3 x4 x5 x6 x7 x8).lineA (row b t)).z _ (cut_le h))
        (cut (((argsOf x0 x1 x2 x3 x4 x5 x6 x7 x8).lineA (row b t)).dy ((argsOf x0 x1 x2 x3 x4 x5 x6 x7 x8).dm (row b t))) _ (cut_le h)) j := by
  have hy := dyA x0 x1 x2 x3 x4 x5 x6 x7 x8 b t
  unfold val_main_v129 val_main_v126 val_main_v124 val_main_v33_0 val_main_v33_2 val_main_call0_v4 val_main_call0_cst_0
    val_main_call0_v3 val_main_call0_v2 val_main_call0_cst val_main_call0_v1 val_main_call0_v0 val_main_v32 val_main_v28
    val_main_v27 val_main_v23 val_main_v22 val_main_v21 val_main_cst_1 val_main_v20 val_main_v19 val_main_cst_0 val_main_v18
    val_main_v17 val_main_cst val_main_v16 val_main_v11 val_main_v7 val_main_v6 val_main_v5 val_main_v4 val_main_v3
  generalize val_main_v97 (F := Ideal) x0 x3 x6 x8 = dy at hy ⊢
  pointwise []
  simp only [hy]
  exact mul_comm _ _

/-- The gradient of branch A's scale. -/
theorem dgaRow_sum (j : Fin 128) : val_main_v149 (F := Ideal) x0 x1 x3 x6 x8 (ix2 0 j) = ∑ p, (argsOf x0 x1 x2 x3 x4 x5 x6 x7 x8).dgaRow p j := by
  have h := dgaRow_head x0 x1 x2 x3 x4 x5 x6 x7 x8
  unfold val_main_v149 val_main_v134 val_main_cst_19 val_main_v131 val_main_v130 val_main_cst_18
  generalize val_main_v129 (F := Ideal) x0 x1 x3 x6 x8 = y at h ⊢
  pointwise []
  rw [sum_last]
  pointwise []
  simp only [Finset.univ_unique, Finset.sum_singleton]
  rw [sum_last]
  refine Eq.trans ?_ (sum_kept (fun p => (argsOf x0 x1 x2 x3 x4 x5 x6 x7 x8).dgaRow p j) fun p hp => (argsOf x0 x1 x2 x3 x4 x5 x6 x7 x8).dgaRow_pad p hp _).symm
  simp only [zero_add]
  refine Finset.sum_congr rfl fun b _ => Finset.sum_congr rfl fun t _ => ?_
  rw [Fin.sum_univ_four, h, h, h, h]
  rfl

/-- The gradient of branch B. -/
theorem dob_apply (p : Fin 8448) (k : Fin 512) : val_main_v159 (F := Ideal) x0 x2 x3 x5 x7 x8 (ix2 p k) = (argsOf x0 x1 x2 x3 x4 x5 x6 x7 x8).dob p k := by
  have h := doutB x0 x1 x2 x3 x4 x5 x6 x7 x8
  unfold val_main_v159 val_main_v158 val_main_cst_27 val_main_v157
  generalize val_main_v122 (F := Ideal) x0 x2 x3 x5 x7 x8 = y at h ⊢
  pointwise []
  have h0 := p.isLt
  by_cases hh : 48 ≤ p.val % 2112
  · refine (dif_pos (box_of_token h0 hh)).trans ((h _ _ _ _).trans ?_)
    refine Eq.trans ?_ (Branch.dout_eq ((argsOf x0 x1 x2 x3 x4 x5 x6 x7 x8).lineB p) ((argsOf x0 x1 x2 x3 x4 x5 x6 x7 x8).dm p) k).symm
    rw [row_of p hh]
    rfl
  · exact (dif_neg fun q => hh q.2.1).trans ((argsOf x0 x1 x2 x3 x4 x5 x6 x7 x8).dob_pad p hh k).symm

/-- The gradient of branch B's gates, at a token. -/
theorem dzB_row (b : Fin 4) (t : Fin 2064) (k : Fin 512) : val_main_v102 (F := Ideal) x0 x2 x3 x5 x7 x8 (ix3 b t k)
    = columns refDz ((argsOf x0 x1 x2 x3 x4 x5 x6 x7 x8).lineB (row b t)).o ((argsOf x0 x1 x2 x3 x4 x5 x6 x7 x8).lineB (row b t)).z ((argsOf x0 x1 x2 x3 x4 x5 x6 x7 x8).lineB (row b t)).g
        (((argsOf x0 x1 x2 x3 x4 x5 x6 x7 x8).lineB (row b t)).dy ((argsOf x0 x1 x2 x3 x4 x5 x6 x7 x8).dm (row b t))) k := by
  have h := dzB x0 x1 x2 x3 x4 x5 x6 x7 x8 b t
  unfold val_main_v102
  generalize val_main_v101 (F := Ideal) x0 x2 x3 x5 x7 x8 = y at h ⊢
  pointwise []
  exact h _ _

/-- The gradient of branch B's projection. -/
theorem dwbRow_sum (l : Fin 512) (x : Fin 1024) : val_main_v93 (F := Ideal) x0 x2 x3 x5 x8 (ix2 l x) = ∑ p, (argsOf x0 x1 x2 x3 x4 x5 x6 x7 x8).dwbRow p l x := by
  have hg := gatedB x0 x1 x2 x3 x4 x5 x6 x7 x8
  have hy := yB x0 x1 x2 x3 x4 x5 x6 x7 x8
  unfold val_main_v93 val_main_v92
  generalize val_main_v86 (F := Ideal) x0 x3 x8 = g at hg ⊢
  generalize val_main_v56 (F := Ideal) x2 x3 x5 = y at hy ⊢
  pointwise []
  refine Eq.trans ?_ (sum_kept (fun p => (argsOf x0 x1 x2 x3 x4 x5 x6 x7 x8).dwbRow p l x) fun p hp => (argsOf x0 x1 x2 x3 x4 x5 x6 x7 x8).dwbRow_pad p hp _ _).symm
  refine Finset.sum_congr rfl fun b _ => Finset.sum_congr rfl fun t _ => ?_
  rw [hg, hy]
  exact mul_comm _ _

/-- What a head's column adds to the gradient of branch B's scale. -/
theorem dgbRow_head (b : Fin 4) (t : Fin 2064) (h : Fin 4) (j : Fin 128) : val_main_v103 (F := Ideal) x0 x2 x3 x7 x8 (ix4 b t h j)
    = headDg (cut ((argsOf x0 x1 x2 x3 x4 x5 x6 x7 x8).lineB (row b t)).o _ (cut_le h)) (cut ((argsOf x0 x1 x2 x3 x4 x5 x6 x7 x8).lineB (row b t)).z _ (cut_le h))
        (cut (((argsOf x0 x1 x2 x3 x4 x5 x6 x7 x8).lineB (row b t)).dy ((argsOf x0 x1 x2 x3 x4 x5 x6 x7 x8).dm (row b t))) _ (cut_le h)) j := by
  have hy := dyB x0 x1 x2 x3 x4 x5 x6 x7 x8 b t
  unfold val_main_v103 val_main_v100 val_main_v98 val_main_v54_0 val_main_v54_2 val_main_call1_v4 val_main_call1_cst_0
    val_main_call1_v3 val_main_call1_v2 val_main_call1_cst val_main_call1_v1 val_main_call1_v0 val_main_v53 val_main_v49
    val_main_v48 val_main_v44 val_main_v43 val_main_v42 val_main_cst_5 val_main_v41 val_main_v40 val_main_cst_4 val_main_v39
    val_main_v38 val_main_cst_3 val_main_v37 val_main_v12 val_main_v10 val_main_v9 val_main_v8 val_main_v4 val_main_v3
  generalize val_main_v94 (F := Ideal) x0 x3 x7 x8 = dy at hy ⊢
  pointwise []
  simp only [hy]
  exact mul_comm _ _

/-- The gradient of branch B's scale. -/
theorem dgbRow_sum (j : Fin 128) : val_main_v123 (F := Ideal) x0 x2 x3 x7 x8 (ix2 0 j) = ∑ p, (argsOf x0 x1 x2 x3 x4 x5 x6 x7 x8).dgbRow p j := by
  have h := dgbRow_head x0 x1 x2 x3 x4 x5 x6 x7 x8
  unfold val_main_v123 val_main_v108 val_main_cst_14 val_main_v105 val_main_v104 val_main_cst_13
  generalize val_main_v103 (F := Ideal) x0 x2 x3 x7 x8 = y at h ⊢
  pointwise []
  rw [sum_last]
  pointwise []
  simp only [Finset.univ_unique, Finset.sum_singleton]
  rw [sum_last]
  refine Eq.trans ?_ (sum_kept (fun p => (argsOf x0 x1 x2 x3 x4 x5 x6 x7 x8).dgbRow p j) fun p hp => (argsOf x0 x1 x2 x3 x4 x5 x6 x7 x8).dgbRow_pad p hp _).symm
  simp only [zero_add]
  refine Finset.sum_congr rfl fun b _ => Finset.sum_congr rfl fun t _ => ?_
  rw [Fin.sum_univ_four, h, h, h, h]
  rfl

/-- The gradient of the output projection. -/
theorem dwoRow_sum (x e : Fin 1024) : val_main_v84 (F := Ideal) x0 x1 x2 x3 x4 x5 x6 x7 (ix2 x e) = ∑ p, (argsOf x0 x1 x2 x3 x4 x5 x6 x7 x8).dwoRow p x e := by
  have hd := dh_apply x0 x1 x2 x3 x4 x5 x6 x7 x8
  have hm := mixed_apply x0 x1 x2 x3 x4 x5 x6 x7 x8
  unfold val_main_v84 val_main_v83
  generalize val_main_v82 (F := Ideal) x0 = d at hd ⊢
  generalize val_main_v79 (F := Ideal) x1 x2 x3 x4 x5 x6 x7 = y at hm ⊢
  pointwise []
  refine Eq.trans ?_ (sum_kept (fun p => (argsOf x0 x1 x2 x3 x4 x5 x6 x7 x8).dwoRow p x e) fun p hp => (argsOf x0 x1 x2 x3 x4 x5 x6 x7 x8).dwoRow_pad p hp _ _).symm
  refine Finset.sum_congr rfl fun b _ => Finset.sum_congr rfl fun t _ => ?_
  rw [hd, hm]
  exact mul_comm _ _

end Cert.MvReference

end
-- ==== Proof.MvProjection.lean ====
module

public import proofs.«01_k».proof.Proof.MvReference

@[expose] public section

set_option maxRecDepth 16384

noncomputable section

/-! The gradient of the merge: the reference's gradient of the projected columns. -/

namespace Cert.MvReference

open Cert.Reference5Ideal Cert.Reference5Ideal.Gen Cert.Reference5Ideal.Value Cert.Reference5Ideal.Read Idealize.ShloMosaic Idealize.ShloMosaic.TcCoe Idealize.SL.Sem
open Cert.Mv

/-! Of four summands, each there or zero, one is there. -/

section Four

variable {A B C D : Prop} [Decidable A] [Decidable B] [Decidable C] [Decidable D] {a : A → EReal} {b : B → EReal} {c : C → EReal} {d : D → EReal}

theorem first_of_four (hA : A) (hB : ¬ B) (hC : ¬ C) (hD : ¬ D) :
    (((if h : A then a h else 0) + if h : B then b h else 0) + if h : C then c h else 0) + (if h : D then d h else 0) = a hA := by
  rw [dif_pos hA, dif_neg hB, dif_neg hC, dif_neg hD]
  simp only [zero_add, add_zero]

theorem second_of_four (hA : ¬ A) (hB : B) (hC : ¬ C) (hD : ¬ D) :
    (((if h : A then a h else 0) + if h : B then b h else 0) + if h : C then c h else 0) + (if h : D then d h else 0) = b hB := by
  rw [dif_neg hA, dif_pos hB, dif_neg hC, dif_neg hD]
  simp only [zero_add, add_zero]

theorem third_of_four (hA : ¬ A) (hB : ¬ B) (hC : C) (hD : ¬ D) :
    (((if h : A then a h else 0) + if h : B then b h else 0) + if h : C then c h else 0) + (if h : D then d h else 0) = c hC := by
  rw [dif_neg hA, dif_neg hB, dif_pos hC, dif_neg hD]
  simp only [zero_add, add_zero]

theorem fourth_of_four (hA : ¬ A) (hB : ¬ B) (hC : ¬ C) (hD : D) :
    (((if h : A then a h else 0) + if h : B then b h else 0) + if h : C then c h else 0) + (if h : D then d h else 0) = d hD := by
  rw [dif_neg hA, dif_neg hB, dif_neg hC, dif_pos hD]
  simp only [zero_add, add_zero]

end Four

/-! A row of the projection's gradient, part by part. -/

theorem dproj_a (A : Args) (p : Fin 8448) (hd : ∀ x, IsReal (A.dm p x)) (hw : ∀ l x, IsReal (A.wa l x)) (hg : ∀ j, IsReal (A.ga j))
    (k : ℕ) (l : Fin 512) (h : k = l.val) :
    columns refDz (A.lineA p).o (A.lineA p).z (A.lineA p).g ((A.lineA p).dy (A.dm p)) l = A.dproj p k :=
  (Branch.dz_eq (A.lineA p) (A.dm p) hd hw hg l).symm.trans (stripes_a _ _ _ _ k l h).symm

theorem dproj_b (A : Args) (p : Fin 8448) (hd : ∀ x, IsReal (A.dm p x)) (hw : ∀ l x, IsReal (A.wb l x)) (hg : ∀ j, IsReal (A.gb j))
    (k : ℕ) (l : Fin 512) (h : k = 512 + l.val) :
    columns refDz (A.lineB p).o (A.lineB p).z (A.lineB p).g ((A.lineB p).dy (A.dm p)) l = A.dproj p k :=
  (Branch.dz_eq (A.lineB p) (A.dm p) hd hw hg l).symm.trans (stripes_b _ _ _ _ k l h).symm

theorem dproj_u (A : Args) (p : Fin 8448) (k : ℕ) (x : Fin 1024) (h : k = 1024 + x.val) :
    (A.lineA p).dt (A.dm p) x = A.dproj p k := (stripes_u _ _ _ _ k x h).symm

theorem dproj_v (A : Args) (p : Fin 8448) (k : ℕ) (x : Fin 1024) (h : k = 2048 + x.val) :
    (A.lineB p).dt (A.dm p) x = A.dproj p k := (stripes_v _ _ _ _ k x h).symm

variable (x0 : S8448x1024.Idx → EReal) (x1 x2 : S8448x512.Idx → EReal) (x3 : S8448x6272.Idx → EReal)
    (x4 x5 : S1x128.Idx → EReal) (x6 x7 : S512x1024.Idx → EReal) (x8 : S1024x1024.Idx → EReal)

/-- The first 3072 columns of the projection's gradient, where the cotangent, the scales and the projections are real. -/
theorem dproj_apply (hd : ∀ r x, IsReal ((argsOf x0 x1 x2 x3 x4 x5 x6 x7 x8).dm r x)) (ha : ∀ j, IsReal ((argsOf x0 x1 x2 x3 x4 x5 x6 x7 x8).ga j)) (hb : ∀ j, IsReal ((argsOf x0 x1 x2 x3 x4 x5 x6 x7 x8).gb j))
    (hwa : ∀ l x, IsReal ((argsOf x0 x1 x2 x3 x4 x5 x6 x7 x8).wa l x)) (hwb : ∀ l x, IsReal ((argsOf x0 x1 x2 x3 x4 x5 x6 x7 x8).wb l x)) (p : Fin 8448) (k : Fin 6272) (hi : k.val < 3072) :
    val_main_v165 (F := Ideal) x0 x1 x2 x3 x4 x5 x6 x7 x8 (ix2 p k) = (argsOf x0 x1 x2 x3 x4 x5 x6 x7 x8).dproj p k.val := by
  have za := dzA_row x0 x1 x2 x3 x4 x5 x6 x7 x8
  have zb := dzB_row x0 x1 x2 x3 x4 x5 x6 x7 x8
  have ta := dtA x0 x1 x2 x3 x4 x5 x6 x7 x8
  have tb := dtB x0 x1 x2 x3 x4 x5 x6 x7 x8
  unfold val_main_v165 val_main_v164 val_main_v163 val_main_cst_29 val_main_v156 val_main_v155 val_main_cst_26 val_main_v154
    val_main_v153 val_main_cst_25 val_main_v152 val_main_v151 val_main_cst_24 val_main_v150 val_main_cst_23
  generalize val_main_v128 (F := Ideal) x0 x1 x3 x4 x6 x8 = y1 at za ⊢
  generalize val_main_v102 (F := Ideal) x0 x2 x3 x5 x7 x8 = y2 at zb ⊢
  generalize val_main_v91 (F := Ideal) x0 x1 x3 x4 x6 x8 = y3 at ta ⊢
  generalize val_main_v88 (F := Ideal) x0 x2 x3 x5 x7 x8 = y4 at tb ⊢
  pointwise []
  have h0 := p.isLt
  by_cases hh : 48 ≤ p.val % 2112
  · have box := box_of_token h0 hh
    refine (dif_pos box).trans ?_
    by_cases c1 : k.val < 512
    · refine (fourth_of_four (fun h => Nat.not_lt.mpr h.2.2.1 (c1.trans_le (by decide))) (fun h => Nat.not_lt.mpr h.2.2.1 (c1.trans_le (by decide))) (fun h => Nat.not_lt.mpr h.2.2.1 (c1.trans_le (by decide))) ⟨box.1, box.2.2, c1⟩).trans ?_
      refine (za ⟨p.val / 2112, box.1⟩ ⟨p.val % 2112 - 48, box.2.2⟩ ⟨k.val, c1⟩).trans ?_
      rw [row_of p hh]
      exact dproj_a (argsOf x0 x1 x2 x3 x4 x5 x6 x7 x8) p (hd p) hwa ha k.val ⟨k.val, c1⟩ rfl
    by_cases c2 : k.val < 1024
    · have e : k.val - 512 < 512 := by omega
      refine (third_of_four (fun h => Nat.not_lt.mpr h.2.2.1 (c2.trans_le (by decide))) (fun h => Nat.not_lt.mpr h.2.2.1 c2) ⟨box.1, box.2.2, Nat.le_of_not_lt c1, e⟩ (fun h => c1 h.2.2)).trans ?_
      refine (zb ⟨p.val / 2112, box.1⟩ ⟨p.val % 2112 - 48, box.2.2⟩ ⟨k.val - 512, e⟩).trans ?_
      rw [row_of p hh]
      exact dproj_b (argsOf x0 x1 x2 x3 x4 x5 x6 x7 x8) p (hd p) hwb hb k.val ⟨k.val - 512, e⟩ (by show k.val = 512 + (k.val - 512); omega)
    by_cases c3 : k.val < 2048
    · have e : k.val - 1024 < 1024 := by omega
      have n : ¬ k.val - 512 < 512 := by omega
      refine (second_of_four (fun h => Nat.not_lt.mpr h.2.2.1 c3) ⟨box.1, box.2.2, Nat.le_of_not_lt c2, e⟩ (fun h => n h.2.2.2) (fun h => c1 h.2.2)).trans ?_
      refine (ta ⟨p.val / 2112, box.1⟩ ⟨p.val % 2112 - 48, box.2.2⟩ ⟨k.val - 1024, e⟩).trans ?_
      rw [row_of p hh]
      exact dproj_u (argsOf x0 x1 x2 x3 x4 x5 x6 x7 x8) p k.val ⟨k.val - 1024, e⟩ (by show k.val = 1024 + (k.val - 1024); omega)
    · have e : k.val - 2048 < 1024 := by omega
      have n : ¬ k.val - 512 < 512 := by omega
      have n' : ¬ k.val - 1024 < 1024 := by omega
      refine (first_of_four ⟨box.1, box.2.2, Nat.le_of_not_lt c3, e⟩ (fun h => n' h.2.2.2) (fun h => n h.2.2.2) (fun h => c1 h.2.2)).trans ?_
      refine (tb ⟨p.val / 2112, box.1⟩ ⟨p.val % 2112 - 48, box.2.2⟩ ⟨k.val - 2048, e⟩).trans ?_
      rw [row_of p hh]
      exact dproj_v (argsOf x0 x1 x2 x3 x4 x5 x6 x7 x8) p k.val ⟨k.val - 2048, e⟩ (by show k.val = 2048 + (k.val - 2048); omega)
  · exact (dif_neg fun q => hh q.2.1).trans ((argsOf x0 x1 x2 x3 x4 x5 x6 x7 x8).dproj_pad p hh _).symm

end Cert.MvReference

end
-- ==== Proof.MvPre.lean ====
module

public import proofs.«01_k».proof.Proof.Gen.Pre_finite
public import proofs.«01_k».proof.Proof.Gen.On_written
public import proofs.«01_k».proof.Proof.MvRow
public import Idealize.ShloMosaic.Lib.ReduceAll
public import Idealize.ShloMosaic.Lib.WordCmp
public import Idealize.ShloMosaic.Lib.Affine

@[expose] public section

noncomputable section

/-! The gradient of the merge: what its precondition and its mask say. -/

namespace Cert.Mv

open Idealize.ShloMosaic

/-- A number whose magnitude is below infinity is real. -/
theorem real_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

instance : Subsingleton (Cert.Pre_finite.S_).Idx := ⟨fun _ _ => funext fun a => a.elim0⟩

/-- The arrays of which the precondition speaks hold real numbers. -/
theorem finite_real (x0 : FVec Ideal Cert.Pre_finite.S8448x1024 .f32) (x1 x2 : FVec Ideal Cert.Pre_finite.S8448x512 .f32)
    (x3 : FVec Ideal Cert.Pre_finite.S8448x6272 .f32) (x4 x5 : FVec Ideal Cert.Pre_finite.S1x128 .f32)
    (x6 x7 : FVec Ideal Cert.Pre_finite.S512x1024 .bf16) (x8 : FVec Ideal Cert.Pre_finite.S1024x1024 .bf16)
    (h : Cert.Pre_finite.fn (F := Ideal) x0 x1 x2 x3 x4 x5 x6 x7 x8 = fun _ => 1#1) :
    (∀ i, IsReal (x0 i)) ∧ (∀ i, IsReal (x4 i)) ∧ (∀ i, IsReal (x5 i)) ∧ (∀ i, IsReal (x6 i)) ∧ (∀ i, IsReal (x7 i))
      ∧ ∀ i, IsReal (x8 i) := by
  have e := congrFun h (fun a => a.elim0)
  obtain ⟨e, h8⟩ := IntOp.andi_eq_one.mp e
  obtain ⟨e, h7⟩ := IntOp.andi_eq_one.mp e
  obtain ⟨e, h6⟩ := IntOp.andi_eq_one.mp e
  obtain ⟨e, h5⟩ := IntOp.andi_eq_one.mp e
  obtain ⟨h0, h4⟩ := IntOp.andi_eq_one.mp e
  exact ⟨fun i => real_of_lt _ (Host.reduce_andi_all _ _ _ _ _ h0 i), fun i => real_of_lt _ (Host.reduce_andi_all _ _ _ _ _ h4 i),
    fun i => real_of_lt _ (Host.reduce_andi_all _ _ _ _ _ h5 i), fun i => real_of_lt _ (Host.reduce_andi_all _ _ _ _ _ h6 i),
    fun i => real_of_lt _ (Host.reduce_andi_all _ _ _ _ _ h7 i), fun i => real_of_lt _ (Host.reduce_andi_all _ _ _ _ _ h8 i)⟩

/-- The mask of the first result is the columns that the kernel writes. -/
theorem written_columns (x0 : FVec Ideal Cert.On_written.S8448x1024 .f32) (x1 x2 : FVec Ideal Cert.On_written.S8448x512 .f32)
    (x3 : FVec Ideal Cert.On_written.S8448x6272 .f32) (x4 x5 : FVec Ideal Cert.On_written.S1x128 .f32)
    (x6 x7 : FVec Ideal Cert.On_written.S512x1024 .bf16) (x8 : FVec Ideal Cert.On_written.S1024x1024 .bf16)
    (i : Cert.On_written.S8448x6272.Idx) (h : (Cert.On_written.fn (F := Ideal) x0 x1 x2 x3 x4 x5 x6 x7 x8).1 i = 1#1) :
    (i 1).val < 3072 := by
  have e : IntOp.cmpi .slt (BitVec.ofNat 32 (i 1).val) (BitVec.ofNat 32 3072) = 1#1 := h
  have hi : (i 1).val < 6272 := (i 1).isLt
  exact (WordCmp.cmpi_slt_ofNat_eq_one_iff (w := 32) (by omega) (by decide)).mp e

end Cert.Mv

end
-- ==== Proof.MvClaim.lean ====
module

public import proofs.«01_k».proof.Defs
public import proofs.«01_k».proof.Proof.MvSums
public import proofs.«01_k».proof.Proof.MvProjection
public import proofs.«01_k».proof.Proof.MvPre
public import Idealize.ShloMosaic.Adequacy
public import Idealize.ShloMosaic.Init
public import Idealize.ShloMosaic.Lib.Quiescent

@[expose] public section

noncomputable section

/-! The gradient of the merge: kernel and reference have the same results. -/

namespace Cert.MvClaim

open Idealize.ShloMosaic Idealize.SL.Sem Cert.Mv Cert.MvReference

/-- The reference runs, keeps its arguments and leaves every semaphore at zero. -/
theorem quiescent : quiescent_Reference5Ideal := fun m ρ _ =>
  (θ_run Cert.Reference5Ideal.defs _ _).mono (fun r h => ⟨fun c => (h c).2.2.2.2.2.2.2.2, sem_eq_zero_of_no_sems (by decide) r.2⟩)
    (Cert.Reference5Ideal.Value.run (F := Ideal) m ρ)

section Results

variable (m : (ℓ : Loc Cert.Kernel5Ideal.nD Cert.Kernel5Ideal.τ Cert.Kernel5Ideal.sig) → Buf (Elt Ideal) ℓ) (c : Dev Cert.Kernel5Ideal.nD)

/-- The arguments that the reference is given are the kernel's. -/
theorem args_eq : argsOf (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) = args m c := rfl

theorem v162_eq : Cert.Reference5Ideal.Read.val_main_v162 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg8))
    = doaArr m c := by
  funext i
  obtain ⟨p, k, rfl⟩ : ∃ p k, i = ix2 p k := ⟨i 0, i 1, (ix2_eta i).symm⟩
  exact doa_apply (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) p k

theorem v159_eq : Cert.Reference5Ideal.Read.val_main_v159 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))
    = dobArr m c := by
  funext i
  obtain ⟨p, k, rfl⟩ : ∃ p k, i = ix2 p k := ⟨i 0, i 1, (ix2_eta i).symm⟩
  exact dob_apply (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) p k

theorem v96_eq : Cert.Reference5Ideal.Read.val_main_v96 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg8))
    = dwaArr m c := by
  funext i
  obtain ⟨p, k, rfl⟩ : ∃ p k, i = ix2 p k := ⟨i 0, i 1, (ix2_eta i).symm⟩
  exact dwaRow_sum (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) p k

theorem v93_eq : Cert.Reference5Ideal.Read.val_main_v93 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg8))
    = dwbArr m c := by
  funext i
  obtain ⟨p, k, rfl⟩ : ∃ p k, i = ix2 p k := ⟨i 0, i 1, (ix2_eta i).symm⟩
  exact dwbRow_sum (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) p k

theorem v84_eq : Cert.Reference5Ideal.Read.val_main_v84 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))
    = dwoArr m c := by
  funext i
  obtain ⟨p, k, rfl⟩ : ∃ p k, i = ix2 p k := ⟨i 0, i 1, (ix2_eta i).symm⟩
  exact dwoRow_sum (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) p k

theorem v149_eq : Cert.Reference5Ideal.Read.val_main_v149 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg8))
    = dgaArr m c := by
  funext i
  obtain ⟨j, rfl⟩ : ∃ j : Fin 128, i = ix2 0 j := ⟨i 1, funext fun a => by
    match a with
    | ⟨0, _⟩ => exact Subsingleton.elim (α := Fin 1) _ _
    | ⟨1, _⟩ => rfl⟩
  exact dgaRow_sum (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) j

theorem v123_eq : Cert.Reference5Ideal.Read.val_main_v123 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))
    = dgbArr m c := by
  funext i
  obtain ⟨j, rfl⟩ : ∃ j : Fin 128, i = ix2 0 j := ⟨i 1, funext fun a => by
    match a with
    | ⟨0, _⟩ => exact Subsingleton.elim (α := Fin 1) _ _
    | ⟨1, _⟩ => rfl⟩
  exact dgbRow_sum (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) j

/-- The gradient of the projected columns, where the precondition holds. -/
theorem v165_eq (hpre : Pre_Kernel5Ideal_finite m) (i : Cert.Kernel5Ideal.S8448x6272.Idx) (hi : (i 1).val < 3072) :
    Cert.Reference5Ideal.Read.val_main_v165 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) i
    = dprojArr m c i := by
  obtain ⟨h0, h4, h5, h6, h7, h8⟩ := finite_real _ _ _ _ _ _ _ _ _ (hpre c)
  have hd : ∀ r e, IsReal ((args m c).dh r e) := fun r e => by
    unfold Args.dh
    split
    · exact h0 (ix2 r e)
    · exact ⟨0, by simp⟩
  have hm : ∀ r x, IsReal ((args m c).dm r x) := fun r x => by
    show IsReal (∑ e, (args m c).dh r e * (args m c).wo x e)
    exact IsReal.sum _ _ fun e => (hd r e).mul (h8 (ix2 x e))
  obtain ⟨p, k, rfl⟩ : ∃ p k, i = ix2 p k := ⟨i 0, i 1, (ix2_eta i).symm⟩
  exact dproj_apply (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))
    hm (fun j => h4 (ix2 0 j)) (fun j => h5 (ix2 0 j)) (fun l x => h6 (ix2 l x)) (fun l x => h7 (ix2 l x)) p k hi

end Results

/-- Both programs run and end with equal results, in the columns that the kernel writes. -/
theorem algebraic : algebraic_Kernel5Ideal_Reference5Ideal_on_written_pre_finite := by
  intro m ρ m' ρ' hpre hagree
  refine ⟨dprojArr m, doaArr m, dobArr m, dwaArr m, dwbArr m, dwoArr m, dgaArr m, dgbArr m, ?_, ?_⟩
  · refine (θ_run Cert.Kernel5Ideal.defs _ _).mono (fun r h c => ?_) (Cert.Mv.run m ρ)
    obtain ⟨h0, h1, h2, h3, h4, h5, h6, h7, hk⟩ := h c
    exact ⟨fun i hi => h0 i (written_columns _ _ _ _ _ _ _ _ _ i hi), fun i _ => congrFun h1 i, fun i _ => congrFun h2 i, fun i _ => congrFun h3 i,
      fun i _ => congrFun h4 i, fun i _ => congrFun h5 i, fun i _ => congrFun h6 i, fun i _ => congrFun h7 i, hk⟩
  · refine (θ_run Cert.Reference5Ideal.defs _ _).mono (fun r h c => ?_) (Cert.Reference5Ideal.Value.run (F := Ideal) m' ρ')
    obtain ⟨h0, h1, h2, h3, h4, h5, h6, h7, hk⟩ := h c
    obtain ⟨a0, a1, a2, a3, a4, a5, a6, a7, a8⟩ := hagree c
    have e0 := h0.trans (Cert.Reference5Ideal.Read.val_main_v165_eq (F := Ideal) _)
    have e1 := h1.trans (Cert.Reference5Ideal.Read.val_main_v162_eq (F := Ideal) _)
    have e2 := h2.trans (Cert.Reference5Ideal.Read.val_main_v159_eq (F := Ideal) _)
    have e3 := h3.trans (Cert.Reference5Ideal.Read.val_main_v96_eq (F := Ideal) _)
    have e4 := h4.trans (Cert.Reference5Ideal.Read.val_main_v93_eq (F := Ideal) _)
    have e5 := h5.trans (Cert.Reference5Ideal.Read.val_main_v84_eq (F := Ideal) _)
    have e6 := h6.trans (Cert.Reference5Ideal.Read.val_main_v149_eq (F := Ideal) _)
    have e7 := h7.trans (Cert.Reference5Ideal.Read.val_main_v123_eq (F := Ideal) _)
    refine ⟨fun i hi => ?_, fun i _ => congrFun ?_ i, fun i _ => congrFun ?_ i, fun i _ => congrFun ?_ i, fun i _ => congrFun ?_ i,
      fun i _ => congrFun ?_ i, fun i _ => congrFun ?_ i, fun i _ => congrFun ?_ i, hk⟩
    · refine (congrFun e0 i).trans ?_
      show Cert.Reference5Ideal.Read.val_main_v165 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) i = _
      rw [a0, a1, a2, a3, a4, a5, a6, a7, a8]
      exact v165_eq m c hpre i (written_columns _ _ _ _ _ _ _ _ _ i hi)
    · refine e1.trans ?_
      show Cert.Reference5Ideal.Read.val_main_v162 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg8)) = _
      rw [a0, a1, a3, a4, a6, a8]
      exact v162_eq m c
    · refine e2.trans ?_
      show Cert.Reference5Ideal.Read.val_main_v159 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = _
      rw [a0, a2, a3, a5, a7, a8]
      exact v159_eq m c
    · refine e3.trans ?_
      show Cert.Reference5Ideal.Read.val_main_v96 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg8)) = _
      rw [a0, a1, a3, a4, a8]
      exact v96_eq m c
    · refine e4.trans ?_
      show Cert.Reference5Ideal.Read.val_main_v93 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg8)) = _
      rw [a0, a2, a3, a5, a8]
      exact v93_eq m c
    · refine e5.trans ?_
      show Cert.Reference5Ideal.Read.val_main_v84 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) = _
      rw [a0, a1, a2, a3, a4, a5, a6, a7]
      exact v84_eq m c
    · refine e6.trans ?_
      show Cert.Reference5Ideal.Read.val_main_v149 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg8)) = _
      rw [a0, a1, a3, a6, a8]
      exact v149_eq m c
    · refine e7.trans ?_
      show Cert.Reference5Ideal.Read.val_main_v123 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = _
      rw [a0, a2, a3, a7, a8]
      exact v123_eq m c

end Cert.MvClaim

end
-- ==== Proof.AdamRow.lean ====
/- One step of AdamW, over arrays of any shape: what the kernel computes of an index, and that the reference's operations
   on whole arrays compute the same.

   The kernel multiplies by the reciprocals of the bias corrections where the reference divides by them, and forms
   `((1 - β₂) g) g` where the reference has `(1 - β₂) g²`. -/
module

public import Idealize.ShloMosaic.PureOps.Ideal
public import Idealize.ShloMosaic.PureOps.Ideal.Laws
public import Idealize.ShloMosaic.Lib.Pointwise

@[expose] public section

noncomputable section

namespace Cert.Adam

open Idealize.ShloMosaic

/-- The bias correction of the first moment denotes this real number. -/
theorem ofBits_c1 : Ideal.ofBits .f32 0x3F26BD02#32 = ((5463681 / 8388608 : ℝ) : EReal) := by
  simp [Ideal.ofBits, Ideal.ieee, -EReal.coe_mul]; norm_num

/-- The bias correction of the second moment. -/
theorem ofBits_c2 : Ideal.ofBits .f32 0x3C231ACC#32 = ((2672307 / 268435456 : ℝ) : EReal) := by
  simp [Ideal.ofBits, Ideal.ieee, -EReal.coe_mul]; norm_num

/-- The reciprocals of the two bias corrections. -/
def rate1 : EReal := ((8388608 / 5463681 : ℝ) : EReal)

def rate2 : EReal := ((268435456 / 2672307 : ℝ) : EReal)

/-- The new first moment. -/
def newM (g m : Ideal .f32) : Ideal .f32 :=
  FloatOps.addf (FloatOps.mulf (Scalar.ofBits .f32 0x3F666666#32) m) (FloatOps.mulf (Scalar.ofBits .f32 0x3DCCCCCD#32) g)

/-- The new second moment. -/
def newV (g v : Ideal .f32) : Ideal .f32 :=
  FloatOps.addf (FloatOps.mulf (Scalar.ofBits .f32 0x3F7FBE77#32) v)
    (FloatOps.mulf (FloatOps.mulf (Scalar.ofBits .f32 0x3A83126F#32) g) g)

/-- The change of a weight, with `k1` and `k2` the reciprocals of the bias corrections. -/
def delta (k1 k2 g m v w : Ideal .f32) : Ideal .f32 :=
  FloatOps.mulf (Scalar.ofBits .f32 0xBA83126F#32) (FloatOps.addf
    (FloatOps.divf (FloatOps.mulf (newM g m) k1)
      (FloatOps.addf (FloatOps.sqrt (FloatOps.mulf (newV g v) k2)) (Scalar.ofBits .f32 0x322BCC77#32)))
    (FloatOps.mulf (Scalar.ofBits .f32 0x3C23D70A#32) w))

variable {s : Shape} (h : (⟨0, ![]⟩ : Shape).BroadcastsInDim s ![])

/-- An array that holds one float everywhere. -/
abbrev all (w : BitVec 32) : FVec Ideal s .f32 := broadcastInDim s ![] h (constant ⟨0, ![]⟩ .f32 w)

/-- The reference's new first moment. -/
theorem newM_eq (g m : FVec Ideal s .f32) :
    addf (mulf (all h 0x3F666666#32) m) (mulf (all h 0x3DCCCCCD#32) g) = fun i => newM (g i) (m i) := rfl

/-- The reference's new second moment. -/
theorem newV_eq (g v : FVec Ideal s .f32) :
    addf (mulf (all h 0x3F7FBE77#32) v) (mulf (all h 0x3A83126F#32) (mulf g g)) = fun i => newV (g i) (v i) := by
  funext i
  exact congrArg (_ + ·) (mul_assoc _ _ _).symm

/-- Dividing by the first bias correction. -/
theorem div_c1 (x : EReal) : Ideal.div x (Ideal.ofBits .f32 0x3F26BD02#32) = x * rate1 := by
  rw [ofBits_c1, Ideal.div_coe (by norm_num), rate1]
  norm_num

/-- Dividing by the second bias correction. -/
theorem div_c2 (x : EReal) : Ideal.div x (Ideal.ofBits .f32 0x3C231ACC#32) = x * rate2 := by
  rw [ofBits_c2, Ideal.div_coe (by norm_num), rate2]
  norm_num

/-- The reference's change of the weights. -/
theorem delta_eq (k1 k2 : Ideal .f32) (h1 : k1 = rate1) (h2 : k2 = rate2)
    (g w m v : FVec Ideal s .f32) :
    mulf (all h 0xBA83126F#32) (addf
      (Host.divf (Host.divf (addf (mulf (all h 0x3F666666#32) m) (mulf (all h 0x3DCCCCCD#32) g)) (all h 0x3F26BD02#32))
        (addf (Host.sqrt (Host.divf (addf (mulf (all h 0x3F7FBE77#32) v) (mulf (all h 0x3A83126F#32) (mulf g g))) (all h 0x3C231ACC#32)))
          (all h 0x322BCC77#32)))
      (mulf (all h 0x3C23D70A#32) w)) = fun i => delta k1 k2 (g i) (m i) (v i) (w i) := by
  rw [newM_eq, newV_eq]
  funext i
  have e1 := div_c1 (newM (g i) (m i))
  have e2 := div_c2 (newV (g i) (v i))
  rw [← h1] at e1
  rw [← h2] at e2
  show Ideal.ofBits .f32 0xBA83126F#32 * (Ideal.div (Ideal.div (newM (g i) (m i)) (Ideal.ofBits .f32 0x3F26BD02#32))
    (Ideal.sqrt (Ideal.div (newV (g i) (v i)) (Ideal.ofBits .f32 0x3C231ACC#32)) + Ideal.ofBits .f32 0x322BCC77#32)
    + Ideal.ofBits .f32 0x3C23D70A#32 * w i) = _
  rw [e1, e2]
  rfl

end Cert.Adam

end
-- ==== Proof.AdamClaim.lean ====
module

public import proofs.«01_k».proof.Defs
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.AdamRow
public import Idealize.ShloMosaic.Adequacy
public import Idealize.ShloMosaic.Init
public import Idealize.ShloMosaic.Lib.Quiescent

@[expose] public section

noncomputable section

/-! AdamW: kernel and reference have the same results, at each of the four shapes. `Adam.delta_eq`, `newM_eq` and `newV_eq`
are the proof; what is said here of a shape is which arrays they are about. -/

namespace Cert.AdamClaim

open Idealize.ShloMosaic Idealize.SL.Sem

/-- The reference for the input projection runs, keeps its arguments and leaves every semaphore at zero. -/
theorem quiescent6 : quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The kernel's two constants are the reciprocals of the bias corrections. -/
theorem preserves6 : preserves_Kernel6_Kernel6Ideal :=
  ⟨IdealRules.named_const.statement Cert.Kernel6Ideal.κ "inv_c1" .f32 0x3FC48605#32 Adam.rate1 rfl,
   IdealRules.named_const.statement Cert.Kernel6Ideal.κ "inv_c2" .f32 0x42C8E6D3#32 Adam.rate2 rfl⟩

/-- For the input projection, both programs run and end with equal results. -/
theorem algebraic6 : algebraic_Kernel6Ideal_Reference6Ideal := fun m ρ m' ρ' _ hagree =>
  ⟨_, _, _, Cert.Kernel6Ideal.Value.run (F := Ideal) m ρ,
    (θ_run Cert.Reference6Ideal.defs _ _).mono (fun _ h c => by
      obtain ⟨d, n, v, kept⟩ := h c
      obtain ⟨h0, h1, h2, h3⟩ := hagree c
      rw [h0, h1, h2, h3] at d
      rw [h0, h2] at n
      rw [h0, h3] at v
      exact ⟨d.trans (Adam.delta_eq _ _ _ (IdealRules.named_const.ideal_named_scalar _ _ _ _ rfl)
        (IdealRules.named_const.ideal_named_scalar _ _ _ _ rfl) _ _ _ _),
        n.trans (Adam.newM_eq _ _ _), v.trans (Adam.newV_eq _ _ _), kept⟩)
      (Cert.Reference6Ideal.Value.run (F := Ideal) m' ρ')⟩

/-- The reference for a branch's projection runs, keeps its arguments and leaves every semaphore at zero. -/
theorem quiescent7 : quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The kernel's two constants are the reciprocals of the bias corrections. -/
theorem preserves7 : preserves_Kernel7_Kernel7Ideal :=
  ⟨IdealRules.named_const.statement Cert.Kernel7Ideal.κ "inv_c1" .f32 0x3FC48605#32 Adam.rate1 rfl,
   IdealRules.named_const.statement Cert.Kernel7Ideal.κ "inv_c2" .f32 0x42C8E6D3#32 Adam.rate2 rfl⟩

/-- For a branch's projection, both programs run and end with equal results. -/
theorem algebraic7 : algebraic_Kernel7Ideal_Reference7Ideal := fun m ρ m' ρ' _ hagree =>
  ⟨_, _, _, Cert.Kernel7Ideal.Value.run (F := Ideal) m ρ,
    (θ_run Cert.Reference7Ideal.defs _ _).mono (fun _ h c => by
      obtain ⟨d, n, v, kept⟩ := h c
      obtain ⟨h0, h1, h2, h3⟩ := hagree c
      rw [h0, h1, h2, h3] at d
      rw [h0, h2] at n
      rw [h0, h3] at v
      exact ⟨d.trans (Adam.delta_eq _ _ _ (IdealRules.named_const.ideal_named_scalar _ _ _ _ rfl)
        (IdealRules.named_const.ideal_named_scalar _ _ _ _ rfl) _ _ _ _),
        n.trans (Adam.newM_eq _ _ _), v.trans (Adam.newV_eq _ _ _), kept⟩)
      (Cert.Reference7Ideal.Value.run (F := Ideal) m' ρ')⟩

/-- The reference for the output projection runs, keeps its arguments and leaves every semaphore at zero. -/
theorem quiescent8 : quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- The kernel's two constants are the reciprocals of the bias corrections. -/
theorem preserves8 : preserves_Kernel8_Kernel8Ideal :=
  ⟨IdealRules.named_const.statement Cert.Kernel8Ideal.κ "inv_c1" .f32 0x3FC48605#32 Adam.rate1 rfl,
   IdealRules.named_const.statement Cert.Kernel8Ideal.κ "inv_c2" .f32 0x42C8E6D3#32 Adam.rate2 rfl⟩

/-- For the output projection, both programs run and end with equal results. -/
theorem algebraic8 : algebraic_Kernel8Ideal_Reference8Ideal := fun m ρ m' ρ' _ hagree =>
  ⟨_, _, _, Cert.Kernel8Ideal.Value.run (F := Ideal) m ρ,
    (θ_run Cert.Reference8Ideal.defs _ _).mono (fun _ h c => by
      obtain ⟨d, n, v, kept⟩ := h c
      obtain ⟨h0, h1, h2, h3⟩ := hagree c
      rw [h0, h1, h2, h3] at d
      rw [h0, h2] at n
      rw [h0, h3] at v
      exact ⟨d.trans (Adam.delta_eq _ _ _ (IdealRules.named_const.ideal_named_scalar _ _ _ _ rfl)
        (IdealRules.named_const.ideal_named_scalar _ _ _ _ rfl) _ _ _ _),
        n.trans (Adam.newM_eq _ _ _), v.trans (Adam.newV_eq _ _ _), kept⟩)
      (Cert.Reference8Ideal.Value.run (F := Ideal) m' ρ')⟩

/-- The reference for the small weights runs, keeps its arguments and leaves every semaphore at zero. -/
theorem quiescent9 : quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- The kernel's two constants are the reciprocals of the bias corrections. -/
theorem preserves9 : preserves_Kernel9_Kernel9Ideal :=
  ⟨IdealRules.named_const.statement Cert.Kernel9Ideal.κ "inv_c1" .f32 0x3FC48605#32 Adam.rate1 rfl,
   IdealRules.named_const.statement Cert.Kernel9Ideal.κ "inv_c2" .f32 0x42C8E6D3#32 Adam.rate2 rfl⟩

/-- For the small weights, both programs run and end with equal results. -/
theorem algebraic9 : algebraic_Kernel9Ideal_Reference9Ideal := fun m ρ m' ρ' _ hagree =>
  ⟨_, _, _, Cert.Kernel9Ideal.Value.run (F := Ideal) m ρ,
    (θ_run Cert.Reference9Ideal.defs _ _).mono (fun _ h c => by
      obtain ⟨d, n, v, kept⟩ := h c
      obtain ⟨h0, h1, h2, h3⟩ := hagree c
      rw [h0, h1, h2, h3] at d
      rw [h0, h2] at n
      rw [h0, h3] at v
      exact ⟨d.trans (Adam.delta_eq _ _ _ (IdealRules.named_const.ideal_named_scalar _ _ _ _ rfl)
        (IdealRules.named_const.ideal_named_scalar _ _ _ _ rfl) _ _ _ _),
        n.trans (Adam.newM_eq _ _ _), v.trans (Adam.newV_eq _ _ _), kept⟩)
      (Cert.Reference9Ideal.Value.run (F := Ideal) m' ρ')⟩

end Cert.AdamClaim

end
-- ==== Proof.CvState.lean ====
module

public import proofs.«01_k».proof.Proof.Gen.Kernel10Ideal.Value
public import Idealize.ShloMosaic.Lib.Pointwise
public import Idealize.ShloMosaic.Lib.Pipeline.Value

@[expose] public section

set_option maxRecDepth 16384

noncomputable section

/-! The short convolution with its normalisation, backward: what a point stores, from what it holds. Each point has two heads of
    a sequence. The gradient of the columns is stored afresh at every point; that of the convolution's weights is a sum over
    the sequences, begun by the first. -/

namespace Cert.Cv

open Cert.Kernel10Ideal Cert.Kernel10Ideal.Gen Cert.Kernel10Ideal.Value Idealize.ShloMosaic Idealize.ShloMosaic.TcCoe Idealize.SL.Sem

section Terms

variable {F : FTy → Type} [FloatOps F]

/-- The two heads of a block. -/
abbrev left (x : Vec F S2112x256 .f32) : Vec F S2112x128 .f32 :=
  View.ld x (Rect.unit (s := S2112x256) ![0, 0] S2112x128.size inb_S2112x256_S2112x128_0_0)

abbrev right (x : Vec F S2112x256 .f32) : Vec F S2112x128 .f32 :=
  View.ld x (Rect.unit (s := S2112x256) ![0, 128] S2112x128.size inb_S2112x256_S2112x128_0_128)

abbrev left4 (x : Vec F S4x256 .f32) : Vec F S4x128 .f32 :=
  View.ld x (Rect.unit (s := S4x256) ![0, 0] S4x128.size inb_S4x256_S4x128_0_0)

abbrev right4 (x : Vec F S4x256 .f32) : Vec F S4x128 .f32 :=
  View.ld x (Rect.unit (s := S4x256) ![0, 128] S4x128.size inb_S4x256_S4x128_0_128)

/-- The numbers of the rows, of the weights, and of the point's heads. -/
abbrev rows : IVec S2112x128 32 := iota .tc S2112x128 32 [0] iota_S2112x128_d0_w32

abbrev taps : IVec S4x128 32 := iota .tc S4x128 32 [0] iota_S4x128_d0_w32

abbrev first (i : grid0.Coords) : BitVec 32 := Scalar.addi (Scalar.muli (BitVec.ofNat 32 (i 0).val) 2#32) 0#32

abbrev other (i : grid0.Coords) : BitVec 32 := Scalar.addi (Scalar.muli (BitVec.ofNat 32 (i 0).val) 2#32) 1#32

variable (j : BitVec 32) (x : Vec F S2112x128 .f32) (w : Vec F S4x128 .f32) (dy : Vec F S2112x128 .f32)

/-- The gradient of a head's convolution, of its columns and of its weights. -/
def grad : FVec F S2112x128 .f32 := k0_pay6 j (k0_pay3 x w) (k0_pay4 x w) k0_pay5 dy

def columns : FVec F S2112x128 .bf16 :=
  k0_pay15 (k0_pay13 rows w (grad j x w dy) (k0_pay7 j w (k0_pay3 x w) (k0_pay4 x w) k0_pay5 dy)
    (k0_pay9 rows j (k0_pay3 x w) (k0_pay4 x w) k0_pay5 dy) (k0_pay10 w))

def weights : FVec F S4x128 .f32 :=
  k0_pay16 taps (k0_pay8 j x (k0_pay3 x w) (k0_pay4 x w) k0_pay5 dy) (k0_pay11 rows x (grad j x w dy)) (k0_pay12 rows x (grad j x w dy))
    (k0_pay14 rows x (grad j x w dy))

/-- What a point stores: of the columns, of the weights when it is the first of its heads, and when it is not. -/
def stored3 (i : grid0.Coords) (x0 : Vec F S2112x256 .f32) (x1 : Vec F S4x256 .f32) (x2 : Vec F S2112x256 .f32) : Vec F S2112x256 .bf16 :=
  View.canon [⟨Rect.unit (s := S2112x256) ![0, 128] S2112x128.size inb_S2112x256_S2112x128_0_128,
      columns (other i) (right x0) (right4 x1) (right x2)⟩,
    ⟨Rect.unit (s := S2112x256) ![0, 0] S2112x128.size inb_S2112x256_S2112x128_0_0, columns (first i) (left x0) (left4 x1) (left x2)⟩]

def pieces4 (a b : FVec F S4x128 .f32) : Vec F S4x256 .f32 :=
  View.canon [⟨Rect.unit (s := S4x256) ![0, 128] S4x128.size inb_S4x256_S4x128_0_128, b⟩,
    ⟨Rect.unit (s := S4x256) ![0, 0] S4x128.size inb_S4x256_S4x128_0_0, a⟩]

theorem added_first (v1 : IVec S4x128 32) (a b d : FVec F S1x128 .f32) (e : FVec F S2112x128 .f32) (old : Vec F S4x128 .f32) :
    k0_pay17 v1 a b d e old = addf old (k0_pay16 v1 a b d e) := by
  unfold k0_pay17
  simp only [shapeCast_self]

theorem added_other (v1 : IVec S4x128 32) (a b d e : FVec F S1x128 .f32) (old : Vec F S4x128 .f32) :
    k0_pay2 v1 a b d e old = addf old (k0_pay1 v1 a b d e) := by
  unfold k0_pay2
  simp only [shapeCast_self]

end Terms

section Stored

variable {F : FTy → Type} [FloatOps F]
variable (c : Dev nD) (i : grid0.Coords) (arg2 : Memref sig .tc .vmem S2112x256 .f32) (harg2 : arg2.IsWhole) (arg3 : Memref sig .tc .vmem S4x256 .f32) (harg3 : arg3.IsWhole) (arg4 : Memref sig .tc .vmem S2112x256 .f32) (harg4 : arg4.IsWhole) (arg6 : Memref sig .tc .vmem S2112x256 .bf16) (harg6 : arg6.IsWhole) (arg7 : Memref sig .tc .vmem S4x256 .f32) (harg7 : arg7.IsWhole)
variable (x0 : Vec F S2112x256 .f32) (x1 : Vec F S4x256 .f32) (x2 : Vec F S2112x256 .f32) (xo4 : Vec F S4x256 .f32)

theorem storedA_3 (hc0 : cond0_0 i) (hc1 : ¬cond0_1 i) (hc2 : cond0_2 i) (hc3 : ¬cond0_3 i) :
    out0_A_3 c i arg2 harg2 arg3 harg3 arg4 harg4 arg6 harg6 arg7 harg7 hc0 hc1 hc2 hc3 x0 x1 x2 = stored3 i x0 x1 x2 := by
  unfold out0_A_3
  rw [View.read_writes_eq_canon _ _ _ (cover0_A_3 c i arg2 harg2 arg3 harg3 arg4 harg4 arg6 harg6 arg7 harg7 hc0 hc1 hc2 hc3 x0 x1 x2)]
  unfold kernelRun0_A
  dsimp only
  sl_unfold_words
  simp only [View.readAt_eq_ld, harg2.read_unread, harg3.read_unread, harg4.read_unread]
  rfl

theorem storedA_4 (hc0 : cond0_0 i) (hc1 : ¬cond0_1 i) (hc2 : cond0_2 i) (hc3 : ¬cond0_3 i) :
    out0_A_4 c i arg2 harg2 arg3 harg3 arg4 harg4 arg6 harg6 arg7 harg7 hc0 hc1 hc2 hc3 x0 x1 x2
      = pieces4 (weights (first i) (left x0) (left4 x1) (left x2)) (weights (other i) (right x0) (right4 x1) (right x2)) := by
  unfold out0_A_4
  rw [View.read_writes_eq_canon _ _ _ (cover0_A_4 c i arg2 harg2 arg3 harg3 arg4 harg4 arg6 harg6 arg7 harg7 hc0 hc1 hc2 hc3 x0 x1 x2)]
  unfold kernelRun0_A
  dsimp only
  sl_unfold_words
  simp only [View.readAt_eq_ld, harg2.read_unread, harg3.read_unread, harg4.read_unread]
  rfl

theorem storedB_3 (hc0 : ¬cond0_0 i) (hc1 : cond0_1 i) (hc2 : ¬cond0_2 i) (hc3 : cond0_3 i) :
    out0_B_3 c i arg2 harg2 arg3 harg3 arg4 harg4 arg6 harg6 arg7 harg7 hc0 hc1 hc2 hc3 x0 x1 x2 xo4 = stored3 i x0 x1 x2 := by
  unfold out0_B_3
  rw [View.read_writes_eq_canon _ _ _ (cover0_B_3 c i arg2 harg2 arg3 harg3 arg4 harg4 arg6 harg6 arg7 harg7 hc0 hc1 hc2 hc3 x0 x1 x2 xo4)]
  unfold kernelRun0_B
  dsimp only
  sl_unfold_words
  simp only [View.readAt_eq_ld, harg2.read_unread, harg3.read_unread, harg4.read_unread]
  rfl

theorem storedB_4 (hc0 : ¬cond0_0 i) (hc1 : cond0_1 i) (hc2 : ¬cond0_2 i) (hc3 : cond0_3 i) :
    out0_B_4 c i arg2 harg2 arg3 harg3 arg4 harg4 arg6 harg6 arg7 harg7 hc0 hc1 hc2 hc3 x0 x1 x2 xo4
      = pieces4 (addf (left4 xo4) (weights (first i) (left x0) (left4 x1) (left x2)))
          (addf (right4 xo4) (weights (other i) (right x0) (right4 x1) (right x2))) := by
  unfold out0_B_4
  rw [View.read_writes_eq_canon _ _ _ (cover0_B_4 c i arg2 harg2 arg3 harg3 arg4 harg4 arg6 harg6 arg7 harg7 hc0 hc1 hc2 hc3 x0 x1 x2 xo4)]
  unfold kernelRun0_B
  dsimp only
  sl_unfold_words
  simp only [View.readAt_eq_ld, harg2.read_unread, harg3.read_unread, harg4.read_unread, harg7.read_unread, added_first, added_other]
  rfl

end Stored

end Cert.Cv

end
-- ==== Proof.CvPoint.lean ====
module

public import proofs.«01_k».proof.Proof.CvState

@[expose] public section

set_option maxRecDepth 16384

noncomputable section

/-! The short convolution with its normalisation, backward: what each point leaves in its results' buffers. -/

namespace Cert.Cv

open Cert.Kernel10Ideal Cert.Kernel10Ideal.Gen Cert.Kernel10Ideal.Value Idealize.ShloMosaic Idealize.ShloMosaic.TcCoe Idealize.SL.Sem

variable {F : FTy → Type} [FloatOps F] (m : (ℓ : Loc nD τ sig) → Buf (Elt F) ℓ) (c : Dev nD) (t : Fin cfg0.N)

/-- The gradients of the weights of a point's two heads. -/
abbrev leftW : FVec F S4x128 .f32 := weights (first (grid0.coords t)) (left (X0_0 m c t)) (left4 (iblk m c 1 t)) (left (iblk m c 2 t))

abbrev rightW : FVec F S4x128 .f32 := weights (other (grid0.coords t)) (right (X0_0 m c t)) (right4 (iblk m c 1 t)) (right (iblk m c 2 t))

theorem first_4 (h : t.val % 4 = 0) : (outsAt0 m c t.val t.isLt).2 = pieces4 (leftW m c t) (rightW m c t) := by
  have h1 : ¬1 ≤ t.val % 4 := by omega
  have e := congrArg (fun s => s.2) (outsAt0_A m c t h h1 h h1)
  dsimp only at e
  exact e.trans (storedA_4 c (grid0.coords t) (ms0_0 t) (hs0_0 t) (ms0_1 t) (hs0_1 t) (ms0_2 t) (hs0_2 t) (ms0_3 t) (hs0_3 t) (ms0_4 t) (hs0_4 t)
    (X0_0 m c t) (iblk m c 1 t) (iblk m c 2 t) ((hcond0_0 t).mpr h) (fun h' => h1 ((hcond0_1 t).mp h')) ((hcond0_2 t).mpr h)
    (fun h' => h1 ((hcond0_3 t).mp h')))

theorem next_4 (h : ¬t.val % 4 = 0) : (outsAt0 m c t.val t.isLt).2
      = pieces4 (addf (left4 (outsAt0 m c (t.val - 1) (Nat.lt_of_le_of_lt (Nat.sub_le _ _) t.isLt)).2) (leftW m c t))
          (addf (right4 (outsAt0 m c (t.val - 1) (Nat.lt_of_le_of_lt (Nat.sub_le _ _) t.isLt)).2) (rightW m c t)) := by
  have h1 : 1 ≤ t.val % 4 := by omega
  have e := congrArg (fun s => s.2) (outsAt0_B m c t h h1 h h1)
  dsimp only at e
  exact e.trans (storedB_4 c (grid0.coords t) (ms0_0 t) (hs0_0 t) (ms0_1 t) (hs0_1 t) (ms0_2 t) (hs0_2 t) (ms0_3 t) (hs0_3 t) (ms0_4 t) (hs0_4 t)
    (X0_0 m c t) (iblk m c 1 t) (iblk m c 2 t) _ (fun h' => h ((hcond0_0 t).mp h')) ((hcond0_1 t).mpr h1) (fun h' => h ((hcond0_2 t).mp h'))
    ((hcond0_3 t).mpr h1))

theorem point_3 : (outsAt0 m c t.val t.isLt).1 = stored3 (grid0.coords t) (X0_0 m c t) (iblk m c 1 t) (iblk m c 2 t) := by
  by_cases h : t.val % 4 = 0
  · have h1 : ¬1 ≤ t.val % 4 := by omega
    have e := congrArg (fun s => s.1) (outsAt0_A m c t h h1 h h1)
    dsimp only at e
    exact e.trans (storedA_3 c (grid0.coords t) (ms0_0 t) (hs0_0 t) (ms0_1 t) (hs0_1 t) (ms0_2 t) (hs0_2 t) (ms0_3 t) (hs0_3 t) (ms0_4 t) (hs0_4 t)
      (X0_0 m c t) (iblk m c 1 t) (iblk m c 2 t) ((hcond0_0 t).mpr h) (fun h' => h1 ((hcond0_1 t).mp h')) ((hcond0_2 t).mpr h)
      (fun h' => h1 ((hcond0_3 t).mp h')))
  · have h1 : 1 ≤ t.val % 4 := by omega
    have e := congrArg (fun s => s.1) (outsAt0_B m c t h h1 h h1)
    dsimp only at e
    exact e.trans (storedB_3 c (grid0.coords t) (ms0_0 t) (hs0_0 t) (ms0_1 t) (hs0_1 t) (ms0_2 t) (hs0_2 t) (ms0_3 t) (hs0_3 t) (ms0_4 t) (hs0_4 t)
      (X0_0 m c t) (iblk m c 1 t) (iblk m c 2 t) _ (fun h' => h ((hcond0_0 t).mp h')) ((hcond0_1 t).mpr h1) (fun h' => h ((hcond0_2 t).mp h'))
      ((hcond0_3 t).mpr h1))

end Cert.Cv

end
-- ==== Proof.CvRow.lean ====
module

public import proofs.«01_k».proof.Proof.MvRow

@[expose] public section

noncomputable section

/-! The short convolution with its normalisation, backward: one head of one sequence, 2112 rows of 128 columns. The kernel's row
    formula of the normalisation equals the one differentiation gives. -/

namespace Cert.Cv

open Idealize.ShloMosaic Cert.Mv

theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The value `k` rows back, and `k` rows ahead; zero beyond the ends. -/
def back (k : ℕ) (X : Fin 2112 → EReal) (p : Fin 2112) : EReal :=
  if k ≤ p.val then X ⟨p.val - k, by have := p.isLt; omega⟩ else 0

def ahead (k : ℕ) (D : Fin 2112 → EReal) (p : Fin 2112) : EReal :=
  if h : p.val + k < 2112 then D ⟨p.val + k, h⟩ else 0

/-- The convolution of a column and its transpose. -/
def conv (X : Fin 2112 → EReal) (W : Fin 4 → EReal) (p : Fin 2112) : EReal :=
  X p * W 3 + back 1 X p * W 2 + back 2 X p * W 1 + back 3 X p * W 0

def dconv (D : Fin 2112 → EReal) (W : Fin 4 → EReal) (p : Fin 2112) : EReal :=
  D p * W 3 + ahead 1 D p * W 2 + ahead 2 D p * W 1 + ahead 3 D p * W 0

/-- The sum of a row's squares, not quite zero, and the factor that makes the row one of length one. -/
def square (s : Fin 128 → EReal) : EReal := (∑ l, s l * s l) + Ideal.ofBits FTy.f32 897988541#32

def inv (s : Fin 128 → EReal) : EReal := Ideal.rsqrt (square s)

/-- The gradient of a row through that and a scale `q`: the kernel's formula. -/
def dsK (q : EReal) (s dy : Fin 128 → EReal) (e : Fin 128) : EReal :=
  q * inv s * (dy e - s e * inv s * ∑ l, dy l * (s l * inv s))

/-- The second part of the row, as differentiation gives it. -/
def factor (s D : Fin 128 → EReal) : EReal :=
  (∑ l, s l * D l) * (Ideal.ofBits FTy.f32 3204448256#32 * Ideal.div (inv s) (square s))

/-- The same gradient as differentiation gives it, from `D`, the incoming gradient times the scale. -/
def dsR (s D : Fin 128 → EReal) (e : Fin 128) : EReal :=
  D e * inv s + s e * factor s D + factor s D * s e

theorem div_one (a : EReal) : Ideal.div a ((1 : ℝ) : EReal) = a := by
  rw [Norm.div_real _ _ one_ne_zero, inv_one, EReal.coe_one, mul_one]

theorem meanSq_one (s : Fin 128 → EReal) : Norm.meanSq ((1 : ℝ) : EReal) s = square s := by
  unfold Norm.meanSq square; rw [div_one]

theorem scale_one (s : Fin 128 → EReal) : Norm.scale ((1 : ℝ) : EReal) s = inv s := by
  unfold Norm.scale inv; rw [meanSq_one]

theorem ds_eq (q : ℝ) (hq : 0 ≤ q) (s dy : Fin 128 → EReal) (e : Fin 128) :
    dsK (q : EReal) s dy e = dsR s (fun l => dy l * (q : EReal)) e := by
  have h := Norm.grad_eq ((1 : ℝ) : EReal) 1 one_pos rfl s (fun l => dy l * (q : EReal)) (fun _ => 1) 0 e
  unfold Norm.gradK Norm.gradR Norm.second at h
  rw [scale_one, meanSq_one, div_one, div_one] at h
  simp only [mul_one, zero_add] at h
  refine Eq.trans ?_ h
  unfold dsK
  have e1 : (∑ l, dy l * (q : EReal) * (s l * inv s)) = (∑ l, dy l * (s l * inv s)) * (q : EReal) := by
    rw [← Norm.sum_mul_coe _ _ q hq]
    exact Finset.sum_congr rfl fun l _ => mul_right_comm _ _ _
  rw [e1, ← mul_assoc (s e * inv s), mul_comm (dy e) (q : EReal), mul_comm _ (q : EReal),
    ← EReal.mul_sub_of_nonneg_of_ne_top (by exact_mod_cast hq) (EReal.coe_ne_top q), ← mul_assoc, mul_comm (inv s)]

theorem inv_real (s : Fin 128 → EReal) : IsReal (inv s) := by
  rw [← scale_one]
  rcases Norm.scale_cases ((1 : ℝ) : EReal) 1 one_pos rfl s with ⟨-, h⟩ | ⟨v, -, -, h⟩
  · exact ⟨0, h⟩
  · exact ⟨_, h⟩

theorem unit_real (s : Fin 128 → EReal) (e : Fin 128) : IsReal (s e * inv s) := by
  rw [← scale_one]
  exact Norm.scaled_real ((1 : ℝ) : EReal) 1 one_pos rfl s e

theorem dsK_real (q : ℝ) (s dy : Fin 128 → EReal) (hd : ∀ l, IsReal (dy l)) (e : Fin 128) : IsReal (dsK (q : EReal) s dy e) :=
  IsReal.mul (IsReal.mul ⟨q, rfl⟩ (inv_real s))
    (IsReal.sub (hd e) (IsReal.mul (unit_real s e) (IsReal.sum _ _ fun l => IsReal.mul (hd l) (unit_real s l))))

/-- The scale of the queries. -/
theorem query_scale : ∃ q : ℝ, 0 ≤ q ∧ Ideal.ofBits FTy.f32 0x3DB504F3#32 = (q : EReal) := by
  refine ⟨_, ?_, by simp [Ideal.ofBits, Ideal.ieee]; rfl⟩
  positivity

/-- Head `j`'s gradient before the convolution's SiLU: queries (0–3) and keys (4–7) are normalised, values (8–11) are not. -/
def ds (j : ℕ) (s dy : Fin 128 → EReal) (e : Fin 128) : EReal :=
  if j < 8 then dsK (if j < 4 then Ideal.ofBits FTy.f32 0x3DB504F3#32 else 1) s dy e else dy e

theorem ds_query (j : ℕ) (h : j < 4) (s dy : Fin 128 → EReal) (e : Fin 128) :
    ds j s dy e = dsR s (fun l => dy l * Ideal.ofBits FTy.f32 0x3DB504F3#32) e := by
  obtain ⟨q, hq, hQ⟩ := query_scale
  rw [ds, if_pos (by omega), if_pos h, hQ, ds_eq q hq]

theorem ds_key (j : ℕ) (h : ¬j < 4) (h8 : j < 8) (s dy : Fin 128 → EReal) (e : Fin 128) : ds j s dy e = dsR s dy e := by
  rw [ds, if_pos h8, if_neg h, ← EReal.coe_one, ds_eq 1 zero_le_one]
  simp only [EReal.coe_one, mul_one]

theorem ds_value (j : ℕ) (h : ¬j < 8) (s dy : Fin 128 → EReal) (e : Fin 128) : ds j s dy e = dy e := if_neg h

theorem ds_real (j : ℕ) (s dy : Fin 128 → EReal) (hd : ∀ l, IsReal (dy l)) (e : Fin 128) : IsReal (ds j s dy e) := by
  obtain ⟨q, -, hQ⟩ := query_scale
  unfold ds
  rw [hQ, ← EReal.coe_one]
  split
  · split
    · exact dsK_real q s dy hd e
    · exact dsK_real 1 s dy hd e
  · exact hd e

/-- A head: the columns `X` before the convolution, its weights `W`, the incoming gradient `D`. -/
structure Head where
  X : Fin 2112 → Fin 128 → EReal
  W : Fin 4 → Fin 128 → EReal
  D : Fin 2112 → Fin 128 → EReal

namespace Head

variable (H : Head)

/-- The convolution, the incoming gradient without the padding, the gradient before SiLU. -/
def c (p : Fin 2112) (e : Fin 128) : EReal := conv (fun p => H.X p e) (fun k => H.W k e) p

def dy (p : Fin 2112) (e : Fin 128) : EReal := if 48 ≤ p.val then H.D p e else 0

def ds (j : ℕ) (p : Fin 2112) (e : Fin 128) : EReal := Cv.ds j (fun l => H.c p l * Ideal.logistic (H.c p l)) (H.dy p) e

/-- The gradient of the convolution, in the kernel's form and in that of differentiation. -/
def dc (j : ℕ) (p : Fin 2112) (e : Fin 128) : EReal :=
  H.ds j p e * (Ideal.logistic (H.c p e) * (1 + H.c p e * (1 - Ideal.logistic (H.c p e))))

theorem dc_eq (hd : ∀ p e, IsReal (H.D p e)) (j : ℕ) (p : Fin 2112) (e : Fin 128) :
    H.dc j p e = H.ds j p e * Ideal.logistic (H.c p e)
      + H.c p e * H.ds j p e * (Ideal.logistic (H.c p e) * (1 - Ideal.logistic (H.c p e))) := by
  refine gate_slope _ (ds_real _ _ _ (fun l => ?_) _) _
  unfold dy
  split
  · exact hd p l
  · exact ⟨0, rfl⟩

/-- The gradients of the columns and of the weights. -/
def dx (j : ℕ) (p : Fin 2112) (e : Fin 128) : EReal := dconv (fun p => H.dc j p e) (fun k => H.W k e) p

def dw (j : ℕ) (k : Fin 4) (e : Fin 128) : EReal := ∑ p, H.dc j p e * back (3 - k.val) (fun p => H.X p e) p

end Head

end Cert.Cv

end
-- ==== Proof.CvBody.lean ====
module

public import proofs.«01_k».proof.Proof.CvState
public import proofs.«01_k».proof.Proof.CvRow

@[expose] public section

set_option maxRecDepth 16384

noncomputable section

/-! The short convolution with its normalisation, backward: what a point's two heads are. -/

namespace Cert.Cv

open Cert.Kernel10Ideal Cert.Kernel10Ideal.Gen Cert.Kernel10Ideal.Value Idealize.ShloMosaic Idealize.ShloMosaic.TcCoe Idealize.SL.Sem

variable (x : S2112x128.Idx → EReal) (w : S4x128.Idx → EReal) (dy : S2112x128.Idx → EReal)

/-- A head from its arrays. -/
def headOf : Head where
  X p e := x (ix2 p e)
  W k e := w (ix2 k e)
  D p e := dy (ix2 p e)

theorem from_row {α : Type} (p : Fin 2112) (k : ℕ) (hk : k < 2112) (a b : α) :
    Scalar.select (IntOp.cmpi CmpIPredicate.sge (BitVec.ofNat 32 p.val) (BitVec.ofNat 32 k)) a b = if k ≤ p.val then a else b := by
  have hp := p.isLt
  rw [WordCmp.cmpi_sge_ofNat (by omega) (by omega)]
  by_cases h : k ≤ p.val
  · rw [if_pos h, decide_eq_true h]; rfl
  · rw [if_neg h, decide_eq_false h]; rfl

theorem before {α : Type} (n k : ℕ) (hn : n < 2112) (hk : k < 2112) (a b : α) :
    Scalar.select (IntOp.cmpi CmpIPredicate.slt (BitVec.ofNat 32 n) (BitVec.ofNat 32 k)) a b = if n < k then a else b := by
  rw [WordCmp.cmpi_slt_ofNat (by omega) (by omega)]
  by_cases h : n < k
  · rw [if_pos h, decide_eq_true h]; rfl
  · rw [if_neg h, decide_eq_false h]; rfl

theorem at_tap {α : Type} (k : Fin 4) (n : ℕ) (hn : n < 4) (a b : α) :
    Scalar.select (IntOp.cmpi CmpIPredicate.eq (BitVec.ofNat 32 k.val) (BitVec.ofNat 32 n)) a b = if k.val = n then a else b := by
  have hk := k.isLt
  rw [WordCmp.cmpi_eq_ofNat (by omega) (by omega)]
  by_cases h : k.val = n
  · rw [if_pos h, decide_eq_true h]; rfl
  · rw [if_neg h, decide_eq_false h]; rfl

/-- A rotation by `k` rows, cut off at the first `k` rows; by `2112 - k` rows, cut off at the last `k` rows. -/
theorem rotated_back (X : Fin 2112 → EReal) (k : ℕ) (hk : k < 2112) (W : EReal) (p : Fin 2112) (h : (p.val + 2112 - k) % 2112 < 2112) :
    Scalar.select (IntOp.cmpi CmpIPredicate.sge (BitVec.ofNat 32 p.val) (BitVec.ofNat 32 k)) (X ⟨(p.val + 2112 - k) % 2112, h⟩ * W) 0
      = back k X p * W := by
  have hp := p.isLt
  rw [from_row p k hk]
  unfold back
  by_cases hkp : k ≤ p.val
  · rw [if_pos hkp, if_pos hkp]
    exact congrArg (fun n => X n * W) (Fin.ext (by show (p.val + 2112 - k) % 2112 = p.val - k; omega))
  · rw [if_neg hkp, if_neg hkp, zero_mul]

theorem rotated_back_left (X : Fin 2112 → EReal) (k : ℕ) (hk : k < 2112) (W : EReal) (p : Fin 2112) (h : (p.val + 2112 - k) % 2112 < 2112) :
    Scalar.select (IntOp.cmpi CmpIPredicate.sge (BitVec.ofNat 32 p.val) (BitVec.ofNat 32 k)) (W * X ⟨(p.val + 2112 - k) % 2112, h⟩) 0
      = W * back k X p := by
  rw [mul_comm W, mul_comm W, rotated_back X k hk]

theorem rotated_ahead (X : Fin 2112 → EReal) (k : ℕ) (hk : 0 < k ∧ k < 2112) (W : EReal) (p : Fin 2112) (m : ℕ) (hm : m = 2112 - k)
    (h : (p.val + 2112 - m) % 2112 < 2112) :
    Scalar.select (IntOp.cmpi CmpIPredicate.slt (BitVec.ofNat 32 p.val) (BitVec.ofNat 32 m)) (X ⟨(p.val + 2112 - m) % 2112, h⟩ * W) 0
      = ahead k X p * W := by
  have hp := p.isLt
  subst hm
  rw [before p.val (2112 - k) hp (by omega)]
  unfold ahead
  by_cases hkp : p.val + k < 2112
  · rw [if_pos (by omega), dif_pos hkp]
    exact congrArg (fun n => X n * W) (Fin.ext (by show (p.val + 2112 - (2112 - k)) % 2112 = p.val + k; omega))
  · rw [if_neg (by omega), dif_neg hkp, zero_mul]

theorem conv_apply (p : Fin 2112) (e : Fin 128) : k0_pay3 (F := Ideal) x w (ix2 p e) = (headOf x w dy).c p e := by
  pointwise [k0_pay3]
  have h := fun k hk W => rotated_back (fun p => x (ix2 p e)) k hk W p (Nat.mod_lt _ (by decide))
  beta_reduce at h
  rw [h 1 (by decide), h 2 (by decide), h 3 (by decide)]
  rfl

theorem grad_apply (j : ℕ) (hj : j < 12) (p : Fin 2112) (e : Fin 128) :
    grad (F := Ideal) (BitVec.ofNat 32 j) x w dy (ix2 p e) = (headOf x w dy).dc j p e := by
  have hc := conv_apply x w dy
  unfold grad k0_pay4 k0_pay5
  generalize k0_pay3 (F := Ideal) x w = c at hc ⊢
  pointwise [k0_pay6]
  simp only [hc]
  unfold Head.dc Head.ds Cv.ds dsK inv square
  have hd : ∀ l, (headOf x w dy).dy p l = Scalar.select (IntOp.cmpi CmpIPredicate.sge (BitVec.ofNat 32 p.val) 48#32) (dy (ix2 p l)) 0 :=
    fun l => (from_row p 48 (by decide) _ _).symm
  have hm : ∀ l a, (headOf x w dy).dy p l * a = Scalar.select (IntOp.cmpi CmpIPredicate.sge (BitVec.ofNat 32 p.val) 48#32) (dy (ix2 p l) * a) 0 := by
    intro l a
    rw [hd, from_row p 48 (by decide), from_row p 48 (by decide), ite_mul, zero_mul]
  simp only [← hm, ← hd]
  rw [show Scalar.cmpi CmpIPredicate.slt (BitVec.ofNat 32 j) 8#32 = IntOp.cmpi CmpIPredicate.slt (BitVec.ofNat 32 j) 8#32 from rfl,
    show Scalar.cmpi CmpIPredicate.slt (BitVec.ofNat 32 j) 4#32 = IntOp.cmpi CmpIPredicate.slt (BitVec.ofNat 32 j) 4#32 from rfl,
    before j 8 (by omega) (by decide), before j 4 (by omega) (by decide)]

theorem columns_apply (j : ℕ) (hj : j < 12) (p : Fin 2112) (e : Fin 128) :
    columns (F := Ideal) (BitVec.ofNat 32 j) x w dy (ix2 p e) = (headOf x w dy).dx j p e := by
  have hg := grad_apply x w dy j hj
  unfold columns k0_pay7 k0_pay9
  change k0_pay15 (k0_pay13 rows w (grad (F := Ideal) (BitVec.ofNat 32 j) x w dy)
    (mulf (grad (F := Ideal) (BitVec.ofNat 32 j) x w dy) _)
    (select _ (dynamicRotate 0 2111#32 none (grad (F := Ideal) (BitVec.ofNat 32 j) x w dy) rotates_S2112x128_d0) _) _) _ = _
  generalize grad (F := Ideal) (BitVec.ofNat 32 j) x w dy = g at hg ⊢
  pointwise [k0_pay15, k0_pay13, k0_pay10]
  have h := fun k hk W m hm => rotated_ahead (fun p => g (ix2 p e)) k hk W p m hm (Nat.mod_lt _ (by decide))
  beta_reduce at h
  rw [h 1 (by decide) _ 2111 rfl, h 2 (by decide) _ 2110 rfl, h 3 (by decide) _ 2109 rfl]
  simp only [hg]
  rfl

theorem weights_apply (j : ℕ) (hj : j < 12) (k : Fin 4) (e : Fin 128) :
    weights (F := Ideal) (BitVec.ofNat 32 j) x w dy (ix2 k e) = (headOf x w dy).dw j k e := by
  have hg := grad_apply x w dy j hj
  unfold weights k0_pay8
  change k0_pay16 taps (shapeCast S1x128 (multiReduction .add [0] S128 (mulf (grad (F := Ideal) (BitVec.ofNat 32 j) x w dy) x) 0x00000000#32 reduces_S2112x128_S128 (.inl rfl) rfl) shapeCasts_S128_S1x128) _ _ _ _ = _
  generalize grad (F := Ideal) (BitVec.ofNat 32 j) x w dy = g at hg ⊢
  pointwise [k0_pay16, k0_pay11, k0_pay12, k0_pay14]
  have h := fun k hk W p => rotated_back_left (fun p => x (ix2 p e)) k hk W p (Nat.mod_lt _ (by decide))
  beta_reduce at h
  simp only [h 1 (by decide), h 2 (by decide), h 3 (by decide), hg]
  rw [at_tap k 3 (by decide), at_tap k 2 (by decide), at_tap k 1 (by decide), at_tap k 0 (by decide)]
  have hz : ∀ q, (headOf x w dy).X q e = back 0 (fun p => (headOf x w dy).X p e) q := fun q => (if_pos (Nat.zero_le _)).symm
  fin_cases k
  · simp; rfl
  · simp; rfl
  · simp; rfl
  · simp; exact Finset.sum_congr rfl fun q _ => congrArg _ (hz q)

end Cert.Cv

end
-- ==== Proof.CvLines.lean ====
module

public import proofs.«01_k».proof.Proof.CvRow

@[expose] public section

noncomputable section

/-! The short convolution with its normalisation, backward: what its two results are, from the arguments. The rows are four
    sequences of 2112, the columns twelve heads of 128. -/

namespace Cert.Cv

open Idealize.ShloMosaic

/-- The arguments: the projection `p`, in whose columns 3072 to 4607 the heads are, the convolution's weights, the incoming
    gradient, and the array that holds the gradient of the projection's other columns. -/
structure Args where
  p : Fin 8448 → Fin 6272 → EReal
  w : Fin 4 → Fin 1536 → EReal
  d : Fin 8448 → Fin 1536 → EReal
  q : Fin 8448 → Fin 6272 → EReal

/-- The row of a sequence's row, the column of a head's column, and back. -/
def rowAt (b : Fin 4) (p : Fin 2112) : Fin 8448 := ⟨b.val * 2112 + p.val, by have := b.isLt; have := p.isLt; omega⟩

def colAt (j : Fin 12) (e : Fin 128) : Fin 1536 := ⟨j.val * 128 + e.val, by have := j.isLt; have := e.isLt; omega⟩

def seqOf (r : Fin 8448) : Fin 4 := ⟨r.val / 2112, by have := r.isLt; omega⟩

def rowIn (r : Fin 8448) : Fin 2112 := ⟨r.val % 2112, Nat.mod_lt _ (by decide)⟩

def headAt (l : Fin 1536) : Fin 12 := ⟨l.val / 128, by have := l.isLt; omega⟩

def laneIn (l : Fin 1536) : Fin 128 := ⟨l.val % 128, Nat.mod_lt _ (by decide)⟩

theorem seqOf_rowAt (b : Fin 4) (p : Fin 2112) : seqOf (rowAt b p) = b :=
  Fin.ext (by have := p.isLt; show (b.val * 2112 + p.val) / 2112 = b.val; omega)

theorem rowIn_rowAt (b : Fin 4) (p : Fin 2112) : rowIn (rowAt b p) = p :=
  Fin.ext (by have := p.isLt; show (b.val * 2112 + p.val) % 2112 = p.val; omega)

theorem headAt_colAt (j : Fin 12) (e : Fin 128) : headAt (colAt j e) = j :=
  Fin.ext (by have := e.isLt; show (j.val * 128 + e.val) / 128 = j.val; omega)

theorem laneIn_colAt (j : Fin 12) (e : Fin 128) : laneIn (colAt j e) = e :=
  Fin.ext (by have := e.isLt; show (j.val * 128 + e.val) % 128 = e.val; omega)

theorem rowAt_split (r : Fin 8448) : rowAt (seqOf r) (rowIn r) = r :=
  Fin.ext (by show r.val / 2112 * 2112 + r.val % 2112 = r.val; omega)

theorem colAt_split (l : Fin 1536) : colAt (headAt l) (laneIn l) = l :=
  Fin.ext (by show l.val / 128 * 128 + l.val % 128 = l.val; omega)

namespace Args

variable (A : Args)

/-- A head of a sequence. -/
def head (b : Fin 4) (j : Fin 12) : Head where
  X p e := A.p (rowAt b p) ⟨3072 + (colAt j e).val, by have := (colAt j e).isLt; omega⟩
  W k e := A.w k (colAt j e)
  D p e := A.d (rowAt b p) (colAt j e)

/-- The gradients of the heads' columns and of the weights. -/
def dx (r : Fin 8448) (l : Fin 1536) : EReal := (A.head (seqOf r) (headAt l)).dx (headAt l).val (rowIn r) (laneIn l)

def dw (k : Fin 4) (l : Fin 1536) : EReal := ∑ b, (A.head b (headAt l)).dw (headAt l).val k (laneIn l)

theorem dx_of (b : Fin 4) (p : Fin 2112) (j : Fin 12) (e : Fin 128) : A.dx (rowAt b p) (colAt j e) = (A.head b j).dx j.val p e := by
  unfold dx
  rw [seqOf_rowAt, rowIn_rowAt, headAt_colAt, laneIn_colAt]

theorem dw_of (k : Fin 4) (j : Fin 12) (e : Fin 128) : A.dw k (colAt j e) = ∑ b, (A.head b j).dw j.val k e := by
  unfold dw
  rw [headAt_colAt, laneIn_colAt]

/-- The first result. -/
def dproj (r : Fin 8448) (l : Fin 6272) : EReal :=
  if h : 3072 ≤ l.val ∧ l.val < 4608 then A.dx r ⟨l.val - 3072, by omega⟩ else A.q r l

end Args

end Cert.Cv

end
-- ==== Proof.CvArray.lean ====
module

public import proofs.«01_k».proof.Proof.CvPoint
public import proofs.«01_k».proof.Proof.CvBody
public import proofs.«01_k».proof.Proof.CvLines

@[expose] public section

set_option maxRecDepth 16384

noncomputable section

/-! The short convolution with its normalisation, backward: what a point's blocks are in the arguments, and what the results'
    arrays hold. Point `t` has two heads of a sequence. -/

namespace Cert.Cv

open Cert.Kernel10Ideal Cert.Kernel10Ideal.Gen Cert.Kernel10Ideal.Value Idealize.ShloMosaic Idealize.ShloMosaic.TcCoe Idealize.SL.Sem

theorem point_lt (t : Fin cfg0.N) : t.val < 24 := t.isLt

/-- The sequence and the two heads of a point. -/
def seq (t : Fin cfg0.N) : Fin 4 := ⟨t.val % 4, Nat.mod_lt _ (by decide)⟩

def head0 (t : Fin cfg0.N) : Fin 12 := ⟨t.val / 4 * 2, by have := point_lt t; omega⟩

def head1 (t : Fin cfg0.N) : Fin 12 := ⟨t.val / 4 * 2 + 1, by have := point_lt t; omega⟩

theorem words : ∀ t : Fin cfg0.N, first (grid0.coords t) = BitVec.ofNat 32 (head0 t).val ∧ other (grid0.coords t) = BitVec.ofNat 32 (head1 t).val :=
  (by decide +kernel : ∀ t : Fin grid0.N, _)

theorem index_facts : ∀ t : Fin cfg0.N, win0_0.index t (0 : Fin 2) = t.val % 4 ∧ win0_0.index t (1 : Fin 2) = 12 + t.val / 4
    ∧ win0_1.index t (0 : Fin 2) = 0 ∧ win0_1.index t (1 : Fin 2) = t.val / 4
    ∧ win0_2.index t (0 : Fin 2) = t.val % 4 ∧ win0_2.index t (1 : Fin 2) = t.val / 4
    ∧ win0_3.index t (0 : Fin 2) = t.val % 4 ∧ win0_3.index t (1 : Fin 2) = 12 + t.val / 4
    ∧ win0_4.index t (0 : Fin 2) = 0 ∧ win0_4.index t (1 : Fin 2) = t.val / 4 :=
  (by decide +kernel : ∀ t : Fin grid0.N, _)

theorem extent3 : ∀ t : Fin cfg0.N, ∀ a, (cfg0.win 3).xsize (cfg0.grid.coords t) a = (cfg0.win 3).size a := by decide +kernel

theorem flush3 : ∀ t : Fin cfg0.N, (cfg0.win 3).flush t = true := (by decide +kernel : ∀ t : Fin grid0.N, _)

theorem flush4 : ∀ t : Fin cfg0.N, (cfg0.win 4).flush t = true ↔ t.val % 4 = 3 := (by decide +kernel : ∀ t : Fin grid0.N, _)

/-- A column of a point's blocks, among the heads' columns. -/
def col (t : Fin cfg0.N) (s : Fin 256) : Fin 1536 := ⟨t.val / 4 * 256 + s.val, by have := point_lt t; have := s.isLt; omega⟩

/-- The halves of a block's columns. -/
def lower (e : Fin 128) : Fin 256 := ⟨e.val, by have := e.isLt; omega⟩

def upper (e : Fin 128) : Fin 256 := ⟨128 + e.val, by have := e.isLt; omega⟩

theorem col_lower (t : Fin cfg0.N) (e : Fin 128) : col t (lower e) = colAt (head0 t) e :=
  Fin.ext (by show t.val / 4 * 256 + e.val = t.val / 4 * 2 * 128 + e.val; omega)

theorem col_upper (t : Fin cfg0.N) (e : Fin 128) : col t (upper e) = colAt (head1 t) e :=
  Fin.ext (by show t.val / 4 * 256 + (128 + e.val) = (t.val / 4 * 2 + 1) * 128 + e.val; omega)

section Halves

theorem left_apply (x : S2112x256.Idx → EReal) (p : Fin 2112) (e : Fin 128) : left (F := Ideal) x (ix2 p e) = x (ix2 p (lower e)) := by
  show x ((Rect.unit (s := S2112x256) ![0, 0] S2112x128.size inb_S2112x256_S2112x128_0_0).idx (ix2 p e)) = _
  refine congrArg x (funext fun a => Fin.ext ?_)
  match a with
  | ⟨0, _⟩ => show 0 + 1 * p.val = p.val; omega
  | ⟨1, _⟩ => show 0 + 1 * e.val = e.val; omega

theorem right_apply (x : S2112x256.Idx → EReal) (p : Fin 2112) (e : Fin 128) : right (F := Ideal) x (ix2 p e) = x (ix2 p (upper e)) := by
  show x ((Rect.unit (s := S2112x256) ![0, 128] S2112x128.size inb_S2112x256_S2112x128_0_128).idx (ix2 p e)) = _
  refine congrArg x (funext fun a => Fin.ext ?_)
  match a with
  | ⟨0, _⟩ => show 0 + 1 * p.val = p.val; omega
  | ⟨1, _⟩ => show 128 + 1 * e.val = 128 + e.val; omega

theorem left4_apply (x : S4x256.Idx → EReal) (p : Fin 4) (e : Fin 128) : left4 (F := Ideal) x (ix2 p e) = x (ix2 p (lower e)) := by
  show x ((Rect.unit (s := S4x256) ![0, 0] S4x128.size inb_S4x256_S4x128_0_0).idx (ix2 p e)) = _
  refine congrArg x (funext fun a => Fin.ext ?_)
  match a with
  | ⟨0, _⟩ => show 0 + 1 * p.val = p.val; omega
  | ⟨1, _⟩ => show 0 + 1 * e.val = e.val; omega

theorem right4_apply (x : S4x256.Idx → EReal) (p : Fin 4) (e : Fin 128) : right4 (F := Ideal) x (ix2 p e) = x (ix2 p (upper e)) := by
  show x ((Rect.unit (s := S4x256) ![0, 128] S4x128.size inb_S4x256_S4x128_0_128).idx (ix2 p e)) = _
  refine congrArg x (funext fun a => Fin.ext ?_)
  match a with
  | ⟨0, _⟩ => show 0 + 1 * p.val = p.val; omega
  | ⟨1, _⟩ => show 128 + 1 * e.val = 128 + e.val; omega

/-- Two halves side by side are what each of them is. -/
theorem halves3 {e : EltTy} (a b : S2112x128.Idx → Elt Ideal e) (G : S2112x256.Idx → Elt Ideal e) (ha : ∀ p e, a (ix2 p e) = G (ix2 p (lower e)))
    (hb : ∀ p e, b (ix2 p e) = G (ix2 p (upper e))) (y : S2112x256.Idx) :
    View.canon (Val := Elt Ideal) (e := e) (s := S2112x256) [⟨Rect.unit (s := S2112x256) ![0, 128] S2112x128.size inb_S2112x256_S2112x128_0_128, b⟩,
      ⟨Rect.unit (s := S2112x256) ![0, 0] S2112x128.size inb_S2112x256_S2112x128_0_0, a⟩] y = G y := by
  refine View.canon_apply_of_pieces (Val := Elt Ideal) (e := e) (S := S2112x256) G _ ?_ y ?_
  · intro p hp
    rcases List.mem_cons.mp hp with rfl | hp
    · intro x
      refine (congrArg b (ix2_eta x).symm).trans ((hb (x 0) (x 1)).trans (congrArg G (funext fun i => Fin.ext ?_)))
      match i with
      | ⟨0, _⟩ => show (x 0).val = 0 + 1 * (x 0).val; omega
      | ⟨1, _⟩ => show 128 + (x 1).val = 128 + 1 * (x 1).val; omega
    rcases List.mem_cons.mp hp with rfl | hp
    · intro x
      refine (congrArg a (ix2_eta x).symm).trans ((ha (x 0) (x 1)).trans (congrArg G (funext fun i => Fin.ext ?_)))
      match i with
      | ⟨0, _⟩ => show (x 0).val = 0 + 1 * (x 0).val; omega
      | ⟨1, _⟩ => show (x 1).val = 0 + 1 * (x 1).val; omega
    · exact absurd hp List.not_mem_nil
  · have h0 : (y 0).val < 2112 := (y 0).isLt
    have h1 : (y 1).val < 256 := (y 1).isLt
    by_cases h : (y 1).val < 128
    · refine ⟨⟨Rect.unit (s := S2112x256) ![0, 0] S2112x128.size inb_S2112x256_S2112x128_0_0, a⟩, List.mem_cons_of_mem _ List.mem_cons_self, ?_⟩
      rw [Rect.mem_set_unit]
      intro i
      match i with
      | ⟨0, _⟩ => exact ⟨Nat.zero_le _, by show (y 0).val < 0 + 2112; omega⟩
      | ⟨1, _⟩ => exact ⟨Nat.zero_le _, by show (y 1).val < 0 + 128; omega⟩
    · refine ⟨⟨Rect.unit (s := S2112x256) ![0, 128] S2112x128.size inb_S2112x256_S2112x128_0_128, b⟩, List.mem_cons_self, ?_⟩
      rw [Rect.mem_set_unit]
      intro i
      match i with
      | ⟨0, _⟩ => exact ⟨Nat.zero_le _, by show (y 0).val < 0 + 2112; omega⟩
      | ⟨1, _⟩ => exact ⟨by show 128 ≤ (y 1).val; omega, by show (y 1).val < 128 + 128; omega⟩

theorem halves4 (a b : S4x128.Idx → EReal) (G : S4x256.Idx → EReal) (ha : ∀ p e, a (ix2 p e) = G (ix2 p (lower e)))
    (hb : ∀ p e, b (ix2 p e) = G (ix2 p (upper e))) (y : S4x256.Idx) : pieces4 (F := Ideal) a b y = G y := by
  refine View.canon_apply_of_pieces (Val := Elt Ideal) (e := .f32) (S := S4x256) G _ ?_ y ?_
  · intro p hp
    rcases List.mem_cons.mp hp with rfl | hp
    · intro x
      refine (congrArg b (ix2_eta x).symm).trans ((hb (x 0) (x 1)).trans (congrArg G (funext fun i => Fin.ext ?_)))
      match i with
      | ⟨0, _⟩ => show (x 0).val = 0 + 1 * (x 0).val; omega
      | ⟨1, _⟩ => show 128 + (x 1).val = 128 + 1 * (x 1).val; omega
    rcases List.mem_cons.mp hp with rfl | hp
    · intro x
      refine (congrArg a (ix2_eta x).symm).trans ((ha (x 0) (x 1)).trans (congrArg G (funext fun i => Fin.ext ?_)))
      match i with
      | ⟨0, _⟩ => show (x 0).val = 0 + 1 * (x 0).val; omega
      | ⟨1, _⟩ => show (x 1).val = 0 + 1 * (x 1).val; omega
    · exact absurd hp List.not_mem_nil
  · have h0 : (y 0).val < 4 := (y 0).isLt
    have h1 : (y 1).val < 256 := (y 1).isLt
    by_cases h : (y 1).val < 128
    · refine ⟨⟨Rect.unit (s := S4x256) ![0, 0] S4x128.size inb_S4x256_S4x128_0_0, a⟩, List.mem_cons_of_mem _ List.mem_cons_self, ?_⟩
      rw [Rect.mem_set_unit]
      intro i
      match i with
      | ⟨0, _⟩ => exact ⟨Nat.zero_le _, by show (y 0).val < 0 + 4; omega⟩
      | ⟨1, _⟩ => exact ⟨Nat.zero_le _, by show (y 1).val < 0 + 128; omega⟩
    · refine ⟨⟨Rect.unit (s := S4x256) ![0, 128] S4x128.size inb_S4x256_S4x128_0_128, b⟩, List.mem_cons_self, ?_⟩
      rw [Rect.mem_set_unit]
      intro i
      match i with
      | ⟨0, _⟩ => exact ⟨Nat.zero_le _, by show (y 0).val < 0 + 4; omega⟩
      | ⟨1, _⟩ => exact ⟨by show 128 ≤ (y 1).val; omega, by show (y 1).val < 128 + 128; omega⟩

end Halves

variable (m : (ℓ : Loc nD τ sig) → Buf (Elt Ideal) ℓ) (ρ : Dev nD → PrngReg) (c : Dev nD) (t : Fin cfg0.N)

/-- The arguments as launched. -/
def args : Args where
  p r l := V m c main_arg0 (ix2 r l)
  w k l := V m c main_arg1 (ix2 k l)
  d r l := V m c main_arg2 (ix2 r l)
  q r l := V m c main_arg3 (ix2 r l)

theorem block0 (p : Fin 2112) (s : Fin 256) :
    X0_0 m c t (ix2 p s) = (args m c).p (rowAt (seq t) p) ⟨3072 + (col t s).val, by have := (col t s).isLt; omega⟩ := by
  obtain ⟨e0, e1, -⟩ := index_facts t
  unfold X0_0 Pipeline.Window.fill
  rw [dif_pos (moved0_0 t (ix2 p s))]
  unfold iblk
  refine congrArg (V m c main_arg0) (funext fun a => Fin.ext ?_)
  match a with
  | ⟨0, _⟩ => show win0_0.index t (0 : Fin 2) * 2112 + 1 * p.val = t.val % 4 * 2112 + p.val; rw [e0, one_mul]
  | ⟨1, _⟩ => show win0_0.index t (1 : Fin 2) * 256 + 1 * s.val = 3072 + (t.val / 4 * 256 + s.val); rw [e1]; omega

theorem block1 (k : Fin 4) (s : Fin 256) : iblk m c 1 t (ix2 k s) = (args m c).w k (col t s) := by
  obtain ⟨-, -, e0, e1, -⟩ := index_facts t
  show V m c main_arg1 (((cfg0.win 1).blk t).view.emb (ix2 k s)) = _
  refine congrArg (V m c main_arg1) (funext fun a => Fin.ext ?_)
  match a with
  | ⟨0, _⟩ => show win0_1.index t (0 : Fin 2) * 4 + 1 * k.val = k.val; rw [e0]; omega
  | ⟨1, _⟩ => show win0_1.index t (1 : Fin 2) * 256 + 1 * s.val = t.val / 4 * 256 + s.val; rw [e1, one_mul]

theorem block2 (p : Fin 2112) (s : Fin 256) : iblk m c 2 t (ix2 p s) = (args m c).d (rowAt (seq t) p) (col t s) := by
  obtain ⟨-, -, -, -, e0, e1, -⟩ := index_facts t
  show V m c main_arg2 (((cfg0.win 2).blk t).view.emb (ix2 p s)) = _
  refine congrArg (V m c main_arg2) (funext fun a => Fin.ext ?_)
  match a with
  | ⟨0, _⟩ => show win0_2.index t (0 : Fin 2) * 2112 + 1 * p.val = t.val % 4 * 2112 + p.val; rw [e0, one_mul]
  | ⟨1, _⟩ => show win0_2.index t (1 : Fin 2) * 256 + 1 * s.val = t.val / 4 * 256 + s.val; rw [e1, one_mul]

/-- A point's two heads are heads of the arguments. -/
theorem leftHead : headOf (left (X0_0 m c t)) (left4 (iblk m c 1 t)) (left (iblk m c 2 t)) = (args m c).head (seq t) (head0 t) := by
  unfold headOf Args.head
  simp only [← col_lower]
  congr 1
  · exact funext fun p => funext fun e => (left_apply _ p e).trans (block0 m c t p _)
  · exact funext fun p => funext fun e => (left4_apply _ p e).trans (block1 m c t p _)
  · exact funext fun p => funext fun e => (left_apply _ p e).trans (block2 m c t p _)

theorem rightHead : headOf (right (X0_0 m c t)) (right4 (iblk m c 1 t)) (right (iblk m c 2 t)) = (args m c).head (seq t) (head1 t) := by
  unfold headOf Args.head
  simp only [← col_upper]
  congr 1
  · exact funext fun p => funext fun e => (right_apply _ p e).trans (block0 m c t p _)
  · exact funext fun p => funext fun e => (right4_apply _ p e).trans (block1 m c t p _)
  · exact funext fun p => funext fun e => (right_apply _ p e).trans (block2 m c t p _)

/-- What a point leaves in the buffer of the columns. -/
theorem out_3 (y : S2112x256.Idx) : (outsAt0 m c t.val t.isLt).1 y = (args m c).dx (rowAt (seq t) (y 0)) (col t (y 1)) := by
  rw [point_3]
  unfold stored3
  obtain ⟨w0, w1⟩ := words t
  refine halves3 (e := .bf16) _ _ (fun y => (args m c).dx (rowAt (seq t) (y 0)) (col t (y 1))) (fun p e => ?_) (fun p e => ?_) y
  · show _ = (args m c).dx (rowAt (seq t) p) (col t (lower e))
    rw [w0, columns_apply _ _ _ _ (head0 t).isLt, leftHead, col_lower, Args.dx_of]
  · show _ = (args m c).dx (rowAt (seq t) p) (col t (upper e))
    rw [w1, columns_apply _ _ _ _ (head1 t).isLt, rightHead, col_upper, Args.dx_of]

/-- What it adds to the gradient of the weights. -/
theorem added (k : Fin 4) (e : Fin 128) :
    leftW m c t (ix2 k e) = ((args m c).head (seq t) (head0 t)).dw (head0 t).val k e
      ∧ rightW m c t (ix2 k e) = ((args m c).head (seq t) (head1 t)).dw (head1 t).val k e := by
  obtain ⟨w0, w1⟩ := words t
  unfold leftW rightW
  rw [w0, w1]
  exact ⟨by rw [weights_apply _ _ _ _ (head0 t).isLt, leftHead], by rw [weights_apply _ _ _ _ (head1 t).isLt, rightHead]⟩

/-- One sequence's share of a weight's gradient. -/
def share (A : Args) (k : Fin 4) (l : Fin 1536) (b : ℕ) : EReal :=
  if h : b < 4 then (A.head ⟨b, h⟩ (headAt l)).dw (headAt l).val k (laneIn l) else 0

theorem share_col (A : Args) (k : Fin 4) (j : Fin 12) (e : Fin 128) (b : Fin 4) : share A k (colAt j e) b.val = (A.head b j).dw j.val k e := by
  unfold share
  rw [dif_pos b.isLt, headAt_colAt, laneIn_colAt]

theorem share_all (A : Args) (k : Fin 4) (l : Fin 1536) : ∑ b ∈ Finset.range 4, share A k l b = A.dw k l := by
  rw [Finset.sum_range]
  exact Finset.sum_congr rfl fun b _ => dif_pos b.isLt

/-- What a point leaves in the buffer of the weights: the shares of the sequences so far. -/
theorem out_4 : ∀ n (hn : n < cfg0.N) (y : S4x256.Idx), (outsAt0 m c n hn).2 y
    = ∑ b ∈ Finset.range (n % 4 + 1), share (args m c) (y 0) (col ⟨n, hn⟩ (y 1)) b := by
  intro n
  induction n with
  | zero =>
    intro hn y
    rw [first_4 m c ⟨0, hn⟩ rfl]
    refine halves4 _ _ (fun y => ∑ b ∈ Finset.range (0 % 4 + 1), share (args m c) (y 0) (col ⟨0, hn⟩ (y 1)) b) (fun k e => ?_) (fun k e => ?_) y
    · show _ = ∑ b ∈ Finset.range (0 % 4 + 1), share (args m c) k (col ⟨0, hn⟩ (lower e)) b
      rw [(added m c _ k e).1, col_lower, ← share_col]
      exact (Finset.sum_range_one _).symm
    · show _ = ∑ b ∈ Finset.range (0 % 4 + 1), share (args m c) k (col ⟨0, hn⟩ (upper e)) b
      rw [(added m c _ k e).2, col_upper, ← share_col]
      exact (Finset.sum_range_one _).symm
  | succ n ih =>
    intro hn y
    by_cases h : (n + 1) % 4 = 0
    · rw [first_4 m c ⟨n + 1, hn⟩ h, h]
      refine halves4 _ _ (fun y => ∑ b ∈ Finset.range (0 + 1), share (args m c) (y 0) (col ⟨n + 1, hn⟩ (y 1)) b) (fun k e => ?_) (fun k e => ?_) y
      · show _ = ∑ b ∈ Finset.range (0 + 1), share (args m c) k (col ⟨n + 1, hn⟩ (lower e)) b
        rw [(added m c _ k e).1, col_lower, ← share_col, zero_add, Finset.sum_range_one]
        exact congrArg _ h
      · show _ = ∑ b ∈ Finset.range (0 + 1), share (args m c) k (col ⟨n + 1, hn⟩ (upper e)) b
        rw [(added m c _ k e).2, col_upper, ← share_col, zero_add, Finset.sum_range_one]
        exact congrArg _ h
    · have hm : (n + 1) % 4 = n % 4 + 1 := by omega
      have hcol : ∀ s, col ⟨n + 1, hn⟩ s = col ⟨n, Nat.lt_of_succ_lt hn⟩ s := fun s =>
        Fin.ext (by show (n + 1) / 4 * 256 + s.val = n / 4 * 256 + s.val; omega)
      have hs : (seq ⟨n + 1, hn⟩).val = n % 4 + 1 := hm
      have ih := ih (Nat.lt_of_succ_lt hn)
      rw [next_4 m c ⟨n + 1, hn⟩ h]
      refine halves4 _ _ (fun y => ∑ b ∈ Finset.range ((n + 1) % 4 + 1), share (args m c) (y 0) (col ⟨n + 1, hn⟩ (y 1)) b) (fun k e => ?_) (fun k e => ?_) y
      · show left4 (outsAt0 m c n (Nat.lt_of_succ_lt hn)).2 (ix2 k e) + leftW m c ⟨n + 1, hn⟩ (ix2 k e)
          = ∑ b ∈ Finset.range ((n + 1) % 4 + 1), share (args m c) k (col ⟨n + 1, hn⟩ (lower e)) b
        rw [left4_apply, ih, (added m c _ k e).1, hm, Finset.sum_range_succ _ (n % 4 + 1), ← hs, col_lower, share_col, ← col_lower, hcol, hs]
        rfl
      · show right4 (outsAt0 m c n (Nat.lt_of_succ_lt hn)).2 (ix2 k e) + rightW m c ⟨n + 1, hn⟩ (ix2 k e)
          = ∑ b ∈ Finset.range ((n + 1) % 4 + 1), share (args m c) k (col ⟨n + 1, hn⟩ (upper e)) b
        rw [right4_apply, ih, (added m c _ k e).2, hm, Finset.sum_range_succ _ (n % 4 + 1), ← hs, col_upper, share_col, ← col_upper, hcol, hs]
        rfl

/-- The results' arrays. -/
def dprojArr : S8448x6272.Idx → EReal := fun i => (args m c).dproj (i 0) (i 1)

def dwArr : S4x1536.Idx → EReal := fun i => (args m c).dw (i 0) (i 1)

theorem place_4 (k : Fin 4) (s : Fin 256) : ((cfg0.win 4).blk t).view.emb (ix2 k s) = ix2 k (col t s) := by
  obtain ⟨-, -, -, -, -, -, -, -, e0, e1⟩ := index_facts t
  refine funext fun a => Fin.ext ?_
  match a with
  | ⟨0, _⟩ => show win0_4.index t (0 : Fin 2) * 4 + 1 * k.val = k.val; rw [e0]; omega
  | ⟨1, _⟩ => show win0_4.index t (1 : Fin 2) * 256 + 1 * s.val = t.val / 4 * 256 + s.val; rw [e1, one_mul]

theorem array_4 : (dats m 0 c).arrAt 4 cfg0.N = dwArr m c := by
  refine (dats m 0 c).arrAt_eq_of_cover 4 (dwArr m c) (fun t hf => ?_) fun i => ?_
  · have ht : t.val % 4 = 3 := (flush4 t).mp hf
    rw [flushed4]
    funext y
    show (outsAt0 m c t.val t.isLt).2 y = dwArr m c (((cfg0.win 4).blk t).view.emb y)
    refine (out_4 m c t.val t.isLt y).trans ?_
    rw [ht]
    refine (share_all (args m c) (y 0) (col t (y 1))).trans ?_
    show dwArr m c (ix2 (y 0) (col t (y 1))) = _
    exact congrArg (dwArr m c) ((place_4 t (y 0) (y 1)).symm.trans (congrArg _ (ix2_eta y)))
  · have h1 : (i (1 : Fin 2)).val < 1536 := (i (1 : Fin 2)).isLt
    have hN : (i (1 : Fin 2)).val / 256 * 4 + 3 < cfg0.N := by show _ < 24; omega
    refine ⟨⟨_, hN⟩, (flush4 _).mpr (by show ((i (1 : Fin 2)).val / 256 * 4 + 3) % 4 = 3; omega),
      Finset.mem_map.mpr ⟨ix2 (i 0) ⟨(i (1 : Fin 2)).val % 256, Nat.mod_lt _ (by decide)⟩, Finset.mem_univ _, (place_4 _ _ _).trans ?_⟩⟩
    refine Eq.trans (congrArg (ix2 (i 0)) (Fin.ext ?_)) (ix2_eta i)
    show ((i (1 : Fin 2)).val / 256 * 4 + 3) / 4 * 256 + (i (1 : Fin 2)).val % 256 = (i (1 : Fin 2)).val
    omega

/-- The columns that no point writes are as the gradient of the projection came. -/
theorem entry : V m c (Pipeline.arrRef spec0 3) = V m c main_arg3 := by
  rw [V_main_arg3]
  rfl

theorem col3 (i : S8448x6272.Idx) (y : ((cfg0.win 3).xblock (cfg0.grid.coords t)).Idx) (h : ((cfg0.win 3).blk t).view.emb y = i) :
    3072 ≤ (i (1 : Fin 2)).val ∧ (i (1 : Fin 2)).val < 4608 := by
  obtain ⟨-, -, -, -, -, -, e0, e1, -⟩ := index_facts t
  have hy : (y 1).val < 256 := Nat.lt_of_lt_of_eq (y 1).isLt (extent3 t 1)
  have ht := point_lt t
  have e : (i (1 : Fin 2)).val = win0_3.index t (1 : Fin 2) * 256 + 1 * (y 1).val := congrArg (fun j => (j (1 : Fin 2)).val) h.symm
  rw [e1] at e
  omega

theorem array_3 (i : S8448x6272.Idx) : (dats m 0 c).arrAt 3 cfg0.N i = dprojArr m c i := by
  by_cases hi : 3072 ≤ (i (1 : Fin 2)).val ∧ (i (1 : Fin 2)).val < 4608
  · have h0 : (i (0 : Fin 2)).val < 8448 := (i (0 : Fin 2)).isLt
    have hN : ((i (1 : Fin 2)).val - 3072) / 256 * 4 + (i (0 : Fin 2)).val / 2112 < cfg0.N := by show _ < 24; omega
    refine (dats m 0 c).arrAt_apply_of_mem 3 (dprojArr m c) (fun t _ => ?_) cfg0.N ⟨_, hN⟩ i hN (flush3 _) ?_
    · rw [flushed3]
      obtain ⟨-, -, -, -, -, -, e0, e1, -⟩ := index_facts t
      funext y
      show (outsAt0 m c t.val t.isLt).1 ((cfg0.win 3).xinj (grid0.coords t) y) = dprojArr m c (((cfg0.win 3).blk t).view.emb y)
      refine (out_3 m c t _).trans ?_
      obtain hc := col3 t _ y rfl
      unfold dprojArr Args.dproj
      rw [dif_pos hc]
      refine congr (congrArg _ (Fin.ext ?_)) (Fin.ext ?_)
      · show t.val % 4 * 2112 + (y 0).val = win0_3.index t (0 : Fin 2) * 2112 + 1 * (y 0).val
        rw [e0, one_mul]
      · show t.val / 4 * 256 + (y 1).val = win0_3.index t (1 : Fin 2) * 256 + 1 * (y 1).val - 3072
        rw [e1]; omega
    · obtain ⟨-, -, -, -, -, -, e0, e1, -⟩ := index_facts ⟨_, hN⟩
      have hx := extent3 ⟨_, hN⟩
      refine Finset.mem_map.mpr ⟨fun a => ⟨![(i (0 : Fin 2)).val % 2112, ((i (1 : Fin 2)).val - 3072) % 256] a, ?_⟩, Finset.mem_univ _, ?_⟩
      · show _ < (cfg0.win 3).xsize (cfg0.grid.coords ⟨_, hN⟩) a
        rw [hx a]
        match a with
        | ⟨0, _⟩ => exact Nat.mod_lt _ (by decide)
        | ⟨1, _⟩ => exact Nat.mod_lt _ (by decide)
      · refine funext fun a => Fin.ext ?_
        match a with
        | ⟨0, _⟩ =>
          show win0_3.index ⟨_, hN⟩ (0 : Fin 2) * 2112 + 1 * ((i (0 : Fin 2)).val % 2112) = (i (0 : Fin 2)).val
          rw [e0]
          dsimp only
          omega
        | ⟨1, _⟩ =>
          show win0_3.index ⟨_, hN⟩ (1 : Fin 2) * 256 + 1 * (((i (1 : Fin 2)).val - 3072) % 256) = (i (1 : Fin 2)).val
          rw [e1]
          dsimp only
          omega
  · rw [entry3 m c i fun t _ hm => ?_, entry]
    · unfold dprojArr Args.dproj
      rw [dif_neg hi]
      exact congrArg (V m c main_arg3) (ix2_eta i).symm
    · obtain ⟨y, -, hy⟩ := Finset.mem_map.mp hm
      exact hi (col3 t i y hy)

/-- The run, with what its results hold. -/
theorem run : θ_run defs (onTc (τ := τ) (main (F := Ideal))) ⟨m, fun _ => 0, ρ⟩ fun r => ∀ c : Dev nD,
      r.2.mem ((c.tc : Thread nD τ).loc main_v0_0) = dprojArr m c
      ∧ r.2.mem ((c.tc : Thread nD τ).loc main_v0_1) = dwArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_blocks m ρ)
  obtain ⟨h3, h4, hk⟩ := h c
  exact ⟨h3.trans (funext (array_3 m c)), h4.trans (array_4 m c), hk⟩

end Cert.Cv

end
-- ==== Proof.CvReference.lean ====
module

public import proofs.«01_k».proof.Proof.Gen.Reference10Ideal.Read
public import proofs.«01_k».proof.Proof.CvLines
public import Idealize.ShloMosaic.Lib.Pointwise

@[expose] public section

set_option maxRecDepth 16384

noncomputable section

/-! The short convolution with its normalisation, backward: what the reference computes. -/

namespace Cert.CvReference

open Cert.Reference10Ideal Cert.Reference10Ideal.Gen Cert.Reference10Ideal.Value Cert.Reference10Ideal.Read Idealize.ShloMosaic Idealize.ShloMosaic.TcCoe Idealize.SL.Sem
open Cert.Cv

/-- The arguments, row by row. -/
def argsOf (x0 : S8448x6272.Idx → EReal) (x1 : S4x1536.Idx → EReal) (x2 : S8448x1536.Idx → EReal) (x3 : S8448x6272.Idx → EReal) : Args where
  p r l := x0 (ix2 r l)
  w k l := x1 (ix2 k l)
  d r l := x2 (ix2 r l)
  q r l := x3 (ix2 r l)

variable (x0 : S8448x6272.Idx → EReal) (x1 : S4x1536.Idx → EReal) (x2 : S8448x1536.Idx → EReal) (x3 : S8448x6272.Idx → EReal)
  (b : Fin 4) (p : Fin 2112) (j : Fin 12) (l : Fin 1536) (e : Fin 128)

/-- A column of a sequence, before the convolution. -/
def column (p : Fin 2112) : EReal := x0 (ix2 (rowAt b p) ⟨3072 + l.val, by have := l.isLt; omega⟩)

theorem padded (q : Fin 2115) : val_main_v3 (F := Ideal) x0 (ix3 b q l)
    = if h : 3 ≤ q.val then column x0 b l ⟨q.val - 3, by have := q.isLt; omega⟩ else 0 := by
  unfold val_main_v3 val_main_v2 val_main_cst val_main_v1 val_main_v0
  pointwise []
  by_cases h : 3 ≤ q.val
  · rw [dif_neg (by omega), dif_pos h]
    rfl
  · rw [dif_pos (by omega), dif_neg h]

theorem shifted (X : Fin 2112 → EReal) (k n : ℕ) (hk : n + k = 3) (p : Fin 2112) (hp : 3 ≤ n + p.val → n + p.val - 3 < 2112) :
    (if h : 3 ≤ n + p.val then X ⟨n + p.val - 3, hp h⟩ else 0) = back k X p := by
  unfold back
  by_cases h : k ≤ p.val
  · rw [dif_pos (by omega), if_pos h]
    exact congrArg X (Fin.ext (by show n + p.val - 3 = p.val - k; omega))
  · rw [dif_neg (by omega), if_neg h]

theorem back_zero (X : Fin 2112 → EReal) (p : Fin 2112) : back 0 X p = X p := if_pos (Nat.zero_le _)

theorem conv_apply : val_main_v33 (F := Ideal) x0 x1 (ix3 b p l) = conv (column x0 b l) (fun k => x1 (ix2 k l)) p := by
  have hx := padded x0 b l
  unfold val_main_v33 val_main_v32 val_main_v31 val_main_v30 val_main_v29 val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11 val_main_v10 val_main_v9 val_main_v8 val_main_v7 val_main_v6 val_main_v5 val_main_cst_1
  generalize val_main_v3 (F := Ideal) x0 = X at hx ⊢
  pointwise []
  simp only [hx]
  have e0 := shifted (column x0 b l) 3 0 rfl p (fun _ => by omega)
  simp only [Nat.zero_add] at e0
  rw [e0, shifted (column x0 b l) 2 1 rfl p, shifted (column x0 b l) 1 2 rfl p, shifted (column x0 b l) 0 3 rfl p, back_zero]
  unfold conv
  beta_reduce
  rw [mul_comm (x1 (ix2 0 l)), mul_comm (x1 (ix2 1 l)), mul_comm (x1 (ix2 2 l)), mul_comm (x1 (ix2 3 l))]
  abel

theorem masked : val_main_v74 (F := Ideal) x2 (ix3 b p l) = if 48 ≤ p.val then x2 (ix2 (rowAt b p) l) else 0 := by
  unfold val_main_v74 val_main_v73 val_main_v72 val_main_v71 val_main_v70 val_main_cst_9
  pointwise []
  have hp := p.isLt
  by_cases h : 48 ≤ p.val
  · rw [dif_pos ⟨h, by omega⟩, if_pos h]
    exact congrArg (fun r => x2 (ix2 r l)) (Fin.ext (by show b.val * 2112 + (48 + (p.val - 48)) = b.val * 2112 + p.val; omega))
  · rw [dif_neg (fun h' => h h'.1), if_neg h]

/-- The convolution, gated. -/
theorem gated : val_main_v34_0 (F := Ideal) x0 x1 (ix3 b p l)
    = conv (column x0 b l) (fun k => x1 (ix2 k l)) p * Ideal.logistic (conv (column x0 b l) (fun k => x1 (ix2 k l)) p) := by
  have hc := conv_apply x0 x1 b
  unfold val_main_v34_0 val_main_v34_2 val_main_call0_v4 val_main_call0_cst_0 val_main_call0_v3 val_main_call0_v2 val_main_call0_cst val_main_call0_v1 val_main_call0_v0
  generalize val_main_v33 (F := Ideal) x0 x1 = C at hc ⊢
  pointwise []
  rw [hc]
  rfl

/-- A head's row, gated, and its incoming gradient. -/
def gatedRow (j : Fin 12) : Fin 128 → EReal := fun e => val_main_v34_0 (F := Ideal) x0 x1 (ix3 b p (colAt j e))

def maskedRow (j : Fin 12) : Fin 128 → EReal := fun e => val_main_v74 (F := Ideal) x2 (ix3 b p (colAt j e))

/-- The heads of the queries and of the keys. -/
def query (j : Fin 4) : Fin 12 := ⟨j.val, by have := j.isLt; omega⟩

def key (j : Fin 4) : Fin 12 := ⟨4 + j.val, by have := j.isLt; omega⟩

/-- The queries. -/
theorem query_row (j : Fin 4) : val_main_v38 (F := Ideal) x0 x1 (ix4 b p j e) = gatedRow x0 x1 b p (query j) e := by
  unfold val_main_v38 val_main_v35 gatedRow
  generalize val_main_v34_0 (F := Ideal) x0 x1 = S
  pointwise []
  exact congrArg (fun l => S (ix3 b p l)) (Fin.ext (by rfl))

theorem query_square (j : Fin 4) : val_main_v43 (F := Ideal) x0 x1 (ix4 b p j 0) = square (gatedRow x0 x1 b p (query j)) := by
  have h := query_row x0 x1 b p
  unfold val_main_v43 val_main_v42 val_main_cst_3 val_main_v41 val_main_v40 val_main_cst_2 val_main_v39
  generalize val_main_v38 (F := Ideal) x0 x1 = S at h ⊢
  pointwise []
  simp only [h]
  rfl

theorem query_inv (j : Fin 4) : val_main_v44 (F := Ideal) x0 x1 (ix4 b p j 0) = inv (gatedRow x0 x1 b p (query j)) := by
  have h := query_square x0 x1 b p
  unfold val_main_v44
  generalize val_main_v43 (F := Ideal) x0 x1 = S at h ⊢
  pointwise []
  rw [h]
  rfl

theorem query_cut (j : Fin 4) : val_main_v79 (F := Ideal) x2 (ix4 b p j e) = maskedRow x2 b p (query j) e := by
  unfold val_main_v79 val_main_v75 maskedRow
  generalize val_main_v74 (F := Ideal) x2 = S
  pointwise []
  exact congrArg (fun l => S (ix3 b p l)) (Fin.ext (by rfl))

theorem query_incoming (j : Fin 4) : val_main_v94 (F := Ideal) x2 (ix4 b p j e) = maskedRow x2 b p (query j) e * Ideal.ofBits FTy.f32 0x3DB504F3#32 := by
  rw [val_main_v94_apply, val_main_v93_apply, query_cut]
  rfl

theorem query_dot (j : Fin 4) : val_main_v96 (F := Ideal) x0 x1 x2 (ix3 b p j)
    = ∑ l, gatedRow x0 x1 b p (query j) l * (maskedRow x2 b p (query j) l * Ideal.ofBits FTy.f32 0x3DB504F3#32) := by
  rw [val_main_v96_apply]
  have e0 : val_main_cst_13 (F := Ideal) (Shape.Idx.first h_S_) = 0 := Ideal.ofBits_zero_f32
  rw [e0, zero_add]
  refine Finset.sum_congr rfl fun l _ => ?_
  rw [show idx_main_v96 (ix3 b p j) l = ix4 b p j l from funext fun a => Fin.ext (by match a with | ⟨0, _⟩ => rfl | ⟨1, _⟩ => rfl | ⟨2, _⟩ => rfl | ⟨3, _⟩ => rfl),
    val_main_v95_apply, query_row, query_incoming]
  rfl

theorem query_factor (j : Fin 4) : val_main_v102 (F := Ideal) x0 x1 x2 (ix4 b p j e)
    = factor (gatedRow x0 x1 b p (query j)) (fun l => (maskedRow x2 b p (query j) l * Ideal.ofBits FTy.f32 0x3DB504F3#32)) := by
  rw [val_main_v102_apply, show idx_main_v102 (ix4 b p j e) = ix3 b p j from funext fun a => Fin.ext (by match a with | ⟨0, _⟩ => rfl | ⟨1, _⟩ => rfl | ⟨2, _⟩ => rfl),
    val_main_v101_apply]
  have e0 : val_main_cst_14 (F := Ideal) (Shape.Idx.first h_S_) = 0 := Ideal.ofBits_zero_f32
  rw [e0, zero_add, Fin.sum_univ_one,
    show idx_main_v101 (ix3 b p j) 0 = ix4 b p j 0 from funext fun a => Fin.ext (by match a with | ⟨0, _⟩ => rfl | ⟨1, _⟩ => rfl | ⟨2, _⟩ => rfl | ⟨3, _⟩ => rfl),
    val_main_v100_apply, val_main_v97_apply, val_main_v47_apply, val_main_v46_apply, val_main_v45_apply, query_square, query_inv]
  rw [show idx_main_v97 (ix4 b p j 0) = ix3 b p j from funext fun a => Fin.ext (by
      have hb := b.isLt
      have hp := p.isLt
      have hj := j.isLt
      match a with
      | ⟨0, _⟩ => show (((b.val * 2112 + p.val) * 4 + j.val) * 1 + 0) / 8448 = b.val; omega
      | ⟨1, _⟩ => show (((b.val * 2112 + p.val) * 4 + j.val) * 1 + 0) / 4 % 2112 = p.val; omega
      | ⟨2, _⟩ => show (((b.val * 2112 + p.val) * 4 + j.val) * 1 + 0) % 4 = j.val; omega), query_dot]
  rfl

theorem query_result (j : Fin 4) : val_main_v106 (F := Ideal) x0 x1 x2 (ix4 b p j e)
    = dsR (gatedRow x0 x1 b p (query j)) (fun l => (maskedRow x2 b p (query j) l * Ideal.ofBits FTy.f32 0x3DB504F3#32)) e := by
  rw [val_main_v106_apply, val_main_v105_apply, val_main_v104_apply, val_main_v103_apply, val_main_v99_apply, val_main_v98_apply,
    show idx_main_v98 (ix4 b p j e) = ix4 b p j 0 from funext fun a => Fin.ext (by match a with | ⟨0, _⟩ => rfl | ⟨1, _⟩ => rfl | ⟨2, _⟩ => rfl | ⟨3, _⟩ => rfl),
    query_factor, query_row, query_incoming, query_inv]
  rfl

/-- The keys. -/
theorem key_row (j : Fin 4) : val_main_v52 (F := Ideal) x0 x1 (ix4 b p j e) = gatedRow x0 x1 b p (key j) e := by
  unfold val_main_v52 val_main_v36 gatedRow
  generalize val_main_v34_0 (F := Ideal) x0 x1 = S
  pointwise []
  exact congrArg (fun l => S (ix3 b p l)) (Fin.ext (by show 512 + (j.val * 128 + e.val) = (4 + j.val) * 128 + e.val; omega))

theorem key_square (j : Fin 4) : val_main_v57 (F := Ideal) x0 x1 (ix4 b p j 0) = square (gatedRow x0 x1 b p (key j)) := by
  have h := key_row x0 x1 b p
  unfold val_main_v57 val_main_v56 val_main_cst_7 val_main_v55 val_main_v54 val_main_cst_6 val_main_v53
  generalize val_main_v52 (F := Ideal) x0 x1 = S at h ⊢
  pointwise []
  simp only [h]
  rfl

theorem key_inv (j : Fin 4) : val_main_v58 (F := Ideal) x0 x1 (ix4 b p j 0) = inv (gatedRow x0 x1 b p (key j)) := by
  have h := key_square x0 x1 b p
  unfold val_main_v58
  generalize val_main_v57 (F := Ideal) x0 x1 = S at h ⊢
  pointwise []
  rw [h]
  rfl

theorem key_incoming (j : Fin 4) : val_main_v78 (F := Ideal) x2 (ix4 b p j e) = maskedRow x2 b p (key j) e := by
  unfold val_main_v78 val_main_v76 maskedRow
  generalize val_main_v74 (F := Ideal) x2 = S
  pointwise []
  exact congrArg (fun l => S (ix3 b p l)) (Fin.ext (by show 512 + (j.val * 128 + e.val) = (4 + j.val) * 128 + e.val; omega))

theorem key_dot (j : Fin 4) : val_main_v81 (F := Ideal) x0 x1 x2 (ix3 b p j)
    = ∑ l, gatedRow x0 x1 b p (key j) l * maskedRow x2 b p (key j) l := by
  rw [val_main_v81_apply]
  have e0 : val_main_cst_10 (F := Ideal) (Shape.Idx.first h_S_) = 0 := Ideal.ofBits_zero_f32
  rw [e0, zero_add]
  refine Finset.sum_congr rfl fun l _ => ?_
  rw [show idx_main_v81 (ix3 b p j) l = ix4 b p j l from funext fun a => Fin.ext (by match a with | ⟨0, _⟩ => rfl | ⟨1, _⟩ => rfl | ⟨2, _⟩ => rfl | ⟨3, _⟩ => rfl),
    val_main_v80_apply, key_row, key_incoming]
  rfl

theorem key_factor (j : Fin 4) : val_main_v87 (F := Ideal) x0 x1 x2 (ix4 b p j e)
    = factor (gatedRow x0 x1 b p (key j)) (fun l => maskedRow x2 b p (key j) l) := by
  rw [val_main_v87_apply, show idx_main_v87 (ix4 b p j e) = ix3 b p j from funext fun a => Fin.ext (by match a with | ⟨0, _⟩ => rfl | ⟨1, _⟩ => rfl | ⟨2, _⟩ => rfl),
    val_main_v86_apply]
  have e0 : val_main_cst_11 (F := Ideal) (Shape.Idx.first h_S_) = 0 := Ideal.ofBits_zero_f32
  rw [e0, zero_add, Fin.sum_univ_one,
    show idx_main_v86 (ix3 b p j) 0 = ix4 b p j 0 from funext fun a => Fin.ext (by match a with | ⟨0, _⟩ => rfl | ⟨1, _⟩ => rfl | ⟨2, _⟩ => rfl | ⟨3, _⟩ => rfl),
    val_main_v85_apply, val_main_v82_apply, val_main_v61_apply, val_main_v60_apply, val_main_v59_apply, key_square, key_inv]
  rw [show idx_main_v82 (ix4 b p j 0) = ix3 b p j from funext fun a => Fin.ext (by
      have hb := b.isLt
      have hp := p.isLt
      have hj := j.isLt
      match a with
      | ⟨0, _⟩ => show (((b.val * 2112 + p.val) * 4 + j.val) * 1 + 0) / 8448 = b.val; omega
      | ⟨1, _⟩ => show (((b.val * 2112 + p.val) * 4 + j.val) * 1 + 0) / 4 % 2112 = p.val; omega
      | ⟨2, _⟩ => show (((b.val * 2112 + p.val) * 4 + j.val) * 1 + 0) % 4 = j.val; omega), key_dot]
  rfl

theorem key_result (j : Fin 4) : val_main_v91 (F := Ideal) x0 x1 x2 (ix4 b p j e)
    = dsR (gatedRow x0 x1 b p (key j)) (fun l => maskedRow x2 b p (key j) l) e := by
  rw [val_main_v91_apply, val_main_v90_apply, val_main_v89_apply, val_main_v88_apply, val_main_v84_apply, val_main_v83_apply,
    show idx_main_v83 (ix4 b p j e) = ix4 b p j 0 from funext fun a => Fin.ext (by match a with | ⟨0, _⟩ => rfl | ⟨1, _⟩ => rfl | ⟨2, _⟩ => rfl | ⟨3, _⟩ => rfl),
    key_factor, key_row, key_incoming, key_inv]
  rfl

theorem colAt_val : (colAt j e).val = j.val * 128 + e.val := rfl

/-- The gradient of the gated convolution. -/
theorem joined : val_main_v112 (F := Ideal) x0 x1 x2 (ix3 b p (colAt j e)) = ds j.val (gatedRow x0 x1 b p j) (maskedRow x2 b p j) e := by
  have hq := query_result x0 x1 x2 b p
  have hk := key_result x0 x1 x2 b p
  unfold val_main_v112 val_main_v111 val_main_cst_17 val_main_v110 val_main_v109 val_main_cst_16 val_main_v108 val_main_cst_15 val_main_v107 val_main_v92 val_main_v77
  generalize val_main_v106 (F := Ideal) x0 x1 x2 = Q at hq ⊢
  generalize val_main_v91 (F := Ideal) x0 x1 x2 = K at hk ⊢
  pointwise []
  have hj := j.isLt
  have he := e.isLt
  by_cases h4 : j.val < 4
  · rw [dif_neg (by rw [colAt_val]; omega), dif_neg (by rw [colAt_val]; omega), dif_pos (by rw [colAt_val]; omega), hq, ds_query _ h4, zero_add, zero_add]
    have e1 : query ⟨(colAt j e).val / 128, by rw [colAt_val]; omega⟩ = j := Fin.ext (by show (j.val * 128 + e.val) / 128 = j.val; omega)
    have e2 : (⟨(colAt j e).val % 128, Nat.mod_lt _ (by decide)⟩ : Fin 128) = e := Fin.ext (by show (j.val * 128 + e.val) % 128 = e.val; omega)
    rw [e1, e2]
  · by_cases h8 : j.val < 8
    · rw [dif_neg (by rw [colAt_val]; omega), dif_pos (by rw [colAt_val]; omega), dif_neg (by rw [colAt_val]; omega), hk, ds_key _ h4 h8, zero_add, add_zero]
      have e1 : key ⟨((colAt j e).val - 512) / 128, by rw [colAt_val]; omega⟩ = j := Fin.ext (by show 4 + (j.val * 128 + e.val - 512) / 128 = j.val; omega)
      have e2 : (⟨((colAt j e).val - 512) % 128, Nat.mod_lt _ (by decide)⟩ : Fin 128) = e := Fin.ext (by show (j.val * 128 + e.val - 512) % 128 = e.val; omega)
      rw [e1, e2]
    · rw [dif_pos (by rw [colAt_val]; omega), dif_neg (by rw [colAt_val]; omega), dif_neg (by rw [colAt_val]; omega), ds_value _ h8, add_zero, add_zero]
      exact congrArg (fun l => val_main_v74 (F := Ideal) x2 (ix3 b p l)) (Fin.ext (by show 1024 + ((colAt j e).val - 1024) = (colAt j e).val; rw [colAt_val]; omega))

end Cert.CvReference

end
-- ==== Proof.CvTail.lean ====
module

public import proofs.«01_k».proof.Proof.CvReference

@[expose] public section

set_option maxRecDepth 16384

noncomputable section

/-! The short convolution with its normalisation, backward: the reference's two results. -/

namespace Cert.CvReference

open Cert.Reference10Ideal Cert.Reference10Ideal.Gen Cert.Reference10Ideal.Value Cert.Reference10Ideal.Read Idealize.ShloMosaic Idealize.ShloMosaic.TcCoe Idealize.SL.Sem
open Cert.Cv
open Cert.Mv (IsReal)

variable (x0 : S8448x6272.Idx → EReal) (x1 : S4x1536.Idx → EReal) (x2 : S8448x1536.Idx → EReal) (x3 : S8448x6272.Idx → EReal)
  (b : Fin 4) (p : Fin 2112) (j : Fin 12) (l : Fin 1536) (e : Fin 128)

theorem sigmoid : val_main_v34_2 (F := Ideal) x0 x1 (ix3 b p l) = Ideal.logistic (conv (column x0 b l) (fun k => x1 (ix2 k l)) p) := by
  have hc := conv_apply x0 x1 b
  unfold val_main_v34_2 val_main_call0_v4 val_main_call0_cst_0 val_main_call0_v3 val_main_call0_v2 val_main_call0_cst val_main_call0_v1 val_main_call0_v0
  generalize val_main_v33 (F := Ideal) x0 x1 = C at hc ⊢
  pointwise []
  rw [hc]
  rfl

theorem ones : val_main_call0_v6 (F := Ideal) (ix3 b p l) = 1 := by
  rw [val_main_call0_v6_apply]
  exact Ideal.ofBits_one_f32

/-- The gradient of the convolution. -/
theorem slope (hd : ∀ i, IsReal (x2 i)) :
    val_main_v113 (F := Ideal) x0 x1 x2 (ix3 b p (colAt j e)) = ((argsOf x0 x1 x2 x3).head b j).dc j.val p e := by
  rw [val_main_v113_apply, val_main_call1_v1_apply, val_main_call1_v2_apply, val_main_call1_v0_apply, val_main_v34_1_apply,
    val_main_call0_v7_apply, joined, conv_apply, sigmoid, ones, Head.dc_eq _ (fun p e => hd (ix2 (rowAt b p) (colAt j e)))]
  have e1 : gatedRow x0 x1 b p j = fun l => ((argsOf x0 x1 x2 x3).head b j).c p l * Ideal.logistic (((argsOf x0 x1 x2 x3).head b j).c p l) :=
    funext fun l => gated x0 x1 b p (colAt j l)
  have e2 : maskedRow x2 b p j = ((argsOf x0 x1 x2 x3).head b j).dy p := funext fun l => masked x2 b p (colAt j l)
  rw [e1, e2]
  rfl

/-- The gradient of the convolution, of a column. -/
def slopes (q : Fin 2112) : EReal := val_main_v113 (F := Ideal) x0 x1 x2 (ix3 b q l)

theorem slopes_def : val_main_v113 (F := Ideal) x0 x1 x2 (ix3 b p l) = slopes x0 x1 x2 b l p := rfl

/-- The weights. -/
theorem weight_3 : val_main_v114 (F := Ideal) x1 (ix3 b p l) = x1 (ix2 3 l) := by
  unfold val_main_v114 val_main_v30 val_main_v28 val_main_v27
  pointwise []

theorem weight_2 : val_main_v123 (F := Ideal) x1 (ix3 b p l) = x1 (ix2 2 l) := by
  unfold val_main_v123 val_main_v23 val_main_v21 val_main_v20
  pointwise []

theorem weight_1 : val_main_v134 (F := Ideal) x1 (ix3 b p l) = x1 (ix2 1 l) := by
  unfold val_main_v134 val_main_v16 val_main_v14 val_main_v13
  pointwise []

theorem weight_0 : val_main_v145 (F := Ideal) x1 (ix3 b p l) = x1 (ix2 0 l) := by
  unfold val_main_v145 val_main_v8 val_main_v6 val_main_v5
  pointwise []

/-- The convolution's columns, one to three rows back. -/
theorem back_3 : val_main_v7 (F := Ideal) x0 (ix3 b p l) = back 3 (column x0 b l) p := by
  have hx := padded x0 b l
  unfold val_main_v7
  generalize val_main_v3 (F := Ideal) x0 = X at hx ⊢
  pointwise []
  rw [hx]
  refine Eq.trans ?_ (shifted (column x0 b l) 3 0 rfl p (fun _ => by omega))
  simp only [Nat.zero_add]

theorem back_2 : val_main_v15 (F := Ideal) x0 (ix3 b p l) = back 2 (column x0 b l) p := by
  have hx := padded x0 b l
  unfold val_main_v15
  generalize val_main_v3 (F := Ideal) x0 = X at hx ⊢
  pointwise []
  rw [hx]
  exact shifted (column x0 b l) 2 1 rfl p (fun _ => by have := p.isLt; omega)

theorem back_1 : val_main_v22 (F := Ideal) x0 (ix3 b p l) = back 1 (column x0 b l) p := by
  have hx := padded x0 b l
  unfold val_main_v22
  generalize val_main_v3 (F := Ideal) x0 = X at hx ⊢
  pointwise []
  rw [hx]
  exact shifted (column x0 b l) 1 2 rfl p (fun _ => by have := p.isLt; omega)

theorem back_0 : val_main_v29 (F := Ideal) x0 (ix3 b p l) = back 0 (column x0 b l) p := by
  have hx := padded x0 b l
  unfold val_main_v29
  generalize val_main_v3 (F := Ideal) x0 = X at hx ⊢
  pointwise []
  rw [hx]
  exact shifted (column x0 b l) 0 3 rfl p (fun _ => by have := p.isLt; omega)

theorem lifted (D : Fin 2112 → EReal) (w : EReal) (k : ℕ) (p : Fin 2112) (P : Prop) [Decidable P] (hP : P ↔ p.val + k < 2112)
    (f : P → Fin 2112) (hf : ∀ h, (f h).val = p.val + k) : (if h : P then w * D (f h) else 0) = ahead k D p * w := by
  unfold ahead
  by_cases h : P
  · rw [dif_pos h, dif_pos (hP.mp h), mul_comm]
    exact congrArg (fun q => D q * w) (Fin.ext (hf h))
  · rw [dif_neg h, dif_neg fun h' => h (hP.mpr h'), zero_mul]

/-- The transpose of the convolution. -/
theorem transposed : val_main_v157 (F := Ideal) x0 x1 x2 (ix3 b p l) = dconv (slopes x0 x1 x2 b l) (fun k => x1 (ix2 k l)) p := by
  have h3 : ∀ q, val_main_v115 (F := Ideal) x0 x1 x2 (ix3 b q l) = x1 (ix2 3 l) * slopes x0 x1 x2 b l q := fun q => by
    rw [val_main_v115_apply, weight_3]; rfl
  have h2 : ∀ q, val_main_v124 (F := Ideal) x0 x1 x2 (ix3 b q l) = x1 (ix2 2 l) * slopes x0 x1 x2 b l q := fun q => by
    rw [val_main_v124_apply, weight_2]; rfl
  have h1 : ∀ q, val_main_v135 (F := Ideal) x0 x1 x2 (ix3 b q l) = x1 (ix2 1 l) * slopes x0 x1 x2 b l q := fun q => by
    rw [val_main_v135_apply, weight_1]; rfl
  have h0 : ∀ q, val_main_v146 (F := Ideal) x0 x1 x2 (ix3 b q l) = x1 (ix2 0 l) * slopes x0 x1 x2 b l q := fun q => by
    rw [val_main_v146_apply, weight_0]; rfl
  unfold val_main_v157 val_main_v152 val_main_v151 val_main_cst_32 val_main_v141 val_main_v140 val_main_cst_28 val_main_v130 val_main_v129 val_main_cst_24 val_main_v120 val_main_cst_20
  generalize val_main_v115 (F := Ideal) x0 x1 x2 = G3 at h3 ⊢
  generalize val_main_v124 (F := Ideal) x0 x1 x2 = G2 at h2 ⊢
  generalize val_main_v135 (F := Ideal) x0 x1 x2 = G1 at h1 ⊢
  generalize val_main_v146 (F := Ideal) x0 x1 x2 = G0 at h0 ⊢
  pointwise []
  simp only [h3, h2, h1, h0]
  have hp := p.isLt
  unfold dconv
  refine congrArg₂ (· + ·) (congrArg₂ (· + ·) (congrArg₂ (· + ·) (mul_comm _ _) ?_) ?_) ?_
  · exact lifted _ _ 1 p _ (by omega) _ fun h => by show 3 + p.val - 2 = p.val + 1; omega
  · exact lifted _ _ 2 p _ (by omega) _ fun h => by show 3 + p.val - 1 = p.val + 2; omega
  · exact lifted _ _ 3 p _ (by omega) _ fun h => by show 3 + p.val = p.val + 3; omega

/-- A sum over the first two axes. -/
theorem sum_front {n0 n1 n2 : ℕ} (h : (⟨3, ![n0, n1, n2]⟩ : Shape).ReducesTo [0, 1] ⟨1, ![n2]⟩) (v : (⟨3, ![n0, n1, n2]⟩ : Shape).Idx → EReal)
    (l : Fin n2) : Ideal.hostReduceAdd h v 0 (ix1 l) = ∑ b, ∑ p, v (ix3 b p l) := by
  unfold Ideal.hostReduceAdd
  rw [zero_add]
  refine (Finset.sum_filter_eq_sum_of_fiber _ (fun k : Fin n0 × Fin n1 => ix3 k.1 k.2 l)
    (fun _ _ e => Prod.ext (congrFun e 0) (congrFun e 1)) (fun i => ⟨fun e => ⟨(i 0, i 1), ?_⟩, ?_⟩) v).trans (by simp only [Fintype.sum_prod_type])
  · funext a
    match a with
    | ⟨0, _⟩ => rfl
    | ⟨1, _⟩ => rfl
    | ⟨2, _⟩ => exact Fin.ext (congrArg Fin.val (congrFun e (0 : Fin 1))).symm
  · rintro ⟨k, rfl⟩
    funext a
    match a with
    | ⟨0, _⟩ => rfl

theorem total (X : S4x2112x1536.Idx → EReal) (c c' : S_.Idx → EReal) (hc : c (Shape.Idx.first h_S_) = 0) (hc' : c' (Shape.Idx.first h_S_) = 0) :
    Host.reduceAdd (F := Ideal) (φ := .f32) (shapeCast S1x1x1536 (Host.reduceAdd (F := Ideal) (φ := .f32) X c reducesTo_S4x2112x1536_S1536_d0_1 h_S_)
      shapeCasts_S1536_S1x1x1536) c' reducesTo_S1x1x1536_S1536_d0_1 h_S_ (ix1 l) = ∑ b, ∑ p, X (ix3 b p l) := by
  rw [ValueIdx.hostReduceAdd_apply, hc']
  refine (sum_front _ _ l).trans ?_
  rw [Fin.sum_univ_one, Fin.sum_univ_one]
  refine (shapeCast_apply _ shapeCasts_S1536_S1x1x1536 (ix3 0 0 l) (ix1 l) ?_).trans ?_
  · rewrite [Shape.rowMajor_val_one, Shape.rowMajor_val_three]
    show l.val = (0 * 1 + 0) * 1536 + l.val
    omega
  · rw [ValueIdx.hostReduceAdd_apply, hc]
    exact sum_front _ _ l

/-- The gradient of the weights. -/
theorem weights (k : Fin 4) : val_main_v155 (F := Ideal) x0 x1 x2 (ix2 k l)
    = ∑ b, ∑ p, slopes x0 x1 x2 b l p * back (3 - k.val) (column x0 b l) p := by
  have h3 : val_main_v119 (F := Ideal) x0 x1 x2 (ix1 l) = ∑ b, ∑ p, slopes x0 x1 x2 b l p * back 0 (column x0 b l) p :=
    (total l _ _ _ Ideal.ofBits_zero_f32 Ideal.ofBits_zero_f32).trans
      (Finset.sum_congr rfl fun b _ => Finset.sum_congr rfl fun p _ => by rw [val_main_v116_apply, back_0]; rfl)
  have h2 : val_main_v128 (F := Ideal) x0 x1 x2 (ix1 l) = ∑ b, ∑ p, slopes x0 x1 x2 b l p * back 1 (column x0 b l) p :=
    (total l _ _ _ Ideal.ofBits_zero_f32 Ideal.ofBits_zero_f32).trans
      (Finset.sum_congr rfl fun b _ => Finset.sum_congr rfl fun p _ => by rw [val_main_v125_apply, back_1]; rfl)
  have h1 : val_main_v139 (F := Ideal) x0 x1 x2 (ix1 l) = ∑ b, ∑ p, slopes x0 x1 x2 b l p * back 2 (column x0 b l) p :=
    (total l _ _ _ Ideal.ofBits_zero_f32 Ideal.ofBits_zero_f32).trans
      (Finset.sum_congr rfl fun b _ => Finset.sum_congr rfl fun p _ => by rw [val_main_v136_apply, back_2]; rfl)
  have h0 : val_main_v150 (F := Ideal) x0 x1 x2 (ix1 l) = ∑ b, ∑ p, slopes x0 x1 x2 b l p * back 3 (column x0 b l) p :=
    (total l _ _ _ Ideal.ofBits_zero_f32 Ideal.ofBits_zero_f32).trans
      (Finset.sum_congr rfl fun b _ => Finset.sum_congr rfl fun p _ => by rw [val_main_v147_apply, back_3]; rfl)
  unfold val_main_v155 val_main_v154 val_main_cst_33 val_main_v153 val_main_v144 val_main_v143 val_main_cst_29 val_main_v142 val_main_v133 val_main_v132 val_main_cst_25 val_main_v131
    val_main_v122 val_main_cst_21 val_main_v121
  generalize val_main_v119 (F := Ideal) x0 x1 x2 = G3 at h3 ⊢
  generalize val_main_v128 (F := Ideal) x0 x1 x2 = G2 at h2 ⊢
  generalize val_main_v139 (F := Ideal) x0 x1 x2 = G1 at h1 ⊢
  generalize val_main_v150 (F := Ideal) x0 x1 x2 = G0 at h0 ⊢
  pointwise []
  simp only [h3, h2, h1, h0]
  match k with
  | 0 => rw [dif_neg (by decide), dif_neg (by decide), dif_neg (by decide), dif_pos (by decide), zero_add, zero_add, zero_add]; rfl
  | 1 => rw [dif_neg (by decide), dif_neg (by decide), dif_pos (by decide), dif_neg (by decide), zero_add, zero_add, add_zero]; rfl
  | 2 => rw [dif_neg (by decide), dif_pos (by decide), dif_neg (by decide), dif_neg (by decide), zero_add, add_zero, add_zero]; rfl
  | 3 => rw [dif_pos (by decide), dif_neg (by decide), dif_neg (by decide), dif_neg (by decide), add_zero, add_zero, add_zero]; rfl

/-- The two results. -/
theorem dw_apply (hd : ∀ i, IsReal (x2 i)) (k : Fin 4) : val_main_v155 (F := Ideal) x0 x1 x2 (ix2 k l) = (argsOf x0 x1 x2 x3).dw k l := by
  rw [weights]
  obtain ⟨j, e, rfl⟩ : ∃ j e, l = colAt j e := ⟨headAt l, laneIn l, (colAt_split l).symm⟩
  rw [Args.dw_of]
  refine Finset.sum_congr rfl fun b _ => Finset.sum_congr rfl fun p _ => ?_
  rw [← slopes_def, slope x0 x1 x2 x3 b p j e hd]
  rfl

theorem dx_apply (hd : ∀ i, IsReal (x2 i)) (r : Fin 8448) : val_main_v158 (F := Ideal) x0 x1 x2 (ix2 r l) = (argsOf x0 x1 x2 x3).dx r l := by
  obtain ⟨b, p, rfl⟩ : ∃ b p, r = rowAt b p := ⟨seqOf r, rowIn r, (rowAt_split r).symm⟩
  obtain ⟨j, e, rfl⟩ : ∃ j e, l = colAt j e := ⟨headAt l, laneIn l, (colAt_split l).symm⟩
  have hi : idx_main_v158 (ix2 (rowAt b p) (colAt j e)) = ix3 b p (colAt j e) := funext fun a => Fin.ext (by
    have hp := p.isLt
    have hl := (colAt j e).isLt
    match a with
    | ⟨0, _⟩ => show ((b.val * 2112 + p.val) * 1536 + (colAt j e).val) / 3244032 = b.val; omega
    | ⟨1, _⟩ => show ((b.val * 2112 + p.val) * 1536 + (colAt j e).val) / 1536 % 2112 = p.val; omega
    | ⟨2, _⟩ => show ((b.val * 2112 + p.val) * 1536 + (colAt j e).val) % 1536 = (colAt j e).val; omega)
  rw [val_main_v158_apply, hi, transposed, Args.dx_of]
  have hs : slopes x0 x1 x2 b (colAt j e) = fun p => ((argsOf x0 x1 x2 x3).head b j).dc j.val p e := funext fun p => slope x0 x1 x2 x3 b p j e hd
  rw [hs]
  rfl

theorem dproj_apply (hd : ∀ i, IsReal (x2 i)) (r : Fin 8448) (l : Fin 6272) :
    val_main_v162 (F := Ideal) x0 x1 x2 x3 (ix2 r l) = (argsOf x0 x1 x2 x3).dproj r l := by
  have h := fun l => dx_apply x0 x1 x2 x3 l hd r
  unfold val_main_v162 val_main_v161 val_main_v160 val_main_v159 Args.dproj
  generalize val_main_v158 (F := Ideal) x0 x1 x2 = D at h ⊢
  pointwise []
  have hl := l.isLt
  by_cases h1 : l.val < 3072
  · rw [dif_pos h1, dif_neg (by omega)]
    rfl
  · by_cases h2 : l.val < 4608
    · rw [dif_neg h1, dif_pos (by omega), dif_pos ⟨by omega, h2⟩]
      exact h _
    · rw [dif_neg h1, dif_neg (by omega), dif_neg fun h' => h2 h'.2]
      exact congrArg (fun l => x3 (ix2 r l)) (Fin.ext (by show 4608 + (l.val - 3072 - 1536) = l.val; omega))

end Cert.CvReference

end
-- ==== Proof.CvPre.lean ====
module

public import proofs.«01_k».proof.Proof.Gen.Pre_bounded
public import proofs.«01_k».proof.Proof.MvPre

@[expose] public section

noncomputable section

/-! The short convolution with its normalisation, backward: what its precondition says. -/

namespace Cert.Cv

open Idealize.ShloMosaic

instance : Subsingleton (Cert.Pre_bounded.S_).Idx := ⟨fun _ _ => funext fun a => a.elim0⟩

/-- The incoming gradient holds real numbers. -/
theorem bounded_real (x0 : FVec Ideal Cert.Pre_bounded.S8448x6272 .f32) (x1 : FVec Ideal Cert.Pre_bounded.S4x1536 .f32)
    (x2 : FVec Ideal Cert.Pre_bounded.S8448x1536 .f32) (x3 : FVec Ideal Cert.Pre_bounded.S8448x6272 .bf16)
    (h : Cert.Pre_bounded.fn (F := Ideal) x0 x1 x2 x3 = fun _ => 1#1) (i : Cert.Pre_bounded.S8448x1536.Idx) : Cert.Mv.IsReal (x2 i) :=
  Cert.Mv.real_of_lt _ (Host.reduce_andi_all _ _ _ _ _ (congrFun h (fun a => a.elim0)) i)

end Cert.Cv

end
-- ==== Proof.CvClaim.lean ====
module

public import proofs.«01_k».proof.Defs
public import proofs.«01_k».proof.Proof.CvArray
public import proofs.«01_k».proof.Proof.CvTail
public import proofs.«01_k».proof.Proof.CvPre
public import Idealize.ShloMosaic.Adequacy
public import Idealize.ShloMosaic.Init
public import Idealize.ShloMosaic.Lib.Quiescent

@[expose] public section

noncomputable section

/-! The short convolution with its normalisation, backward: kernel and reference have the same results. -/

namespace Cert.CvClaim

open Idealize.ShloMosaic Idealize.SL.Sem Cert.Cv Cert.CvReference

/-- The reference runs, keeps its arguments and leaves every semaphore at zero. -/
theorem quiescent : quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- Both programs run and end with equal results. -/
theorem algebraic : algebraic_Kernel10Ideal_Reference10Ideal_pre_bounded := by
  intro m ρ m' ρ' hpre hagree
  refine ⟨dprojArr m, dwArr m, Cert.Cv.run m ρ, ?_⟩
  refine (θ_run Cert.Reference10Ideal.defs _ _).mono (fun r h c => ?_) (Cert.Reference10Ideal.Value.run (F := Ideal) m' ρ')
  obtain ⟨h0, h1, hk⟩ := h c
  obtain ⟨a0, a1, a2, a3⟩ := hagree c
  have hd := bounded_real _ _ _ _ (hpre c)
  have e0 := h0.trans (Cert.Reference10Ideal.Read.val_main_v162_eq (F := Ideal) _)
  have e1 := h1.trans (Cert.Reference10Ideal.Read.val_main_v155_eq (F := Ideal) _)
  refine ⟨?_, ?_, hk⟩
  · refine e0.trans ?_
    show Cert.Reference10Ideal.Read.val_main_v162 (F := Ideal) (m' ((c.tc : Thread Cert.Reference10Ideal.nD Cert.Reference10Ideal.τ).loc Cert.Reference10Ideal.main_arg0))
      (m' ((c.tc : Thread Cert.Reference10Ideal.nD Cert.Reference10Ideal.τ).loc Cert.Reference10Ideal.main_arg1))
      (m' ((c.tc : Thread Cert.Reference10Ideal.nD Cert.Reference10Ideal.τ).loc Cert.Reference10Ideal.main_arg2))
      (m' ((c.tc : Thread Cert.Reference10Ideal.nD Cert.Reference10Ideal.τ).loc Cert.Reference10Ideal.main_arg3)) = dprojArr m c
    rw [a0, a1, a2, a3]
    funext i
    obtain ⟨r, l, rfl⟩ : ∃ r l, i = ix2 r l := ⟨i 0, i 1, (ix2_eta i).symm⟩
    exact dproj_apply _ _ _ _ hd r l
  · refine e1.trans ?_
    show Cert.Reference10Ideal.Read.val_main_v155 (F := Ideal) (m' ((c.tc : Thread Cert.Reference10Ideal.nD Cert.Reference10Ideal.τ).loc Cert.Reference10Ideal.main_arg0))
      (m' ((c.tc : Thread Cert.Reference10Ideal.nD Cert.Reference10Ideal.τ).loc Cert.Reference10Ideal.main_arg1))
      (m' ((c.tc : Thread Cert.Reference10Ideal.nD Cert.Reference10Ideal.τ).loc Cert.Reference10Ideal.main_arg2)) = dwArr m c
    rw [a0, a1, a2]
    funext i
    obtain ⟨k, l, rfl⟩ : ∃ k l, i = ix2 k l := ⟨i 0, i 1, (ix2_eta i).symm⟩
    exact dw_apply _ _ _ (m ((c.tc : Thread Cert.Kernel10Ideal.nD Cert.Kernel10Ideal.τ).loc Cert.Kernel10Ideal.main_arg3)) l hd k

end Cert.CvClaim

end
-- ==== Proof.PfBlock.lean ====
module

public import proofs.«01_k».proof.Proof.Gen.Kernel11Ideal.Value
public import proofs.«01_k».proof.Proof.CvArray
public import Idealize.ShloMosaic.Lib.Pointwise
public import Idealize.ShloMosaic.Lib.Pipeline.Value

@[expose] public section

set_option maxRecDepth 16384

noncomputable section

/-! The short convolution with its normalisation, forward: what the result's array holds. Point `t` has two heads of a sequence. -/

namespace Cert.Pf

open Cert.Kernel11Ideal Cert.Kernel11Ideal.Gen Cert.Kernel11Ideal.Value Idealize.ShloMosaic Idealize.ShloMosaic.TcCoe Idealize.SL.Sem
open Cert.Cv (conv back inv square rowAt colAt seqOf rowIn headAt laneIn lower upper)

/-- Head `j`'s row: queries (0–3) and keys (4–7) are normalised, the queries scaled; values (8–11) are left. -/
def unit (j : ℕ) (s : Fin 128 → EReal) (e : Fin 128) : EReal :=
  if j < 8 then s e * inv s * (if j < 4 then Ideal.ofBits FTy.f32 0x3DB504F3#32 else 1) else s e

/-- The convolution of a head's columns, gated. -/
def gated (X : Fin 2112 → Fin 128 → EReal) (W : Fin 4 → Fin 128 → EReal) (p : Fin 2112) (e : Fin 128) : EReal :=
  conv (fun p => X p e) (fun k => W k e) p * Ideal.logistic (conv (fun p => X p e) (fun k => W k e) p)

/-- What a head becomes. -/
def head (j : ℕ) (X : Fin 2112 → Fin 128 → EReal) (W : Fin 4 → Fin 128 → EReal) (p : Fin 2112) (e : Fin 128) : EReal :=
  if 48 ≤ p.val then unit j (gated X W p) e else 0

/-- A head's columns of the projection, and of the weights. -/
def cols (P : Fin 8448 → Fin 6272 → EReal) (b : Fin 4) (j : Fin 12) (p : Fin 2112) (e : Fin 128) : EReal :=
  P (rowAt b p) ⟨3072 + (colAt j e).val, by have := (colAt j e).isLt; omega⟩

def taps (W : Fin 4 → Fin 1536 → EReal) (j : Fin 12) (k : Fin 4) (e : Fin 128) : EReal := W k (colAt j e)

/-- The result, from the projection and the convolution's weights. -/
def result (P : Fin 8448 → Fin 6272 → EReal) (W : Fin 4 → Fin 1536 → EReal) (r : Fin 8448) (l : Fin 1536) : EReal :=
  head (headAt l).val (cols P (seqOf r) (headAt l)) (taps W (headAt l)) (rowIn r) (laneIn l)

theorem result_of (P : Fin 8448 → Fin 6272 → EReal) (W : Fin 4 → Fin 1536 → EReal) (b : Fin 4) (p : Fin 2112) (j : Fin 12) (e : Fin 128) :
    result P W (rowAt b p) (colAt j e) = head j.val (cols P b j) (taps W j) p e := by
  unfold result
  rw [Cv.seqOf_rowAt, Cv.rowIn_rowAt, Cv.headAt_colAt, Cv.laneIn_colAt]

section Body

variable {F : FTy → Type} [FloatOps F]

/-- The numbers of the rows, and of the point's heads. -/
abbrev rows : IVec S2112x128 32 := iota .tc S2112x128 32 [0] iota_S2112x128_d0_w32

abbrev first (i : grid0.Coords) : BitVec 32 := Scalar.addi (Scalar.muli (BitVec.ofNat 32 (i 1).val) 2#32) 0#32

abbrev other (i : grid0.Coords) : BitVec 32 := Scalar.addi (Scalar.muli (BitVec.ofNat 32 (i 1).val) 2#32) 1#32

/-- A head's columns, as a point stores them. -/
def columns (j : BitVec 32) (x : Vec F S2112x128 .f32) (w : Vec F S4x128 .f32) : FVec F S2112x128 .f32 :=
  k0_pay1 rows j x w (k0_pay6 rows x w) (k0_pay7 rows x w)

theorem columns_first (j : BitVec 32) (x : Vec F S2112x128 .f32) (w : Vec F S4x128 .f32) :
    k0_pay5 rows j (k0_pay2 x w) (k0_pay3 x w) k0_pay4 = columns j x w := rfl

end Body

theorem columns_apply (x : S2112x128.Idx → EReal) (w : S4x128.Idx → EReal) (j : ℕ) (hj : j < 12) (p : Fin 2112) (e : Fin 128) :
    columns (F := Ideal) (BitVec.ofNat 32 j) x w (ix2 p e) = head j (fun p e => x (ix2 p e)) (fun k e => w (ix2 k e)) p e := by
  unfold columns
  pointwise [k0_pay1, k0_pay6, k0_pay7]
  have h := fun e k hk W => Cv.rotated_back (fun p => x (ix2 p e)) k hk W p (Nat.mod_lt _ (by decide))
  beta_reduce at h
  simp only [h _ 1 (by decide), h _ 2 (by decide), h _ 3 (by decide)]
  rw [Cv.from_row p 48 (by decide),
    show Scalar.cmpi CmpIPredicate.slt (BitVec.ofNat 32 j) 8#32 = IntOp.cmpi CmpIPredicate.slt (BitVec.ofNat 32 j) 8#32 from rfl,
    show Scalar.cmpi CmpIPredicate.slt (BitVec.ofNat 32 j) 4#32 = IntOp.cmpi CmpIPredicate.slt (BitVec.ofNat 32 j) 4#32 from rfl,
    Cv.before j 8 (by omega) (by decide), Cv.before j 4 (by omega) (by decide)]
  rfl

variable (m : (ℓ : Loc nD τ sig) → Buf (Elt Ideal) ℓ) (ρ : Dev nD → PrngReg) (c : Dev nD) (t : Fin cfg0.N)

/-- What a point stores. -/
def stored (i : grid0.Coords) (x0 : S2112x256.Idx → EReal) (x1 : S4x256.Idx → EReal) : S2112x256.Idx → EReal :=
  View.canon (Val := Elt Ideal) (e := .f32) (s := S2112x256)
    [⟨Rect.unit (s := S2112x256) ![0, 128] S2112x128.size inb_S2112x256_S2112x128_0_128,
      columns (F := Ideal) (other i) (Cv.right (F := Ideal) x0) (Cv.right4 (F := Ideal) x1)⟩,
    ⟨Rect.unit (s := S2112x256) ![0, 0] S2112x128.size inb_S2112x256_S2112x128_0_0,
      columns (F := Ideal) (first i) (Cv.left (F := Ideal) x0) (Cv.left4 (F := Ideal) x1)⟩]

theorem point : outsAt0 m c t = stored (grid0.coords t) (X0_0 m c t) (iblk m c 1 t) := by
  unfold outsAt0 out0_A_2
  rw [View.read_writes_eq_canon _ _ _ (cover0_A_2 c (grid0.coords t) (ms0_0 t) (hs0_0 t) (ms0_1 t) (hs0_1 t) (ms0_2 t) (hs0_2 t) (X0_0 m c t) (iblk m c 1 t))]
  unfold kernelRun0_A
  dsimp only
  sl_unfold_words
  simp only [View.readAt_eq_ld, (hs0_0 t).read_unread, (hs0_1 t).read_unread]
  rfl

theorem point_lt (t : Fin cfg0.N) : t.val < 24 := t.isLt

/-- The sequence and the two heads of a point. -/
def seq (t : Fin cfg0.N) : Fin 4 := ⟨t.val / 6, by have := point_lt t; omega⟩

def head0 (t : Fin cfg0.N) : Fin 12 := ⟨t.val % 6 * 2, by omega⟩

def head1 (t : Fin cfg0.N) : Fin 12 := ⟨t.val % 6 * 2 + 1, by omega⟩

theorem words : ∀ t : Fin cfg0.N, first (grid0.coords t) = BitVec.ofNat 32 (head0 t).val ∧ other (grid0.coords t) = BitVec.ofNat 32 (head1 t).val :=
  (by decide +kernel : ∀ t : Fin grid0.N, _)

theorem index_facts : ∀ t : Fin cfg0.N, win0_0.index t (0 : Fin 2) = t.val / 6 ∧ win0_0.index t (1 : Fin 2) = 12 + t.val % 6
    ∧ win0_1.index t (0 : Fin 2) = 0 ∧ win0_1.index t (1 : Fin 2) = t.val % 6
    ∧ win0_2.index t (0 : Fin 2) = t.val / 6 ∧ win0_2.index t (1 : Fin 2) = t.val % 6 :=
  (by decide +kernel : ∀ t : Fin grid0.N, _)

theorem flush2 : ∀ t : Fin cfg0.N, (cfg0.win 2).flush t = true := (by decide +kernel : ∀ t : Fin grid0.N, _)

/-- A column of a point's blocks, among the heads' columns. -/
def col (t : Fin cfg0.N) (s : Fin 256) : Fin 1536 := ⟨t.val % 6 * 256 + s.val, by have := s.isLt; omega⟩

theorem col_lower (t : Fin cfg0.N) (e : Fin 128) : col t (lower e) = colAt (head0 t) e :=
  Fin.ext (by show t.val % 6 * 256 + e.val = t.val % 6 * 2 * 128 + e.val; omega)

theorem col_upper (t : Fin cfg0.N) (e : Fin 128) : col t (upper e) = colAt (head1 t) e :=
  Fin.ext (by show t.val % 6 * 256 + (128 + e.val) = (t.val % 6 * 2 + 1) * 128 + e.val; omega)

/-- The result's array. -/
def arr : S8448x1536.Idx → EReal := fun i =>
  result (fun r l => V m c main_arg0 (ix2 r l)) (fun k l => V m c main_arg1 (ix2 k l)) (i 0) (i 1)

theorem block0 (p : Fin 2112) (s : Fin 256) :
    X0_0 m c t (ix2 p s) = V m c main_arg0 (ix2 (rowAt (seq t) p) ⟨3072 + (col t s).val, by have := (col t s).isLt; omega⟩) := by
  obtain ⟨e0, e1, -⟩ := index_facts t
  unfold X0_0 Pipeline.Window.fill
  rw [dif_pos (moved0_0 t (ix2 p s))]
  unfold iblk
  refine congrArg (V m c main_arg0) (funext fun a => Fin.ext ?_)
  match a with
  | ⟨0, _⟩ => show win0_0.index t (0 : Fin 2) * 2112 + 1 * p.val = t.val / 6 * 2112 + p.val; rw [e0, one_mul]
  | ⟨1, _⟩ => show win0_0.index t (1 : Fin 2) * 256 + 1 * s.val = 3072 + (t.val % 6 * 256 + s.val); rw [e1]; omega

theorem block1 (k : Fin 4) (s : Fin 256) : iblk m c 1 t (ix2 k s) = V m c main_arg1 (ix2 k (col t s)) := by
  obtain ⟨-, -, e0, e1, -⟩ := index_facts t
  show V m c main_arg1 (((cfg0.win 1).blk t).view.emb (ix2 k s)) = _
  refine congrArg (V m c main_arg1) (funext fun a => Fin.ext ?_)
  match a with
  | ⟨0, _⟩ => show win0_1.index t (0 : Fin 2) * 4 + 1 * k.val = k.val; rw [e0]; omega
  | ⟨1, _⟩ => show win0_1.index t (1 : Fin 2) * 256 + 1 * s.val = t.val % 6 * 256 + s.val; rw [e1, one_mul]

/-- What a point leaves in the result's buffer. -/
theorem out (y : S2112x256.Idx) : outsAt0 m c t y = arr m c (ix2 (rowAt (seq t) (y 0)) (col t (y 1))) := by
  rw [point]
  unfold stored
  obtain ⟨w0, w1⟩ := words t
  refine Cv.halves3 (e := .f32) _ _ (fun y => arr m c (ix2 (rowAt (seq t) (y 0)) (col t (y 1)))) (fun p e => ?_) (fun p e => ?_) y
  · show _ = result _ _ (rowAt (seq t) p) (col t (lower e))
    rw [w0, columns_apply _ _ _ (head0 t).isLt, col_lower, result_of]
    have hX : (fun p e => Cv.left (F := Ideal) (X0_0 m c t) (ix2 p e)) = cols (fun r l => V m c main_arg0 (ix2 r l)) (seq t) (head0 t) :=
      funext fun p => funext fun e => (Cv.left_apply _ p e).trans ((block0 m c t p _).trans (by simp only [col_lower]; rfl))
    have hW : (fun k e => Cv.left4 (F := Ideal) (iblk m c 1 t) (ix2 k e)) = taps (fun k l => V m c main_arg1 (ix2 k l)) (head0 t) :=
      funext fun k => funext fun e => (Cv.left4_apply _ k e).trans ((block1 m c t k _).trans (by simp only [col_lower]; rfl))
    exact congrFun (congrFun (congr (congrArg (head _) hX) hW) p) e
  · show _ = result _ _ (rowAt (seq t) p) (col t (upper e))
    rw [w1, columns_apply _ _ _ (head1 t).isLt, col_upper, result_of]
    have hX : (fun p e => Cv.right (F := Ideal) (X0_0 m c t) (ix2 p e)) = cols (fun r l => V m c main_arg0 (ix2 r l)) (seq t) (head1 t) :=
      funext fun p => funext fun e => (Cv.right_apply _ p e).trans ((block0 m c t p _).trans (by simp only [col_upper]; rfl))
    have hW : (fun k e => Cv.right4 (F := Ideal) (iblk m c 1 t) (ix2 k e)) = taps (fun k l => V m c main_arg1 (ix2 k l)) (head1 t) :=
      funext fun k => funext fun e => (Cv.right4_apply _ k e).trans ((block1 m c t k _).trans (by simp only [col_upper]; rfl))
    exact congrFun (congrFun (congr (congrArg (head _) hX) hW) p) e

theorem place (p : Fin 2112) (s : Fin 256) : ((cfg0.win 2).blk t).view.emb (ix2 p s) = ix2 (rowAt (seq t) p) (col t s) := by
  obtain ⟨-, -, -, -, e0, e1⟩ := index_facts t
  refine funext fun a => Fin.ext ?_
  match a with
  | ⟨0, _⟩ => show win0_2.index t (0 : Fin 2) * 2112 + 1 * p.val = t.val / 6 * 2112 + p.val; rw [e0, one_mul]
  | ⟨1, _⟩ => show win0_2.index t (1 : Fin 2) * 256 + 1 * s.val = t.val % 6 * 256 + s.val; rw [e1, one_mul]

theorem array : (dats m 0 c).arrAt 2 cfg0.N = arr m c := by
  refine (dats m 0 c).arrAt_eq_of_cover 2 (arr m c) (fun t _ => ?_) fun i => ?_
  · rw [flushed2]
    funext y
    show outsAt0 m c t y = arr m c (((cfg0.win 2).blk t).view.emb y)
    refine (out m c t y).trans ?_
    exact congrArg (arr m c) ((place t (y 0) (y 1)).symm.trans (congrArg _ (ix2_eta y)))
  · have h0 : (i (0 : Fin 2)).val < 8448 := (i (0 : Fin 2)).isLt
    have h1 : (i (1 : Fin 2)).val < 1536 := (i (1 : Fin 2)).isLt
    have hN : (i (0 : Fin 2)).val / 2112 * 6 + (i (1 : Fin 2)).val / 256 < cfg0.N := by show _ < 24; omega
    refine ⟨⟨_, hN⟩, flush2 _, Finset.mem_map.mpr ⟨ix2 ⟨(i (0 : Fin 2)).val % 2112, Nat.mod_lt _ (by decide)⟩
      ⟨(i (1 : Fin 2)).val % 256, Nat.mod_lt _ (by decide)⟩, Finset.mem_univ _, (place _ _ _).trans ?_⟩⟩
    refine funext fun a => Fin.ext ?_
    match a with
    | ⟨0, _⟩ =>
      show ((i (0 : Fin 2)).val / 2112 * 6 + (i (1 : Fin 2)).val / 256) / 6 * 2112 + (i (0 : Fin 2)).val % 2112 = (i (0 : Fin 2)).val
      omega
    | ⟨1, _⟩ =>
      show ((i (0 : Fin 2)).val / 2112 * 6 + (i (1 : Fin 2)).val / 256) % 6 * 256 + (i (1 : Fin 2)).val % 256 = (i (1 : Fin 2)).val
      omega

/-- The run, with what its result holds. -/
theorem run : θ_run defs (onTc (τ := τ) (main (F := Ideal))) ⟨m, fun _ => 0, ρ⟩ fun r => ∀ c : Dev nD,
      r.2.mem ((c.tc : Thread nD τ).loc main_v0) = arr m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_blocks m ρ)
  obtain ⟨h2, hk⟩ := h c
  exact ⟨h2.trans (array m c), hk⟩

end Cert.Pf

end
-- ==== Proof.PfReference.lean ====
module

public import proofs.«01_k».proof.Proof.Gen.Reference11Ideal.Read
public import proofs.«01_k».proof.Proof.PfBlock
public import proofs.«01_k».proof.Proof.CvReference
public import Idealize.ShloMosaic.Lib.Pointwise

@[expose] public section

set_option maxRecDepth 16384

noncomputable section

/-! The short convolution with its normalisation, forward: what the reference computes. -/

namespace Cert.PfReference

open Cert.Reference11Ideal Cert.Reference11Ideal.Gen Cert.Reference11Ideal.Value Cert.Reference11Ideal.Read Idealize.ShloMosaic Idealize.ShloMosaic.TcCoe Idealize.SL.Sem
open Cert.Cv (conv inv square rowAt colAt seqOf rowIn headAt laneIn)
open Cert.CvReference (column query key colAt_val)

variable (x0 : S8448x6272.Idx → EReal) (x1 : S4x1536.Idx → EReal)
  (b : Fin 4) (p : Fin 2112) (j : Fin 12) (l : Fin 1536) (e : Fin 128)

/-- The convolution is the one of the gradient's reference. -/
theorem conv_apply : val_main_v32 (F := Ideal) x0 x1 (ix3 b p l) = conv (column x0 b l) (fun k => x1 (ix2 k l)) p :=
  CvReference.conv_apply x0 x1 b p l

theorem gated : val_main_v33 (F := Ideal) x0 x1 (ix3 b p l)
    = conv (column x0 b l) (fun k => x1 (ix2 k l)) p * Ideal.logistic (conv (column x0 b l) (fun k => x1 (ix2 k l)) p) := by
  have hc := conv_apply x0 x1 b
  unfold val_main_v33 val_main_call0_v5 val_main_call0_v4 val_main_call0_cst_0 val_main_call0_v3 val_main_call0_v2 val_main_call0_cst val_main_call0_v1 val_main_call0_v0
  generalize val_main_v32 (F := Ideal) x0 x1 = C at hc ⊢
  pointwise []
  rw [hc]
  rfl

/-- A head's row, gated. -/
def gatedRow (j : Fin 12) : Fin 128 → EReal := fun e => val_main_v33 (F := Ideal) x0 x1 (ix3 b p (colAt j e))

/-- The queries. -/
theorem query_row (j : Fin 4) : val_main_v37 (F := Ideal) x0 x1 (ix4 b p j e) = gatedRow x0 x1 b p (query j) e := by
  unfold val_main_v37 val_main_v34 gatedRow
  generalize val_main_v33 (F := Ideal) x0 x1 = S
  pointwise []
  exact congrArg (fun l => S (ix3 b p l)) (Fin.ext (by rfl))

theorem query_inv (j : Fin 4) : val_main_v43 (F := Ideal) x0 x1 (ix4 b p j 0) = inv (gatedRow x0 x1 b p (query j)) := by
  have h := query_row x0 x1 b p
  unfold val_main_v43 val_main_v42 val_main_v41 val_main_cst_2 val_main_v40 val_main_v39 val_main_cst_1 val_main_v38
  generalize val_main_v37 (F := Ideal) x0 x1 = S at h ⊢
  pointwise []
  simp only [h]
  rfl

theorem query_result (j : Fin 4) : val_main_v47 (F := Ideal) x0 x1 (ix4 b p j e)
    = gatedRow x0 x1 b p (query j) e * inv (gatedRow x0 x1 b p (query j)) * Ideal.ofBits FTy.f32 0x3DB504F3#32 := by
  rw [val_main_v47_apply, val_main_v46_apply, val_main_v45_apply, val_main_v44_apply,
    show idx_main_v44 (ix4 b p j e) = ix4 b p j 0 from funext fun a => Fin.ext (by match a with | ⟨0, _⟩ => rfl | ⟨1, _⟩ => rfl | ⟨2, _⟩ => rfl | ⟨3, _⟩ => rfl),
    query_row, query_inv]
  rfl

/-- The keys. -/
theorem key_row (j : Fin 4) : val_main_v48 (F := Ideal) x0 x1 (ix4 b p j e) = gatedRow x0 x1 b p (key j) e := by
  unfold val_main_v48 val_main_v35 gatedRow
  generalize val_main_v33 (F := Ideal) x0 x1 = S
  pointwise []
  exact congrArg (fun l => S (ix3 b p l)) (Fin.ext (by show 512 + (j.val * 128 + e.val) = (4 + j.val) * 128 + e.val; omega))

theorem key_inv (j : Fin 4) : val_main_v54 (F := Ideal) x0 x1 (ix4 b p j 0) = inv (gatedRow x0 x1 b p (key j)) := by
  have h := key_row x0 x1 b p
  unfold val_main_v54 val_main_v53 val_main_v52 val_main_cst_5 val_main_v51 val_main_v50 val_main_cst_4 val_main_v49
  generalize val_main_v48 (F := Ideal) x0 x1 = S at h ⊢
  pointwise []
  simp only [h]
  rfl

theorem key_result (j : Fin 4) : val_main_v56 (F := Ideal) x0 x1 (ix4 b p j e)
    = gatedRow x0 x1 b p (key j) e * inv (gatedRow x0 x1 b p (key j)) := by
  rw [val_main_v56_apply, val_main_v55_apply,
    show idx_main_v55 (ix4 b p j e) = ix4 b p j 0 from funext fun a => Fin.ext (by match a with | ⟨0, _⟩ => rfl | ⟨1, _⟩ => rfl | ⟨2, _⟩ => rfl | ⟨3, _⟩ => rfl),
    key_row, key_inv]
  rfl

/-- Queries, keys and values side by side. -/
theorem joined : val_main_v59 (F := Ideal) x0 x1 (ix3 b p (colAt j e)) = Pf.unit j.val (gatedRow x0 x1 b p j) e := by
  have hq := query_result x0 x1 b p
  have hk := key_result x0 x1 b p
  have hv : ∀ l, val_main_v33 (F := Ideal) x0 x1 (ix3 b p (colAt j l)) = gatedRow x0 x1 b p j l := fun _ => rfl
  unfold val_main_v59 val_main_v58 val_main_v57 val_main_v36
  generalize val_main_v47 (F := Ideal) x0 x1 = Q at hq ⊢
  generalize val_main_v56 (F := Ideal) x0 x1 = K at hk ⊢
  generalize val_main_v33 (F := Ideal) x0 x1 = S at hv ⊢
  pointwise []
  have hj := j.isLt
  have he := e.isLt
  have hl := colAt_val j e
  unfold Pf.unit
  by_cases h8 : j.val < 8
  · rw [if_pos h8]
    by_cases h4 : j.val < 4
    · rw [if_pos h4, dif_pos (by omega), hq]
      have e1 : query ⟨(colAt j e).val / 128, by omega⟩ = j := Fin.ext (by show (j.val * 128 + e.val) / 128 = j.val; omega)
      have e2 : (⟨(colAt j e).val % 128, Nat.mod_lt _ (by decide)⟩ : Fin 128) = e := Fin.ext (by show (j.val * 128 + e.val) % 128 = e.val; omega)
      rw [e1, e2]
    · rw [if_neg h4, dif_neg (by omega), dif_pos (by omega), hk, mul_one]
      have e1 : key ⟨((colAt j e).val - 512) / 128, by omega⟩ = j := Fin.ext (by show 4 + (j.val * 128 + e.val - 512) / 128 = j.val; omega)
      have e2 : (⟨((colAt j e).val - 512) % 128, Nat.mod_lt _ (by decide)⟩ : Fin 128) = e := Fin.ext (by show (j.val * 128 + e.val - 512) % 128 = e.val; omega)
      rw [e1, e2]
  · rw [if_neg h8, dif_neg (by omega), dif_neg (by omega), ← hv]
    exact congrArg (fun l => S (ix3 b p l)) (Fin.ext (by show 1024 + ((colAt j e).val - 512 - 512) = (colAt j e).val; omega))

/-- The rows of padding are zero. -/
theorem padded : val_main_v63 (F := Ideal) x0 x1 (ix3 b p l) = if 48 ≤ p.val then val_main_v59 (F := Ideal) x0 x1 (ix3 b p l) else 0 := by
  unfold val_main_v63 val_main_call1_v0 val_main_c val_main_v62 val_main_v61 val_main_v60
  generalize val_main_v59 (F := Ideal) x0 x1 = S
  pointwise []
  have hp := p.isLt
  by_cases h : 48 ≤ p.val
  · rw [dif_pos ⟨h, by omega⟩, if_pos h]
    have hb := b.isLt
    have hl := l.isLt
    exact congrArg S (funext fun a => Fin.ext (by
      match a with
      | ⟨0, _⟩ => show b.val = b.val; omega
      | ⟨1, _⟩ => show 48 + (p.val - 48) = p.val; omega
      | ⟨2, _⟩ => show l.val = l.val; omega))
  · rw [dif_neg (fun h' => h h'.1), if_neg h]
    show (((0#32 : BitVec 32).toInt : ℝ) : EReal) = 0
    simp

theorem result_apply (r : Fin 8448) (l : Fin 1536) :
    val_main_v64 (F := Ideal) x0 x1 (ix2 r l) = Pf.result (fun r l => x0 (ix2 r l)) (fun k l => x1 (ix2 k l)) r l := by
  obtain ⟨b, p, rfl⟩ : ∃ b p, r = rowAt b p := ⟨seqOf r, rowIn r, (Cv.rowAt_split r).symm⟩
  obtain ⟨j, e, rfl⟩ : ∃ j e, l = colAt j e := ⟨headAt l, laneIn l, (Cv.colAt_split l).symm⟩
  rw [Pf.result_of, val_main_v64_apply]
  rw [show idx_main_v64 (ix2 (rowAt b p) (colAt j e)) = ix3 b p (colAt j e) from funext fun a => Fin.ext (by
      have hb := b.isLt
      have hp := p.isLt
      have hl := (colAt j e).isLt
      match a with
      | ⟨0, _⟩ => show ((b.val * 2112 + p.val) * 1536 + (colAt j e).val) / 3244032 = b.val; omega
      | ⟨1, _⟩ => show ((b.val * 2112 + p.val) * 1536 + (colAt j e).val) / 1536 % 2112 = p.val; omega
      | ⟨2, _⟩ => show ((b.val * 2112 + p.val) * 1536 + (colAt j e).val) % 1536 = (colAt j e).val; omega), padded, joined]
  unfold Pf.head
  have e1 : gatedRow x0 x1 b p j = Pf.gated (Pf.cols (fun r l => x0 (ix2 r l)) b j) (Pf.taps (fun k l => x1 (ix2 k l)) j) p := funext fun l => gated x0 x1 b p (colAt j l)
  rw [e1]

end Cert.PfReference

end
-- ==== Proof.PfClaim.lean ====
module

public import proofs.«01_k».proof.Defs
public import proofs.«01_k».proof.Proof.PfReference
public import Idealize.ShloMosaic.Adequacy
public import Idealize.ShloMosaic.Init
public import Idealize.ShloMosaic.Lib.Quiescent

@[expose] public section

noncomputable section

/-! The short convolution with its normalisation, forward: kernel and reference have the same result. -/

namespace Cert.PfClaim

open Idealize.ShloMosaic Idealize.SL.Sem

/-- The reference runs, keeps its arguments and leaves every semaphore at zero. -/
theorem quiescent : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Both programs run and end with equal results. -/
theorem algebraic : algebraic_Kernel11Ideal_Reference11Ideal := by
  intro m ρ m' ρ' _ hagree
  refine ⟨Pf.arr m, Pf.run m ρ, ?_⟩
  refine (θ_run Cert.Reference11Ideal.defs _ _).mono (fun r h c => ?_) (Cert.Reference11Ideal.Value.run (F := Ideal) m' ρ')
  obtain ⟨h0, hk⟩ := h c
  obtain ⟨a0, a1⟩ := hagree c
  refine ⟨(h0.trans (Cert.Reference11Ideal.Read.val_main_v64_eq (F := Ideal) m' c)).trans ?_, hk⟩
  show Cert.Reference11Ideal.Read.val_main_v64 (F := Ideal) (m' ((c.tc : Thread Cert.Reference11Ideal.nD Cert.Reference11Ideal.τ).loc Cert.Reference11Ideal.main_arg0))
    (m' ((c.tc : Thread Cert.Reference11Ideal.nD Cert.Reference11Ideal.τ).loc Cert.Reference11Ideal.main_arg1)) = Pf.arr m c
  rw [a0, a1]
  funext i
  obtain ⟨r, l, rfl⟩ : ∃ r l, i = ix2 r l := ⟨i 0, i 1, (ix2_eta i).symm⟩
  exact PfReference.result_apply _ _ r l

end Cert.PfClaim

end
-- ==== Proof.MgBlock.lean ====
module

public import proofs.«01_k».proof.Proof.Gen.Kernel12Ideal.Value
public import proofs.«01_k».proof.Proof.Gen.Reference12Ideal.Read
public import Idealize.ShloMosaic.Lib.Pointwise
public import Idealize.ShloMosaic.Lib.Pipeline.Value

@[expose] public section

set_option maxRecDepth 16384

noncomputable section

/-! The gradient of the meta tokens: the kernel adds the rows of the meta tokens sequence by sequence. -/

namespace Cert.Mg

open Cert.Kernel12Ideal Cert.Kernel12Ideal.Gen Cert.Kernel12Ideal.Value Idealize.ShloMosaic Idealize.ShloMosaic.TcCoe Idealize.SL.Sem

section Stored

variable {F : FTy → Type} [FloatOps F]

theorem zeros2 : (![0, 0] : Fin 2 → ℕ) = fun _ => 0 := funext fun a => by match a with | ⟨0, _⟩ => rfl | ⟨1, _⟩ => rfl

/-- The rows of the meta tokens in the first block of a sequence. -/
abbrev metas (x : Vec F S64x1024 .f32) : Vec F S16x1024 .f32 :=
  View.ld x (Rect.unit (s := S64x1024) ![48, 0] S16x1024.size inb_S64x1024_S16x1024_48_0)

theorem metas_apply (x : Vec F S64x1024 .f32) (p : Fin 16) (l : Fin 1024) :
    metas x (ix2 p l) = x (ix2 ⟨48 + p.val, by have := p.isLt; omega⟩ l) :=
  congrArg x (funext fun a => Fin.ext (by
    match a with
    | ⟨0, _⟩ => show 48 + 1 * p.val = 48 + p.val; omega
    | ⟨1, _⟩ => show 0 + 1 * l.val = l.val; omega))

variable (c : Dev nD) (i : grid0.Coords) (arg1 : Memref sig .tc .vmem S64x1024 .f32) (harg1 : arg1.IsWhole)
  (arg2 : Memref sig .tc .vmem S16x1024 .f32) (harg2 : arg2.IsWhole) (x0 : Vec F S64x1024 .f32) (xo1 : Vec F S16x1024 .f32)

theorem stored_first (hc0 : cond0_0 i) : out0_A_1 c i arg1 harg1 arg2 harg2 hc0 x0 = addf k0_pay1 (metas x0) := by
  unfold out0_A_1
  rw [View.read_writes_eq_canon _ _ _ (cover0_A_1 c i arg1 harg1 arg2 harg2 hc0 x0)]
  unfold kernelRun0_A
  dsimp only
  sl_unfold_words
  rw [View.canon_cons_unit_zero zeros2]
  simp only [View.readAt_eq_ld, harg1.read_unread, View.readCov_unit_zero (S := S16x1024) _ zeros2]
  unfold k0_pay2
  simp only [shapeCast_self]

theorem stored_next (hc0 : ¬cond0_0 i) : out0_B_1 c i arg1 harg1 arg2 harg2 hc0 x0 xo1 = addf xo1 (metas x0) := by
  unfold out0_B_1
  rw [View.read_writes_eq_canon _ _ _ (cover0_B_1 c i arg1 harg1 arg2 harg2 hc0 x0 xo1)]
  unfold kernelRun0_B
  dsimp only
  sl_unfold_words
  rw [View.canon_unit_zero zeros2]
  simp only [View.readAt_eq_ld, harg1.read_unread, harg2.read_unread, View.ld_unit_zero (S := S16x1024) zeros2]
  unfold k0_pay2
  simp only [shapeCast_self]

end Stored

variable (m : (ℓ : Loc nD τ sig) → Buf (Elt Ideal) ℓ) (ρ : Dev nD → PrngReg) (c : Dev nD)

/-- The incoming gradient. -/
def grads : S8448x1024.Idx → EReal := m ((c : Thread nD τ).loc main_arg0)

/-- The row of a meta token in a sequence. -/
def metaRow (b : Fin 4) (p : Fin 16) : Fin 8448 := ⟨b.val * 2112 + (48 + p.val), by have := b.isLt; have := p.isLt; omega⟩

/-- What sequence `n` adds. -/
def term (p : Fin 16) (l : Fin 1024) (n : ℕ) : EReal := if h : n < 4 then grads m c (ix2 (metaRow ⟨n, h⟩ p) l) else 0

/-- The result. -/
def arr : S16x1024.Idx → EReal := fun i => ∑ n ∈ Finset.range 4, term m c (i 0) (i 1) n

theorem index_facts : ∀ t : Fin cfg0.N, win0_0.index t (0 : Fin 2) = t.val * 33 ∧ win0_0.index t (1 : Fin 2) = 0
    ∧ win0_1.index t (0 : Fin 2) = 0 ∧ win0_1.index t (1 : Fin 2) = 0 :=
  (by decide +kernel : ∀ t : Fin grid0.N, _)

theorem block (t : Fin cfg0.N) (p : Fin 16) (l : Fin 1024) : metas (iblk m c 0 t) (ix2 p l) = term m c p l t.val := by
  obtain ⟨e0, e1, -⟩ := index_facts t
  have ht : t.val < 4 := t.isLt
  rw [metas_apply]
  unfold term
  rw [dif_pos ht]
  show grads m c (((cfg0.win 0).blk t).view.emb _) = _
  refine congrArg (grads m c) (funext fun a => Fin.ext ?_)
  match a with
  | ⟨0, _⟩ => show win0_0.index t (0 : Fin 2) * 64 + 1 * (48 + p.val) = t.val * 2112 + (48 + p.val); rw [e0]; omega
  | ⟨1, _⟩ => show win0_0.index t (1 : Fin 2) * 1024 + 1 * l.val = l.val; rw [e1]; omega

/-- The sum after a point. -/
theorem sum_apply (p : Fin 16) (l : Fin 1024) : ∀ (n : ℕ) (hn : n < cfg0.N),
    outsAt0 m c n hn (ix2 p l) = ∑ k ∈ Finset.range (n + 1), term m c p l k := by
  intro n
  induction n with
  | zero =>
    intro hn
    have e := outsAt0_A m c ⟨0, hn⟩ rfl
    dsimp only at e
    rw [e, stored_first, Finset.sum_range_one, ← block m c ⟨0, hn⟩ p l]
    exact (congrArg (· + metas (iblk m c 0 ⟨0, hn⟩) (ix2 p l)) Ideal.ofBits_zero_f32).trans (zero_add _)
  | succ n ih =>
    intro hn
    have h4 : n + 1 < 4 := hn
    have e := outsAt0_B m c ⟨n + 1, hn⟩ (by show ¬(n + 1) % 4 = 0; omega)
    dsimp only at e
    rw [e, stored_next, Finset.sum_range_succ, ← block m c ⟨n + 1, hn⟩ p l]
    exact congrArg (· + _) (ih (Nat.lt_of_succ_lt hn))

theorem place (t : Fin cfg0.N) (y : S16x1024.Idx) : ((cfg0.win 1).blk t).view.emb y = y := by
  obtain ⟨-, -, e0, e1⟩ := index_facts t
  refine funext fun a => Fin.ext ?_
  match a with
  | ⟨0, _⟩ => show win0_1.index t (0 : Fin 2) * 16 + 1 * (y 0).val = (y 0).val; rw [e0]; omega
  | ⟨1, _⟩ => show win0_1.index t (1 : Fin 2) * 1024 + 1 * (y 1).val = (y 1).val; rw [e1]; omega

theorem array : (dats m 0 c).arrAt 1 cfg0.N = arr m c := by
  refine (dats m 0 c).arrAt_eq_of_cover 1 (arr m c) (fun t hf => ?_) fun i => ?_
  · rw [flushed1]
    have h3 := (flush0_1 t).mp hf
    have ht : t.val < 4 := t.isLt
    have e3 : t.val + 1 = 4 := by omega
    funext y
    show outsAt0 m c t.val t.isLt y = arr m c (((cfg0.win 1).blk t).view.emb y)
    rw [place]
    obtain ⟨p, l, rfl⟩ : ∃ p l, y = ix2 p l := ⟨y 0, y 1, (ix2_eta y).symm⟩
    rw [sum_apply, e3]
    rfl
  · have hN : 3 < cfg0.N := by show 3 < 4; omega
    have hf : (⟨3, hN⟩ : Fin cfg0.N).val % 4 = 3 := by show 3 % 4 = 3; omega
    exact ⟨⟨3, hN⟩, (flush0_1 ⟨3, hN⟩).mpr hf, Finset.mem_map.mpr ⟨i, Finset.mem_univ _, place ⟨3, hN⟩ i⟩⟩

/-- The run, with what its result holds. -/
theorem run : θ_run defs (onTc (τ := τ) (main (F := Ideal))) ⟨m, fun _ => 0, ρ⟩ fun r => ∀ c : Dev nD,
      r.2.mem ((c.tc : Thread nD τ).loc main_v0) = arr m c
      ∧ r.2.mem ((c.tc : Thread nD τ).loc main_arg0) = m ((c.tc : Thread nD τ).loc main_arg0) := by
  refine (θ_run defs _ _).mono (fun r h c => ?_) (run_blocks m ρ)
  obtain ⟨h1, hk⟩ := h c
  exact ⟨h1.trans (array m c), hk⟩

/-- The reference's sum over the sequences. -/
theorem reference_apply (x : S8448x1024.Idx → EReal) (p : Fin 16) (l : Fin 1024) :
    Cert.Reference12Ideal.Read.val_main_v12 (F := Ideal) x (ix2 p l) = ∑ b : Fin 4, x (ix2 (metaRow b p) l) := by
  rw [Cert.Reference12Ideal.Read.val_main_v12_apply, Fin.sum_univ_one, Cert.Reference12Ideal.Read.val_main_v11_apply,
    Cert.Reference12Ideal.Read.val_main_v10_apply]
  refine (congrArg₂ (fun a b : EReal => a + (b + _)) Ideal.ofBits_zero_f32 Ideal.ofBits_zero_f32).trans ?_
  rw [zero_add, zero_add]
  refine Finset.sum_congr rfl fun b _ => ?_
  rw [Cert.Reference12Ideal.Read.val_main_v8_apply, Cert.Reference12Ideal.Read.val_main_v7_apply, Cert.Reference12Ideal.Read.val_main_v6_apply]
  refine congrArg x (funext fun a => Fin.ext ?_)
  have hb := b.isLt
  have hp := p.isLt
  have hl := l.isLt
  match a with
  | ⟨0, _⟩ => show ((b.val * 2112 + (48 + p.val)) * 1024 + l.val) / 1024 = b.val * 2112 + (48 + p.val); omega
  | ⟨1, _⟩ => show ((b.val * 2112 + (48 + p.val)) * 1024 + l.val) % 1024 = l.val; omega

/-- The two agree. -/
theorem arr_apply (p : Fin 16) (l : Fin 1024) : arr m c (ix2 p l) = ∑ b : Fin 4, grads m c (ix2 (metaRow b p) l) := by
  show ∑ n ∈ Finset.range 4, term m c p l n = _
  rw [Finset.sum_range]
  exact Finset.sum_congr rfl fun b _ => dif_pos b.isLt

end Cert.Mg

end
-- ==== Proof.MgClaim.lean ====
module

public import proofs.«01_k».proof.Defs
public import proofs.«01_k».proof.Proof.MgBlock
public import Idealize.ShloMosaic.Adequacy
public import Idealize.ShloMosaic.Init
public import Idealize.ShloMosaic.Lib.Quiescent

@[expose] public section

noncomputable section

/-! The gradient of the meta tokens: kernel and reference have the same result. -/

namespace Cert.MgClaim

open Idealize.ShloMosaic Idealize.SL.Sem

/-- The reference runs, keeps its argument and leaves every semaphore at zero. -/
theorem quiescent : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Both programs run and end with equal results. -/
theorem algebraic : algebraic_Kernel12Ideal_Reference12Ideal := by
  intro m ρ m' ρ' _ hagree
  refine ⟨Mg.arr m, Mg.run m ρ, ?_⟩
  refine (θ_run Cert.Reference12Ideal.defs _ _).mono (fun r h c => ?_) (Cert.Reference12Ideal.Value.run (F := Ideal) m' ρ')
  obtain ⟨h0, hk⟩ := h c
  refine ⟨(h0.trans (Cert.Reference12Ideal.Read.val_main_v12_eq (F := Ideal) _)).trans ?_, hk⟩
  rw [hagree c]
  funext i
  obtain ⟨p, l, rfl⟩ : ∃ p l, i = ix2 p l := ⟨i 0, i 1, (ix2_eta i).symm⟩
  exact (Mg.reference_apply _ p l).trans (Mg.arr_apply m c p l).symm

end Cert.MgClaim

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.DwClaim
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.DxClaim
public import proofs.«01_k».proof.Proof.NpBits
public import proofs.«01_k».proof.Proof.Gen.Reference3Ideal.Run
public import proofs.«01_k».proof.Proof.Gen.Reference3Ideal.Read
public import proofs.«01_k».proof.Proof.NpClaim
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.MfClaim
public import proofs.«01_k».proof.Proof.Gen.Kernel5.Frame
public import proofs.«01_k».proof.Proof.Gen.Pre_finite
public import proofs.«01_k».proof.Proof.Gen.On_written
public import proofs.«01_k».proof.Proof.Gen.Kernel5Ideal.Value
public import proofs.«01_k».proof.Proof.Gen.Reference5Ideal.Run
public import proofs.«01_k».proof.Proof.Gen.Reference5Ideal.Read
public import proofs.«01_k».proof.Proof.MvClaim
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.AdamClaim
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Pre_bounded
public import proofs.«01_k».proof.Proof.Gen.Kernel10Ideal.Value
public import proofs.«01_k».proof.Proof.Gen.Reference10Ideal.Run
public import proofs.«01_k».proof.Proof.Gen.Reference10Ideal.Read
public import proofs.«01_k».proof.Proof.CvClaim
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.PfClaim
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.MgClaim
public import Idealize.ShloMosaic.Adequacy
public import Idealize.ShloMosaic.Init

@[expose] public section

noncomputable section

namespace Cert.Proof

open Idealize.ShloMosaic Idealize.SL.Sem

/-- Everything claimed. -/
theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel12.Gen.facts,
   Cert.Kernel12Ideal.Gen.facts,
   Cert.Reference12Ideal.Gen.facts,
   Cert.Pre_finite.Gen.facts,
   Cert.Pre_bounded.Gen.facts,
   Cert.On_written.Gen.facts,
   fun m ρ _ => Cert.Kernel.Gen.frame m ρ,
   fun m ρ _ => Cert.KernelIdeal.Gen.frame m ρ,
   Cert.DwClaim.quiescent,
   fun m ρ _ => Cert.Kernel2.Gen.frame m ρ,
   fun m ρ _ => Cert.Kernel2Ideal.Gen.frame m ρ,
   Cert.DxClaim.quiescent,
   Cert.NpBits.frame,
   Cert.NpClaim.frame,
   Cert.NpClaim.quiescent,
   fun m ρ _ => Cert.Kernel4.Gen.frame m ρ,
   fun m ρ _ => Cert.Kernel4Ideal.Gen.frame m ρ,
   Cert.MfClaim.quiescent,
   fun m ρ _ => Cert.Kernel5.Gen.frame m ρ,
   fun m ρ _ => Cert.Kernel5Ideal.Gen.frame m ρ,
   fun m ρ _ => Cert.Kernel5Ideal.Gen.frame m ρ,
   Cert.MvClaim.quiescent,
   fun m ρ _ => Cert.MvClaim.quiescent m ρ trivial,
   fun m ρ _ => Cert.Kernel6.Gen.frame m ρ,
   fun m ρ _ => Cert.Kernel6Ideal.Gen.frame m ρ,
   Cert.AdamClaim.quiescent6,
   fun m ρ _ => Cert.Kernel7.Gen.frame m ρ,
   fun m ρ _ => Cert.Kernel7Ideal.Gen.frame m ρ,
   Cert.AdamClaim.quiescent7,
   fun m ρ _ => Cert.Kernel8.Gen.frame m ρ,
   fun m ρ _ => Cert.Kernel8Ideal.Gen.frame m ρ,
   Cert.AdamClaim.quiescent8,
   fun m ρ _ => Cert.Kernel9.Gen.frame m ρ,
   fun m ρ _ => Cert.Kernel9Ideal.Gen.frame m ρ,
   Cert.AdamClaim.quiescent9,
   fun m ρ _ => Cert.Kernel10.Gen.frame m ρ,
   fun m ρ _ => Cert.Kernel10Ideal.Gen.frame m ρ,
   fun m ρ _ => Cert.Kernel10Ideal.Gen.frame m ρ,
   Cert.CvClaim.quiescent,
   fun m ρ _ => Cert.CvClaim.quiescent m ρ trivial,
   fun m ρ _ => Cert.Kernel11.Gen.frame m ρ,
   fun m ρ _ => Cert.Kernel11Ideal.Gen.frame m ρ,
   Cert.PfClaim.quiescent,
   fun m ρ _ => Cert.Kernel12.Gen.frame m ρ,
   fun m ρ _ => Cert.Kernel12Ideal.Gen.frame m ρ,
   Cert.MgClaim.quiescent,
   (trivial : preserves_Kernel_KernelIdeal),
   Cert.DwClaim.algebraic,
   (trivial : preserves_Kernel2_Kernel2Ideal),
   Cert.DxClaim.algebraic,
   (trivial : preserves_Kernel3_Kernel3Ideal),
   Cert.NpClaim.algebraic,
   (trivial : preserves_Kernel4_Kernel4Ideal),
   Cert.MfClaim.algebraic,
   (trivial : preserves_Kernel5_Kernel5Ideal),
   Cert.MvClaim.algebraic,
   Cert.AdamClaim.preserves6,
   Cert.AdamClaim.algebraic6,
   Cert.AdamClaim.preserves7,
   Cert.AdamClaim.algebraic7,
   Cert.AdamClaim.preserves8,
   Cert.AdamClaim.algebraic8,
   Cert.AdamClaim.preserves9,
   Cert.AdamClaim.algebraic9,
   (trivial : preserves_Kernel10_Kernel10Ideal),
   Cert.CvClaim.algebraic,
   (trivial : preserves_Kernel11_Kernel11Ideal),
   Cert.PfClaim.algebraic,
   (trivial : preserves_Kernel12_Kernel12Ideal),
   Cert.MgClaim.algebraic⟩

end Cert.Proof

end
